-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_GluKernel (m : (ℓ : Loc Cert.GluKernel.nD Cert.GluKernel.τ Cert.GluKernel.sig) → Buf (Elt Bits) ℓ) : Prop :=
  True

def Pre_GluKernelIdeal (m : (ℓ : Loc Cert.GluKernelIdeal.nD Cert.GluKernelIdeal.τ Cert.GluKernelIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutKernelIdeal_out_finite [hPre_out_finite : Cert.Pre_out_finite.Facts] (m : (ℓ : Loc Cert.OutKernelIdeal.nD Cert.OutKernelIdeal.τ Cert.OutKernelIdeal.sig) → Buf (Elt Ideal) ℓ) : Prop :=
  ∀ c : Dev Cert.OutKernelIdeal.nD,
    (Cert.Pre_out_finite.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8)) (m ((c.tc : Thread Cert.OutKernelIdeal.nD Cert.OutKernelIdeal.τ).loc Cert.OutKernelIdeal.main_arg9)) (m ((c.tc : Thread Cert.OutKernelIdeal.nD Cert.OutKernelIdeal.τ).loc Cert.OutKernelIdeal.main_arg10)) (m ((c.tc : Thread Cert.OutKernelIdeal.nD Cert.OutKernelIdeal.τ).loc Cert.OutKernelIdeal.main_arg11)) (m ((c.tc : Thread Cert.OutKernelIdeal.nD Cert.OutKernelIdeal.τ).loc Cert.OutKernelIdeal.main_arg12))) = (fun _ => 1#1)

def Pre_OutReferenceIdeal (m : (ℓ : Loc Cert.OutReferenceIdeal.nD Cert.OutReferenceIdeal.τ Cert.OutReferenceIdeal.sig) → Buf (Elt Ideal) ℓ) : Prop :=
  True

def Pre_OutReferenceIdeal_out_finite [hPre_out_finite : Cert.Pre_out_finite.Facts] (m : (ℓ : Loc Cert.OutReferenceIdeal.nD Cert.OutReferenceIdeal.τ Cert.OutReferenceIdeal.sig) → Buf (Elt Ideal) ℓ) : Prop :=
  ∀ c : Dev Cert.OutReferenceIdeal.nD,
    (Cert.Pre_out_finite.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6)) (m ((c.tc : Thread Cert.OutReferenceIdeal.nD Cert.OutReferenceIdeal.τ).loc Cert.OutReferenceIdeal.main_arg7)) (m ((c.tc : Thread Cert.OutReferenceIdeal.nD Cert.OutReferenceIdeal.τ).loc Cert.OutReferenceIdeal.main_arg8)) (m ((c.tc : Thread Cert.OutReferenceIdeal.nD Cert.OutReferenceIdeal.τ).loc Cert.OutReferenceIdeal.main_arg9)) (m ((c.tc : Thread Cert.OutReferenceIdeal.nD Cert.OutReferenceIdeal.τ).loc Cert.OutReferenceIdeal.main_arg10)) (m ((c.tc : Thread Cert.OutReferenceIdeal.nD Cert.OutReferenceIdeal.τ).loc Cert.OutReferenceIdeal.main_arg11)) (m ((c.tc : Thread Cert.OutReferenceIdeal.nD Cert.OutReferenceIdeal.τ).loc Cert.OutReferenceIdeal.main_arg12))) = (fun _ => 1#1)

def Pre_PwKernel (m : (ℓ : Loc Cert.PwKernel.nD Cert.PwKernel.τ Cert.PwKernel.sig) → Buf (Elt Bits) ℓ) : Prop :=
  True

def Pre_PwKernelIdeal (m : (ℓ : Loc Cert.PwKernelIdeal.nD Cert.PwKernelIdeal.τ Cert.PwKernelIdeal.sig) → Buf (Elt Ideal) ℓ) : Prop :=
  True

def Pre_PwKernelIdeal_pw2_finite [hPre_pw2_finite : Cert.Pre_pw2_finite.Facts] (m : (ℓ : Loc Cert.PwKernelIdeal.nD Cert.PwKernelIdeal.τ Cert.PwKernelIdeal.sig) → Buf (Elt Ideal) ℓ) : Prop :=
  ∀ c : Dev Cert.PwKernelIdeal.nD,
    (Cert.Pre_pw2_finite.fn (F := Ideal) (m ((c.tc : Thread Cert.PwKernelIdeal.nD Cert.PwKernelIdeal.τ).loc Cert.PwKernelIdeal.main_arg0)) (m ((c.tc : Thread Cert.PwKernelIdeal.nD Cert.PwKernelIdeal.τ).loc Cert.PwKernelIdeal.main_arg1)) (m ((c.tc : Thread Cert.PwKernelIdeal.nD Cert.PwKernelIdeal.τ).loc Cert.PwKernelIdeal.main_arg2)) (m ((c.tc : Thread Cert.PwKernelIdeal.nD Cert.PwKernelIdeal.τ).loc Cert.PwKernelIdeal.main_arg3)) (m ((c.tc : Thread Cert.PwKernelIdeal.nD Cert.PwKernelIdeal.τ).loc Cert.PwKernelIdeal.main_arg4)) (m ((c.tc : Thread Cert.PwKernelIdeal.nD Cert.PwKernelIdeal.τ).loc Cert.PwKernelIdeal.main_arg5)) (m ((c.tc : Thread Cert.PwKernelIdeal.nD Cert.PwKernelIdeal.τ).loc Cert.PwKernelIdeal.main_arg6)) (m ((c.tc : Thread Cert.PwKernelIdeal.nD Cert.PwKernelIdeal.τ).loc Cert.PwKernelIdeal.main_arg7)) (m ((c.tc : Thread Cert.PwKernelIdeal.nD Cert.PwKernelIdeal.τ).loc Cert.PwKernelIdeal.main_arg8)) (m ((c.tc : Thread Cert.PwKernelIdeal.nD Cert.PwKernelIdeal.τ).loc Cert.PwKernelIdeal.main_arg9)) (m ((c.tc : Thread Cert.PwKernelIdeal.nD Cert.PwKernelIdeal.τ).loc Cert.PwKernelIdeal.main_arg10)) (m ((c.tc : Thread Cert.PwKernelIdeal.nD Cert.PwKernelIdeal.τ).loc Cert.PwKernelIdeal.main_arg11)) (m ((c.tc : Thread Cert.PwKernelIdeal.nD Cert.PwKernelIdeal.τ).loc Cert.PwKernelIdeal.main_arg12))) = (fun _ => 1#1)

def Pre_PwReferenceIdeal (m : (ℓ : Loc Cert.PwReferenceIdeal.nD Cert.PwReferenceIdeal.τ Cert.PwReferenceIdeal.sig) → Buf (Elt Ideal) ℓ) : Prop :=
  True

def Pre_PwReferenceIdeal_pw2_finite [hPre_pw2_finite : Cert.Pre_pw2_finite.Facts] (m : (ℓ : Loc Cert.PwReferenceIdeal.nD Cert.PwReferenceIdeal.τ Cert.PwReferenceIdeal.sig) → Buf (Elt Ideal) ℓ) : Prop :=
  ∀ c : Dev Cert.PwReferenceIdeal.nD,
    (Cert.Pre_pw2_finite.fn (F := Ideal) (m ((c.tc : Thread Cert.PwReferenceIdeal.nD Cert.PwReferenceIdeal.τ).loc Cert.PwReferenceIdeal.main_arg0)) (m ((c.tc : Thread Cert.PwReferenceIdeal.nD Cert.PwReferenceIdeal.τ).loc Cert.PwReferenceIdeal.main_arg1)) (m ((c.tc : Thread Cert.PwReferenceIdeal.nD Cert.PwReferenceIdeal.τ).loc Cert.PwReferenceIdeal.main_arg2)) (m ((c.tc : Thread Cert.PwReferenceIdeal.nD Cert.PwReferenceIdeal.τ).loc Cert.PwReferenceIdeal.main_arg3)) (m ((c.tc : Thread Cert.PwReferenceIdeal.nD Cert.PwReferenceIdeal.τ).loc Cert.PwReferenceIdeal.main_arg4)) (m ((c.tc : Thread Cert.PwReferenceIdeal.nD Cert.PwReferenceIdeal.τ).loc Cert.PwReferenceIdeal.main_arg5)) (m ((c.tc : Thread Cert.PwReferenceIdeal.nD Cert.PwReferenceIdeal.τ).loc Cert.PwReferenceIdeal.main_arg6)) (m ((c.tc : Thread Cert.PwReferenceIdeal.nD Cert.PwReferenceIdeal.τ).loc Cert.PwReferenceIdeal.main_arg7)) (m ((c.tc : Thread Cert.PwReferenceIdeal.nD Cert.PwReferenceIdeal.τ).loc Cert.PwReferenceIdeal.main_arg8)) (m ((c.tc : Thread Cert.PwReferenceIdeal.nD Cert.PwReferenceIdeal.τ).loc Cert.PwReferenceIdeal.main_arg9)) (m ((c.tc : Thread Cert.PwReferenceIdeal.nD Cert.PwReferenceIdeal.τ).loc Cert.PwReferenceIdeal.main_arg10)) (m ((c.tc : Thread Cert.PwReferenceIdeal.nD Cert.PwReferenceIdeal.τ).loc Cert.PwReferenceIdeal.main_arg11)) (m ((c.tc : Thread Cert.PwReferenceIdeal.nD Cert.PwReferenceIdeal.τ).loc Cert.PwReferenceIdeal.main_arg12))) = (fun _ => 1#1)

def Pre_QkKernel (m : (ℓ : Loc Cert.QkKernel.nD Cert.QkKernel.τ Cert.QkKernel.sig) → Buf (Elt Bits) ℓ) : Prop :=
  True

def Pre_QkKernelIdeal (m : (ℓ : Loc Cert.QkKernelIdeal.nD Cert.QkKernelIdeal.τ Cert.QkKernelIdeal.sig) → Buf (Elt Ideal) ℓ) : Prop :=
  True

def Pre_QkReferenceIdeal (m : (ℓ : Loc Cert.QkReferenceIdeal.nD Cert.QkReferenceIdeal.τ Cert.QkReferenceIdeal.sig) → Buf (Elt Ideal) ℓ) : Prop :=
  True

def Pre_CombineKernel (m : (ℓ : Loc Cert.CombineKernel.nD Cert.CombineKernel.τ Cert.CombineKernel.sig) → Buf (Elt Bits) ℓ) : Prop :=
  True

def Pre_CombineKernelIdeal (m : (ℓ : Loc Cert.CombineKernelIdeal.nD Cert.CombineKernelIdeal.τ Cert.CombineKernelIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def Pre_RouteKernel (m : (ℓ : Loc Cert.RouteKernel.nD Cert.RouteKernel.τ Cert.RouteKernel.sig) → Buf (Elt Bits) ℓ) : Prop :=
  True

def Pre_RouteKernelIdeal (m : (ℓ : Loc Cert.RouteKernelIdeal.nD Cert.RouteKernelIdeal.τ Cert.RouteKernelIdeal.sig) → Buf (Elt Ideal) ℓ) : Prop :=
  True

def Pre_RouteKernelIdeal_route_finite [hPre_route_finite : Cert.Pre_route_finite.Facts] (m : (ℓ : Loc Cert.RouteKernelIdeal.nD Cert.RouteKernelIdeal.τ Cert.RouteKernelIdeal.sig) → Buf (Elt Ideal) ℓ) : Prop :=
  ∀ c : Dev Cert.RouteKernelIdeal.nD,
    (Cert.Pre_route_finite.fn (F := Ideal) (m ((c.tc : Thread Cert.RouteKernelIdeal.nD Cert.RouteKernelIdeal.τ).loc Cert.RouteKernelIdeal.main_arg0))) = (fun _ => 1#1)

def Pre_RouteReferenceIdeal (m : (ℓ : Loc Cert.RouteReferenceIdeal.nD Cert.RouteReferenceIdeal.τ Cert.RouteReferenceIdeal.sig) → Buf (Elt Ideal) ℓ) : Prop :=
  True

def Pre_RouteReferenceIdeal_route_finite [hPre_route_finite : Cert.Pre_route_finite.Facts] (m : (ℓ : Loc Cert.RouteReferenceIdeal.nD Cert.RouteReferenceIdeal.τ Cert.RouteReferenceIdeal.sig) → Buf (Elt Ideal) ℓ) : Prop :=
  ∀ c : Dev Cert.RouteReferenceIdeal.nD,
    (Cert.Pre_route_finite.fn (F := Ideal) (m ((c.tc : Thread Cert.RouteReferenceIdeal.nD Cert.RouteReferenceIdeal.τ).loc Cert.RouteReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3))
      ∧ r.2.sem = fun _ => 0)

def quiescent_GluKernel [hGluKernel : Cert.GluKernel.Facts] : Prop :=
  ∀ (m : (ℓ : Loc Cert.GluKernel.nD Cert.GluKernel.τ Cert.GluKernel.sig) → Buf (Elt Bits) ℓ) (g : Dev Cert.GluKernel.nD → PrngReg), Pre_GluKernel m →
    θ_run (Cert.GluKernel.defs (F := Bits)) (onTc (τ := Cert.GluKernel.τ) (Cert.GluKernel.main (F := Bits))) ⟨m, fun _ => 0, g⟩ (fun r => (∀ c : Dev Cert.GluKernel.nD,
      r.2.mem ((c.tc : Thread Cert.GluKernel.nD Cert.GluKernel.τ).loc Cert.GluKernel.main_arg0) = m ((c.tc : Thread Cert.GluKernel.nD Cert.GluKernel.τ).loc Cert.GluKernel.main_arg0)
      ∧ r.2.mem ((c.tc : Thread Cert.GluKernel.nD Cert.GluKernel.τ).loc Cert.GluKernel.main_arg1) = m ((c.tc : Thread Cert.GluKernel.nD Cert.GluKernel.τ).loc Cert.GluKernel.main_arg1)
      ∧ r.2.mem ((c.tc : Thread Cert.GluKernel.nD Cert.GluKernel.τ).loc Cert.GluKernel.main_arg2) = m ((c.tc : Thread Cert.GluKernel.nD Cert.GluKernel.τ).loc Cert.GluKernel.main_arg2))
      ∧ r.2.sem = fun _ => 0)

def quiescent_GluKernelIdeal [hGluKernelIdeal : Cert.GluKernelIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg), Pre_GluKernelIdeal m →
    θ_run (Cert.GluKernelIdeal.defs (F := Ideal)) (onTc (τ := Cert.GluKernelIdeal.τ) (Cert.GluKernelIdeal.main (F := Ideal))) ⟨m, fun _ => 0, g⟩ (fun r => (∀ c : Dev Cert.GluKernelIdeal.nD,
      r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
      ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
      ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6)
      ∧ r.2.mem ((c.tc : Thread Cert.OutKernel.nD Cert.OutKernel.τ).loc Cert.OutKernel.main_arg7) = m ((c.tc : Thread Cert.OutKernel.nD Cert.OutKernel.τ).loc Cert.OutKernel.main_arg7)
      ∧ r.2.mem ((c.tc : Thread Cert.OutKernel.nD Cert.OutKernel.τ).loc Cert.OutKernel.main_arg8) = m ((c.tc : Thread Cert.OutKernel.nD Cert.OutKernel.τ).loc Cert.OutKernel.main_arg8)
      ∧ r.2.mem ((c.tc : Thread Cert.OutKernel.nD Cert.OutKernel.τ).loc Cert.OutKernel.main_arg9) = m ((c.tc : Thread Cert.OutKernel.nD Cert.OutKernel.τ).loc Cert.OutKernel.main_arg9)
      ∧ r.2.mem ((c.tc : Thread Cert.OutKernel.nD Cert.OutKernel.τ).loc Cert.OutKernel.main_arg10) = m ((c.tc : Thread Cert.OutKernel.nD Cert.OutKernel.τ).loc Cert.OutKernel.main_arg10)
      ∧ r.2.mem ((c.tc : Thread Cert.OutKernel.nD Cert.OutKernel.τ).loc Cert.OutKernel.main_arg11) = m ((c.tc : Thread Cert.OutKernel.nD Cert.OutKernel.τ).loc Cert.OutKernel.main_arg11)
      ∧ r.2.mem ((c.tc : Thread Cert.OutKernel.nD Cert.OutKernel.τ).loc Cert.OutKernel.main_arg12) = m ((c.tc : Thread Cert.OutKernel.nD Cert.OutKernel.τ).loc Cert.OutKernel.main_arg12))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
      ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
      ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8)
      ∧ r.2.mem ((c.tc : Thread Cert.OutKernelIdeal.nD Cert.OutKernelIdeal.τ).loc Cert.OutKernelIdeal.main_arg9) = m ((c.tc : Thread Cert.OutKernelIdeal.nD Cert.OutKernelIdeal.τ).loc Cert.OutKernelIdeal.main_arg9)
      ∧ r.2.mem ((c.tc : Thread Cert.OutKernelIdeal.nD Cert.OutKernelIdeal.τ).loc Cert.OutKernelIdeal.main_arg10) = m ((c.tc : Thread Cert.OutKernelIdeal.nD Cert.OutKernelIdeal.τ).loc Cert.OutKernelIdeal.main_arg10)
      ∧ r.2.mem ((c.tc : Thread Cert.OutKernelIdeal.nD Cert.OutKernelIdeal.τ).loc Cert.OutKernelIdeal.main_arg11) = m ((c.tc : Thread Cert.OutKernelIdeal.nD Cert.OutKernelIdeal.τ).loc Cert.OutKernelIdeal.main_arg11)
      ∧ r.2.mem ((c.tc : Thread Cert.OutKernelIdeal.nD Cert.OutKernelIdeal.τ).loc Cert.OutKernelIdeal.main_arg12) = m ((c.tc : Thread Cert.OutKernelIdeal.nD Cert.OutKernelIdeal.τ).loc Cert.OutKernelIdeal.main_arg12))
      ∧ r.2.sem = fun _ => 0)

def quiescent_OutKernelIdeal_pre_out_finite [hOutKernelIdeal : Cert.OutKernelIdeal.Facts] [hPre_out_finite : Cert.Pre_out_finite.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal_out_finite m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
      ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
      ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8)
      ∧ r.2.mem ((c.tc : Thread Cert.OutKernelIdeal.nD Cert.OutKernelIdeal.τ).loc Cert.OutKernelIdeal.main_arg9) = m ((c.tc : Thread Cert.OutKernelIdeal.nD Cert.OutKernelIdeal.τ).loc Cert.OutKernelIdeal.main_arg9)
      ∧ r.2.mem ((c.tc : Thread Cert.OutKernelIdeal.nD Cert.OutKernelIdeal.τ).loc Cert.OutKernelIdeal.main_arg10) = m ((c.tc : Thread Cert.OutKernelIdeal.nD Cert.OutKernelIdeal.τ).loc Cert.OutKernelIdeal.main_arg10)
      ∧ r.2.mem ((c.tc : Thread Cert.OutKernelIdeal.nD Cert.OutKernelIdeal.τ).loc Cert.OutKernelIdeal.main_arg11) = m ((c.tc : Thread Cert.OutKernelIdeal.nD Cert.OutKernelIdeal.τ).loc Cert.OutKernelIdeal.main_arg11)
      ∧ r.2.mem ((c.tc : Thread Cert.OutKernelIdeal.nD Cert.OutKernelIdeal.τ).loc Cert.OutKernelIdeal.main_arg12) = m ((c.tc : Thread Cert.OutKernelIdeal.nD Cert.OutKernelIdeal.τ).loc Cert.OutKernelIdeal.main_arg12))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7)
      ∧ r.2.mem ((c.tc : Thread Cert.OutReferenceIdeal.nD Cert.OutReferenceIdeal.τ).loc Cert.OutReferenceIdeal.main_arg8) = m ((c.tc : Thread Cert.OutReferenceIdeal.nD Cert.OutReferenceIdeal.τ).loc Cert.OutReferenceIdeal.main_arg8)
      ∧ r.2.mem ((c.tc : Thread Cert.OutReferenceIdeal.nD Cert.OutReferenceIdeal.τ).loc Cert.OutReferenceIdeal.main_arg9) = m ((c.tc : Thread Cert.OutReferenceIdeal.nD Cert.OutReferenceIdeal.τ).loc Cert.OutReferenceIdeal.main_arg9)
      ∧ r.2.mem ((c.tc : Thread Cert.OutReferenceIdeal.nD Cert.OutReferenceIdeal.τ).loc Cert.OutReferenceIdeal.main_arg10) = m ((c.tc : Thread Cert.OutReferenceIdeal.nD Cert.OutReferenceIdeal.τ).loc Cert.OutReferenceIdeal.main_arg10)
      ∧ r.2.mem ((c.tc : Thread Cert.OutReferenceIdeal.nD Cert.OutReferenceIdeal.τ).loc Cert.OutReferenceIdeal.main_arg11) = m ((c.tc : Thread Cert.OutReferenceIdeal.nD Cert.OutReferenceIdeal.τ).loc Cert.OutReferenceIdeal.main_arg11)
      ∧ r.2.mem ((c.tc : Thread Cert.OutReferenceIdeal.nD Cert.OutReferenceIdeal.τ).loc Cert.OutReferenceIdeal.main_arg12) = m ((c.tc : Thread Cert.OutReferenceIdeal.nD Cert.OutReferenceIdeal.τ).loc Cert.OutReferenceIdeal.main_arg12))
      ∧ r.2.sem = fun _ => 0)

def quiescent_OutReferenceIdeal_pre_out_finite [hOutReferenceIdeal : Cert.OutReferenceIdeal.Facts] [hPre_out_finite : Cert.Pre_out_finite.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal_out_finite m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7)
      ∧ r.2.mem ((c.tc : Thread Cert.OutReferenceIdeal.nD Cert.OutReferenceIdeal.τ).loc Cert.OutReferenceIdeal.main_arg8) = m ((c.tc : Thread Cert.OutReferenceIdeal.nD Cert.OutReferenceIdeal.τ).loc Cert.OutReferenceIdeal.main_arg8)
      ∧ r.2.mem ((c.tc : Thread Cert.OutReferenceIdeal.nD Cert.OutReferenceIdeal.τ).loc Cert.OutReferenceIdeal.main_arg9) = m ((c.tc : Thread Cert.OutReferenceIdeal.nD Cert.OutReferenceIdeal.τ).loc Cert.OutReferenceIdeal.main_arg9)
      ∧ r.2.mem ((c.tc : Thread Cert.OutReferenceIdeal.nD Cert.OutReferenceIdeal.τ).loc Cert.OutReferenceIdeal.main_arg10) = m ((c.tc : Thread Cert.OutReferenceIdeal.nD Cert.OutReferenceIdeal.τ).loc Cert.OutReferenceIdeal.main_arg10)
      ∧ r.2.mem ((c.tc : Thread Cert.OutReferenceIdeal.nD Cert.OutReferenceIdeal.τ).loc Cert.OutReferenceIdeal.main_arg11) = m ((c.tc : Thread Cert.OutReferenceIdeal.nD Cert.OutReferenceIdeal.τ).loc Cert.OutReferenceIdeal.main_arg11)
      ∧ r.2.mem ((c.tc : Thread Cert.OutReferenceIdeal.nD Cert.OutReferenceIdeal.τ).loc Cert.OutReferenceIdeal.main_arg12) = m ((c.tc : Thread Cert.OutReferenceIdeal.nD Cert.OutReferenceIdeal.τ).loc Cert.OutReferenceIdeal.main_arg12))
      ∧ r.2.sem = fun _ => 0)

def quiescent_PwKernel [hPwKernel : Cert.PwKernel.Facts] : Prop :=
  ∀ (m : (ℓ : Loc Cert.PwKernel.nD Cert.PwKernel.τ Cert.PwKernel.sig) → Buf (Elt Bits) ℓ) (g : Dev Cert.PwKernel.nD → PrngReg), Pre_PwKernel m →
    θ_run (Cert.PwKernel.defs (F := Bits)) (onTc (τ := Cert.PwKernel.τ) (Cert.PwKernel.main (F := Bits))) ⟨m, fun _ => 0, g⟩ (fun r => (∀ c : Dev Cert.PwKernel.nD,
      r.2.mem ((c.tc : Thread Cert.PwKernel.nD Cert.PwKernel.τ).loc Cert.PwKernel.main_arg0) = m ((c.tc : Thread Cert.PwKernel.nD Cert.PwKernel.τ).loc Cert.PwKernel.main_arg0)
      ∧ r.2.mem ((c.tc : Thread Cert.PwKernel.nD Cert.PwKernel.τ).loc Cert.PwKernel.main_arg1) = m ((c.tc : Thread Cert.PwKernel.nD Cert.PwKernel.τ).loc Cert.PwKernel.main_arg1)
      ∧ r.2.mem ((c.tc : Thread Cert.PwKernel.nD Cert.PwKernel.τ).loc Cert.PwKernel.main_arg2) = m ((c.tc : Thread Cert.PwKernel.nD Cert.PwKernel.τ).loc Cert.PwKernel.main_arg2)
      ∧ r.2.mem ((c.tc : Thread Cert.PwKernel.nD Cert.PwKernel.τ).loc Cert.PwKernel.main_arg3) = m ((c.tc : Thread Cert.PwKernel.nD Cert.PwKernel.τ).loc Cert.PwKernel.main_arg3)
      ∧ r.2.mem ((c.tc : Thread Cert.PwKernel.nD Cert.PwKernel.τ).loc Cert.PwKernel.main_arg4) = m ((c.tc : Thread Cert.PwKernel.nD Cert.PwKernel.τ).loc Cert.PwKernel.main_arg4)
      ∧ r.2.mem ((c.tc : Thread Cert.PwKernel.nD Cert.PwKernel.τ).loc Cert.PwKernel.main_arg5) = m ((c.tc : Thread Cert.PwKernel.nD Cert.PwKernel.τ).loc Cert.PwKernel.main_arg5)
      ∧ r.2.mem ((c.tc : Thread Cert.PwKernel.nD Cert.PwKernel.τ).loc Cert.PwKernel.main_arg6) = m ((c.tc : Thread Cert.PwKernel.nD Cert.PwKernel.τ).loc Cert.PwKernel.main_arg6)
      ∧ r.2.mem ((c.tc : Thread Cert.PwKernel.nD Cert.PwKernel.τ).loc Cert.PwKernel.main_arg7) = m ((c.tc : Thread Cert.PwKernel.nD Cert.PwKernel.τ).loc Cert.PwKernel.main_arg7)
      ∧ r.2.mem ((c.tc : Thread Cert.PwKernel.nD Cert.PwKernel.τ).loc Cert.PwKernel.main_arg8) = m ((c.tc : Thread Cert.PwKernel.nD Cert.PwKernel.τ).loc Cert.PwKernel.main_arg8)
      ∧ r.2.mem ((c.tc : Thread Cert.PwKernel.nD Cert.PwKernel.τ).loc Cert.PwKernel.main_arg9) = m ((c.tc : Thread Cert.PwKernel.nD Cert.PwKernel.τ).loc Cert.PwKernel.main_arg9)
      ∧ r.2.mem ((c.tc : Thread Cert.PwKernel.nD Cert.PwKernel.τ).loc Cert.PwKernel.main_arg10) = m ((c.tc : Thread Cert.PwKernel.nD Cert.PwKernel.τ).loc Cert.PwKernel.main_arg10)
      ∧ r.2.mem ((c.tc : Thread Cert.PwKernel.nD Cert.PwKernel.τ).loc Cert.PwKernel.main_arg11) = m ((c.tc : Thread Cert.PwKernel.nD Cert.PwKernel.τ).loc Cert.PwKernel.main_arg11)
      ∧ r.2.mem ((c.tc : Thread Cert.PwKernel.nD Cert.PwKernel.τ).loc Cert.PwKernel.main_arg12) = m ((c.tc : Thread Cert.PwKernel.nD Cert.PwKernel.τ).loc Cert.PwKernel.main_arg12))
      ∧ r.2.sem = fun _ => 0)

def quiescent_PwKernelIdeal [hPwKernelIdeal : Cert.PwKernelIdeal.Facts] : Prop :=
  ∀ (m : (ℓ : Loc Cert.PwKernelIdeal.nD Cert.PwKernelIdeal.τ Cert.PwKernelIdeal.sig) → Buf (Elt Ideal) ℓ) (g : Dev Cert.PwKernelIdeal.nD → PrngReg), Pre_PwKernelIdeal m →
    θ_run (Cert.PwKernelIdeal.defs (F := Ideal)) (onTc (τ := Cert.PwKernelIdeal.τ) (Cert.PwKernelIdeal.main (F := Ideal))) ⟨m, fun _ => 0, g⟩ (fun r => (∀ c : Dev Cert.PwKernelIdeal.nD,
      r.2.mem ((c.tc : Thread Cert.PwKernelIdeal.nD Cert.PwKernelIdeal.τ).loc Cert.PwKernelIdeal.main_arg0) = m ((c.tc : Thread Cert.PwKernelIdeal.nD Cert.PwKernelIdeal.τ).loc Cert.PwKernelIdeal.main_arg0)
      ∧ r.2.mem ((c.tc : Thread Cert.PwKernelIdeal.nD Cert.PwKernelIdeal.τ).loc Cert.PwKernelIdeal.main_arg1) = m ((c.tc : Thread Cert.PwKernelIdeal.nD Cert.PwKernelIdeal.τ).loc Cert.PwKernelIdeal.main_arg1)
      ∧ r.2.mem ((c.tc : Thread Cert.PwKernelIdeal.nD Cert.PwKernelIdeal.τ).loc Cert.PwKernelIdeal.main_arg2) = m ((c.tc : Thread Cert.PwKernelIdeal.nD Cert.PwKernelIdeal.τ).loc Cert.PwKernelIdeal.main_arg2)
      ∧ r.2.mem ((c.tc : Thread Cert.PwKernelIdeal.nD Cert.PwKernelIdeal.τ).loc Cert.PwKernelIdeal.main_arg3) = m ((c.tc : Thread Cert.PwKernelIdeal.nD Cert.PwKernelIdeal.τ).loc Cert.PwKernelIdeal.main_arg3)
      ∧ r.2.mem ((c.tc : Thread Cert.PwKernelIdeal.nD Cert.PwKernelIdeal.τ).loc Cert.PwKernelIdeal.main_arg4) = m ((c.tc : Thread Cert.PwKernelIdeal.nD Cert.PwKernelIdeal.τ).loc Cert.PwKernelIdeal.main_arg4)
      ∧ r.2.mem ((c.tc : Thread Cert.PwKernelIdeal.nD Cert.PwKernelIdeal.τ).loc Cert.PwKernelIdeal.main_arg5) = m ((c.tc : Thread Cert.PwKernelIdeal.nD Cert.PwKernelIdeal.τ).loc Cert.PwKernelIdeal.main_arg5)
      ∧ r.2.mem ((c.tc : Thread Cert.PwKernelIdeal.nD Cert.PwKernelIdeal.τ).loc Cert.PwKernelIdeal.main_arg6) = m ((c.tc : Thread Cert.PwKernelIdeal.nD Cert.PwKernelIdeal.τ).loc Cert.PwKernelIdeal.main_arg6)
      ∧ r.2.mem ((c.tc : Thread Cert.PwKernelIdeal.nD Cert.PwKernelIdeal.τ).loc Cert.PwKernelIdeal.main_arg7) = m ((c.tc : Thread Cert.PwKernelIdeal.nD Cert.PwKernelIdeal.τ).loc Cert.PwKernelIdeal.main_arg7)
      ∧ r.2.mem ((c.tc : Thread Cert.PwKernelIdeal.nD Cert.PwKernelIdeal.τ).loc Cert.PwKernelIdeal.main_arg8) = m ((c.tc : Thread Cert.PwKernelIdeal.nD Cert.PwKernelIdeal.τ).loc Cert.PwKernelIdeal.main_arg8)
      ∧ r.2.mem ((c.tc : Thread Cert.PwKernelIdeal.nD Cert.PwKernelIdeal.τ).loc Cert.PwKernelIdeal.main_arg9) = m ((c.tc : Thread Cert.PwKernelIdeal.nD Cert.PwKernelIdeal.τ).loc Cert.PwKernelIdeal.main_arg9)
      ∧ r.2.mem ((c.tc : Thread Cert.PwKernelIdeal.nD Cert.PwKernelIdeal.τ).loc Cert.PwKernelIdeal.main_arg10) = m ((c.tc : Thread Cert.PwKernelIdeal.nD Cert.PwKernelIdeal.τ).loc Cert.PwKernelIdeal.main_arg10)
      ∧ r.2.mem ((c.tc : Thread Cert.PwKernelIdeal.nD Cert.PwKernelIdeal.τ).loc Cert.PwKernelIdeal.main_arg11) = m ((c.tc : Thread Cert.PwKernelIdeal.nD Cert.PwKernelIdeal.τ).loc Cert.PwKernelIdeal.main_arg11)
      ∧ r.2.mem ((c.tc : Thread Cert.PwKernelIdeal.nD Cert.PwKernelIdeal.τ).loc Cert.PwKernelIdeal.main_arg12) = m ((c.tc : Thread Cert.PwKernelIdeal.nD Cert.PwKernelIdeal.τ).loc Cert.PwKernelIdeal.main_arg12))
      ∧ r.2.sem = fun _ => 0)

def quiescent_PwKernelIdeal_pre_pw2_finite [hPwKernelIdeal : Cert.PwKernelIdeal.Facts] [hPre_pw2_finite : Cert.Pre_pw2_finite.Facts] : Prop :=
  ∀ (m : (ℓ : Loc Cert.PwKernelIdeal.nD Cert.PwKernelIdeal.τ Cert.PwKernelIdeal.sig) → Buf (Elt Ideal) ℓ) (g : Dev Cert.PwKernelIdeal.nD → PrngReg), Pre_PwKernelIdeal_pw2_finite m →
    θ_run (Cert.PwKernelIdeal.defs (F := Ideal)) (onTc (τ := Cert.PwKernelIdeal.τ) (Cert.PwKernelIdeal.main (F := Ideal))) ⟨m, fun _ => 0, g⟩ (fun r => (∀ c : Dev Cert.PwKernelIdeal.nD,
      r.2.mem ((c.tc : Thread Cert.PwKernelIdeal.nD Cert.PwKernelIdeal.τ).loc Cert.PwKernelIdeal.main_arg0) = m ((c.tc : Thread Cert.PwKernelIdeal.nD Cert.PwKernelIdeal.τ).loc Cert.PwKernelIdeal.main_arg0)
      ∧ r.2.mem ((c.tc : Thread Cert.PwKernelIdeal.nD Cert.PwKernelIdeal.τ).loc Cert.PwKernelIdeal.main_arg1) = m ((c.tc : Thread Cert.PwKernelIdeal.nD Cert.PwKernelIdeal.τ).loc Cert.PwKernelIdeal.main_arg1)
      ∧ r.2.mem ((c.tc : Thread Cert.PwKernelIdeal.nD Cert.PwKernelIdeal.τ).loc Cert.PwKernelIdeal.main_arg2) = m ((c.tc : Thread Cert.PwKernelIdeal.nD Cert.PwKernelIdeal.τ).loc Cert.PwKernelIdeal.main_arg2)
      ∧ r.2.mem ((c.tc : Thread Cert.PwKernelIdeal.nD Cert.PwKernelIdeal.τ).loc Cert.PwKernelIdeal.main_arg3) = m ((c.tc : Thread Cert.PwKernelIdeal.nD Cert.PwKernelIdeal.τ).loc Cert.PwKernelIdeal.main_arg3)
      ∧ r.2.mem ((c.tc : Thread Cert.PwKernelIdeal.nD Cert.PwKernelIdeal.τ).loc Cert.PwKernelIdeal.main_arg4) = m ((c.tc : Thread Cert.PwKernelIdeal.nD Cert.PwKernelIdeal.τ).loc Cert.PwKernelIdeal.main_arg4)
      ∧ r.2.mem ((c.tc : Thread Cert.PwKernelIdeal.nD Cert.PwKernelIdeal.τ).loc Cert.PwKernelIdeal.main_arg5) = m ((c.tc : Thread Cert.PwKernelIdeal.nD Cert.PwKernelIdeal.τ).loc Cert.PwKernelIdeal.main_arg5)
      ∧ r.2.mem ((c.tc : Thread Cert.PwKernelIdeal.nD Cert.PwKernelIdeal.τ).loc Cert.PwKernelIdeal.main_arg6) = m ((c.tc : Thread Cert.PwKernelIdeal.nD Cert.PwKernelIdeal.τ).loc Cert.PwKernelIdeal.main_arg6)
      ∧ r.2.mem ((c.tc : Thread Cert.PwKernelIdeal.nD Cert.PwKernelIdeal.τ).loc Cert.PwKernelIdeal.main_arg7) = m ((c.tc : Thread Cert.PwKernelIdeal.nD Cert.PwKernelIdeal.τ).loc Cert.PwKernelIdeal.main_arg7)
      ∧ r.2.mem ((c.tc : Thread Cert.PwKernelIdeal.nD Cert.PwKernelIdeal.τ).loc Cert.PwKernelIdeal.main_arg8) = m ((c.tc : Thread Cert.PwKernelIdeal.nD Cert.PwKernelIdeal.τ).loc Cert.PwKernelIdeal.main_arg8)
      ∧ r.2.mem ((c.tc : Thread Cert.PwKernelIdeal.nD Cert.PwKernelIdeal.τ).loc Cert.PwKernelIdeal.main_arg9) = m ((c.tc : Thread Cert.PwKernelIdeal.nD Cert.PwKernelIdeal.τ).loc Cert.PwKernelIdeal.main_arg9)
      ∧ r.2.mem ((c.tc : Thread Cert.PwKernelIdeal.nD Cert.PwKernelIdeal.τ).loc Cert.PwKernelIdeal.main_arg10) = m ((c.tc : Thread Cert.PwKernelIdeal.nD Cert.PwKernelIdeal.τ).loc Cert.PwKernelIdeal.main_arg10)
      ∧ r.2.mem ((c.tc : Thread Cert.PwKernelIdeal.nD Cert.PwKernelIdeal.τ).loc Cert.PwKernelIdeal.main_arg11) = m ((c.tc : Thread Cert.PwKernelIdeal.nD Cert.PwKernelIdeal.τ).loc Cert.PwKernelIdeal.main_arg11)
      ∧ r.2.mem ((c.tc : Thread Cert.PwKernelIdeal.nD Cert.PwKernelIdeal.τ).loc Cert.PwKernelIdeal.main_arg12) = m ((c.tc : Thread Cert.PwKernelIdeal.nD Cert.PwKernelIdeal.τ).loc Cert.PwKernelIdeal.main_arg12))
      ∧ r.2.sem = fun _ => 0)

def quiescent_PwReferenceIdeal [hPwReferenceIdeal : Cert.PwReferenceIdeal.Facts] : Prop :=
  ∀ (m : (ℓ : Loc Cert.PwReferenceIdeal.nD Cert.PwReferenceIdeal.τ Cert.PwReferenceIdeal.sig) → Buf (Elt Ideal) ℓ) (g : Dev Cert.PwReferenceIdeal.nD → PrngReg), Pre_PwReferenceIdeal m →
    θ_run (Cert.PwReferenceIdeal.defs (F := Ideal)) (onTc (τ := Cert.PwReferenceIdeal.τ) (Cert.PwReferenceIdeal.main (F := Ideal))) ⟨m, fun _ => 0, g⟩ (fun r => (∀ c : Dev Cert.PwReferenceIdeal.nD,
      r.2.mem ((c.tc : Thread Cert.PwReferenceIdeal.nD Cert.PwReferenceIdeal.τ).loc Cert.PwReferenceIdeal.main_arg0) = m ((c.tc : Thread Cert.PwReferenceIdeal.nD Cert.PwReferenceIdeal.τ).loc Cert.PwReferenceIdeal.main_arg0)
      ∧ r.2.mem ((c.tc : Thread Cert.PwReferenceIdeal.nD Cert.PwReferenceIdeal.τ).loc Cert.PwReferenceIdeal.main_arg1) = m ((c.tc : Thread Cert.PwReferenceIdeal.nD Cert.PwReferenceIdeal.τ).loc Cert.PwReferenceIdeal.main_arg1)
      ∧ r.2.mem ((c.tc : Thread Cert.PwReferenceIdeal.nD Cert.PwReferenceIdeal.τ).loc Cert.PwReferenceIdeal.main_arg2) = m ((c.tc : Thread Cert.PwReferenceIdeal.nD Cert.PwReferenceIdeal.τ).loc Cert.PwReferenceIdeal.main_arg2)
      ∧ r.2.mem ((c.tc : Thread Cert.PwReferenceIdeal.nD Cert.PwReferenceIdeal.τ).loc Cert.PwReferenceIdeal.main_arg3) = m ((c.tc : Thread Cert.PwReferenceIdeal.nD Cert.PwReferenceIdeal.τ).loc Cert.PwReferenceIdeal.main_arg3)
      ∧ r.2.mem ((c.tc : Thread Cert.PwReferenceIdeal.nD Cert.PwReferenceIdeal.τ).loc Cert.PwReferenceIdeal.main_arg4) = m ((c.tc : Thread Cert.PwReferenceIdeal.nD Cert.PwReferenceIdeal.τ).loc Cert.PwReferenceIdeal.main_arg4)
      ∧ r.2.mem ((c.tc : Thread Cert.PwReferenceIdeal.nD Cert.PwReferenceIdeal.τ).loc Cert.PwReferenceIdeal.main_arg5) = m ((c.tc : Thread Cert.PwReferenceIdeal.nD Cert.PwReferenceIdeal.τ).loc Cert.PwReferenceIdeal.main_arg5)
      ∧ r.2.mem ((c.tc : Thread Cert.PwReferenceIdeal.nD Cert.PwReferenceIdeal.τ).loc Cert.PwReferenceIdeal.main_arg6) = m ((c.tc : Thread Cert.PwReferenceIdeal.nD Cert.PwReferenceIdeal.τ).loc Cert.PwReferenceIdeal.main_arg6)
      ∧ r.2.mem ((c.tc : Thread Cert.PwReferenceIdeal.nD Cert.PwReferenceIdeal.τ).loc Cert.PwReferenceIdeal.main_arg7) = m ((c.tc : Thread Cert.PwReferenceIdeal.nD Cert.PwReferenceIdeal.τ).loc Cert.PwReferenceIdeal.main_arg7)
      ∧ r.2.mem ((c.tc : Thread Cert.PwReferenceIdeal.nD Cert.PwReferenceIdeal.τ).loc Cert.PwReferenceIdeal.main_arg8) = m ((c.tc : Thread Cert.PwReferenceIdeal.nD Cert.PwReferenceIdeal.τ).loc Cert.PwReferenceIdeal.main_arg8)
      ∧ r.2.mem ((c.tc : Thread Cert.PwReferenceIdeal.nD Cert.PwReferenceIdeal.τ).loc Cert.PwReferenceIdeal.main_arg9) = m ((c.tc : Thread Cert.PwReferenceIdeal.nD Cert.PwReferenceIdeal.τ).loc Cert.PwReferenceIdeal.main_arg9)
      ∧ r.2.mem ((c.tc : Thread Cert.PwReferenceIdeal.nD Cert.PwReferenceIdeal.τ).loc Cert.PwReferenceIdeal.main_arg10) = m ((c.tc : Thread Cert.PwReferenceIdeal.nD Cert.PwReferenceIdeal.τ).loc Cert.PwReferenceIdeal.main_arg10)
      ∧ r.2.mem ((c.tc : Thread Cert.PwReferenceIdeal.nD Cert.PwReferenceIdeal.τ).loc Cert.PwReferenceIdeal.main_arg11) = m ((c.tc : Thread Cert.PwReferenceIdeal.nD Cert.PwReferenceIdeal.τ).loc Cert.PwReferenceIdeal.main_arg11)
      ∧ r.2.mem ((c.tc : Thread Cert.PwReferenceIdeal.nD Cert.PwReferenceIdeal.τ).loc Cert.PwReferenceIdeal.main_arg12) = m ((c.tc : Thread Cert.PwReferenceIdeal.nD Cert.PwReferenceIdeal.τ).loc Cert.PwReferenceIdeal.main_arg12))
      ∧ r.2.sem = fun _ => 0)

def quiescent_PwReferenceIdeal_pre_pw2_finite [hPwReferenceIdeal : Cert.PwReferenceIdeal.Facts] [hPre_pw2_finite : Cert.Pre_pw2_finite.Facts] : Prop :=
  ∀ (m : (ℓ : Loc Cert.PwReferenceIdeal.nD Cert.PwReferenceIdeal.τ Cert.PwReferenceIdeal.sig) → Buf (Elt Ideal) ℓ) (g : Dev Cert.PwReferenceIdeal.nD → PrngReg), Pre_PwReferenceIdeal_pw2_finite m →
    θ_run (Cert.PwReferenceIdeal.defs (F := Ideal)) (onTc (τ := Cert.PwReferenceIdeal.τ) (Cert.PwReferenceIdeal.main (F := Ideal))) ⟨m, fun _ => 0, g⟩ (fun r => (∀ c : Dev Cert.PwReferenceIdeal.nD,
      r.2.mem ((c.tc : Thread Cert.PwReferenceIdeal.nD Cert.PwReferenceIdeal.τ).loc Cert.PwReferenceIdeal.main_arg0) = m ((c.tc : Thread Cert.PwReferenceIdeal.nD Cert.PwReferenceIdeal.τ).loc Cert.PwReferenceIdeal.main_arg0)
      ∧ r.2.mem ((c.tc : Thread Cert.PwReferenceIdeal.nD Cert.PwReferenceIdeal.τ).loc Cert.PwReferenceIdeal.main_arg1) = m ((c.tc : Thread Cert.PwReferenceIdeal.nD Cert.PwReferenceIdeal.τ).loc Cert.PwReferenceIdeal.main_arg1)
      ∧ r.2.mem ((c.tc : Thread Cert.PwReferenceIdeal.nD Cert.PwReferenceIdeal.τ).loc Cert.PwReferenceIdeal.main_arg2) = m ((c.tc : Thread Cert.PwReferenceIdeal.nD Cert.PwReferenceIdeal.τ).loc Cert.PwReferenceIdeal.main_arg2)
      ∧ r.2.mem ((c.tc : Thread Cert.PwReferenceIdeal.nD Cert.PwReferenceIdeal.τ).loc Cert.PwReferenceIdeal.main_arg3) = m ((c.tc : Thread Cert.PwReferenceIdeal.nD Cert.PwReferenceIdeal.τ).loc Cert.PwReferenceIdeal.main_arg3)
      ∧ r.2.mem ((c.tc : Thread Cert.PwReferenceIdeal.nD Cert.PwReferenceIdeal.τ).loc Cert.PwReferenceIdeal.main_arg4) = m ((c.tc : Thread Cert.PwReferenceIdeal.nD Cert.PwReferenceIdeal.τ).loc Cert.PwReferenceIdeal.main_arg4)
      ∧ r.2.mem ((c.tc : Thread Cert.PwReferenceIdeal.nD Cert.PwReferenceIdeal.τ).loc Cert.PwReferenceIdeal.main_arg5) = m ((c.tc : Thread Cert.PwReferenceIdeal.nD Cert.PwReferenceIdeal.τ).loc Cert.PwReferenceIdeal.main_arg5)
      ∧ r.2.mem ((c.tc : Thread Cert.PwReferenceIdeal.nD Cert.PwReferenceIdeal.τ).loc Cert.PwReferenceIdeal.main_arg6) = m ((c.tc : Thread Cert.PwReferenceIdeal.nD Cert.PwReferenceIdeal.τ).loc Cert.PwReferenceIdeal.main_arg6)
      ∧ r.2.mem ((c.tc : Thread Cert.PwReferenceIdeal.nD Cert.PwReferenceIdeal.τ).loc Cert.PwReferenceIdeal.main_arg7) = m ((c.tc : Thread Cert.PwReferenceIdeal.nD Cert.PwReferenceIdeal.τ).loc Cert.PwReferenceIdeal.main_arg7)
      ∧ r.2.mem ((c.tc : Thread Cert.PwReferenceIdeal.nD Cert.PwReferenceIdeal.τ).loc Cert.PwReferenceIdeal.main_arg8) = m ((c.tc : Thread Cert.PwReferenceIdeal.nD Cert.PwReferenceIdeal.τ).loc Cert.PwReferenceIdeal.main_arg8)
      ∧ r.2.mem ((c.tc : Thread Cert.PwReferenceIdeal.nD Cert.PwReferenceIdeal.τ).loc Cert.PwReferenceIdeal.main_arg9) = m ((c.tc : Thread Cert.PwReferenceIdeal.nD Cert.PwReferenceIdeal.τ).loc Cert.PwReferenceIdeal.main_arg9)
      ∧ r.2.mem ((c.tc : Thread Cert.PwReferenceIdeal.nD Cert.PwReferenceIdeal.τ).loc Cert.PwReferenceIdeal.main_arg10) = m ((c.tc : Thread Cert.PwReferenceIdeal.nD Cert.PwReferenceIdeal.τ).loc Cert.PwReferenceIdeal.main_arg10)
      ∧ r.2.mem ((c.tc : Thread Cert.PwReferenceIdeal.nD Cert.PwReferenceIdeal.τ).loc Cert.PwReferenceIdeal.main_arg11) = m ((c.tc : Thread Cert.PwReferenceIdeal.nD Cert.PwReferenceIdeal.τ).loc Cert.PwReferenceIdeal.main_arg11)
      ∧ r.2.mem ((c.tc : Thread Cert.PwReferenceIdeal.nD Cert.PwReferenceIdeal.τ).loc Cert.PwReferenceIdeal.main_arg12) = m ((c.tc : Thread Cert.PwReferenceIdeal.nD Cert.PwReferenceIdeal.τ).loc Cert.PwReferenceIdeal.main_arg12))
      ∧ r.2.sem = fun _ => 0)

def quiescent_QkKernel [hQkKernel : Cert.QkKernel.Facts] : Prop :=
  ∀ (m : (ℓ : Loc Cert.QkKernel.nD Cert.QkKernel.τ Cert.QkKernel.sig) → Buf (Elt Bits) ℓ) (g : Dev Cert.QkKernel.nD → PrngReg), Pre_QkKernel m →
    θ_run (Cert.QkKernel.defs (F := Bits)) (onTc (τ := Cert.QkKernel.τ) (Cert.QkKernel.main (F := Bits))) ⟨m, fun _ => 0, g⟩ (fun r => (∀ c : Dev Cert.QkKernel.nD,
      r.2.mem ((c.tc : Thread Cert.QkKernel.nD Cert.QkKernel.τ).loc Cert.QkKernel.main_arg0) = m ((c.tc : Thread Cert.QkKernel.nD Cert.QkKernel.τ).loc Cert.QkKernel.main_arg0)
      ∧ r.2.mem ((c.tc : Thread Cert.QkKernel.nD Cert.QkKernel.τ).loc Cert.QkKernel.main_arg1) = m ((c.tc : Thread Cert.QkKernel.nD Cert.QkKernel.τ).loc Cert.QkKernel.main_arg1)
      ∧ r.2.mem ((c.tc : Thread Cert.QkKernel.nD Cert.QkKernel.τ).loc Cert.QkKernel.main_arg2) = m ((c.tc : Thread Cert.QkKernel.nD Cert.QkKernel.τ).loc Cert.QkKernel.main_arg2)
      ∧ r.2.mem ((c.tc : Thread Cert.QkKernel.nD Cert.QkKernel.τ).loc Cert.QkKernel.main_arg3) = m ((c.tc : Thread Cert.QkKernel.nD Cert.QkKernel.τ).loc Cert.QkKernel.main_arg3)
      ∧ r.2.mem ((c.tc : Thread Cert.QkKernel.nD Cert.QkKernel.τ).loc Cert.QkKernel.main_arg4) = m ((c.tc : Thread Cert.QkKernel.nD Cert.QkKernel.τ).loc Cert.QkKernel.main_arg4))
      ∧ r.2.sem = fun _ => 0)

def quiescent_QkKernelIdeal [hQkKernelIdeal : Cert.QkKernelIdeal.Facts] : Prop :=
  ∀ (m : (ℓ : Loc Cert.QkKernelIdeal.nD Cert.QkKernelIdeal.τ Cert.QkKernelIdeal.sig) → Buf (Elt Ideal) ℓ) (g : Dev Cert.QkKernelIdeal.nD → PrngReg), Pre_QkKernelIdeal m →
    θ_run (Cert.QkKernelIdeal.defs (F := Ideal)) (onTc (τ := Cert.QkKernelIdeal.τ) (Cert.QkKernelIdeal.main (F := Ideal))) ⟨m, fun _ => 0, g⟩ (fun r => (∀ c : Dev Cert.QkKernelIdeal.nD,
      r.2.mem ((c.tc : Thread Cert.QkKernelIdeal.nD Cert.QkKernelIdeal.τ).loc Cert.QkKernelIdeal.main_arg0) = m ((c.tc : Thread Cert.QkKernelIdeal.nD Cert.QkKernelIdeal.τ).loc Cert.QkKernelIdeal.main_arg0)
      ∧ r.2.mem ((c.tc : Thread Cert.QkKernelIdeal.nD Cert.QkKernelIdeal.τ).loc Cert.QkKernelIdeal.main_arg1) = m ((c.tc : Thread Cert.QkKernelIdeal.nD Cert.QkKernelIdeal.τ).loc Cert.QkKernelIdeal.main_arg1)
      ∧ r.2.mem ((c.tc : Thread Cert.QkKernelIdeal.nD Cert.QkKernelIdeal.τ).loc Cert.QkKernelIdeal.main_arg2) = m ((c.tc : Thread Cert.QkKernelIdeal.nD Cert.QkKernelIdeal.τ).loc Cert.QkKernelIdeal.main_arg2)
      ∧ r.2.mem ((c.tc : Thread Cert.QkKernelIdeal.nD Cert.QkKernelIdeal.τ).loc Cert.QkKernelIdeal.main_arg3) = m ((c.tc : Thread Cert.QkKernelIdeal.nD Cert.QkKernelIdeal.τ).loc Cert.QkKernelIdeal.main_arg3)
      ∧ r.2.mem ((c.tc : Thread Cert.QkKernelIdeal.nD Cert.QkKernelIdeal.τ).loc Cert.QkKernelIdeal.main_arg4) = m ((c.tc : Thread Cert.QkKernelIdeal.nD Cert.QkKernelIdeal.τ).loc Cert.QkKernelIdeal.main_arg4))
      ∧ r.2.sem = fun _ => 0)

def quiescent_QkReferenceIdeal [hQkReferenceIdeal : Cert.QkReferenceIdeal.Facts] : Prop :=
  ∀ (m : (ℓ : Loc Cert.QkReferenceIdeal.nD Cert.QkReferenceIdeal.τ Cert.QkReferenceIdeal.sig) → Buf (Elt Ideal) ℓ) (g : Dev Cert.QkReferenceIdeal.nD → PrngReg), Pre_QkReferenceIdeal m →
    θ_run (Cert.QkReferenceIdeal.defs (F := Ideal)) (onTc (τ := Cert.QkReferenceIdeal.τ) (Cert.QkReferenceIdeal.main (F := Ideal))) ⟨m, fun _ => 0, g⟩ (fun r => (∀ c : Dev Cert.QkReferenceIdeal.nD,
      r.2.mem ((c.tc : Thread Cert.QkReferenceIdeal.nD Cert.QkReferenceIdeal.τ).loc Cert.QkReferenceIdeal.main_arg0) = m ((c.tc : Thread Cert.QkReferenceIdeal.nD Cert.QkReferenceIdeal.τ).loc Cert.QkReferenceIdeal.main_arg0)
      ∧ r.2.mem ((c.tc : Thread Cert.QkReferenceIdeal.nD Cert.QkReferenceIdeal.τ).loc Cert.QkReferenceIdeal.main_arg1) = m ((c.tc : Thread Cert.QkReferenceIdeal.nD Cert.QkReferenceIdeal.τ).loc Cert.QkReferenceIdeal.main_arg1)
      ∧ r.2.mem ((c.tc : Thread Cert.QkReferenceIdeal.nD Cert.QkReferenceIdeal.τ).loc Cert.QkReferenceIdeal.main_arg2) = m ((c.tc : Thread Cert.QkReferenceIdeal.nD Cert.QkReferenceIdeal.τ).loc Cert.QkReferenceIdeal.main_arg2)
      ∧ r.2.mem ((c.tc : Thread Cert.QkReferenceIdeal.nD Cert.QkReferenceIdeal.τ).loc Cert.QkReferenceIdeal.main_arg3) = m ((c.tc : Thread Cert.QkReferenceIdeal.nD Cert.QkReferenceIdeal.τ).loc Cert.QkReferenceIdeal.main_arg3)
      ∧ r.2.mem ((c.tc : Thread Cert.QkReferenceIdeal.nD Cert.QkReferenceIdeal.τ).loc Cert.QkReferenceIdeal.main_arg4) = m ((c.tc : Thread Cert.QkReferenceIdeal.nD Cert.QkReferenceIdeal.τ).loc Cert.QkReferenceIdeal.main_arg4))
      ∧ r.2.sem = fun _ => 0)

def quiescent_CombineKernel [hCombineKernel : Cert.CombineKernel.Facts] : Prop :=
  ∀ (m : (ℓ : Loc Cert.CombineKernel.nD Cert.CombineKernel.τ Cert.CombineKernel.sig) → Buf (Elt Bits) ℓ) (g : Dev Cert.CombineKernel.nD → PrngReg), Pre_CombineKernel m →
    θ_run (Cert.CombineKernel.defs (F := Bits)) (onTc (τ := Cert.CombineKernel.τ) (Cert.CombineKernel.main (F := Bits))) ⟨m, fun _ => 0, g⟩ (fun r => (∀ c : Dev Cert.CombineKernel.nD,
      r.2.mem ((c.tc : Thread Cert.CombineKernel.nD Cert.CombineKernel.τ).loc Cert.CombineKernel.main_arg0) = m ((c.tc : Thread Cert.CombineKernel.nD Cert.CombineKernel.τ).loc Cert.CombineKernel.main_arg0)
      ∧ r.2.mem ((c.tc : Thread Cert.CombineKernel.nD Cert.CombineKernel.τ).loc Cert.CombineKernel.main_arg1) = m ((c.tc : Thread Cert.CombineKernel.nD Cert.CombineKernel.τ).loc Cert.CombineKernel.main_arg1)
      ∧ r.2.mem ((c.tc : Thread Cert.CombineKernel.nD Cert.CombineKernel.τ).loc Cert.CombineKernel.main_arg2) = m ((c.tc : Thread Cert.CombineKernel.nD Cert.CombineKernel.τ).loc Cert.CombineKernel.main_arg2)
      ∧ r.2.mem ((c.tc : Thread Cert.CombineKernel.nD Cert.CombineKernel.τ).loc Cert.CombineKernel.main_arg3) = m ((c.tc : Thread Cert.CombineKernel.nD Cert.CombineKernel.τ).loc Cert.CombineKernel.main_arg3)
      ∧ r.2.mem ((c.tc : Thread Cert.CombineKernel.nD Cert.CombineKernel.τ).loc Cert.CombineKernel.main_arg4) = m ((c.tc : Thread Cert.CombineKernel.nD Cert.CombineKernel.τ).loc Cert.CombineKernel.main_arg4)
      ∧ r.2.mem ((c.tc : Thread Cert.CombineKernel.nD Cert.CombineKernel.τ).loc Cert.CombineKernel.main_arg5) = m ((c.tc : Thread Cert.CombineKernel.nD Cert.CombineKernel.τ).loc Cert.CombineKernel.main_arg5))
      ∧ r.2.sem = fun _ => 0)

def quiescent_CombineKernelIdeal [hCombineKernelIdeal : Cert.CombineKernelIdeal.Facts] : Prop :=
  ∀ (m : (ℓ : Loc Cert.CombineKernelIdeal.nD Cert.CombineKernelIdeal.τ Cert.CombineKernelIdeal.sig) → Buf (Elt Ideal) ℓ) (g : Dev Cert.CombineKernelIdeal.nD → PrngReg), Pre_CombineKernelIdeal m →
    θ_run (Cert.CombineKernelIdeal.defs (F := Ideal)) (onTc (τ := Cert.CombineKernelIdeal.τ) (Cert.CombineKernelIdeal.main (F := Ideal))) ⟨m, fun _ => 0, g⟩ (fun r => (∀ c : Dev Cert.CombineKernelIdeal.nD,
      r.2.mem ((c.tc : Thread Cert.CombineKernelIdeal.nD Cert.CombineKernelIdeal.τ).loc Cert.CombineKernelIdeal.main_arg0) = m ((c.tc : Thread Cert.CombineKernelIdeal.nD Cert.CombineKernelIdeal.τ).loc Cert.CombineKernelIdeal.main_arg0)
      ∧ r.2.mem ((c.tc : Thread Cert.CombineKernelIdeal.nD Cert.CombineKernelIdeal.τ).loc Cert.CombineKernelIdeal.main_arg1) = m ((c.tc : Thread Cert.CombineKernelIdeal.nD Cert.CombineKernelIdeal.τ).loc Cert.CombineKernelIdeal.main_arg1)
      ∧ r.2.mem ((c.tc : Thread Cert.CombineKernelIdeal.nD Cert.CombineKernelIdeal.τ).loc Cert.CombineKernelIdeal.main_arg2) = m ((c.tc : Thread Cert.CombineKernelIdeal.nD Cert.CombineKernelIdeal.τ).loc Cert.CombineKernelIdeal.main_arg2)
      ∧ r.2.mem ((c.tc : Thread Cert.CombineKernelIdeal.nD Cert.CombineKernelIdeal.τ).loc Cert.CombineKernelIdeal.main_arg3) = m ((c.tc : Thread Cert.CombineKernelIdeal.nD Cert.CombineKernelIdeal.τ).loc Cert.CombineKernelIdeal.main_arg3)
      ∧ r.2.mem ((c.tc : Thread Cert.CombineKernelIdeal.nD Cert.CombineKernelIdeal.τ).loc Cert.CombineKernelIdeal.main_arg4) = m ((c.tc : Thread Cert.CombineKernelIdeal.nD Cert.CombineKernelIdeal.τ).loc Cert.CombineKernelIdeal.main_arg4)
      ∧ r.2.mem ((c.tc : Thread Cert.CombineKernelIdeal.nD Cert.CombineKernelIdeal.τ).loc Cert.CombineKernelIdeal.main_arg5) = m ((c.tc : Thread Cert.CombineKernelIdeal.nD Cert.CombineKernelIdeal.τ).loc Cert.CombineKernelIdeal.main_arg5))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5))
      ∧ r.2.sem = fun _ => 0)

def quiescent_RouteKernel [hRouteKernel : Cert.RouteKernel.Facts] : Prop :=
  ∀ (m : (ℓ : Loc Cert.RouteKernel.nD Cert.RouteKernel.τ Cert.RouteKernel.sig) → Buf (Elt Bits) ℓ) (g : Dev Cert.RouteKernel.nD → PrngReg), Pre_RouteKernel m →
    θ_run (Cert.RouteKernel.defs (F := Bits)) (onTc (τ := Cert.RouteKernel.τ) (Cert.RouteKernel.main (F := Bits))) ⟨m, fun _ => 0, g⟩ (fun r => (∀ c : Dev Cert.RouteKernel.nD,
      r.2.mem ((c.tc : Thread Cert.RouteKernel.nD Cert.RouteKernel.τ).loc Cert.RouteKernel.main_arg0) = m ((c.tc : Thread Cert.RouteKernel.nD Cert.RouteKernel.τ).loc Cert.RouteKernel.main_arg0))
      ∧ r.2.sem = fun _ => 0)

def quiescent_RouteKernelIdeal [hRouteKernelIdeal : Cert.RouteKernelIdeal.Facts] : Prop :=
  ∀ (m : (ℓ : Loc Cert.RouteKernelIdeal.nD Cert.RouteKernelIdeal.τ Cert.RouteKernelIdeal.sig) → Buf (Elt Ideal) ℓ) (g : Dev Cert.RouteKernelIdeal.nD → PrngReg), Pre_RouteKernelIdeal m →
    θ_run (Cert.RouteKernelIdeal.defs (F := Ideal)) (onTc (τ := Cert.RouteKernelIdeal.τ) (Cert.RouteKernelIdeal.main (F := Ideal))) ⟨m, fun _ => 0, g⟩ (fun r => (∀ c : Dev Cert.RouteKernelIdeal.nD,
      r.2.mem ((c.tc : Thread Cert.RouteKernelIdeal.nD Cert.RouteKernelIdeal.τ).loc Cert.RouteKernelIdeal.main_arg0) = m ((c.tc : Thread Cert.RouteKernelIdeal.nD Cert.RouteKernelIdeal.τ).loc Cert.RouteKernelIdeal.main_arg0))
      ∧ r.2.sem = fun _ => 0)

def quiescent_RouteKernelIdeal_pre_route_finite [hRouteKernelIdeal : Cert.RouteKernelIdeal.Facts] [hPre_route_finite : Cert.Pre_route_finite.Facts] : Prop :=
  ∀ (m : (ℓ : Loc Cert.RouteKernelIdeal.nD Cert.RouteKernelIdeal.τ Cert.RouteKernelIdeal.sig) → Buf (Elt Ideal) ℓ) (g : Dev Cert.RouteKernelIdeal.nD → PrngReg), Pre_RouteKernelIdeal_route_finite m →
    θ_run (Cert.RouteKernelIdeal.defs (F := Ideal)) (onTc (τ := Cert.RouteKernelIdeal.τ) (Cert.RouteKernelIdeal.main (F := Ideal))) ⟨m, fun _ => 0, g⟩ (fun r => (∀ c : Dev Cert.RouteKernelIdeal.nD,
      r.2.mem ((c.tc : Thread Cert.RouteKernelIdeal.nD Cert.RouteKernelIdeal.τ).loc Cert.RouteKernelIdeal.main_arg0) = m ((c.tc : Thread Cert.RouteKernelIdeal.nD Cert.RouteKernelIdeal.τ).loc Cert.RouteKernelIdeal.main_arg0))
      ∧ r.2.sem = fun _ => 0)

def quiescent_RouteReferenceIdeal [hRouteReferenceIdeal : Cert.RouteReferenceIdeal.Facts] : Prop :=
  ∀ (m : (ℓ : Loc Cert.RouteReferenceIdeal.nD Cert.RouteReferenceIdeal.τ Cert.RouteReferenceIdeal.sig) → Buf (Elt Ideal) ℓ) (g : Dev Cert.RouteReferenceIdeal.nD → PrngReg), Pre_RouteReferenceIdeal m →
    θ_run (Cert.RouteReferenceIdeal.defs (F := Ideal)) (onTc (τ := Cert.RouteReferenceIdeal.τ) (Cert.RouteReferenceIdeal.main (F := Ideal))) ⟨m, fun _ => 0, g⟩ (fun r => (∀ c : Dev Cert.RouteReferenceIdeal.nD,
      r.2.mem ((c.tc : Thread Cert.RouteReferenceIdeal.nD Cert.RouteReferenceIdeal.τ).loc Cert.RouteReferenceIdeal.main_arg0) = m ((c.tc : Thread Cert.RouteReferenceIdeal.nD Cert.RouteReferenceIdeal.τ).loc Cert.RouteReferenceIdeal.main_arg0))
      ∧ r.2.sem = fun _ => 0)

def quiescent_RouteReferenceIdeal_pre_route_finite [hRouteReferenceIdeal : Cert.RouteReferenceIdeal.Facts] [hPre_route_finite : Cert.Pre_route_finite.Facts] : Prop :=
  ∀ (m : (ℓ : Loc Cert.RouteReferenceIdeal.nD Cert.RouteReferenceIdeal.τ Cert.RouteReferenceIdeal.sig) → Buf (Elt Ideal) ℓ) (g : Dev Cert.RouteReferenceIdeal.nD → PrngReg), Pre_RouteReferenceIdeal_route_finite m →
    θ_run (Cert.RouteReferenceIdeal.defs (F := Ideal)) (onTc (τ := Cert.RouteReferenceIdeal.τ) (Cert.RouteReferenceIdeal.main (F := Ideal))) ⟨m, fun _ => 0, g⟩ (fun r => (∀ c : Dev Cert.RouteReferenceIdeal.nD,
      r.2.mem ((c.tc : Thread Cert.RouteReferenceIdeal.nD Cert.RouteReferenceIdeal.τ).loc Cert.RouteReferenceIdeal.main_arg0) = m ((c.tc : Thread Cert.RouteReferenceIdeal.nD Cert.RouteReferenceIdeal.τ).loc Cert.RouteReferenceIdeal.main_arg0))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)) →
    ∃ (v0 : (c : Dev Cert.InKernelIdeal.nD) → Buf (Elt Ideal) ((c.tc : Thread Cert.InKernelIdeal.nD Cert.InKernelIdeal.τ).loc Cert.InKernelIdeal.main_v5)) (v1 : (c : Dev Cert.InKernelIdeal.nD) → Buf (Elt Ideal) ((c.tc : Thread Cert.InKernelIdeal.nD Cert.InKernelIdeal.τ).loc Cert.InKernelIdeal.main_v9)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v5) = v0 c
          ∧ r.2.mem ((c.tc : Thread Cert.InKernelIdeal.nD Cert.InKernelIdeal.τ).loc Cert.InKernelIdeal.main_v9) = v1 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v35) = v0 c
          ∧ r.2.mem ((c.tc : Thread Cert.InReferenceIdeal.nD Cert.InReferenceIdeal.τ).loc Cert.InReferenceIdeal.main_v36) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3))

def preserves_GluKernel_GluKernelIdeal : Prop :=
  True

def algebraic_GluKernelIdeal_GluReferenceIdeal [hGluKernelIdeal : Cert.GluKernelIdeal.Facts] [hGluReferenceIdeal : Cert.GluReferenceIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluKernelIdeal m →
    (∀ c : Dev Cert.GluKernelIdeal.nD,
      m' ((c.tc : Thread Cert.GluReferenceIdeal.nD Cert.GluReferenceIdeal.τ).loc Cert.GluReferenceIdeal.main_arg0) = m ((c.tc : Thread Cert.GluKernelIdeal.nD Cert.GluKernelIdeal.τ).loc Cert.GluKernelIdeal.main_arg0)
      ∧ m' ((c.tc : Thread Cert.GluReferenceIdeal.nD Cert.GluReferenceIdeal.τ).loc Cert.GluReferenceIdeal.main_arg1) = m ((c.tc : Thread Cert.GluKernelIdeal.nD Cert.GluKernelIdeal.τ).loc Cert.GluKernelIdeal.main_arg1)
      ∧ m' ((c.tc : Thread Cert.GluReferenceIdeal.nD Cert.GluReferenceIdeal.τ).loc Cert.GluReferenceIdeal.main_arg2) = m ((c.tc : Thread Cert.GluKernelIdeal.nD Cert.GluKernelIdeal.τ).loc Cert.GluKernelIdeal.main_arg2)) →
    ∃ (v0 : (c : Dev Cert.GluKernelIdeal.nD) → Buf (Elt Ideal) ((c.tc : Thread Cert.GluKernelIdeal.nD Cert.GluKernelIdeal.τ).loc Cert.GluKernelIdeal.main_v2)),
      θ_run (Cert.GluKernelIdeal.defs (F := Ideal)) (onTc (τ := Cert.GluKernelIdeal.τ) (Cert.GluKernelIdeal.main (F := Ideal))) ⟨m, fun _ => 0, g⟩ (fun r => ∀ c : Dev Cert.GluKernelIdeal.nD,
          r.2.mem ((c.tc : Thread Cert.GluKernelIdeal.nD Cert.GluKernelIdeal.τ).loc Cert.GluKernelIdeal.main_v2) = v0 c
          ∧ r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
          ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
          ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v54) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2))

def preserves_OutKernel_OutKernelIdeal : Prop :=
  True

def algebraic_OutKernelIdeal_OutReferenceIdeal_pre_out_finite [hOutKernelIdeal : Cert.OutKernelIdeal.Facts] [hOutReferenceIdeal : Cert.OutReferenceIdeal.Facts] [hPre_out_finite : Cert.Pre_out_finite.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal_out_finite m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)
      ∧ m' ((c.tc : Thread Cert.OutReferenceIdeal.nD Cert.OutReferenceIdeal.τ).loc Cert.OutReferenceIdeal.main_arg7) = m ((c.tc : Thread Cert.OutKernelIdeal.nD Cert.OutKernelIdeal.τ).loc Cert.OutKernelIdeal.main_arg7)
      ∧ m' ((c.tc : Thread Cert.OutReferenceIdeal.nD Cert.OutReferenceIdeal.τ).loc Cert.OutReferenceIdeal.main_arg8) = m ((c.tc : Thread Cert.OutKernelIdeal.nD Cert.OutKernelIdeal.τ).loc Cert.OutKernelIdeal.main_arg8)
      ∧ m' ((c.tc : Thread Cert.OutReferenceIdeal.nD Cert.OutReferenceIdeal.τ).loc Cert.OutReferenceIdeal.main_arg9) = m ((c.tc : Thread Cert.OutKernelIdeal.nD Cert.OutKernelIdeal.τ).loc Cert.OutKernelIdeal.main_arg9)
      ∧ m' ((c.tc : Thread Cert.OutReferenceIdeal.nD Cert.OutReferenceIdeal.τ).loc Cert.OutReferenceIdeal.main_arg10) = m ((c.tc : Thread Cert.OutKernelIdeal.nD Cert.OutKernelIdeal.τ).loc Cert.OutKernelIdeal.main_arg10)
      ∧ m' ((c.tc : Thread Cert.OutReferenceIdeal.nD Cert.OutReferenceIdeal.τ).loc Cert.OutReferenceIdeal.main_arg11) = m ((c.tc : Thread Cert.OutKernelIdeal.nD Cert.OutKernelIdeal.τ).loc Cert.OutKernelIdeal.main_arg11)
      ∧ m' ((c.tc : Thread Cert.OutReferenceIdeal.nD Cert.OutReferenceIdeal.τ).loc Cert.OutReferenceIdeal.main_arg12) = m ((c.tc : Thread Cert.OutKernelIdeal.nD Cert.OutKernelIdeal.τ).loc Cert.OutKernelIdeal.main_arg12)) →
    ∃ (v0 : (c : Dev Cert.OutKernelIdeal.nD) → Buf (Elt Ideal) ((c.tc : Thread Cert.OutKernelIdeal.nD Cert.OutKernelIdeal.τ).loc Cert.OutKernelIdeal.main_v25_0)) (v1 : (c : Dev Cert.OutKernelIdeal.nD) → Buf (Elt Ideal) ((c.tc : Thread Cert.OutKernelIdeal.nD Cert.OutKernelIdeal.τ).loc Cert.OutKernelIdeal.main_v25_1)) (v2 : (c : Dev Cert.OutKernelIdeal.nD) → Buf (Elt Ideal) ((c.tc : Thread Cert.OutKernelIdeal.nD Cert.OutKernelIdeal.τ).loc Cert.OutKernelIdeal.main_v26)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v25_0) = v0 c
          ∧ r.2.mem ((c.tc : Thread Cert.OutKernelIdeal.nD Cert.OutKernelIdeal.τ).loc Cert.OutKernelIdeal.main_v25_1) = v1 c
          ∧ r.2.mem ((c.tc : Thread Cert.OutKernelIdeal.nD Cert.OutKernelIdeal.τ).loc Cert.OutKernelIdeal.main_v26) = v2 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
          ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
          ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8)
          ∧ r.2.mem ((c.tc : Thread Cert.OutKernelIdeal.nD Cert.OutKernelIdeal.τ).loc Cert.OutKernelIdeal.main_arg9) = m ((c.tc : Thread Cert.OutKernelIdeal.nD Cert.OutKernelIdeal.τ).loc Cert.OutKernelIdeal.main_arg9)
          ∧ r.2.mem ((c.tc : Thread Cert.OutKernelIdeal.nD Cert.OutKernelIdeal.τ).loc Cert.OutKernelIdeal.main_arg10) = m ((c.tc : Thread Cert.OutKernelIdeal.nD Cert.OutKernelIdeal.τ).loc Cert.OutKernelIdeal.main_arg10)
          ∧ r.2.mem ((c.tc : Thread Cert.OutKernelIdeal.nD Cert.OutKernelIdeal.τ).loc Cert.OutKernelIdeal.main_arg11) = m ((c.tc : Thread Cert.OutKernelIdeal.nD Cert.OutKernelIdeal.τ).loc Cert.OutKernelIdeal.main_arg11)
          ∧ r.2.mem ((c.tc : Thread Cert.OutKernelIdeal.nD Cert.OutKernelIdeal.τ).loc Cert.OutKernelIdeal.main_arg12) = m ((c.tc : Thread Cert.OutKernelIdeal.nD Cert.OutKernelIdeal.τ).loc Cert.OutKernelIdeal.main_arg12))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v120) = v0 c
          ∧ r.2.mem ((c.tc : Thread Cert.OutReferenceIdeal.nD Cert.OutReferenceIdeal.τ).loc Cert.OutReferenceIdeal.main_v121) = v1 c
          ∧ r.2.mem ((c.tc : Thread Cert.OutReferenceIdeal.nD Cert.OutReferenceIdeal.τ).loc Cert.OutReferenceIdeal.main_v122) = v2 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7)
          ∧ r.2.mem ((c.tc : Thread Cert.OutReferenceIdeal.nD Cert.OutReferenceIdeal.τ).loc Cert.OutReferenceIdeal.main_arg8) = m' ((c.tc : Thread Cert.OutReferenceIdeal.nD Cert.OutReferenceIdeal.τ).loc Cert.OutReferenceIdeal.main_arg8)
          ∧ r.2.mem ((c.tc : Thread Cert.OutReferenceIdeal.nD Cert.OutReferenceIdeal.τ).loc Cert.OutReferenceIdeal.main_arg9) = m' ((c.tc : Thread Cert.OutReferenceIdeal.nD Cert.OutReferenceIdeal.τ).loc Cert.OutReferenceIdeal.main_arg9)
          ∧ r.2.mem ((c.tc : Thread Cert.OutReferenceIdeal.nD Cert.OutReferenceIdeal.τ).loc Cert.OutReferenceIdeal.main_arg10) = m' ((c.tc : Thread Cert.OutReferenceIdeal.nD Cert.OutReferenceIdeal.τ).loc Cert.OutReferenceIdeal.main_arg10)
          ∧ r.2.mem ((c.tc : Thread Cert.OutReferenceIdeal.nD Cert.OutReferenceIdeal.τ).loc Cert.OutReferenceIdeal.main_arg11) = m' ((c.tc : Thread Cert.OutReferenceIdeal.nD Cert.OutReferenceIdeal.τ).loc Cert.OutReferenceIdeal.main_arg11)
          ∧ r.2.mem ((c.tc : Thread Cert.OutReferenceIdeal.nD Cert.OutReferenceIdeal.τ).loc Cert.OutReferenceIdeal.main_arg12) = m' ((c.tc : Thread Cert.OutReferenceIdeal.nD Cert.OutReferenceIdeal.τ).loc Cert.OutReferenceIdeal.main_arg12))

def preserves_PwKernel_PwKernelIdeal : Prop :=
  True

def algebraic_PwKernelIdeal_PwReferenceIdeal_pre_pw2_finite [hPwKernelIdeal : Cert.PwKernelIdeal.Facts] [hPwReferenceIdeal : Cert.PwReferenceIdeal.Facts] [hPre_pw2_finite : Cert.Pre_pw2_finite.Facts] : Prop :=
  ∀ (m : (ℓ : Loc Cert.PwKernelIdeal.nD Cert.PwKernelIdeal.τ Cert.PwKernelIdeal.sig) → Buf (Elt Ideal) ℓ) (g : Dev Cert.PwKernelIdeal.nD → PrngReg)
    (m' : (ℓ : Loc Cert.PwReferenceIdeal.nD Cert.PwReferenceIdeal.τ Cert.PwReferenceIdeal.sig) → Buf (Elt Ideal) ℓ) (g' : Dev Cert.PwReferenceIdeal.nD → PrngReg), Pre_PwKernelIdeal_pw2_finite m →
    (∀ c : Dev Cert.PwKernelIdeal.nD,
      m' ((c.tc : Thread Cert.PwReferenceIdeal.nD Cert.PwReferenceIdeal.τ).loc Cert.PwReferenceIdeal.main_arg0) = m ((c.tc : Thread Cert.PwKernelIdeal.nD Cert.PwKernelIdeal.τ).loc Cert.PwKernelIdeal.main_arg0)
      ∧ m' ((c.tc : Thread Cert.PwReferenceIdeal.nD Cert.PwReferenceIdeal.τ).loc Cert.PwReferenceIdeal.main_arg1) = m ((c.tc : Thread Cert.PwKernelIdeal.nD Cert.PwKernelIdeal.τ).loc Cert.PwKernelIdeal.main_arg1)
      ∧ m' ((c.tc : Thread Cert.PwReferenceIdeal.nD Cert.PwReferenceIdeal.τ).loc Cert.PwReferenceIdeal.main_arg2) = m ((c.tc : Thread Cert.PwKernelIdeal.nD Cert.PwKernelIdeal.τ).loc Cert.PwKernelIdeal.main_arg2)
      ∧ m' ((c.tc : Thread Cert.PwReferenceIdeal.nD Cert.PwReferenceIdeal.τ).loc Cert.PwReferenceIdeal.main_arg3) = m ((c.tc : Thread Cert.PwKernelIdeal.nD Cert.PwKernelIdeal.τ).loc Cert.PwKernelIdeal.main_arg3)
      ∧ m' ((c.tc : Thread Cert.PwReferenceIdeal.nD Cert.PwReferenceIdeal.τ).loc Cert.PwReferenceIdeal.main_arg4) = m ((c.tc : Thread Cert.PwKernelIdeal.nD Cert.PwKernelIdeal.τ).loc Cert.PwKernelIdeal.main_arg4)
      ∧ m' ((c.tc : Thread Cert.PwReferenceIdeal.nD Cert.PwReferenceIdeal.τ).loc Cert.PwReferenceIdeal.main_arg5) = m ((c.tc : Thread Cert.PwKernelIdeal.nD Cert.PwKernelIdeal.τ).loc Cert.PwKernelIdeal.main_arg5)
      ∧ m' ((c.tc : Thread Cert.PwReferenceIdeal.nD Cert.PwReferenceIdeal.τ).loc Cert.PwReferenceIdeal.main_arg6) = m ((c.tc : Thread Cert.PwKernelIdeal.nD Cert.PwKernelIdeal.τ).loc Cert.PwKernelIdeal.main_arg6)
      ∧ m' ((c.tc : Thread Cert.PwReferenceIdeal.nD Cert.PwReferenceIdeal.τ).loc Cert.PwReferenceIdeal.main_arg7) = m ((c.tc : Thread Cert.PwKernelIdeal.nD Cert.PwKernelIdeal.τ).loc Cert.PwKernelIdeal.main_arg7)
      ∧ m' ((c.tc : Thread Cert.PwReferenceIdeal.nD Cert.PwReferenceIdeal.τ).loc Cert.PwReferenceIdeal.main_arg8) = m ((c.tc : Thread Cert.PwKernelIdeal.nD Cert.PwKernelIdeal.τ).loc Cert.PwKernelIdeal.main_arg8)
      ∧ m' ((c.tc : Thread Cert.PwReferenceIdeal.nD Cert.PwReferenceIdeal.τ).loc Cert.PwReferenceIdeal.main_arg9) = m ((c.tc : Thread Cert.PwKernelIdeal.nD Cert.PwKernelIdeal.τ).loc Cert.PwKernelIdeal.main_arg9)
      ∧ m' ((c.tc : Thread Cert.PwReferenceIdeal.nD Cert.PwReferenceIdeal.τ).loc Cert.PwReferenceIdeal.main_arg10) = m ((c.tc : Thread Cert.PwKernelIdeal.nD Cert.PwKernelIdeal.τ).loc Cert.PwKernelIdeal.main_arg10)
      ∧ m' ((c.tc : Thread Cert.PwReferenceIdeal.nD Cert.PwReferenceIdeal.τ).loc Cert.PwReferenceIdeal.main_arg11) = m ((c.tc : Thread Cert.PwKernelIdeal.nD Cert.PwKernelIdeal.τ).loc Cert.PwKernelIdeal.main_arg11)
      ∧ m' ((c.tc : Thread Cert.PwReferenceIdeal.nD Cert.PwReferenceIdeal.τ).loc Cert.PwReferenceIdeal.main_arg12) = m ((c.tc : Thread Cert.PwKernelIdeal.nD Cert.PwKernelIdeal.τ).loc Cert.PwKernelIdeal.main_arg12)) →
    ∃ (v0 : (c : Dev Cert.PwKernelIdeal.nD) → Buf (Elt Ideal) ((c.tc : Thread Cert.PwKernelIdeal.nD Cert.PwKernelIdeal.τ).loc Cert.PwKernelIdeal.main_v25_0)) (v1 : (c : Dev Cert.PwKernelIdeal.nD) → Buf (Elt Ideal) ((c.tc : Thread Cert.PwKernelIdeal.nD Cert.PwKernelIdeal.τ).loc Cert.PwKernelIdeal.main_v25_1)) (v2 : (c : Dev Cert.PwKernelIdeal.nD) → Buf (Elt Ideal) ((c.tc : Thread Cert.PwKernelIdeal.nD Cert.PwKernelIdeal.τ).loc Cert.PwKernelIdeal.main_v26)),
      θ_run (Cert.PwKernelIdeal.defs (F := Ideal)) (onTc (τ := Cert.PwKernelIdeal.τ) (Cert.PwKernelIdeal.main (F := Ideal))) ⟨m, fun _ => 0, g⟩ (fun r => ∀ c : Dev Cert.PwKernelIdeal.nD,
          r.2.mem ((c.tc : Thread Cert.PwKernelIdeal.nD Cert.PwKernelIdeal.τ).loc Cert.PwKernelIdeal.main_v25_0) = v0 c
          ∧ r.2.mem ((c.tc : Thread Cert.PwKernelIdeal.nD Cert.PwKernelIdeal.τ).loc Cert.PwKernelIdeal.main_v25_1) = v1 c
          ∧ r.2.mem ((c.tc : Thread Cert.PwKernelIdeal.nD Cert.PwKernelIdeal.τ).loc Cert.PwKernelIdeal.main_v26) = v2 c
          ∧ r.2.mem ((c.tc : Thread Cert.PwKernelIdeal.nD Cert.PwKernelIdeal.τ).loc Cert.PwKernelIdeal.main_arg0) = m ((c.tc : Thread Cert.PwKernelIdeal.nD Cert.PwKernelIdeal.τ).loc Cert.PwKernelIdeal.main_arg0)
          ∧ r.2.mem ((c.tc : Thread Cert.PwKernelIdeal.nD Cert.PwKernelIdeal.τ).loc Cert.PwKernelIdeal.main_arg1) = m ((c.tc : Thread Cert.PwKernelIdeal.nD Cert.PwKernelIdeal.τ).loc Cert.PwKernelIdeal.main_arg1)
          ∧ r.2.mem ((c.tc : Thread Cert.PwKernelIdeal.nD Cert.PwKernelIdeal.τ).loc Cert.PwKernelIdeal.main_arg2) = m ((c.tc : Thread Cert.PwKernelIdeal.nD Cert.PwKernelIdeal.τ).loc Cert.PwKernelIdeal.main_arg2)
          ∧ r.2.mem ((c.tc : Thread Cert.PwKernelIdeal.nD Cert.PwKernelIdeal.τ).loc Cert.PwKernelIdeal.main_arg3) = m ((c.tc : Thread Cert.PwKernelIdeal.nD Cert.PwKernelIdeal.τ).loc Cert.PwKernelIdeal.main_arg3)
          ∧ r.2.mem ((c.tc : Thread Cert.PwKernelIdeal.nD Cert.PwKernelIdeal.τ).loc Cert.PwKernelIdeal.main_arg4) = m ((c.tc : Thread Cert.PwKernelIdeal.nD Cert.PwKernelIdeal.τ).loc Cert.PwKernelIdeal.main_arg4)
          ∧ r.2.mem ((c.tc : Thread Cert.PwKernelIdeal.nD Cert.PwKernelIdeal.τ).loc Cert.PwKernelIdeal.main_arg5) = m ((c.tc : Thread Cert.PwKernelIdeal.nD Cert.PwKernelIdeal.τ).loc Cert.PwKernelIdeal.main_arg5)
          ∧ r.2.mem ((c.tc : Thread Cert.PwKernelIdeal.nD Cert.PwKernelIdeal.τ).loc Cert.PwKernelIdeal.main_arg6) = m ((c.tc : Thread Cert.PwKernelIdeal.nD Cert.PwKernelIdeal.τ).loc Cert.PwKernelIdeal.main_arg6)
          ∧ r.2.mem ((c.tc : Thread Cert.PwKernelIdeal.nD Cert.PwKernelIdeal.τ).loc Cert.PwKernelIdeal.main_arg7) = m ((c.tc : Thread Cert.PwKernelIdeal.nD Cert.PwKernelIdeal.τ).loc Cert.PwKernelIdeal.main_arg7)
          ∧ r.2.mem ((c.tc : Thread Cert.PwKernelIdeal.nD Cert.PwKernelIdeal.τ).loc Cert.PwKernelIdeal.main_arg8) = m ((c.tc : Thread Cert.PwKernelIdeal.nD Cert.PwKernelIdeal.τ).loc Cert.PwKernelIdeal.main_arg8)
          ∧ r.2.mem ((c.tc : Thread Cert.PwKernelIdeal.nD Cert.PwKernelIdeal.τ).loc Cert.PwKernelIdeal.main_arg9) = m ((c.tc : Thread Cert.PwKernelIdeal.nD Cert.PwKernelIdeal.τ).loc Cert.PwKernelIdeal.main_arg9)
          ∧ r.2.mem ((c.tc : Thread Cert.PwKernelIdeal.nD Cert.PwKernelIdeal.τ).loc Cert.PwKernelIdeal.main_arg10) = m ((c.tc : Thread Cert.PwKernelIdeal.nD Cert.PwKernelIdeal.τ).loc Cert.PwKernelIdeal.main_arg10)
          ∧ r.2.mem ((c.tc : Thread Cert.PwKernelIdeal.nD Cert.PwKernelIdeal.τ).loc Cert.PwKernelIdeal.main_arg11) = m ((c.tc : Thread Cert.PwKernelIdeal.nD Cert.PwKernelIdeal.τ).loc Cert.PwKernelIdeal.main_arg11)
          ∧ r.2.mem ((c.tc : Thread Cert.PwKernelIdeal.nD Cert.PwKernelIdeal.τ).loc Cert.PwKernelIdeal.main_arg12) = m ((c.tc : Thread Cert.PwKernelIdeal.nD Cert.PwKernelIdeal.τ).loc Cert.PwKernelIdeal.main_arg12))
      ∧ θ_run (Cert.PwReferenceIdeal.defs (F := Ideal)) (onTc (τ := Cert.PwReferenceIdeal.τ) (Cert.PwReferenceIdeal.main (F := Ideal))) ⟨m', fun _ => 0, g'⟩ (fun r => ∀ c : Dev Cert.PwReferenceIdeal.nD,
          r.2.mem ((c.tc : Thread Cert.PwReferenceIdeal.nD Cert.PwReferenceIdeal.τ).loc Cert.PwReferenceIdeal.main_v166) = v0 c
          ∧ r.2.mem ((c.tc : Thread Cert.PwReferenceIdeal.nD Cert.PwReferenceIdeal.τ).loc Cert.PwReferenceIdeal.main_v167) = v1 c
          ∧ r.2.mem ((c.tc : Thread Cert.PwReferenceIdeal.nD Cert.PwReferenceIdeal.τ).loc Cert.PwReferenceIdeal.main_v168) = v2 c
          ∧ r.2.mem ((c.tc : Thread Cert.PwReferenceIdeal.nD Cert.PwReferenceIdeal.τ).loc Cert.PwReferenceIdeal.main_arg0) = m' ((c.tc : Thread Cert.PwReferenceIdeal.nD Cert.PwReferenceIdeal.τ).loc Cert.PwReferenceIdeal.main_arg0)
          ∧ r.2.mem ((c.tc : Thread Cert.PwReferenceIdeal.nD Cert.PwReferenceIdeal.τ).loc Cert.PwReferenceIdeal.main_arg1) = m' ((c.tc : Thread Cert.PwReferenceIdeal.nD Cert.PwReferenceIdeal.τ).loc Cert.PwReferenceIdeal.main_arg1)
          ∧ r.2.mem ((c.tc : Thread Cert.PwReferenceIdeal.nD Cert.PwReferenceIdeal.τ).loc Cert.PwReferenceIdeal.main_arg2) = m' ((c.tc : Thread Cert.PwReferenceIdeal.nD Cert.PwReferenceIdeal.τ).loc Cert.PwReferenceIdeal.main_arg2)
          ∧ r.2.mem ((c.tc : Thread Cert.PwReferenceIdeal.nD Cert.PwReferenceIdeal.τ).loc Cert.PwReferenceIdeal.main_arg3) = m' ((c.tc : Thread Cert.PwReferenceIdeal.nD Cert.PwReferenceIdeal.τ).loc Cert.PwReferenceIdeal.main_arg3)
          ∧ r.2.mem ((c.tc : Thread Cert.PwReferenceIdeal.nD Cert.PwReferenceIdeal.τ).loc Cert.PwReferenceIdeal.main_arg4) = m' ((c.tc : Thread Cert.PwReferenceIdeal.nD Cert.PwReferenceIdeal.τ).loc Cert.PwReferenceIdeal.main_arg4)
          ∧ r.2.mem ((c.tc : Thread Cert.PwReferenceIdeal.nD Cert.PwReferenceIdeal.τ).loc Cert.PwReferenceIdeal.main_arg5) = m' ((c.tc : Thread Cert.PwReferenceIdeal.nD Cert.PwReferenceIdeal.τ).loc Cert.PwReferenceIdeal.main_arg5)
          ∧ r.2.mem ((c.tc : Thread Cert.PwReferenceIdeal.nD Cert.PwReferenceIdeal.τ).loc Cert.PwReferenceIdeal.main_arg6) = m' ((c.tc : Thread Cert.PwReferenceIdeal.nD Cert.PwReferenceIdeal.τ).loc Cert.PwReferenceIdeal.main_arg6)
          ∧ r.2.mem ((c.tc : Thread Cert.PwReferenceIdeal.nD Cert.PwReferenceIdeal.τ).loc Cert.PwReferenceIdeal.main_arg7) = m' ((c.tc : Thread Cert.PwReferenceIdeal.nD Cert.PwReferenceIdeal.τ).loc Cert.PwReferenceIdeal.main_arg7)
          ∧ r.2.mem ((c.tc : Thread Cert.PwReferenceIdeal.nD Cert.PwReferenceIdeal.τ).loc Cert.PwReferenceIdeal.main_arg8) = m' ((c.tc : Thread Cert.PwReferenceIdeal.nD Cert.PwReferenceIdeal.τ).loc Cert.PwReferenceIdeal.main_arg8)
          ∧ r.2.mem ((c.tc : Thread Cert.PwReferenceIdeal.nD Cert.PwReferenceIdeal.τ).loc Cert.PwReferenceIdeal.main_arg9) = m' ((c.tc : Thread Cert.PwReferenceIdeal.nD Cert.PwReferenceIdeal.τ).loc Cert.PwReferenceIdeal.main_arg9)
          ∧ r.2.mem ((c.tc : Thread Cert.PwReferenceIdeal.nD Cert.PwReferenceIdeal.τ).loc Cert.PwReferenceIdeal.main_arg10) = m' ((c.tc : Thread Cert.PwReferenceIdeal.nD Cert.PwReferenceIdeal.τ).loc Cert.PwReferenceIdeal.main_arg10)
          ∧ r.2.mem ((c.tc : Thread Cert.PwReferenceIdeal.nD Cert.PwReferenceIdeal.τ).loc Cert.PwReferenceIdeal.main_arg11) = m' ((c.tc : Thread Cert.PwReferenceIdeal.nD Cert.PwReferenceIdeal.τ).loc Cert.PwReferenceIdeal.main_arg11)
          ∧ r.2.mem ((c.tc : Thread Cert.PwReferenceIdeal.nD Cert.PwReferenceIdeal.τ).loc Cert.PwReferenceIdeal.main_arg12) = m' ((c.tc : Thread Cert.PwReferenceIdeal.nD Cert.PwReferenceIdeal.τ).loc Cert.PwReferenceIdeal.main_arg12))

def preserves_QkKernel_QkKernelIdeal : Prop :=
  True

def algebraic_QkKernelIdeal_QkReferenceIdeal [hQkKernelIdeal : Cert.QkKernelIdeal.Facts] [hQkReferenceIdeal : Cert.QkReferenceIdeal.Facts] : Prop :=
  ∀ (m : (ℓ : Loc Cert.QkKernelIdeal.nD Cert.QkKernelIdeal.τ Cert.QkKernelIdeal.sig) → Buf (Elt Ideal) ℓ) (g : Dev Cert.QkKernelIdeal.nD → PrngReg)
    (m' : (ℓ : Loc Cert.QkReferenceIdeal.nD Cert.QkReferenceIdeal.τ Cert.QkReferenceIdeal.sig) → Buf (Elt Ideal) ℓ) (g' : Dev Cert.QkReferenceIdeal.nD → PrngReg), Pre_QkKernelIdeal m →
    (∀ c : Dev Cert.QkKernelIdeal.nD,
      m' ((c.tc : Thread Cert.QkReferenceIdeal.nD Cert.QkReferenceIdeal.τ).loc Cert.QkReferenceIdeal.main_arg0) = m ((c.tc : Thread Cert.QkKernelIdeal.nD Cert.QkKernelIdeal.τ).loc Cert.QkKernelIdeal.main_arg0)
      ∧ m' ((c.tc : Thread Cert.QkReferenceIdeal.nD Cert.QkReferenceIdeal.τ).loc Cert.QkReferenceIdeal.main_arg1) = m ((c.tc : Thread Cert.QkKernelIdeal.nD Cert.QkKernelIdeal.τ).loc Cert.QkKernelIdeal.main_arg1)
      ∧ m' ((c.tc : Thread Cert.QkReferenceIdeal.nD Cert.QkReferenceIdeal.τ).loc Cert.QkReferenceIdeal.main_arg2) = m ((c.tc : Thread Cert.QkKernelIdeal.nD Cert.QkKernelIdeal.τ).loc Cert.QkKernelIdeal.main_arg2)
      ∧ m' ((c.tc : Thread Cert.QkReferenceIdeal.nD Cert.QkReferenceIdeal.τ).loc Cert.QkReferenceIdeal.main_arg3) = m ((c.tc : Thread Cert.QkKernelIdeal.nD Cert.QkKernelIdeal.τ).loc Cert.QkKernelIdeal.main_arg3)
      ∧ m' ((c.tc : Thread Cert.QkReferenceIdeal.nD Cert.QkReferenceIdeal.τ).loc Cert.QkReferenceIdeal.main_arg4) = m ((c.tc : Thread Cert.QkKernelIdeal.nD Cert.QkKernelIdeal.τ).loc Cert.QkKernelIdeal.main_arg4)) →
    ∃ (v0 : (c : Dev Cert.QkKernelIdeal.nD) → Buf (Elt Ideal) ((c.tc : Thread Cert.QkKernelIdeal.nD Cert.QkKernelIdeal.τ).loc Cert.QkKernelIdeal.main_v20_0)) (v1 : (c : Dev Cert.QkKernelIdeal.nD) → Buf (Elt Ideal) ((c.tc : Thread Cert.QkKernelIdeal.nD Cert.QkKernelIdeal.τ).loc Cert.QkKernelIdeal.main_v20_1)) (v2 : (c : Dev Cert.QkKernelIdeal.nD) → Buf (Elt Ideal) ((c.tc : Thread Cert.QkKernelIdeal.nD Cert.QkKernelIdeal.τ).loc Cert.QkKernelIdeal.main_v20_2)) (v3 : (c : Dev Cert.QkKernelIdeal.nD) → Buf (Elt Ideal) ((c.tc : Thread Cert.QkKernelIdeal.nD Cert.QkKernelIdeal.τ).loc Cert.QkKernelIdeal.main_v24)),
      θ_run (Cert.QkKernelIdeal.defs (F := Ideal)) (onTc (τ := Cert.QkKernelIdeal.τ) (Cert.QkKernelIdeal.main (F := Ideal))) ⟨m, fun _ => 0, g⟩ (fun r => ∀ c : Dev Cert.QkKernelIdeal.nD,
          r.2.mem ((c.tc : Thread Cert.QkKernelIdeal.nD Cert.QkKernelIdeal.τ).loc Cert.QkKernelIdeal.main_v20_0) = v0 c
          ∧ r.2.mem ((c.tc : Thread Cert.QkKernelIdeal.nD Cert.QkKernelIdeal.τ).loc Cert.QkKernelIdeal.main_v20_1) = v1 c
          ∧ r.2.mem ((c.tc : Thread Cert.QkKernelIdeal.nD Cert.QkKernelIdeal.τ).loc Cert.QkKernelIdeal.main_v20_2) = v2 c
          ∧ r.2.mem ((c.tc : Thread Cert.QkKernelIdeal.nD Cert.QkKernelIdeal.τ).loc Cert.QkKernelIdeal.main_v24) = v3 c
          ∧ r.2.mem ((c.tc : Thread Cert.QkKernelIdeal.nD Cert.QkKernelIdeal.τ).loc Cert.QkKernelIdeal.main_arg0) = m ((c.tc : Thread Cert.QkKernelIdeal.nD Cert.QkKernelIdeal.τ).loc Cert.QkKernelIdeal.main_arg0)
          ∧ r.2.mem ((c.tc : Thread Cert.QkKernelIdeal.nD Cert.QkKernelIdeal.τ).loc Cert.QkKernelIdeal.main_arg1) = m ((c.tc : Thread Cert.QkKernelIdeal.nD Cert.QkKernelIdeal.τ).loc Cert.QkKernelIdeal.main_arg1)
          ∧ r.2.mem ((c.tc : Thread Cert.QkKernelIdeal.nD Cert.QkKernelIdeal.τ).loc Cert.QkKernelIdeal.main_arg2) = m ((c.tc : Thread Cert.QkKernelIdeal.nD Cert.QkKernelIdeal.τ).loc Cert.QkKernelIdeal.main_arg2)
          ∧ r.2.mem ((c.tc : Thread Cert.QkKernelIdeal.nD Cert.QkKernelIdeal.τ).loc Cert.QkKernelIdeal.main_arg3) = m ((c.tc : Thread Cert.QkKernelIdeal.nD Cert.QkKernelIdeal.τ).loc Cert.QkKernelIdeal.main_arg3)
          ∧ r.2.mem ((c.tc : Thread Cert.QkKernelIdeal.nD Cert.QkKernelIdeal.τ).loc Cert.QkKernelIdeal.main_arg4) = m ((c.tc : Thread Cert.QkKernelIdeal.nD Cert.QkKernelIdeal.τ).loc Cert.QkKernelIdeal.main_arg4))
      ∧ θ_run (Cert.QkReferenceIdeal.defs (F := Ideal)) (onTc (τ := Cert.QkReferenceIdeal.τ) (Cert.QkReferenceIdeal.main (F := Ideal))) ⟨m', fun _ => 0, g'⟩ (fun r => ∀ c : Dev Cert.QkReferenceIdeal.nD,
          r.2.mem ((c.tc : Thread Cert.QkReferenceIdeal.nD Cert.QkReferenceIdeal.τ).loc Cert.QkReferenceIdeal.main_v122) = v0 c
          ∧ r.2.mem ((c.tc : Thread Cert.QkReferenceIdeal.nD Cert.QkReferenceIdeal.τ).loc Cert.QkReferenceIdeal.main_v119) = v1 c
          ∧ r.2.mem ((c.tc : Thread Cert.QkReferenceIdeal.nD Cert.QkReferenceIdeal.τ).loc Cert.QkReferenceIdeal.main_v123) = v2 c
          ∧ r.2.mem ((c.tc : Thread Cert.QkReferenceIdeal.nD Cert.QkReferenceIdeal.τ).loc Cert.QkReferenceIdeal.main_v125) = v3 c
          ∧ r.2.mem ((c.tc : Thread Cert.QkReferenceIdeal.nD Cert.QkReferenceIdeal.τ).loc Cert.QkReferenceIdeal.main_arg0) = m' ((c.tc : Thread Cert.QkReferenceIdeal.nD Cert.QkReferenceIdeal.τ).loc Cert.QkReferenceIdeal.main_arg0)
          ∧ r.2.mem ((c.tc : Thread Cert.QkReferenceIdeal.nD Cert.QkReferenceIdeal.τ).loc Cert.QkReferenceIdeal.main_arg1) = m' ((c.tc : Thread Cert.QkReferenceIdeal.nD Cert.QkReferenceIdeal.τ).loc Cert.QkReferenceIdeal.main_arg1)
          ∧ r.2.mem ((c.tc : Thread Cert.QkReferenceIdeal.nD Cert.QkReferenceIdeal.τ).loc Cert.QkReferenceIdeal.main_arg2) = m' ((c.tc : Thread Cert.QkReferenceIdeal.nD Cert.QkReferenceIdeal.τ).loc Cert.QkReferenceIdeal.main_arg2)
          ∧ r.2.mem ((c.tc : Thread Cert.QkReferenceIdeal.nD Cert.QkReferenceIdeal.τ).loc Cert.QkReferenceIdeal.main_arg3) = m' ((c.tc : Thread Cert.QkReferenceIdeal.nD Cert.QkReferenceIdeal.τ).loc Cert.QkReferenceIdeal.main_arg3)
          ∧ r.2.mem ((c.tc : Thread Cert.QkReferenceIdeal.nD Cert.QkReferenceIdeal.τ).loc Cert.QkReferenceIdeal.main_arg4) = m' ((c.tc : Thread Cert.QkReferenceIdeal.nD Cert.QkReferenceIdeal.τ).loc Cert.QkReferenceIdeal.main_arg4))

def preserves_CombineKernel_CombineKernelIdeal : Prop :=
  True

def algebraic_CombineKernelIdeal_CombineReferenceIdeal [hCombineKernelIdeal : Cert.CombineKernelIdeal.Facts] [hCombineReferenceIdeal : Cert.CombineReferenceIdeal.Facts] : Prop :=
  ∀ (m : (ℓ : Loc Cert.CombineKernelIdeal.nD Cert.CombineKernelIdeal.τ Cert.CombineKernelIdeal.sig) → Buf (Elt Ideal) ℓ) (g : Dev Cert.CombineKernelIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineKernelIdeal m →
    (∀ c : Dev Cert.CombineKernelIdeal.nD,
      m' ((c.tc : Thread Cert.CombineReferenceIdeal.nD Cert.CombineReferenceIdeal.τ).loc Cert.CombineReferenceIdeal.main_arg0) = m ((c.tc : Thread Cert.CombineKernelIdeal.nD Cert.CombineKernelIdeal.τ).loc Cert.CombineKernelIdeal.main_arg0)
      ∧ m' ((c.tc : Thread Cert.CombineReferenceIdeal.nD Cert.CombineReferenceIdeal.τ).loc Cert.CombineReferenceIdeal.main_arg1) = m ((c.tc : Thread Cert.CombineKernelIdeal.nD Cert.CombineKernelIdeal.τ).loc Cert.CombineKernelIdeal.main_arg1)
      ∧ m' ((c.tc : Thread Cert.CombineReferenceIdeal.nD Cert.CombineReferenceIdeal.τ).loc Cert.CombineReferenceIdeal.main_arg2) = m ((c.tc : Thread Cert.CombineKernelIdeal.nD Cert.CombineKernelIdeal.τ).loc Cert.CombineKernelIdeal.main_arg2)
      ∧ m' ((c.tc : Thread Cert.CombineReferenceIdeal.nD Cert.CombineReferenceIdeal.τ).loc Cert.CombineReferenceIdeal.main_arg3) = m ((c.tc : Thread Cert.CombineKernelIdeal.nD Cert.CombineKernelIdeal.τ).loc Cert.CombineKernelIdeal.main_arg3)
      ∧ m' ((c.tc : Thread Cert.CombineReferenceIdeal.nD Cert.CombineReferenceIdeal.τ).loc Cert.CombineReferenceIdeal.main_arg4) = m ((c.tc : Thread Cert.CombineKernelIdeal.nD Cert.CombineKernelIdeal.τ).loc Cert.CombineKernelIdeal.main_arg4)
      ∧ m' ((c.tc : Thread Cert.CombineReferenceIdeal.nD Cert.CombineReferenceIdeal.τ).loc Cert.CombineReferenceIdeal.main_arg5) = m ((c.tc : Thread Cert.CombineKernelIdeal.nD Cert.CombineKernelIdeal.τ).loc Cert.CombineKernelIdeal.main_arg5)) →
    ∃ (v0 : (c : Dev Cert.CombineKernelIdeal.nD) → Buf (Elt Ideal) ((c.tc : Thread Cert.CombineKernelIdeal.nD Cert.CombineKernelIdeal.τ).loc Cert.CombineKernelIdeal.main_v4)) (v1 : (c : Dev Cert.CombineKernelIdeal.nD) → Buf (Elt Ideal) ((c.tc : Thread Cert.CombineKernelIdeal.nD Cert.CombineKernelIdeal.τ).loc Cert.CombineKernelIdeal.main_v5)),
      θ_run (Cert.CombineKernelIdeal.defs (F := Ideal)) (onTc (τ := Cert.CombineKernelIdeal.τ) (Cert.CombineKernelIdeal.main (F := Ideal))) ⟨m, fun _ => 0, g⟩ (fun r => ∀ c : Dev Cert.CombineKernelIdeal.nD,
          r.2.mem ((c.tc : Thread Cert.CombineKernelIdeal.nD Cert.CombineKernelIdeal.τ).loc Cert.CombineKernelIdeal.main_v4) = v0 c
          ∧ r.2.mem ((c.tc : Thread Cert.CombineKernelIdeal.nD Cert.CombineKernelIdeal.τ).loc Cert.CombineKernelIdeal.main_v5) = v1 c
          ∧ r.2.mem ((c.tc : Thread Cert.CombineKernelIdeal.nD Cert.CombineKernelIdeal.τ).loc Cert.CombineKernelIdeal.main_arg0) = m ((c.tc : Thread Cert.CombineKernelIdeal.nD Cert.CombineKernelIdeal.τ).loc Cert.CombineKernelIdeal.main_arg0)
          ∧ r.2.mem ((c.tc : Thread Cert.CombineKernelIdeal.nD Cert.CombineKernelIdeal.τ).loc Cert.CombineKernelIdeal.main_arg1) = m ((c.tc : Thread Cert.CombineKernelIdeal.nD Cert.CombineKernelIdeal.τ).loc Cert.CombineKernelIdeal.main_arg1)
          ∧ r.2.mem ((c.tc : Thread Cert.CombineKernelIdeal.nD Cert.CombineKernelIdeal.τ).loc Cert.CombineKernelIdeal.main_arg2) = m ((c.tc : Thread Cert.CombineKernelIdeal.nD Cert.CombineKernelIdeal.τ).loc Cert.CombineKernelIdeal.main_arg2)
          ∧ r.2.mem ((c.tc : Thread Cert.CombineKernelIdeal.nD Cert.CombineKernelIdeal.τ).loc Cert.CombineKernelIdeal.main_arg3) = m ((c.tc : Thread Cert.CombineKernelIdeal.nD Cert.CombineKernelIdeal.τ).loc Cert.CombineKernelIdeal.main_arg3)
          ∧ r.2.mem ((c.tc : Thread Cert.CombineKernelIdeal.nD Cert.CombineKernelIdeal.τ).loc Cert.CombineKernelIdeal.main_arg4) = m ((c.tc : Thread Cert.CombineKernelIdeal.nD Cert.CombineKernelIdeal.τ).loc Cert.CombineKernelIdeal.main_arg4)
          ∧ r.2.mem ((c.tc : Thread Cert.CombineKernelIdeal.nD Cert.CombineKernelIdeal.τ).loc Cert.CombineKernelIdeal.main_arg5) = m ((c.tc : Thread Cert.CombineKernelIdeal.nD Cert.CombineKernelIdeal.τ).loc Cert.CombineKernelIdeal.main_arg5))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v49) = v0 c
          ∧ r.2.mem ((c.tc : Thread Cert.CombineReferenceIdeal.nD Cert.CombineReferenceIdeal.τ).loc Cert.CombineReferenceIdeal.main_v90) = v1 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4)
          ∧ r.2.mem ((c.tc : Thread Cert.CombineReferenceIdeal.nD Cert.CombineReferenceIdeal.τ).loc Cert.CombineReferenceIdeal.main_arg5) = m' ((c.tc : Thread Cert.CombineReferenceIdeal.nD Cert.CombineReferenceIdeal.τ).loc Cert.CombineReferenceIdeal.main_arg5))

def preserves_RouteKernel_RouteKernelIdeal : Prop :=
  True

def algebraic_RouteKernelIdeal_RouteReferenceIdeal_pre_route_finite [hRouteKernelIdeal : Cert.RouteKernelIdeal.Facts] [hRouteReferenceIdeal : Cert.RouteReferenceIdeal.Facts] [hPre_route_finite : Cert.Pre_route_finite.Facts] : Prop :=
  ∀ (m : (ℓ : Loc Cert.RouteKernelIdeal.nD Cert.RouteKernelIdeal.τ Cert.RouteKernelIdeal.sig) → Buf (Elt Ideal) ℓ) (g : Dev Cert.RouteKernelIdeal.nD → PrngReg)
    (m' : (ℓ : Loc Cert.RouteReferenceIdeal.nD Cert.RouteReferenceIdeal.τ Cert.RouteReferenceIdeal.sig) → Buf (Elt Ideal) ℓ) (g' : Dev Cert.RouteReferenceIdeal.nD → PrngReg), Pre_RouteKernelIdeal_route_finite m →
    (∀ c : Dev Cert.RouteKernelIdeal.nD,
      m' ((c.tc : Thread Cert.RouteReferenceIdeal.nD Cert.RouteReferenceIdeal.τ).loc Cert.RouteReferenceIdeal.main_arg0) = m ((c.tc : Thread Cert.RouteKernelIdeal.nD Cert.RouteKernelIdeal.τ).loc Cert.RouteKernelIdeal.main_arg0)) →
    ∃ (v0 : (c : Dev Cert.RouteKernelIdeal.nD) → Buf (Elt Ideal) ((c.tc : Thread Cert.RouteKernelIdeal.nD Cert.RouteKernelIdeal.τ).loc Cert.RouteKernelIdeal.main_v6)) (v1 : (c : Dev Cert.RouteKernelIdeal.nD) → Buf (Elt Ideal) ((c.tc : Thread Cert.RouteKernelIdeal.nD Cert.RouteKernelIdeal.τ).loc Cert.RouteKernelIdeal.main_v7)),
      θ_run (Cert.RouteKernelIdeal.defs (F := Ideal)) (onTc (τ := Cert.RouteKernelIdeal.τ) (Cert.RouteKernelIdeal.main (F := Ideal))) ⟨m, fun _ => 0, g⟩ (fun r => ∀ c : Dev Cert.RouteKernelIdeal.nD,
          r.2.mem ((c.tc : Thread Cert.RouteKernelIdeal.nD Cert.RouteKernelIdeal.τ).loc Cert.RouteKernelIdeal.main_v6) = v0 c
          ∧ r.2.mem ((c.tc : Thread Cert.RouteKernelIdeal.nD Cert.RouteKernelIdeal.τ).loc Cert.RouteKernelIdeal.main_v7) = v1 c
          ∧ r.2.mem ((c.tc : Thread Cert.RouteKernelIdeal.nD Cert.RouteKernelIdeal.τ).loc Cert.RouteKernelIdeal.main_arg0) = m ((c.tc : Thread Cert.RouteKernelIdeal.nD Cert.RouteKernelIdeal.τ).loc Cert.RouteKernelIdeal.main_arg0))
      ∧ θ_run (Cert.RouteReferenceIdeal.defs (F := Ideal)) (onTc (τ := Cert.RouteReferenceIdeal.τ) (Cert.RouteReferenceIdeal.main (F := Ideal))) ⟨m', fun _ => 0, g'⟩ (fun r => ∀ c : Dev Cert.RouteReferenceIdeal.nD,
          r.2.mem ((c.tc : Thread Cert.RouteReferenceIdeal.nD Cert.RouteReferenceIdeal.τ).loc Cert.RouteReferenceIdeal.main_v36) = v0 c
          ∧ r.2.mem ((c.tc : Thread Cert.RouteReferenceIdeal.nD Cert.RouteReferenceIdeal.τ).loc Cert.RouteReferenceIdeal.main_v41) = v1 c
          ∧ r.2.mem ((c.tc : Thread Cert.RouteReferenceIdeal.nD Cert.RouteReferenceIdeal.τ).loc Cert.RouteReferenceIdeal.main_arg0) = m' ((c.tc : Thread Cert.RouteReferenceIdeal.nD Cert.RouteReferenceIdeal.τ).loc Cert.RouteReferenceIdeal.main_arg0))

def Claim : Prop :=
  ∃ (hKernel : Cert.Kernel.Facts) (hKernelIdeal : Cert.KernelIdeal.Facts) (hReferenceIdeal : Cert.ReferenceIdeal.Facts) (hInKernel : Cert.InKernel.Facts) (hInKernelIdeal : Cert.InKernelIdeal.Facts) (hInReferenceIdeal : Cert.InReferenceIdeal.Facts) (hGluKernel : Cert.GluKernel.Facts) (hGluKernelIdeal : Cert.GluKernelIdeal.Facts) (hGluReferenceIdeal : Cert.GluReferenceIdeal.Facts) (hOutKernel : Cert.OutKernel.Facts) (hOutKernelIdeal : Cert.OutKernelIdeal.Facts) (hOutReferenceIdeal : Cert.OutReferenceIdeal.Facts) (hPwKernel : Cert.PwKernel.Facts) (hPwKernelIdeal : Cert.PwKernelIdeal.Facts) (hPwReferenceIdeal : Cert.PwReferenceIdeal.Facts) (hQkKernel : Cert.QkKernel.Facts) (hQkKernelIdeal : Cert.QkKernelIdeal.Facts) (hQkReferenceIdeal : Cert.QkReferenceIdeal.Facts) (hCombineKernel : Cert.CombineKernel.Facts) (hCombineKernelIdeal : Cert.CombineKernelIdeal.Facts) (hCombineReferenceIdeal : Cert.CombineReferenceIdeal.Facts) (hRouteKernel : Cert.RouteKernel.Facts) (hRouteKernelIdeal : Cert.RouteKernelIdeal.Facts) (hRouteReferenceIdeal : Cert.RouteReferenceIdeal.Facts) (hPre_scores_finite : Cert.Pre_scores_finite.Facts) (hPre_out_finite : Cert.Pre_out_finite.Facts) (hPre_pw2_finite : Cert.Pre_pw2_finite.Facts) (hPre_route_finite : Cert.Pre_route_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_InKernel (hInKernel := hInKernel)
    ∧ quiescent_InKernelIdeal (hInKernelIdeal := hInKernelIdeal)
    ∧ quiescent_InReferenceIdeal (hInReferenceIdeal := hInReferenceIdeal)
    ∧ quiescent_GluKernel (hGluKernel := hGluKernel)
    ∧ quiescent_GluKernelIdeal (hGluKernelIdeal := hGluKernelIdeal)
    ∧ quiescent_GluReferenceIdeal (hGluReferenceIdeal := hGluReferenceIdeal)
    ∧ quiescent_OutKernel (hOutKernel := hOutKernel)
    ∧ quiescent_OutKernelIdeal (hOutKernelIdeal := hOutKernelIdeal)
    ∧ quiescent_OutKernelIdeal_pre_out_finite (hOutKernelIdeal := hOutKernelIdeal) (hPre_out_finite := hPre_out_finite)
    ∧ quiescent_OutReferenceIdeal (hOutReferenceIdeal := hOutReferenceIdeal)
    ∧ quiescent_OutReferenceIdeal_pre_out_finite (hOutReferenceIdeal := hOutReferenceIdeal) (hPre_out_finite := hPre_out_finite)
    ∧ quiescent_PwKernel (hPwKernel := hPwKernel)
    ∧ quiescent_PwKernelIdeal (hPwKernelIdeal := hPwKernelIdeal)
    ∧ quiescent_PwKernelIdeal_pre_pw2_finite (hPwKernelIdeal := hPwKernelIdeal) (hPre_pw2_finite := hPre_pw2_finite)
    ∧ quiescent_PwReferenceIdeal (hPwReferenceIdeal := hPwReferenceIdeal)
    ∧ quiescent_PwReferenceIdeal_pre_pw2_finite (hPwReferenceIdeal := hPwReferenceIdeal) (hPre_pw2_finite := hPre_pw2_finite)
    ∧ quiescent_QkKernel (hQkKernel := hQkKernel)
    ∧ quiescent_QkKernelIdeal (hQkKernelIdeal := hQkKernelIdeal)
    ∧ quiescent_QkReferenceIdeal (hQkReferenceIdeal := hQkReferenceIdeal)
    ∧ quiescent_CombineKernel (hCombineKernel := hCombineKernel)
    ∧ quiescent_CombineKernelIdeal (hCombineKernelIdeal := hCombineKernelIdeal)
    ∧ quiescent_CombineReferenceIdeal (hCombineReferenceIdeal := hCombineReferenceIdeal)
    ∧ quiescent_RouteKernel (hRouteKernel := hRouteKernel)
    ∧ quiescent_RouteKernelIdeal (hRouteKernelIdeal := hRouteKernelIdeal)
    ∧ quiescent_RouteKernelIdeal_pre_route_finite (hRouteKernelIdeal := hRouteKernelIdeal) (hPre_route_finite := hPre_route_finite)
    ∧ quiescent_RouteReferenceIdeal (hRouteReferenceIdeal := hRouteReferenceIdeal)
    ∧ quiescent_RouteReferenceIdeal_pre_route_finite (hRouteReferenceIdeal := hRouteReferenceIdeal) (hPre_route_finite := hPre_route_finite)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_InKernel_InKernelIdeal
    ∧ algebraic_InKernelIdeal_InReferenceIdeal (hInKernelIdeal := hInKernelIdeal) (hInReferenceIdeal := hInReferenceIdeal)
    ∧ preserves_GluKernel_GluKernelIdeal
    ∧ algebraic_GluKernelIdeal_GluReferenceIdeal (hGluKernelIdeal := hGluKernelIdeal) (hGluReferenceIdeal := hGluReferenceIdeal)
    ∧ preserves_OutKernel_OutKernelIdeal
    ∧ algebraic_OutKernelIdeal_OutReferenceIdeal_pre_out_finite (hOutKernelIdeal := hOutKernelIdeal) (hOutReferenceIdeal := hOutReferenceIdeal) (hPre_out_finite := hPre_out_finite)
    ∧ preserves_PwKernel_PwKernelIdeal
    ∧ algebraic_PwKernelIdeal_PwReferenceIdeal_pre_pw2_finite (hPwKernelIdeal := hPwKernelIdeal) (hPwReferenceIdeal := hPwReferenceIdeal) (hPre_pw2_finite := hPre_pw2_finite)
    ∧ preserves_QkKernel_QkKernelIdeal
    ∧ algebraic_QkKernelIdeal_QkReferenceIdeal (hQkKernelIdeal := hQkKernelIdeal) (hQkReferenceIdeal := hQkReferenceIdeal)
    ∧ preserves_CombineKernel_CombineKernelIdeal
    ∧ algebraic_CombineKernelIdeal_CombineReferenceIdeal (hCombineKernelIdeal := hCombineKernelIdeal) (hCombineReferenceIdeal := hCombineReferenceIdeal)
    ∧ preserves_RouteKernel_RouteKernelIdeal
    ∧ algebraic_RouteKernelIdeal_RouteReferenceIdeal_pre_route_finite (hRouteKernelIdeal := hRouteKernelIdeal) (hRouteReferenceIdeal := hRouteReferenceIdeal) (hPre_route_finite := hPre_route_finite)
-- ==== Pre_out_finite.lean ====
abbrev S8192x1024 : Shape := ⟨2, ![8192, 1024]⟩
abbrev S16384x1024 : Shape := ⟨2, ![16384, 1024]⟩
abbrev S2048x2048 : Shape := ⟨2, ![2048, 2048]⟩
abbrev S24576x2048 : Shape := ⟨2, ![24576, 2048]⟩
abbrev S8x12288 : Shape := ⟨2, ![8, 12288]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S24576x2048 : S_.BroadcastsInDim S24576x2048 (![] : Fin 0 → Fin S24576x2048.rank)
  reducesTo_S24576x2048_S_d0_1 : S24576x2048.ReducesTo [0, 1] S_
  bcast_S_S8x12288 : S_.BroadcastsInDim S8x12288 (![] : Fin 0 → Fin S8x12288.rank)
  reducesTo_S8x12288_S_d0_1 : S8x12288.ReducesTo [0, 1] S_
  bcast_S_S2048 : S_.BroadcastsInDim S2048 (![] : Fin 0 → Fin S2048.rank)
  reducesTo_S2048_S_d0 : S2048.ReducesTo [0] S_
  bcast_S_S2048x4 : S_.BroadcastsInDim S2048x4 (![] : Fin 0 → Fin S2048x4.rank)
  reducesTo_S2048x4_S_d0_1 : S2048x4.ReducesTo [0, 1] S_
  bcast_S_S2048x32 : S_.BroadcastsInDim S2048x32 (![] : Fin 0 → Fin S2048x32.rank)
  reducesTo_S2048x32_S_d0_1 : S2048x32.ReducesTo [0, 1] S_

variable [Facts]

def fn_part3 {F : FTy → Type} [FloatOps F] (main_v48 : IVec S_ 1) (main_v49 : FVec F S2048x32 .f32) (main_v50 : FVec F S2048x32 .f32) : IVec S_ 1 :=
  let main_v51 : IVec S2048x32 1 := cmpf .olt main_v49 main_v50
  let main_c_19 : IVec S_ 1 := constantI S_ 1 1#1
  let main_v52 : IVec S_ 1 := (fun x v => Host.reduce IntOp.andi x v reducesTo_S2048x32_S_d0_1 h_S_) main_v51 main_c_19
  let main_v53 : IVec S_ 1 := andi main_v48 main_v52
  main_v53

def fn_part2 {F : FTy → Type} [FloatOps F] (main_arg7 : FVec F S2048 .f32) (main_arg8 : FVec F S2048 .f32) (main_arg9 : FVec F S2048x4 .f32) (main_arg11 : FVec F S2048x32 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x4 .f32 := Host.absf main_arg9
  let main_cst_16 : FVec F S_ .f32 := constant S_ .f32 0x7F800000#32
  let main_v45 : FVec F S2048x4 .f32 := broadcastInDim S2048x4 ![] bcast_S_S2048x4 main_cst_16
  let main_v46 : IVec S2048x4 1 := cmpf .olt main_v44 main_v45
  let main_c_17 : IVec S_ 1 := constantI S_ 1 1#1
  let main_v47 : IVec S_ 1 := (fun x v => Host.reduce IntOp.andi x v reducesTo_S2048x4_S_d0_1 h_S_) main_v46 main_c_17
  let main_v48 : IVec S_ 1 := andi main_v43 main_v47
  let main_v49 : FVec F S2048x32 .f32 := Host.absf main_arg11
  let main_cst_18 : FVec F S_ .f32 := constant S_ .f32 0x7F800000#32
  let main_v50 : FVec F S2048x32 .f32 := broadcastInDim S2048x32 ![] bcast_S_S2048x32 main_cst_18
  fn_part3 (F := F) main_v48 main_v49 main_v50

def fn_part1 {F : FTy → Type} [FloatOps F] (main_arg4 : FVec F S2048x2048 .f32) (main_arg5 : FVec F S24576x2048 .f32) (main_arg6 : FVec F S8x12288 .f32) (main_arg7 : FVec F S2048 .f32) (main_arg8 : FVec F S2048 .f32) (main_arg9 : FVec F S2048x4 .f32) (main_arg11 : FVec F S2048x32 .f32) (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S24576x2048 .f32 := Host.absf main_arg5
  let main_cst_8 : FVec F S_ .f32 := constant S_ .f32 0x7F800000#32
  let main_v25 : FVec F S24576x2048 .f32 := broadcastInDim S24576x2048 ![] bcast_S_S24576x2048 main_cst_8
  let main_v26 : IVec S24576x2048 1 := cmpf .olt main_v24 main_v25
  let main_c_9 : IVec S_ 1 := constantI S_ 1 1#1
  let main_v27 : IVec S_ 1 := (fun x v => Host.reduce IntOp.andi x v reducesTo_S24576x2048_S_d0_1 h_S_) main_v26 main_c_9
  let main_v28 : IVec S_ 1 := andi main_v23 main_v27
  let main_v29 : FVec F S8x12288 .f32 := Host.absf main_arg6
  let main_cst_10 : FVec F S_ .f32 := constant S_ .f32 0x7F800000#32
  let main_v30 : FVec F S8x12288 .f32 := broadcastInDim S8x12288 ![] bcast_S_S8x12288 main_cst_10
  let main_v31 : IVec S8x12288 1 := cmpf .olt main_v29 main_v30
  let main_c_11 : IVec S_ 1 := constantI S_ 1 1#1
  let main_v32 : IVec S_ 1 := (fun x v => Host.reduce IntOp.andi x v reducesTo_S8x12288_S_d0_1 h_S_) main_v31 main_c_11
  let main_v33 : IVec S_ 1 := andi main_v28 main_v32
  fn_part2 (F := F) main_arg7 main_arg8 main_arg9 main_arg11 main_v33

def fn {F : FTy → Type} [FloatOps F] (main_arg0 : FVec F S8192x1024 .f32) (main_arg1 : FVec F S16384x1024 .f32) (main_arg2 : FVec F S8192x1024 .f32) (main_arg3 : FVec F S16384x1024 .f32) (main_arg4 : FVec F S2048x2048 .f32) (main_arg5 : FVec F S24576x2048 .f32) (main_arg6 : FVec F S8x12288 .f32) (main_arg7 : FVec F S2048 .f32) (main_arg8 : FVec F S2048 .f32) (main_arg9 : FVec F S2048x4 .f32) (main_arg10 : FVec F S4 .f32) (main_arg11 : FVec F S2048x32 .f32) (main_arg12 : FVec F S32 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S16384x1024 .f32 := Host.absf main_arg3
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_arg4 main_arg5 main_arg6 main_arg7 main_arg8 main_arg9 main_arg11 main_v13 main_v16
-- ==== Pre_pw2_finite.lean ====
abbrev S8192x2048 : Shape := ⟨2, ![8192, 2048]⟩
abbrev S16384x2048 : Shape := ⟨2, ![16384, 2048]⟩
abbrev S2048 : Shape := ⟨1, ![2048]⟩
abbrev S2048x2048 : Shape := ⟨2, ![2048, 2048]⟩
abbrev S24576x2048 : Shape := ⟨2, ![24576, 2048]⟩
abbrev S8x12288 : Shape := ⟨2, ![8, 12288]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S24576x2048 : S_.BroadcastsInDim S24576x2048 (![] : Fin 0 → Fin S24576x2048.rank)
  reducesTo_S24576x2048_S_d0_1 : S24576x2048.ReducesTo [0, 1] S_
  bcast_S_S8x12288 : S_.BroadcastsInDim S8x12288 (![] : Fin 0 → Fin S8x12288.rank)
  reducesTo_S8x12288_S_d0_1 : S8x12288.ReducesTo [0, 1] S_
  bcast_S_S2048x4 : S_.BroadcastsInDim S2048x4 (![] : Fin 0 → Fin S2048x4.rank)
  reducesTo_S2048x4_S_d0_1 : S2048x4.ReducesTo [0, 1] S_
  bcast_S_S2048x32 : S_.BroadcastsInDim S2048x32 (![] : Fin 0 → Fin S2048x32.rank)
  reducesTo_S2048x32_S_d0_1 : S2048x32.ReducesTo [0, 1] S_

variable [Facts]

def fn_part3 {F : FTy → Type} [FloatOps F] (main_v48 : IVec S_ 1) (main_v49 : FVec F S2048x32 .f32) (main_v50 : FVec F S2048x32 .f32) : IVec S_ 1 :=
  let main_v51 : IVec S2048x32 1 := cmpf .olt main_v49 main_v50
  let main_c_19 : IVec S_ 1 := constantI S_ 1 1#1
  let main_v52 : IVec S_ 1 := (fun x v => Host.reduce IntOp.andi x v reducesTo_S2048x32_S_d0_1 h_S_) main_v51 main_c_19
  let main_v53 : IVec S_ 1 := andi main_v48 main_v52
  main_v53

def fn_part2 {F : FTy → Type} [FloatOps F] (main_arg7 : FVec F S2048 .f32) (main_arg8 : FVec F S2048 .f32) (main_arg9 : FVec F S2048x4 .f32) (main_arg11 : FVec F S2048x32 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x4 .f32 := Host.absf main_arg9
  let main_cst_16 : FVec F S_ .f32 := constant S_ .f32 0x7F800000#32
  let main_v45 : FVec F S2048x4 .f32 := broadcastInDim S2048x4 ![] bcast_S_S2048x4 main_cst_16
  let main_v46 : IVec S2048x4 1 := cmpf .olt main_v44 main_v45
  let main_c_17 : IVec S_ 1 := constantI S_ 1 1#1
  let main_v47 : IVec S_ 1 := (fun x v => Host.reduce IntOp.andi x v reducesTo_S2048x4_S_d0_1 h_S_) main_v46 main_c_17
  let main_v48 : IVec S_ 1 := andi main_v43 main_v47
  let main_v49 : FVec F S2048x32 .f32 := Host.absf main_arg11
  let main_cst_18 : FVec F S_ .f32 := constant S_ .f32 0x7F800000#32
  let main_v50 : FVec F S2048x32 .f32 := broadcastInDim S2048x32 ![] bcast_S_S2048x32 main_cst_18
  fn_part3 (F := F) main_v48 main_v49 main_v50

def fn_part1 {F : FTy → Type} [FloatOps F] (main_arg4 : FVec F S2048x2048 .f32) (main_arg5 : FVec F S24576x2048 .f32) (main_arg6 : FVec F S8x12288 .f32) (main_arg7 : FVec F S2048 .f32) (main_arg8 : FVec F S2048 .f32) (main_arg9 : FVec F S2048x4 .f32) (main_arg11 : FVec F S2048x32 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S24576x2048 .f32 := Host.absf main_arg5
  let main_cst_8 : FVec F S_ .f32 := constant S_ .f32 0x7F800000#32
  let main_v25 : FVec F S24576x2048 .f32 := broadcastInDim S24576x2048 ![] bcast_S_S24576x2048 main_cst_8
  let main_v26 : IVec S24576x2048 1 := cmpf .olt main_v24 main_v25
  let main_c_9 : IVec S_ 1 := constantI S_ 1 1#1
  let main_v27 : IVec S_ 1 := (fun x v => Host.reduce IntOp.andi x v reducesTo_S24576x2048_S_d0_1 h_S_) main_v26 main_c_9
  let main_v28 : IVec S_ 1 := andi main_v23 main_v27
  let main_v29 : FVec F S8x12288 .f32 := Host.absf main_arg6
  let main_cst_10 : FVec F S_ .f32 := constant S_ .f32 0x7F800000#32
  let main_v30 : FVec F S8x12288 .f32 := broadcastInDim S8x12288 ![] bcast_S_S8x12288 main_cst_10
  let main_v31 : IVec S8x12288 1 := cmpf .olt main_v29 main_v30
  let main_c_11 : IVec S_ 1 := constantI S_ 1 1#1
  let main_v32 : IVec S_ 1 := (fun x v => Host.reduce IntOp.andi x v reducesTo_S8x12288_S_d0_1 h_S_) main_v31 main_c_11
  let main_v33 : IVec S_ 1 := andi main_v28 main_v32
  fn_part2 (F := F) main_arg7 main_arg8 main_arg9 main_arg11 main_v33

def fn {F : FTy → Type} [FloatOps F] (main_arg0 : FVec F S8192x2048 .f32) (main_arg1 : FVec F S16384x2048 .f32) (main_arg2 : FVec F S2048 .f32) (main_arg3 : FVec F S2048 .f32) (main_arg4 : FVec F S2048x2048 .f32) (main_arg5 : FVec F S24576x2048 .f32) (main_arg6 : FVec F S8x12288 .f32) (main_arg7 : FVec F S2048 .f32) (main_arg8 : FVec F S2048 .f32) (main_arg9 : FVec F S2048x4 .f32) (main_arg10 : FVec F S4 .f32) (main_arg11 : FVec F S2048x32 .f32) (main_arg12 : FVec F S32 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg11 main_v13 main_v16
-- ==== Pre_route_finite.lean ====
abbrev S24576x128 : Shape := ⟨2, ![24576, 128]⟩
abbrev S24576x36 : Shape := ⟨2, ![24576, 36]⟩
abbrev S_ : Shape := ⟨0, ![]⟩

class Facts : Prop where
  slices_S24576x128_S24576x36_0_0 : S24576x128.Slices ![0, 0] S24576x36
  bcast_S_S24576x36 : S_.BroadcastsInDim S24576x36 (![] : Fin 0 → Fin S24576x36.rank)
  reducesTo_S24576x36_S_d0_1 : S24576x36.ReducesTo [0, 1] S_
  h_S_ : 0 < S_.numel

variable [Facts]

def fn {F : FTy → Type} [FloatOps F] (main_arg0 : FVec F S24576x128 .f32) : IVec S_ 1 :=
  let main_v0 : FVec F S24576x36 .f32 := (extractStridedSlice S24576x36 ![0, 0] · slices_S24576x128_S24576x36_0_0) main_arg0
  let main_v1 : FVec F S24576x36 .f32 := Host.absf main_v0
  let main_cst : FVec F S_ .f32 := constant S_ .f32 0x7F800000#32
  let main_v2 : FVec F S24576x36 .f32 := broadcastInDim S24576x36 ![] bcast_S_S24576x36 main_cst
  let main_v3 : IVec S24576x36 1 := cmpf .olt main_v1 main_v2
  let main_c : IVec S_ 1 := constantI S_ 1 1#1
  let main_v4 : IVec S_ 1 := (fun x v => Host.reduce IntOp.andi x v reducesTo_S24576x36_S_d0_1 h_S_) main_v3 main_c
  main_v4
-- ==== Pre_scores_finite.lean ====
abbrev S24576x1024 : Shape := ⟨2, ![24576, 1024]⟩
abbrev S24576x256 : Shape := ⟨2, ![24576, 256]⟩
abbrev S24576x4608 : Shape := ⟨2, ![24576, 4608]⟩
abbrev S4x1x2x512x128 : Shape := ⟨5, ![4, 1, 2, 512, 128]⟩
abbrev S_ : Shape := ⟨0, ![]⟩

class Facts : Prop where
  bcast_S_S24576x1024 : S_.BroadcastsInDim S24576x1024 (![] : Fin 0 → Fin S24576x1024.rank)
  reducesTo_S24576x1024_S_d0_1 : S24576x1024.ReducesTo [0, 1] S_
  h_S_ : 0 < S_.numel
  bcast_S_S24576x256 : S_.BroadcastsInDim S24576x256 (![] : Fin 0 → Fin S24576x256.rank)
  reducesTo_S24576x256_S_d0_1 : S24576x256.ReducesTo [0, 1] S_
  bcast_S_S4x1x2x512x128 : S_.BroadcastsInDim S4x1x2x512x128 (![] : Fin 0 → Fin S4x1x2x512x128.rank)
  reducesTo_S4x1x2x512x128_S_d0_1_2_3_4 : S4x1x2x512x128.ReducesTo [0, 1, 2, 3, 4] S_

variable [Facts]

def fn {F : FTy → Type} [FloatOps F] (main_arg0 : FVec F S24576x1024 .f32) (main_arg1 : FVec F S24576x256 .f32) (main_arg2 : FVec F S24576x4608 .f32) (main_arg3 : FVec F S4x1x2x512x128 .f32) (main_arg4 : FVec F S4x1x2x512x128 .f32) : IVec S_ 1 :=
  let main_v0 : FVec F S24576x1024 .f32 := Host.absf main_arg0
  let main_cst : FVec F S_ .f32 := constant S_ .f32 0x7F800000#32
  let main_v1 : FVec F S24576x1024 .f32 := broadcastInDim S24576x1024 ![] bcast_S_S24576x1024 main_cst
  let main_v2 : IVec S24576x1024 1 := cmpf .olt main_v0 main_v1
  let main_c : IVec S_ 1 := constantI S_ 1 1#1
  let main_v3 : IVec S_ 1 := (fun x v => Host.reduce IntOp.andi x v reducesTo_S24576x1024_S_d0_1 h_S_) main_v2 main_c
  let main_v4 : FVec F S24576x256 .f32 := Host.absf main_arg1
  let main_cst_0 : FVec F S_ .f32 := constant S_ .f32 0x7F800000#32
  let main_v5 : FVec F S24576x256 .f32 := broadcastInDim S24576x256 ![] bcast_S_S24576x256 main_cst_0
  let main_v6 : IVec S24576x256 1 := cmpf .olt main_v4 main_v5
  let main_c_1 : IVec S_ 1 := constantI S_ 1 1#1
  let main_v7 : IVec S_ 1 := (fun x v => Host.reduce IntOp.andi x v reducesTo_S24576x256_S_d0_1 h_S_) main_v6 main_c_1
  let main_v8 : IVec S_ 1 := andi main_v3 main_v7
  let main_v9 : FVec F S4x1x2x512x128 .f32 := Host.absf main_arg3
  let main_cst_2 : FVec F S_ .f32 := constant S_ .f32 0x7F800000#32
  let main_v10 : FVec F S4x1x2x512x128 .f32 := broadcastInDim S4x1x2x512x128 ![] bcast_S_S4x1x2x512x128 main_cst_2
  let main_v11 : IVec S4x1x2x512x128 1 := cmpf .olt main_v9 main_v10
  let main_c_3 : IVec S_ 1 := constantI S_ 1 1#1
  let main_v12 : IVec S_ 1 := (fun x v => Host.reduce IntOp.andi x v reducesTo_S4x1x2x512x128_S_d0_1_2_3_4 h_S_) main_v11 main_c_3
  let main_v13 : IVec S_ 1 := andi main_v8 main_v12
  main_v13
-- ==== Kernel.lean ====
abbrev S24576x1024 : Shape := ⟨2, ![24576, 1024]⟩
abbrev S24576x256 : Shape := ⟨2, ![24576, 256]⟩
abbrev S24576x4608 : Shape := ⟨2, ![24576, 4608]⟩
abbrev S4x1x2x512x128 : Shape := ⟨5, ![4, 1, 2, 512, 128]⟩
abbrev S_ : Shape := ⟨0, ![]⟩
abbrev S16384x1024 : Shape := ⟨2, ![16384, 1024]⟩
abbrev S128x512 : Shape := ⟨2, ![128, 512]⟩
abbrev S4096x128 : Shape := ⟨2, ![4096, 128]⟩
abbrev S1x1x1x512x128 : Shape := ⟨5, ![1, 1, 1, 512, 128]⟩
abbrev S128x128 : Shape := ⟨2, ![128, 128]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩
abbrev S512x128 : Shape := ⟨2, ![512, 128]⟩
abbrev S256x512 : Shape := ⟨2, ![256, 512]⟩

abbrev nBuf : Space → Nat
  | .hbm => 11
  | .vmem => 12
  | .smem => 0
  | _ => 0

abbrev bufTy : (tb : Table) → Fin (tcTables nBuf tb) → BufTy
  | .hbm, ⟨0, _⟩ => ⟨S24576x1024, .f32⟩
  | .hbm, ⟨1, _⟩ => ⟨S24576x256, .f32⟩
  | .hbm, ⟨2, _⟩ => ⟨S24576x4608, .f32⟩
  | .hbm, ⟨3, _⟩ => ⟨S4x1x2x512x128, .f32⟩
  | .hbm, ⟨4, _⟩ => ⟨S4x1x2x512x128, .f32⟩
  | .hbm, ⟨5, _⟩ => ⟨S_, .f32⟩
  | .hbm, ⟨6, _⟩ => ⟨S24576x1024, .f32⟩
  | .hbm, ⟨7, _⟩ => ⟨S24576x1024, .f32⟩
  | .hbm, ⟨8, _⟩ => ⟨S24576x1024, .bf16⟩
  | .hbm, ⟨9, _⟩ => ⟨S24576x256, .bf16⟩
  | .hbm, ⟨10, _⟩ => ⟨S16384x1024, .bf16⟩
  | .local _ .vmem, ⟨0, _⟩ => ⟨S128x512, .bf16⟩
  | .local _ .vmem, ⟨1, _⟩ => ⟨S128x512, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .f32⟩
  | .local _ .vmem, ⟨5, _⟩ => ⟨S4096x128, .f32⟩
  | .local _ .vmem, ⟨6, _⟩ => ⟨S1x1x1x512x128, .f32⟩
  | .local _ .vmem, ⟨7, _⟩ => ⟨S1x1x1x512x128, .f32⟩
  | .local _ .vmem, ⟨8, _⟩ => ⟨S1x1x1x512x128, .f32⟩
  | .local _ .vmem, ⟨9, _⟩ => ⟨S1x1x1x512x128, .f32⟩
  | .local _ .vmem, ⟨10, _⟩ => ⟨S128x512, .bf16⟩
  | .local _ .vmem, ⟨11, _⟩ => ⟨S128x512, .bf16⟩
  | _, _ => ⟨S24576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 32], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4096_i32 : BitVec 32 := 4096#32
  let v0 : BitVec 32 := Scalar.muli arg0 c4096_i32
  let c8192_i32 : BitVec 32 := 8192#32
  let v1 : BitVec 32 := Scalar.addi c8192_i32 v0
  let c128_i32 : BitVec 32 := 128#32
  let v2 : BitVec 32 := Scalar.divsi v1 c128_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.addi v18 arg2
  let c0_i32_4 : BitVec 32 := 0#32
  ![v19.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c10_i32 : BitVec 32 := 10#32
  let v1 : BitVec 32 := Scalar.addi c10_i32 arg1
  let c0_i32 : BitVec 32 := 0#32
  ![v0.toNat, v1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S24576x1024 : Shape := ⟨2, ![24576, 1024]⟩
abbrev S24576x256 : Shape := ⟨2, ![24576, 256]⟩
abbrev S24576x4608 : Shape := ⟨2, ![24576, 4608]⟩
abbrev S4x1x2x512x128 : Shape := ⟨5, ![4, 1, 2, 512, 128]⟩
abbrev S16384x1024 : Shape := ⟨2, ![16384, 1024]⟩
abbrev S4x4096x8x128 : Shape := ⟨4, ![4, 4096, 8, 128]⟩
abbrev S4x8x4096x128 : Shape := ⟨4, ![4, 8, 4096, 128]⟩
abbrev S16384x256 : Shape := ⟨2, ![16384, 256]⟩
abbrev S4x4096x2x128 : Shape := ⟨4, ![4, 4096, 2, 128]⟩
abbrev S4x2x4096x128 : Shape := ⟨4, ![4, 2, 4096, 128]⟩
abbrev S4x2x512x128 : Shape := ⟨4, ![4, 2, 512, 128]⟩
abbrev S4x2x4608x128 : Shape := ⟨4, ![4, 2, 4608, 128]⟩
abbrev S4x2x4x4096x128 : Shape := ⟨5, ![4, 2, 4, 4096, 128]⟩
abbrev S4x2x4x4096x4608 : Shape := ⟨5, ![4, 2, 4, 4096, 4608]⟩
abbrev S_ : Shape := ⟨0, ![]⟩
abbrev S4x2x4x4096 : Shape := ⟨4, ![4, 2, 4, 4096]⟩
abbrev S4x2x4x4096x1 : Shape := ⟨5, ![4, 2, 4, 4096, 1]⟩

abbrev nBuf : Space → Nat
  | .hbm => 42
  | .vmem => 0
  | .smem => 0
  | _ => 0

abbrev bufTy : (tb : Table) → Fin (tcTables nBuf tb) → BufTy
  | .hbm, ⟨0, _⟩ => ⟨S24576x1024, .f32⟩
  | .hbm, ⟨1, _⟩ => ⟨S24576x256, .f32⟩
  | .hbm, ⟨2, _⟩ => ⟨S24576x4608, .f32⟩
  | .hbm, ⟨3, _⟩ => ⟨S4x1x2x512x128, .f32⟩
  | .hbm, ⟨4, _⟩ => ⟨S4x1x2x512x128, .f32⟩
  | .hbm, ⟨5, _⟩ => ⟨S16384x1024, .f32⟩
  | .hbm, ⟨6, _⟩ => ⟨S4x4096x8x128, .f32⟩
  | .hbm, ⟨7, _⟩ => ⟨S4x8x4096x128, .f32⟩
  | .hbm, ⟨8, _⟩ => ⟨S16384x256, .f32⟩
  | .hbm, ⟨9, _⟩ => ⟨S4x4096x2x128, .f32⟩
  | .hbm, ⟨10, _⟩ => ⟨S4x2x4096x128, .f32⟩
  | .hbm, ⟨11, _⟩ => ⟨S16384x256, .f32⟩
  | .hbm, ⟨12, _⟩ => ⟨S4x4096x2x128, .f32⟩
  | .hbm, ⟨13, _⟩ => ⟨S4x2x4096x128, .f32⟩
  | .hbm, ⟨14, _⟩ => ⟨S4x2x512x128, .f32⟩
  | .hbm, ⟨15, _⟩ => ⟨S4x2x4608x128, .f32⟩
  | .hbm, ⟨16, _⟩ => ⟨S4x2x512x128, .f32⟩
  | .hbm, ⟨17, _⟩ => ⟨S4x2x4608x128, .f32⟩
  | .hbm, ⟨18, _⟩ => ⟨S4x2x4x4096x128, .f32⟩
  | .hbm, ⟨19, _⟩ => ⟨S4x2x4x4096x4608, .f32⟩
  | .hbm, ⟨20, _⟩ => ⟨S_, .f32⟩
  | .hbm, ⟨21, _⟩ => ⟨S4x2x4x4096x4608, .f32⟩
  | .hbm, ⟨22, _⟩ => ⟨S4x2x4x4096x4608, .f32⟩
  | .hbm, ⟨23, _⟩ => ⟨S_, .f32⟩
  | .hbm, ⟨24, _⟩ => ⟨S4x2x4x4096, .f32⟩
  | .hbm, ⟨25, _⟩ => ⟨S_, .f32⟩
  | .hbm, ⟨26, _⟩ => ⟨S4x2x4x4096, .f32⟩
  | .hbm, ⟨27, _⟩ => ⟨S4x2x4x4096, .f32⟩
  | .hbm, ⟨28, _⟩ => ⟨S4x2x4x4096x1, .f32⟩
  | .hbm, ⟨29, _⟩ => ⟨S4x2x4x4096x4608, .f32⟩
  | .hbm, ⟨30, _⟩ => ⟨S4x2x4x4096x4608, .f32⟩
  | .hbm, ⟨31, _⟩ => ⟨S4x2x4x4096x4608, .f32⟩
  | .hbm, ⟨32, _⟩ => ⟨S_, .f32⟩
  | .hbm, ⟨33, _⟩ => ⟨S4x2x4x4096, .f32⟩
  | .hbm, ⟨34, _⟩ => ⟨S4x2x4x4096x1, .f32⟩
  | .hbm, ⟨35, _⟩ => ⟨S4x2x4x4096x4608, .f32⟩
  | .hbm, ⟨36, _⟩ => ⟨S4x2x4x4096x4608, .f32⟩
  | .hbm, ⟨37, _⟩ => ⟨S4x2x4x4096x128, .f32⟩
  | .hbm, ⟨38, _⟩ => ⟨S4x8x4096x128, .f32⟩
  | .hbm, ⟨39, _⟩ => ⟨S4x4096x8x128, .f32⟩
  | .hbm, ⟨40, _⟩ => ⟨S16384x1024, .f32⟩
  | .hbm, ⟨41, _⟩ => ⟨S16384x1024, .bf16⟩
  | _, _ => ⟨S24576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== InKernel.lean ====
abbrev S32x256x2048 : Shape := ⟨3, ![32, 256, 2048]⟩
abbrev S4x4096x2048 : Shape := ⟨3, ![4, 4096, 2048]⟩
abbrev S8x12288 : Shape := ⟨2, ![8, 12288]⟩
abbrev S2048x4608 : Shape := ⟨2, ![2048, 4608]⟩
abbrev S8192x2048 : Shape := ⟨2, ![8192, 2048]⟩
abbrev S16384x2048 : Shape := ⟨2, ![16384, 2048]⟩
abbrev S24576x2048 : Shape := ⟨2, ![24576, 2048]⟩
abbrev S48x1x2048 : Shape := ⟨3, ![48, 1, 2048]⟩
abbrev S24576x4608 : Shape := ⟨2, ![24576, 4608]⟩
abbrev S1024x2048 : Shape := ⟨2, ![1024, 2048]⟩
abbrev S1x1x2048 : Shape := ⟨3, ![1, 1, 2048]⟩
abbrev S2048x512 : Shape := ⟨2, ![2048, 512]⟩
abbrev S1024x512 : Shape := ⟨2, ![1024, 512]⟩
abbrev S1x2048 : Shape := ⟨2, ![1, 2048]⟩
abbrev S8192x256 : Shape := ⟨2, ![8192, 256]⟩
abbrev S32x256x2x128 : Shape := ⟨4, ![32, 256, 2, 128]⟩
abbrev S32x2x256x128 : Shape := ⟨4, ![32, 2, 256, 128]⟩
abbrev S32x1x2x256x128 : Shape := ⟨5, ![32, 1, 2, 256, 128]⟩

abbrev nBuf : Space → Nat
  | .hbm => 14
  | .vmem => 11
  | .smem => 0
  | _ => 0

abbrev bufTy : (tb : Table) → Fin (tcTables nBuf tb) → BufTy
  | .hbm, ⟨0, _⟩ => ⟨S32x256x2048, .f32⟩
  | .hbm, ⟨1, _⟩ => ⟨S4x4096x2048, .f32⟩
  | .hbm, ⟨2, _⟩ => ⟨S8x12288, .f32⟩
  | .hbm, ⟨3, _⟩ => ⟨S2048x4608, .f32⟩
  | .hbm, ⟨4, _⟩ => ⟨S8192x2048, .f32⟩
  | .hbm, ⟨5, _⟩ => ⟨S16384x2048, .f32⟩
  | .hbm, ⟨6, _⟩ => ⟨S24576x2048, .f32⟩
  | .hbm, ⟨7, _⟩ => ⟨S48x1x2048, .f32⟩
  | .hbm, ⟨8, _⟩ => ⟨S2048x4608, .bf16⟩
  | .hbm, ⟨9, _⟩ => ⟨S24576x4608, .f32⟩
  | .hbm, ⟨10, _⟩ => ⟨S8192x256, .f32⟩
  | .hbm, ⟨11, _⟩ => ⟨S32x256x2x128, .f32⟩
  | .hbm, ⟨12, _⟩ => ⟨S32x2x256x128, .f32⟩
  | .hbm, ⟨13, _⟩ => ⟨S32x1x2x256x128, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1024x2048, .bf16⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![24, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c6_i32 : BitVec 32 := 6#32
  let v22 : BitVec 32 := Scalar.muli v21 c6_i32
  let c1_i32_7 : BitVec 32 := 1#32
  let v23 : BitVec 32 := Scalar.addi v22 c1_i32_7
  let c0_i32_8 : BitVec 32 := 0#32
  let c0_i32_9 : BitVec 32 := 0#32
  let c0_i32_10 : BitVec 32 := 0#32
  ![v23.toNat, c0_i32_8.toNat, c0_i32_9.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c6_i32 : BitVec 32 := 6#32
  let v22 : BitVec 32 := Scalar.muli v21 c6_i32
  let c0_i32_7 : BitVec 32 := 0#32
  let v23 : BitVec 32 := Scalar.addi v22 c0_i32_7
  let c0_i32_8 : BitVec 32 := 0#32
  let c0_i32_9 : BitVec 32 := 0#32
  let c0_i32_10 : BitVec 32 := 0#32
  ![v23.toNat, c0_i32_8.toNat, c0_i32_9.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InReferenceIdeal.lean ====
abbrev S32x256x2048 : Shape := ⟨3, ![32, 256, 2048]⟩
abbrev S4x4096x2048 : Shape := ⟨3, ![4, 4096, 2048]⟩
abbrev S8x12288 : Shape := ⟨2, ![8, 12288]⟩
abbrev S2048x4608 : Shape := ⟨2, ![2048, 4608]⟩
abbrev S1x12288 : Shape := ⟨2, ![1, 12288]⟩
abbrev S1x1x12288 : Shape := ⟨3, ![1, 1, 12288]⟩
abbrev S1x1x2048 : Shape := ⟨3, ![1, 1, 2048]⟩
abbrev S_ : Shape := ⟨0, ![]⟩
abbrev S32x256x4608 : Shape := ⟨3, ![32, 256, 4608]⟩
abbrev S4x12288 : Shape := ⟨2, ![4, 12288]⟩
abbrev S4x1x12288 : Shape := ⟨3, ![4, 1, 12288]⟩
abbrev S4x1x2048 : Shape := ⟨3, ![4, 1, 2048]⟩
abbrev S4x4096x4608 : Shape := ⟨3, ![4, 4096, 4608]⟩
abbrev S32x256x256 : Shape := ⟨3, ![32, 256, 256]⟩
abbrev S32x256x2x128 : Shape := ⟨4, ![32, 256, 2, 128]⟩
abbrev S32x2x256x128 : Shape := ⟨4, ![32, 2, 256, 128]⟩
abbrev S8192x4608 : Shape := ⟨2, ![8192, 4608]⟩
abbrev S16384x4608 : Shape := ⟨2, ![16384, 4608]⟩
abbrev S24576x4608 : Shape := ⟨2, ![24576, 4608]⟩
abbrev S32x1x2x256x128 : Shape := ⟨5, ![32, 1, 2, 256, 128]⟩

abbrev nBuf : Space → Nat
  | .hbm => 43
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S4x4096x2048, .f32⟩
  | .hbm, ⟨2, _⟩ => ⟨S8x12288, .f32⟩
  | .hbm, ⟨3, _⟩ => ⟨S2048x4608, .f32⟩
  | .hbm, ⟨4, _⟩ => ⟨S1x12288, .f32⟩
  | .hbm, ⟨5, _⟩ => ⟨S1x1x12288, .f32⟩
  | .hbm, ⟨6, _⟩ => ⟨S1x1x2048, .f32⟩
  | .hbm, ⟨7, _⟩ => ⟨S1x1x2048, .f32⟩
  | .hbm, ⟨8, _⟩ => ⟨S1x1x2048, .f32⟩
  | .hbm, ⟨9, _⟩ => ⟨S1x1x2048, .f32⟩
  | .hbm, ⟨10, _⟩ => ⟨S1x1x2048, .f32⟩
  | .hbm, ⟨11, _⟩ => ⟨S1x1x2048, .f32⟩
  | .hbm, ⟨12, _⟩ => ⟨S_, .f32⟩
  | .hbm, ⟨13, _⟩ => ⟨S1x1x2048, .f32⟩
  | .hbm, ⟨14, _⟩ => ⟨S1x1x2048, .f32⟩
  | .hbm, ⟨15, _⟩ => ⟨S32x256x2048, .f32⟩
  | .hbm, ⟨16, _⟩ => ⟨S32x256x2048, .f32⟩
  | .hbm, ⟨17, _⟩ => ⟨S32x256x2048, .f32⟩
  | .hbm, ⟨18, _⟩ => ⟨S32x256x2048, .f32⟩
  | .hbm, ⟨19, _⟩ => ⟨S32x256x4608, .f32⟩
  | .hbm, ⟨20, _⟩ => ⟨S4x12288, .f32⟩
  | .hbm, ⟨21, _⟩ => ⟨S4x1x12288, .f32⟩
  | .hbm, ⟨22, _⟩ => ⟨S4x1x2048, .f32⟩
  | .hbm, ⟨23, _⟩ => ⟨S4x1x2048, .f32⟩
  | .hbm, ⟨24, _⟩ => ⟨S4x1x2048, .f32⟩
  | .hbm, ⟨25, _⟩ => ⟨S4x1x2048, .f32⟩
  | .hbm, ⟨26, _⟩ => ⟨S4x1x2048, .f32⟩
  | .hbm, ⟨27, _⟩ => ⟨S4x1x2048, .f32⟩
  | .hbm, ⟨28, _⟩ => ⟨S_, .f32⟩
  | .hbm, ⟨29, _⟩ => ⟨S4x1x2048, .f32⟩
  | .hbm, ⟨30, _⟩ => ⟨S4x1x2048, .f32⟩
  | .hbm, ⟨31, _⟩ => ⟨S4x4096x2048, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S4x4096x4608, .f32⟩
  | .hbm, ⟨36, _⟩ => ⟨S32x256x256, .f32⟩
  | .hbm, ⟨37, _⟩ => ⟨S32x256x2x128, .f32⟩
  | .hbm, ⟨38, _⟩ => ⟨S32x2x256x128, .f32⟩
  | .hbm, ⟨39, _⟩ => ⟨S8192x4608, .f32⟩
  | .hbm, ⟨40, _⟩ => ⟨S16384x4608, .f32⟩
  | .hbm, ⟨41, _⟩ => ⟨S24576x4608, .f32⟩
  | .hbm, ⟨42, _⟩ => ⟨S32x1x2x256x128, .f32⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩

abbrev nD : Nat := 1
abbrev τ : Topo := Topo.v7x

variable {F : FTy → Type} [FloatOps F]
-- ==== GluKernel.lean ====
abbrev S24576x2048 : Shape := ⟨2, ![24576, 2048]⟩
abbrev S8x12288 : Shape := ⟨2, ![8, 12288]⟩
abbrev S2048x4096 : Shape := ⟨2, ![2048, 4096]⟩
abbrev S48x1x2048 : Shape := ⟨3, ![48, 1, 2048]⟩
abbrev S1024x2048 : Shape := ⟨2, ![1024, 2048]⟩
abbrev S1x1x2048 : Shape := ⟨3, ![1, 1, 2048]⟩
abbrev S2048x512 : Shape := ⟨2, ![2048, 512]⟩
abbrev S1024x512 : Shape := ⟨2, ![1024, 512]⟩
abbrev S1x2048 : Shape := ⟨2, ![1, 2048]⟩

abbrev nBuf : Space → Nat
  | .hbm => 6
  | .vmem => 13
  | .smem => 0
  | _ => 0

abbrev bufTy : (tb : Table) → Fin (tcTables nBuf tb) → BufTy
  | .hbm, ⟨0, _⟩ => ⟨S24576x2048, .f32⟩
  | .hbm, ⟨1, _⟩ => ⟨S8x12288, .f32⟩
  | .hbm, ⟨2, _⟩ => ⟨S2048x4096, .f32⟩
  | .hbm, ⟨3, _⟩ => ⟨S48x1x2048, .f32⟩
  | .hbm, ⟨4, _⟩ => ⟨S2048x4096, .bf16⟩
  | .hbm, ⟨5, _⟩ => ⟨S24576x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S1024x512, .f32⟩
  | .local _ .vmem, ⟨11, _⟩ => ⟨S1024x512, .f32⟩
  | .local _ .vmem, ⟨12, _⟩ => ⟨S1024x2048, .bf16⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![24, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c6_i32 : BitVec 32 := 6#32
  let v22 : BitVec 32 := Scalar.muli v21 c6_i32
  let c1_i32_7 : BitVec 32 := 1#32
  let v23 : BitVec 32 := Scalar.addi v22 c1_i32_7
  let c0_i32_8 : BitVec 32 := 0#32
  let c0_i32_9 : BitVec 32 := 0#32
  let c0_i32_10 : BitVec 32 := 0#32
  ![v23.toNat, c0_i32_8.toNat, c0_i32_9.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c6_i32 : BitVec 32 := 6#32
  let v22 : BitVec 32 := Scalar.muli v21 c6_i32
  let c0_i32_7 : BitVec 32 := 0#32
  let v23 : BitVec 32 := Scalar.addi v22 c0_i32_7
  let c0_i32_8 : BitVec 32 := 0#32
  let c0_i32_9 : BitVec 32 := 0#32
  let c0_i32_10 : BitVec 32 := 0#32
  ![v23.toNat, c0_i32_8.toNat, c0_i32_9.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GluReferenceIdeal.lean ====
abbrev S24576x2048 : Shape := ⟨2, ![24576, 2048]⟩
abbrev S8x12288 : Shape := ⟨2, ![8, 12288]⟩
abbrev S2048x4096 : Shape := ⟨2, ![2048, 4096]⟩
abbrev S8192x2048 : Shape := ⟨2, ![8192, 2048]⟩
abbrev S32x256x2048 : Shape := ⟨3, ![32, 256, 2048]⟩
abbrev S1x12288 : Shape := ⟨2, ![1, 12288]⟩
abbrev S1x1x12288 : Shape := ⟨3, ![1, 1, 12288]⟩
abbrev S1x1x2048 : Shape := ⟨3, ![1, 1, 2048]⟩
abbrev S_ : Shape := ⟨0, ![]⟩
abbrev S32x256x4096 : Shape := ⟨3, ![32, 256, 4096]⟩
abbrev S16384x2048 : Shape := ⟨2, ![16384, 2048]⟩
abbrev S4x4096x2048 : Shape := ⟨3, ![4, 4096, 2048]⟩
abbrev S4x12288 : Shape := ⟨2, ![4, 12288]⟩
abbrev S4x1x12288 : Shape := ⟨3, ![4, 1, 12288]⟩
abbrev S4x1x2048 : Shape := ⟨3, ![4, 1, 2048]⟩
abbrev S4x4096x4096 : Shape := ⟨3, ![4, 4096, 4096]⟩

abbrev nBuf : Space → Nat
  | .hbm => 64
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S8x12288, .f32⟩
  | .hbm, ⟨2, _⟩ => ⟨S2048x4096, .f32⟩
  | .hbm, ⟨3, _⟩ => ⟨S8192x2048, .f32⟩
  | .hbm, ⟨4, _⟩ => ⟨S32x256x2048, .f32⟩
  | .hbm, ⟨5, _⟩ => ⟨S1x12288, .f32⟩
  | .hbm, ⟨6, _⟩ => ⟨S1x1x12288, .f32⟩
  | .hbm, ⟨7, _⟩ => ⟨S1x1x2048, .f32⟩
  | .hbm, ⟨8, _⟩ => ⟨S1x1x2048, .f32⟩
  | .hbm, ⟨9, _⟩ => ⟨S1x1x2048, .f32⟩
  | .hbm, ⟨10, _⟩ => ⟨S1x1x2048, .f32⟩
  | .hbm, ⟨11, _⟩ => ⟨S1x1x2048, .f32⟩
  | .hbm, ⟨12, _⟩ => ⟨S1x1x2048, .f32⟩
  | .hbm, ⟨13, _⟩ => ⟨S_, .f32⟩
  | .hbm, ⟨14, _⟩ => ⟨S1x1x2048, .f32⟩
  | .hbm, ⟨15, _⟩ => ⟨S1x1x2048, .f32⟩
  | .hbm, ⟨16, _⟩ => ⟨S32x256x2048, .f32⟩
  | .hbm, ⟨17, _⟩ => ⟨S32x256x2048, .f32⟩
  | .hbm, ⟨18, _⟩ => ⟨S32x256x2048, .f32⟩
  | .hbm, ⟨19, _⟩ => ⟨S32x256x2048, .f32⟩
  | .hbm, ⟨20, _⟩ => ⟨S32x256x4096, .f32⟩
  | .hbm, ⟨21, _⟩ => ⟨S32x256x2048, .f32⟩
  | .hbm, ⟨22, _⟩ => ⟨S32x256x2048, .f32⟩
  | .hbm, ⟨23, _⟩ => ⟨S32x256x2048, .f32⟩
  | .hbm, ⟨24, _⟩ => ⟨S32x256x2048, .f32⟩
  | .hbm, ⟨25, _⟩ => ⟨S_, .f32⟩
  | .hbm, ⟨26, _⟩ => ⟨S32x256x2048, .f32⟩
  | .hbm, ⟨27, _⟩ => ⟨S32x256x2048, .f32⟩
  | .hbm, ⟨28, _⟩ => ⟨S_, .f32⟩
  | .hbm, ⟨29, _⟩ => ⟨S32x256x2048, .f32⟩
  | .hbm, ⟨30, _⟩ => ⟨S32x256x2048, .f32⟩
  | .hbm, ⟨31, _⟩ => ⟨S32x256x2048, .f32⟩
  | .hbm, ⟨32, _⟩ => ⟨S16384x2048, .f32⟩
  | .hbm, ⟨33, _⟩ => ⟨S4x4096x2048, .f32⟩
  | .hbm, ⟨34, _⟩ => ⟨S4x12288, .f32⟩
  | .hbm, ⟨35, _⟩ => ⟨S4x1x12288, .f32⟩
  | .hbm, ⟨36, _⟩ => ⟨S4x1x2048, .f32⟩
  | .hbm, ⟨37, _⟩ => ⟨S4x1x2048, .f32⟩
  | .hbm, ⟨38, _⟩ => ⟨S4x1x2048, .f32⟩
  | .hbm, ⟨39, _⟩ => ⟨S4x1x2048, .f32⟩
  | .hbm, ⟨40, _⟩ => ⟨S4x1x2048, .f32⟩
  | .hbm, ⟨41, _⟩ => ⟨S4x1x2048, .f32⟩
  | .hbm, ⟨42, _⟩ => ⟨S_, .f32⟩
  | .hbm, ⟨43, _⟩ => ⟨S4x1x2048, .f32⟩
  | .hbm, ⟨44, _⟩ => ⟨S4x1x2048, .f32⟩
  | .hbm, ⟨45, _⟩ => ⟨S4x4096x2048, .f32⟩
  | .hbm, ⟨46, _⟩ => ⟨S4x4096x2048, .f32⟩
  | .hbm, ⟨47, _⟩ => ⟨S4x4096x2048, .f32⟩
  | .hbm, ⟨48, _⟩ => ⟨S4x4096x2048, .f32⟩
  | .hbm, ⟨49, _⟩ => ⟨S4x4096x4096, .f32⟩
  | .hbm, ⟨50, _⟩ => ⟨S4x4096x2048, .f32⟩
  | .hbm, ⟨51, _⟩ => ⟨S4x4096x2048, .f32⟩
  | .hbm, ⟨52, _⟩ => ⟨S4x4096x2048, .f32⟩
  | .hbm, ⟨53, _⟩ => ⟨S4x4096x2048, .f32⟩
  | .hbm, ⟨54, _⟩ => ⟨S_, .f32⟩
  | .hbm, ⟨55, _⟩ => ⟨S4x4096x2048, .f32⟩
  | .hbm, ⟨56, _⟩ => ⟨S4x4096x2048, .f32⟩
  | .hbm, ⟨57, _⟩ => ⟨S_, .f32⟩
  | .hbm, ⟨58, _⟩ => ⟨S4x4096x2048, .f32⟩
  | .hbm, ⟨59, _⟩ => ⟨S4x4096x2048, .f32⟩
  | .hbm, ⟨60, _⟩ => ⟨S4x4096x2048, .f32⟩
  | .hbm, ⟨61, _⟩ => ⟨S8192x2048, .f32⟩
  | .hbm, ⟨62, _⟩ => ⟨S16384x2048, .f32⟩
  | .hbm, ⟨63, _⟩ => ⟨S24576x2048, .f32⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_cst_3 : Ref sig .tc := ⟨.hbm, 54, rfl⟩
abbrev main_v47 : Ref sig .tc := ⟨.hbm, 55, rfl⟩
abbrev main_v48 : Ref sig .tc := ⟨.hbm, 56, rfl⟩
abbrev main_cst_4 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩

abbrev nD : Nat := 1
abbrev τ : Topo := Topo.v7x

variable {F : FTy → Type} [FloatOps F]
-- ==== OutKernel.lean ====
abbrev S8192x1024 : Shape := ⟨2, ![8192, 1024]⟩
abbrev S16384x1024 : Shape := ⟨2, ![16384, 1024]⟩
abbrev S2048x2048 : Shape := ⟨2, ![2048, 2048]⟩
abbrev S24576x2048 : Shape := ⟨2, ![24576, 2048]⟩
abbrev S8x12288 : Shape := ⟨2, ![8, 12288]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S_ : Shape := ⟨0, ![]⟩
abbrev S2048x128 : Shape := ⟨2, ![2048, 128]⟩
abbrev S1 : Shape := ⟨1, ![1]⟩
abbrev S4096x128 : Shape := ⟨2, ![4096, 128]⟩
abbrev S1x128 : Shape := ⟨2, ![1, 128]⟩
abbrev S2 : Shape := ⟨1, ![2]⟩
abbrev S48x1x2048 : Shape := ⟨3, ![48, 1, 2048]⟩
abbrev S1x2048 : Shape := ⟨2, ![1, 2048]⟩
abbrev S24576x128 : Shape := ⟨2, ![24576, 128]⟩
abbrev S512x1024 : Shape := ⟨2, ![512, 1024]⟩
abbrev S1024x2048 : Shape := ⟨2, ![1024, 2048]⟩
abbrev S512x2048 : Shape := ⟨2, ![512, 2048]⟩
abbrev S1x1x2048 : Shape := ⟨3, ![1, 1, 2048]⟩
abbrev S512x128 : Shape := ⟨2, ![512, 128]⟩
abbrev S512 : Shape := ⟨1, ![512]⟩
abbrev S512x1 : Shape := ⟨2, ![512, 1]⟩
abbrev S24576x36 : Shape := ⟨2, ![24576, 36]⟩

abbrev nBuf : Space → Nat
  | .hbm => 50
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S16384x1024, .f32⟩
  | .hbm, ⟨2, _⟩ => ⟨S8192x1024, .f32⟩
  | .hbm, ⟨3, _⟩ => ⟨S16384x1024, .f32⟩
  | .hbm, ⟨4, _⟩ => ⟨S2048x2048, .f32⟩
  | .hbm, ⟨5, _⟩ => ⟨S24576x2048, .f32⟩
  | .hbm, ⟨6, _⟩ => ⟨S8x12288, .f32⟩
  | .hbm, ⟨7, _⟩ => ⟨S2048, .f32⟩
  | .hbm, ⟨8, _⟩ => ⟨S2048, .f32⟩
  | .hbm, ⟨9, _⟩ => ⟨S2048x4, .f32⟩
  | .hbm, ⟨10, _⟩ => ⟨S4, .f32⟩
  | .hbm, ⟨11, _⟩ => ⟨S2048x32, .f32⟩
  | .hbm, ⟨12, _⟩ => ⟨S32, .f32⟩
  | .hbm, ⟨13, _⟩ => ⟨S_, .f32⟩
  | .hbm, ⟨14, _⟩ => ⟨S2048x128, .f32⟩
  | .hbm, ⟨15, _⟩ => ⟨S_, .i32⟩
  | .hbm, ⟨16, _⟩ => ⟨S1, .i32⟩
  | .hbm, ⟨17, _⟩ => ⟨S2048x128, .f32⟩
  | .hbm, ⟨18, _⟩ => ⟨S_, .i32⟩
  | .hbm, ⟨19, _⟩ => ⟨S1, .i32⟩
  | .hbm, ⟨20, _⟩ => ⟨S2048x128, .f32⟩
  | .hbm, ⟨21, _⟩ => ⟨S2048x128, .bf16⟩
  | .hbm, ⟨22, _⟩ => ⟨S2048x128, .f32⟩
  | .hbm, ⟨23, _⟩ => ⟨S2048x128, .f32⟩
  | .hbm, ⟨24, _⟩ => ⟨S2048x128, .bf16⟩
  | .hbm, ⟨25, _⟩ => ⟨S4096x128, .bf16⟩
  | .hbm, ⟨26, _⟩ => ⟨S_, .f32⟩
  | .hbm, ⟨27, _⟩ => ⟨S1x128, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S1x128, .f32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S1, .i32⟩
  | .hbm, ⟨38, _⟩ => ⟨S2, .i32⟩
  | .hbm, ⟨39, _⟩ => ⟨S1x128, .f32⟩
  | .hbm, ⟨40, _⟩ => ⟨S48x1x2048, .f32⟩
  | .hbm, ⟨41, _⟩ => ⟨S8192x1024, .bf16⟩
  | .hbm, ⟨42, _⟩ => ⟨S16384x1024, .bf16⟩
  | .hbm, ⟨43, _⟩ => ⟨S2048x2048, .bf16⟩
  | .hbm, ⟨44, _⟩ => ⟨S1x2048, .f32⟩
  | .hbm, ⟨45, _⟩ => ⟨S1x2048, .f32⟩
  | .hbm, ⟨46, _⟩ => ⟨S24576x2048, .f32⟩
  | .hbm, ⟨47, _⟩ => ⟨S24576x2048, .f32⟩
  | .hbm, ⟨48, _⟩ => ⟨S24576x128, .f32⟩
  | .hbm, ⟨49, _⟩ => ⟨S24576x36, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x2048, .bf16⟩
  | .local _ .vmem, ⟨9, _⟩ => ⟨S1024x2048, .bf16⟩
  | .local _ .vmem, ⟨10, _⟩ => ⟨S512x2048, .f32⟩
  | .local _ .vmem, ⟨11, _⟩ => ⟨S512x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x2048, .f32⟩
  | .local _ .vmem, ⟨15, _⟩ => ⟨S1x2048, .f32⟩
  | .local _ .vmem, ⟨16, _⟩ => ⟨S1x1x2048, .f32⟩
  | .local _ .vmem, ⟨17, _⟩ => ⟨S1x1x2048, .f32⟩
  | .local _ .vmem, ⟨18, _⟩ => ⟨S1x1x2048, .f32⟩
  | .local _ .vmem, ⟨19, _⟩ => ⟨S1x1x2048, .f32⟩
  | .local _ .vmem, ⟨20, _⟩ => ⟨S4096x128, .bf16⟩
  | .local _ .vmem, ⟨21, _⟩ => ⟨S1x128, .f32⟩
  | .local _ .vmem, ⟨22, _⟩ => ⟨S512x2048, .f32⟩
  | .local _ .vmem, ⟨23, _⟩ => ⟨S512x2048, .f32⟩
  | .local _ .vmem, ⟨24, _⟩ => ⟨S512x2048, .f32⟩
  | .local _ .vmem, ⟨25, _⟩ => ⟨S512x2048, .f32⟩
  | .local _ .vmem, ⟨26, _⟩ => ⟨S512x128, .f32⟩
  | .local _ .vmem, ⟨27, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_c_2 : Ref sig .tc := ⟨.hbm, 28, rfl⟩
abbrev main_v11 : Ref sig .tc := ⟨.hbm, 29, rfl⟩
abbrev main_c_3 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_4 : Ref sig .tc := ⟨.hbm, 34, rfl⟩
abbrev main_v15 : Ref sig .tc := ⟨.hbm, 35, rfl⟩
abbrev main_c_5 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25_0 : Ref sig .tc := ⟨.hbm, 46, rfl⟩
abbrev main_v25_1 : Ref sig .tc := ⟨.hbm, 47, rfl⟩
abbrev main_v25_2 : Ref sig .tc := ⟨.hbm, 48, rfl⟩
abbrev main_v26 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c6_i32 : BitVec 32 := 6#32
  let v22 : BitVec 32 := Scalar.muli v21 c6_i32
  let c2_i32 : BitVec 32 := 2#32
  let v23 : BitVec 32 := Scalar.addi v22 c2_i32
  let c0_i32_7 : BitVec 32 := 0#32
  let c0_i32_8 : BitVec 32 := 0#32
  let c0_i32_9 : BitVec 32 := 0#32
  ![v23.toNat, c0_i32_7.toNat, c0_i32_8.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c6_i32 : BitVec 32 := 6#32
  let v22 : BitVec 32 := Scalar.muli v21 c6_i32
  let c4_i32 : BitVec 32 := 4#32
  let v23 : BitVec 32 := Scalar.addi v22 c4_i32
  let c0_i32_7 : BitVec 32 := 0#32
  let c0_i32_8 : BitVec 32 := 0#32
  let c0_i32_9 : BitVec 32 := 0#32
  ![v23.toNat, c0_i32_7.toNat, c0_i32_8.toNat]

def cc0_transform_11 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c6_i32 : BitVec 32 := 6#32
  let v22 : BitVec 32 := Scalar.muli v21 c6_i32
  let c3_i32 : BitVec 32 := 3#32
  let v23 : BitVec 32 := Scalar.addi v22 c3_i32
  let c0_i32_7 : BitVec 32 := 0#32
  let c0_i32_8 : BitVec 32 := 0#32
  let c0_i32_9 : BitVec 32 := 0#32
  ![v23.toNat, c0_i32_7.toNat, c0_i32_8.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S4096x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== OutReferenceIdeal.lean ====
abbrev S8192x1024 : Shape := ⟨2, ![8192, 1024]⟩
abbrev S16384x1024 : Shape := ⟨2, ![16384, 1024]⟩
abbrev S2048x2048 : Shape := ⟨2, ![2048, 2048]⟩
abbrev S24576x2048 : Shape := ⟨2, ![24576, 2048]⟩
abbrev S8x12288 : Shape := ⟨2, ![8, 12288]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S32x256x1024 : Shape := ⟨3, ![32, 256, 1024]⟩
abbrev S8192x2048 : Shape := ⟨2, ![8192, 2048]⟩
abbrev S32x256x2048 : Shape := ⟨3, ![32, 256, 2048]⟩
abbrev S1x12288 : Shape := ⟨2, ![1, 12288]⟩
abbrev S1x1x12288 : Shape := ⟨3, ![1, 1, 12288]⟩
abbrev S1x1x2048 : Shape := ⟨3, ![1, 1, 2048]⟩
abbrev S_ : Shape := ⟨0, ![]⟩
abbrev S32x256 : Shape := ⟨2, ![32, 256]⟩
abbrev S32x256x1 : Shape := ⟨3, ![32, 256, 1]⟩
abbrev S8192x4 : Shape := ⟨2, ![8192, 4]⟩
abbrev S1x4 : Shape := ⟨2, ![1, 4]⟩
abbrev S8192x32 : Shape := ⟨2, ![8192, 32]⟩
abbrev S1x32 : Shape := ⟨2, ![1, 32]⟩
abbrev S8192x36 : Shape := ⟨2, ![8192, 36]⟩
abbrev S4x4096x1024 : Shape := ⟨3, ![4, 4096, 1024]⟩
abbrev S16384x2048 : Shape := ⟨2, ![16384, 2048]⟩
abbrev S4x4096x2048 : Shape := ⟨3, ![4, 4096, 2048]⟩
abbrev S4x12288 : Shape := ⟨2, ![4, 12288]⟩
abbrev S4x1x12288 : Shape := ⟨3, ![4, 1, 12288]⟩
abbrev S4x1x2048 : Shape := ⟨3, ![4, 1, 2048]⟩
abbrev S4x4096 : Shape := ⟨2, ![4, 4096]⟩
abbrev S4x4096x1 : Shape := ⟨3, ![4, 4096, 1]⟩
abbrev S16384x4 : Shape := ⟨2, ![16384, 4]⟩
abbrev S16384x32 : Shape := ⟨2, ![16384, 32]⟩
abbrev S16384x36 : Shape := ⟨2, ![16384, 36]⟩
abbrev S24576x36 : Shape := ⟨2, ![24576, 36]⟩

abbrev nBuf : Space → Nat
  | .hbm => 150
  | .vmem => 0
  | .smem => 0
  | _ => 0

abbrev hbmTy0_0 (i : Nat) : BufTy := match i % 128 with
  | 0 => ⟨S8192x1024, .f32⟩
  | 1 => ⟨S16384x1024, .f32⟩
  | 2 => ⟨S8192x1024, .f32⟩
  | 3 => ⟨S16384x1024, .f32⟩
  | 4 => ⟨S2048x2048, .f32⟩
  | 5 => ⟨S24576x2048, .f32⟩
  | 6 => ⟨S8x12288, .f32⟩
  | 7 => ⟨S2048, .f32⟩
  | 8 => ⟨S2048, .f32⟩
  | 9 => ⟨S2048x4, .f32⟩
  | 10 => ⟨S4, .f32⟩
  | 11 => ⟨S2048x32, .f32⟩
  | 12 => ⟨S32, .f32⟩
  | 13 => ⟨S32x256x1024, .f32⟩
  | 14 => ⟨S32x256x1024, .f32⟩
  | 15 => ⟨S8192x2048, .f32⟩
  | 16 => ⟨S32x256x2048, .f32⟩
  | 17 => ⟨S1x12288, .f32⟩
  | 18 => ⟨S32x256x2048, .f32⟩
  | 19 => ⟨S32x256x2048, .f32⟩
  | 20 => ⟨S1x1x12288, .f32⟩
  | 21 => ⟨S1x1x2048, .f32⟩
  | 22 => ⟨S1x1x2048, .f32⟩
  | 23 => ⟨S1x1x2048, .f32⟩
  | 24 => ⟨S1x1x2048, .f32⟩
  | 25 => ⟨S1x1x2048, .f32⟩
  | 26 => ⟨S1x1x2048, .f32⟩
  | 27 => ⟨S_, .f32⟩
  | 28 => ⟨S32x256x2048, .f32⟩
  | 29 => ⟨S32x256x2048, .f32⟩
  | 30 => ⟨S32x256x2048, .f32⟩
  | 31 => ⟨S32x256x2048, .f32⟩
  | 32 => ⟨S32x256x2048, .f32⟩
  | 33 => ⟨S_, .f32⟩
  | 34 => ⟨S32x256, .f32⟩
  | 35 => ⟨S32x256x1, .f32⟩
  | 36 => ⟨S_, .f32⟩
  | 37 => ⟨S32x256x1, .f32⟩
  | 38 => ⟨S32x256x1, .f32⟩
  | 39 => ⟨S32x256x2048, .f32⟩
  | 40 => ⟨S32x256x2048, .f32⟩
  | 41 => ⟨S32x256x2048, .f32⟩
  | 42 => ⟨S_, .f32⟩
  | 43 => ⟨S32x256, .f32⟩
  | 44 => ⟨S32x256x1, .f32⟩
  | 45 => ⟨S_, .f32⟩
  | 46 => ⟨S32x256x1, .f32⟩
  | 47 => ⟨S32x256x1, .f32⟩
  | 48 => ⟨S32x256x2048, .f32⟩
  | 49 => ⟨S32x256x2048, .f32⟩
  | 50 => ⟨S_, .f32⟩
  | 51 => ⟨S32x256x1, .f32⟩
  | 52 => ⟨S32x256x1, .f32⟩
  | 53 => ⟨S32x256x1, .f32⟩
  | 54 => ⟨S32x256x2048, .f32⟩
  | 55 => ⟨S32x256x2048, .f32⟩
  | 56 => ⟨S1x1x2048, .f32⟩
  | 57 => ⟨S32x256x2048, .f32⟩
  | 58 => ⟨S32x256x2048, .f32⟩
  | 59 => ⟨S1x1x2048, .f32⟩
  | 60 => ⟨S32x256x2048, .f32⟩
  | 61 => ⟨S32x256x2048, .f32⟩
  | 62 => ⟨S_, .f32⟩
  | 63 => ⟨S1x1x2048, .f32⟩
  | 64 => ⟨S1x1x2048, .f32⟩
  | 65 => ⟨S32x256x2048, .f32⟩
  | 66 => ⟨S32x256x2048, .f32⟩
  | 67 => ⟨S32x256x2048, .f32⟩
  | 68 => ⟨S32x256x2048, .f32⟩
  | 69 => ⟨S8192x2048, .f32⟩
  | 70 => ⟨S8192x2048, .f32⟩
  | 71 => ⟨S8192x4, .f32⟩
  | 72 => ⟨S1x4, .f32⟩
  | 73 => ⟨S8192x4, .f32⟩
  | 74 => ⟨S8192x4, .f32⟩
  | 75 => ⟨S8192x32, .f32⟩
  | 76 => ⟨S1x32, .f32⟩
  | 77 => ⟨S8192x32, .f32⟩
  | 78 => ⟨S8192x32, .f32⟩
  | 79 => ⟨S8192x36, .f32⟩
  | 80 => ⟨S4x4096x1024, .f32⟩
  | 81 => ⟨S4x4096x1024, .f32⟩
  | 82 => ⟨S16384x2048, .f32⟩
  | 83 => ⟨S4x4096x2048, .f32⟩
  | 84 => ⟨S4x12288, .f32⟩
  | 85 => ⟨S4x4096x2048, .f32⟩
  | 86 => ⟨S4x4096x2048, .f32⟩
  | 87 => ⟨S4x1x12288, .f32⟩
  | 88 => ⟨S4x1x2048, .f32⟩
  | 89 => ⟨S4x1x2048, .f32⟩
  | 90 => ⟨S4x1x2048, .f32⟩
  | 91 => ⟨S4x1x2048, .f32⟩
  | 92 => ⟨S4x1x2048, .f32⟩
  | 93 => ⟨S4x1x2048, .f32⟩
  | 94 => ⟨S_, .f32⟩
  | 95 => ⟨S4x4096x2048, .f32⟩
  | 96 => ⟨S4x4096x2048, .f32⟩
  | 97 => ⟨S4x4096x2048, .f32⟩
  | 98 => ⟨S4x4096x2048, .f32⟩
  | 99 => ⟨S4x4096x2048, .f32⟩
  | 100 => ⟨S_, .f32⟩
  | 101 => ⟨S4x4096, .f32⟩
  | 102 => ⟨S4x4096x1, .f32⟩
  | 103 => ⟨S_, .f32⟩
  | 104 => ⟨S4x4096x1, .f32⟩
  | 105 => ⟨S4x4096x1, .f32⟩
  | 106 => ⟨S4x4096x2048, .f32⟩
  | 107 => ⟨S4x4096x2048, .f32⟩
  | 108 => ⟨S4x4096x2048, .f32⟩
  | 109 => ⟨S_, .f32⟩
  | 110 => ⟨S4x4096, .f32⟩
  | 111 => ⟨S4x4096x1, .f32⟩
  | 112 => ⟨S_, .f32⟩
  | 113 => ⟨S4x4096x1, .f32⟩
  | 114 => ⟨S4x4096x1, .f32⟩
  | 115 => ⟨S4x4096x2048, .f32⟩
  | 116 => ⟨S4x4096x2048, .f32⟩
  | 117 => ⟨S_, .f32⟩
  | 118 => ⟨S4x4096x1, .f32⟩
  | 119 => ⟨S4x4096x1, .f32⟩
  | 120 => ⟨S4x4096x1, .f32⟩
  | 121 => ⟨S4x4096x2048, .f32⟩
  | 122 => ⟨S4x4096x2048, .f32⟩
  | 123 => ⟨S1x1x2048, .f32⟩
  | 124 => ⟨S4x4096x2048, .f32⟩
  | 125 => ⟨S4x4096x2048, .f32⟩
  | 126 => ⟨S1x1x2048, .f32⟩
  | 127 => ⟨S4x4096x2048, .f32⟩
  | _ => ⟨S8192x1024, .f32⟩

abbrev hbmTy0_1 (i : Nat) : BufTy := match i % 128 with
  | 0 => ⟨S4x4096x2048, .f32⟩
  | 1 => ⟨S_, .f32⟩
  | 2 => ⟨S4x1x2048, .f32⟩
  | 3 => ⟨S4x1x2048, .f32⟩
  | 4 => ⟨S4x4096x2048, .f32⟩
  | 5 => ⟨S4x4096x2048, .f32⟩
  | 6 => ⟨S4x4096x2048, .f32⟩
  | 7 => ⟨S4x4096x2048, .f32⟩
  | 8 => ⟨S16384x2048, .f32⟩
  | 9 => ⟨S16384x2048, .f32⟩
  | 10 => ⟨S16384x4, .f32⟩
  | 11 => ⟨S1x4, .f32⟩
  | 12 => ⟨S16384x4, .f32⟩
  | 13 => ⟨S16384x4, .f32⟩
  | 14 => ⟨S16384x32, .f32⟩
  | 15 => ⟨S1x32, .f32⟩
  | 16 => ⟨S16384x32, .f32⟩
  | 17 => ⟨S16384x32, .f32⟩
  | 18 => ⟨S16384x36, .f32⟩
  | 19 => ⟨S24576x2048, .f32⟩
  | 20 => ⟨S24576x2048, .f32⟩
  | 21 => ⟨S24576x36, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_0 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_6 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_7 : Ref sig .tc := ⟨.hbm, 100, rfl⟩
abbrev main_v79 : Ref sig .tc := ⟨.hbm, 101, rfl⟩
abbrev main_v80 : Ref sig .tc := ⟨.hbm, 102, rfl⟩
abbrev main_cst_8 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_9 : Ref sig .tc := ⟨.hbm, 109, rfl⟩
abbrev main_v86 : Ref sig .tc := ⟨.hbm, 110, rfl⟩
abbrev main_v87 : Ref sig .tc := ⟨.hbm, 111, rfl⟩
abbrev main_cst_10 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_11 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_cst_12 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩

abbrev nD : Nat := 1
abbrev τ : Topo := Topo.v7x

variable {F : FTy → Type} [FloatOps F]
-- ==== PwKernel.lean ====
abbrev S8192x2048 : Shape := ⟨2, ![8192, 2048]⟩
abbrev S16384x2048 : Shape := ⟨2, ![16384, 2048]⟩
abbrev S2048 : Shape := ⟨1, ![2048]⟩
abbrev S2048x2048 : Shape := ⟨2, ![2048, 2048]⟩
abbrev S24576x2048 : Shape := ⟨2, ![24576, 2048]⟩
abbrev S8x12288 : Shape := ⟨2, ![8, 12288]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S_ : Shape := ⟨0, ![]⟩
abbrev S2048x128 : Shape := ⟨2, ![2048, 128]⟩
abbrev S1 : Shape := ⟨1, ![1]⟩
abbrev S4096x128 : Shape := ⟨2, ![4096, 128]⟩
abbrev S1x128 : Shape := ⟨2, ![1, 128]⟩
abbrev S2 : Shape := ⟨1, ![2]⟩
abbrev S48x1x2048 : Shape := ⟨3, ![48, 1, 2048]⟩
abbrev S1x2048 : Shape := ⟨2, ![1, 2048]⟩
abbrev S24576x128 : Shape := ⟨2, ![24576, 128]⟩
abbrev S512x2048 : Shape := ⟨2, ![512, 2048]⟩
abbrev S1x1x2048 : Shape := ⟨3, ![1, 1, 2048]⟩
abbrev S512x128 : Shape := ⟨2, ![512, 128]⟩
abbrev S512 : Shape := ⟨1, ![512]⟩
abbrev S512x1 : Shape := ⟨2, ![512, 1]⟩
abbrev S24576x36 : Shape := ⟨2, ![24576, 36]⟩

abbrev nBuf : Space → Nat
  | .hbm => 50
  | .vmem => 25
  | .smem => 0
  | _ => 0

abbrev bufTy : (tb : Table) → Fin (tcTables nBuf tb) → BufTy
  | .hbm, ⟨0, _⟩ => ⟨S8192x2048, .f32⟩
  | .hbm, ⟨1, _⟩ => ⟨S16384x2048, .f32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S24576x2048, .f32⟩
  | .hbm, ⟨6, _⟩ => ⟨S8x12288, .f32⟩
  | .hbm, ⟨7, _⟩ => ⟨S2048, .f32⟩
  | .hbm, ⟨8, _⟩ => ⟨S2048, .f32⟩
  | .hbm, ⟨9, _⟩ => ⟨S2048x4, .f32⟩
  | .hbm, ⟨10, _⟩ => ⟨S4, .f32⟩
  | .hbm, ⟨11, _⟩ => ⟨S2048x32, .f32⟩
  | .hbm, ⟨12, _⟩ => ⟨S32, .f32⟩
  | .hbm, ⟨13, _⟩ => ⟨S_, .f32⟩
  | .hbm, ⟨14, _⟩ => ⟨S2048x128, .f32⟩
  | .hbm, ⟨15, _⟩ => ⟨S_, .i32⟩
  | .hbm, ⟨16, _⟩ => ⟨S1, .i32⟩
  | .hbm, ⟨17, _⟩ => ⟨S2048x128, .f32⟩
  | .hbm, ⟨18, _⟩ => ⟨S_, .i32⟩
  | .hbm, ⟨19, _⟩ => ⟨S1, .i32⟩
  | .hbm, ⟨20, _⟩ => ⟨S2048x128, .f32⟩
  | .hbm, ⟨21, _⟩ => ⟨S2048x128, .bf16⟩
  | .hbm, ⟨22, _⟩ => ⟨S2048x128, .f32⟩
  | .hbm, ⟨23, _⟩ => ⟨S2048x128, .f32⟩
  | .hbm, ⟨24, _⟩ => ⟨S2048x128, .bf16⟩
  | .hbm, ⟨25, _⟩ => ⟨S4096x128, .bf16⟩
  | .hbm, ⟨26, _⟩ => ⟨S_, .f32⟩
  | .hbm, ⟨27, _⟩ => ⟨S1x128, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S1x128, .f32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S1, .i32⟩
  | .hbm, ⟨38, _⟩ => ⟨S2, .i32⟩
  | .hbm, ⟨39, _⟩ => ⟨S1x128, .f32⟩
  | .hbm, ⟨40, _⟩ => ⟨S48x1x2048, .f32⟩
  | .hbm, ⟨41, _⟩ => ⟨S2048x2048, .bf16⟩
  | .hbm, ⟨42, _⟩ => ⟨S1x2048, .f32⟩
  | .hbm, ⟨43, _⟩ => ⟨S1x2048, .f32⟩
  | .hbm, ⟨44, _⟩ => ⟨S1x2048, .f32⟩
  | .hbm, ⟨45, _⟩ => ⟨S1x2048, .f32⟩
  | .hbm, ⟨46, _⟩ => ⟨S24576x2048, .f32⟩
  | .hbm, ⟨47, _⟩ => ⟨S24576x2048, .f32⟩
  | .hbm, ⟨48, _⟩ => ⟨S24576x128, .f32⟩
  | .hbm, ⟨49, _⟩ => ⟨S24576x36, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x2048, .f32⟩
  | .local _ .vmem, ⟨12, _⟩ => ⟨S1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x1x2048, .f32⟩
  | .local _ .vmem, ⟨17, _⟩ => ⟨S4096x128, .bf16⟩
  | .local _ .vmem, ⟨18, _⟩ => ⟨S1x128, .f32⟩
  | .local _ .vmem, ⟨19, _⟩ => ⟨S512x2048, .f32⟩
  | .local _ .vmem, ⟨20, _⟩ => ⟨S512x2048, .f32⟩
  | .local _ .vmem, ⟨21, _⟩ => ⟨S512x2048, .f32⟩
  | .local _ .vmem, ⟨22, _⟩ => ⟨S512x2048, .f32⟩
  | .local _ .vmem, ⟨23, _⟩ => ⟨S512x128, .f32⟩
  | .local _ .vmem, ⟨24, _⟩ => ⟨S512x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_c_2 : Ref sig .tc := ⟨.hbm, 28, rfl⟩
abbrev main_v11 : Ref sig .tc := ⟨.hbm, 29, rfl⟩
abbrev main_c_3 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_4 : Ref sig .tc := ⟨.hbm, 34, rfl⟩
abbrev main_v15 : Ref sig .tc := ⟨.hbm, 35, rfl⟩
abbrev main_c_5 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25_0 : Ref sig .tc := ⟨.hbm, 46, rfl⟩
abbrev main_v25_1 : Ref sig .tc := ⟨.hbm, 47, rfl⟩
abbrev main_v25_2 : Ref sig .tc := ⟨.hbm, 48, rfl⟩
abbrev main_v26 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c6_i32 : BitVec 32 := 6#32
  let v22 : BitVec 32 := Scalar.muli v21 c6_i32
  let c2_i32 : BitVec 32 := 2#32
  let v23 : BitVec 32 := Scalar.addi v22 c2_i32
  let c0_i32_7 : BitVec 32 := 0#32
  let c0_i32_8 : BitVec 32 := 0#32
  let c0_i32_9 : BitVec 32 := 0#32
  ![v23.toNat, c0_i32_7.toNat, c0_i32_8.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c6_i32 : BitVec 32 := 6#32
  let v22 : BitVec 32 := Scalar.muli v21 c6_i32
  let c4_i32 : BitVec 32 := 4#32
  let v23 : BitVec 32 := Scalar.addi v22 c4_i32
  let c0_i32_7 : BitVec 32 := 0#32
  let c0_i32_8 : BitVec 32 := 0#32
  let c0_i32_9 : BitVec 32 := 0#32
  ![v23.toNat, c0_i32_7.toNat, c0_i32_8.toNat]

def cc0_transform_10 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c6_i32 : BitVec 32 := 6#32
  let v22 : BitVec 32 := Scalar.muli v21 c6_i32
  let c3_i32 : BitVec 32 := 3#32
  let v23 : BitVec 32 := Scalar.addi v22 c3_i32
  let c0_i32_7 : BitVec 32 := 0#32
  let c0_i32_8 : BitVec 32 := 0#32
  let c0_i32_9 : BitVec 32 := 0#32
  ![v23.toNat, c0_i32_7.toNat, c0_i32_8.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4096x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== PwReferenceIdeal.lean ====
abbrev S8192x2048 : Shape := ⟨2, ![8192, 2048]⟩
abbrev S16384x2048 : Shape := ⟨2, ![16384, 2048]⟩
abbrev S2048 : Shape := ⟨1, ![2048]⟩
abbrev S2048x2048 : Shape := ⟨2, ![2048, 2048]⟩
abbrev S24576x2048 : Shape := ⟨2, ![24576, 2048]⟩
abbrev S8x12288 : Shape := ⟨2, ![8, 12288]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S32x256x2048 : Shape := ⟨3, ![32, 256, 2048]⟩
abbrev S1x12288 : Shape := ⟨2, ![1, 12288]⟩
abbrev S_ : Shape := ⟨0, ![]⟩
abbrev S32x256 : Shape := ⟨2, ![32, 256]⟩
abbrev S32x256x1 : Shape := ⟨3, ![32, 256, 1]⟩
abbrev S1x1x2048 : Shape := ⟨3, ![1, 1, 2048]⟩
abbrev S1x1x12288 : Shape := ⟨3, ![1, 1, 12288]⟩
abbrev S8192x4 : Shape := ⟨2, ![8192, 4]⟩
abbrev S1x4 : Shape := ⟨2, ![1, 4]⟩
abbrev S8192x32 : Shape := ⟨2, ![8192, 32]⟩
abbrev S1x32 : Shape := ⟨2, ![1, 32]⟩
abbrev S8192x36 : Shape := ⟨2, ![8192, 36]⟩
abbrev S4x4096x2048 : Shape := ⟨3, ![4, 4096, 2048]⟩
abbrev S4x12288 : Shape := ⟨2, ![4, 12288]⟩
abbrev S4x4096 : Shape := ⟨2, ![4, 4096]⟩
abbrev S4x4096x1 : Shape := ⟨3, ![4, 4096, 1]⟩
abbrev S4x1x12288 : Shape := ⟨3, ![4, 1, 12288]⟩
abbrev S4x1x2048 : Shape := ⟨3, ![4, 1, 2048]⟩
abbrev S16384x4 : Shape := ⟨2, ![16384, 4]⟩
abbrev S16384x32 : Shape := ⟨2, ![16384, 32]⟩
abbrev S16384x36 : Shape := ⟨2, ![16384, 36]⟩
abbrev S24576x36 : Shape := ⟨2, ![24576, 36]⟩

abbrev nBuf : Space → Nat
  | .hbm => 222
  | .vmem => 0
  | .smem => 0
  | _ => 0

abbrev hbmTy0_0 (i : Nat) : BufTy := match i % 128 with
  | 0 => ⟨S8192x2048, .f32⟩
  | 1 => ⟨S16384x2048, .f32⟩
  | 2 => ⟨S2048, .f32⟩
  | 3 => ⟨S2048, .f32⟩
  | 4 => ⟨S2048x2048, .f32⟩
  | 5 => ⟨S24576x2048, .f32⟩
  | 6 => ⟨S8x12288, .f32⟩
  | 7 => ⟨S2048, .f32⟩
  | 8 => ⟨S2048, .f32⟩
  | 9 => ⟨S2048x4, .f32⟩
  | 10 => ⟨S4, .f32⟩
  | 11 => ⟨S2048x32, .f32⟩
  | 12 => ⟨S32, .f32⟩
  | 13 => ⟨S32x256x2048, .f32⟩
  | 14 => ⟨S8192x2048, .f32⟩
  | 15 => ⟨S32x256x2048, .f32⟩
  | 16 => ⟨S1x12288, .f32⟩
  | 17 => ⟨S_, .f32⟩
  | 18 => ⟨S32x256, .f32⟩
  | 19 => ⟨S32x256x1, .f32⟩
  | 20 => ⟨S_, .f32⟩
  | 21 => ⟨S32x256x1, .f32⟩
  | 22 => ⟨S32x256x1, .f32⟩
  | 23 => ⟨S32x256x2048, .f32⟩
  | 24 => ⟨S32x256x2048, .f32⟩
  | 25 => ⟨S32x256x2048, .f32⟩
  | 26 => ⟨S_, .f32⟩
  | 27 => ⟨S32x256, .f32⟩
  | 28 => ⟨S32x256x1, .f32⟩
  | 29 => ⟨S_, .f32⟩
  | 30 => ⟨S32x256x1, .f32⟩
  | 31 => ⟨S32x256x1, .f32⟩
  | 32 => ⟨S32x256x2048, .f32⟩
  | 33 => ⟨S32x256x2048, .f32⟩
  | 34 => ⟨S_, .f32⟩
  | 35 => ⟨S32x256x1, .f32⟩
  | 36 => ⟨S32x256x1, .f32⟩
  | 37 => ⟨S32x256x1, .f32⟩
  | 38 => ⟨S32x256x2048, .f32⟩
  | 39 => ⟨S32x256x2048, .f32⟩
  | 40 => ⟨S1x1x2048, .f32⟩
  | 41 => ⟨S32x256x2048, .f32⟩
  | 42 => ⟨S32x256x2048, .f32⟩
  | 43 => ⟨S1x1x2048, .f32⟩
  | 44 => ⟨S32x256x2048, .f32⟩
  | 45 => ⟨S32x256x2048, .f32⟩
  | 46 => ⟨S32x256x2048, .f32⟩
  | 47 => ⟨S32x256x2048, .f32⟩
  | 48 => ⟨S_, .f32⟩
  | 49 => ⟨S32x256x2048, .f32⟩
  | 50 => ⟨S32x256x2048, .f32⟩
  | 51 => ⟨S_, .f32⟩
  | 52 => ⟨S32x256x2048, .f32⟩
  | 53 => ⟨S32x256x2048, .f32⟩
  | 54 => ⟨S32x256x2048, .f32⟩
  | 55 => ⟨S32x256x2048, .f32⟩
  | 56 => ⟨S1x1x12288, .f32⟩
  | 57 => ⟨S1x1x2048, .f32⟩
  | 58 => ⟨S1x1x2048, .f32⟩
  | 59 => ⟨S1x1x2048, .f32⟩
  | 60 => ⟨S1x1x2048, .f32⟩
  | 61 => ⟨S1x1x2048, .f32⟩
  | 62 => ⟨S1x1x2048, .f32⟩
  | 63 => ⟨S_, .f32⟩
  | 64 => ⟨S32x256x2048, .f32⟩
  | 65 => ⟨S32x256x2048, .f32⟩
  | 66 => ⟨S32x256x2048, .f32⟩
  | 67 => ⟨S32x256x2048, .f32⟩
  | 68 => ⟨S32x256x2048, .f32⟩
  | 69 => ⟨S_, .f32⟩
  | 70 => ⟨S32x256, .f32⟩
  | 71 => ⟨S32x256x1, .f32⟩
  | 72 => ⟨S_, .f32⟩
  | 73 => ⟨S32x256x1, .f32⟩
  | 74 => ⟨S32x256x1, .f32⟩
  | 75 => ⟨S32x256x2048, .f32⟩
  | 76 => ⟨S32x256x2048, .f32⟩
  | 77 => ⟨S32x256x2048, .f32⟩
  | 78 => ⟨S_, .f32⟩
  | 79 => ⟨S32x256, .f32⟩
  | 80 => ⟨S32x256x1, .f32⟩
  | 81 => ⟨S_, .f32⟩
  | 82 => ⟨S32x256x1, .f32⟩
  | 83 => ⟨S32x256x1, .f32⟩
  | 84 => ⟨S32x256x2048, .f32⟩
  | 85 => ⟨S32x256x2048, .f32⟩
  | 86 => ⟨S_, .f32⟩
  | 87 => ⟨S32x256x1, .f32⟩
  | 88 => ⟨S32x256x1, .f32⟩
  | 89 => ⟨S32x256x1, .f32⟩
  | 90 => ⟨S32x256x2048, .f32⟩
  | 91 => ⟨S32x256x2048, .f32⟩
  | 92 => ⟨S1x1x2048, .f32⟩
  | 93 => ⟨S32x256x2048, .f32⟩
  | 94 => ⟨S32x256x2048, .f32⟩
  | 95 => ⟨S1x1x2048, .f32⟩
  | 96 => ⟨S32x256x2048, .f32⟩
  | 97 => ⟨S32x256x2048, .f32⟩
  | 98 => ⟨S_, .f32⟩
  | 99 => ⟨S1x1x2048, .f32⟩
  | 100 => ⟨S1x1x2048, .f32⟩
  | 101 => ⟨S32x256x2048, .f32⟩
  | 102 => ⟨S32x256x2048, .f32⟩
  | 103 => ⟨S32x256x2048, .f32⟩
  | 104 => ⟨S32x256x2048, .f32⟩
  | 105 => ⟨S8192x2048, .f32⟩
  | 106 => ⟨S8192x2048, .f32⟩
  | 107 => ⟨S8192x4, .f32⟩
  | 108 => ⟨S1x4, .f32⟩
  | 109 => ⟨S8192x4, .f32⟩
  | 110 => ⟨S8192x4, .f32⟩
  | 111 => ⟨S8192x32, .f32⟩
  | 112 => ⟨S1x32, .f32⟩
  | 113 => ⟨S8192x32, .f32⟩
  | 114 => ⟨S8192x32, .f32⟩
  | 115 => ⟨S8192x36, .f32⟩
  | 116 => ⟨S4x4096x2048, .f32⟩
  | 117 => ⟨S16384x2048, .f32⟩
  | 118 => ⟨S4x4096x2048, .f32⟩
  | 119 => ⟨S4x12288, .f32⟩
  | 120 => ⟨S_, .f32⟩
  | 121 => ⟨S4x4096, .f32⟩
  | 122 => ⟨S4x4096x1, .f32⟩
  | 123 => ⟨S_, .f32⟩
  | 124 => ⟨S4x4096x1, .f32⟩
  | 125 => ⟨S4x4096x1, .f32⟩
  | 126 => ⟨S4x4096x2048, .f32⟩
  | 127 => ⟨S4x4096x2048, .f32⟩
  | _ => ⟨S8192x2048, .f32⟩

abbrev hbmTy0_1 (i : Nat) : BufTy := match i % 128 with
  | 0 => ⟨S4x4096x2048, .f32⟩
  | 1 => ⟨S_, .f32⟩
  | 2 => ⟨S4x4096, .f32⟩
  | 3 => ⟨S4x4096x1, .f32⟩
  | 4 => ⟨S_, .f32⟩
  | 5 => ⟨S4x4096x1, .f32⟩
  | 6 => ⟨S4x4096x1, .f32⟩
  | 7 => ⟨S4x4096x2048, .f32⟩
  | 8 => ⟨S4x4096x2048, .f32⟩
  | 9 => ⟨S_, .f32⟩
  | 10 => ⟨S4x4096x1, .f32⟩
  | 11 => ⟨S4x4096x1, .f32⟩
  | 12 => ⟨S4x4096x1, .f32⟩
  | 13 => ⟨S4x4096x2048, .f32⟩
  | 14 => ⟨S4x4096x2048, .f32⟩
  | 15 => ⟨S1x1x2048, .f32⟩
  | 16 => ⟨S4x4096x2048, .f32⟩
  | 17 => ⟨S4x4096x2048, .f32⟩
  | 18 => ⟨S1x1x2048, .f32⟩
  | 19 => ⟨S4x4096x2048, .f32⟩
  | 20 => ⟨S4x4096x2048, .f32⟩
  | 21 => ⟨S4x4096x2048, .f32⟩
  | 22 => ⟨S4x4096x2048, .f32⟩
  | 23 => ⟨S_, .f32⟩
  | 24 => ⟨S4x4096x2048, .f32⟩
  | 25 => ⟨S4x4096x2048, .f32⟩
  | 26 => ⟨S_, .f32⟩
  | 27 => ⟨S4x4096x2048, .f32⟩
  | 28 => ⟨S4x4096x2048, .f32⟩
  | 29 => ⟨S4x4096x2048, .f32⟩
  | 30 => ⟨S4x4096x2048, .f32⟩
  | 31 => ⟨S4x1x12288, .f32⟩
  | 32 => ⟨S4x1x2048, .f32⟩
  | 33 => ⟨S4x1x2048, .f32⟩
  | 34 => ⟨S4x1x2048, .f32⟩
  | 35 => ⟨S4x1x2048, .f32⟩
  | 36 => ⟨S4x1x2048, .f32⟩
  | 37 => ⟨S4x1x2048, .f32⟩
  | 38 => ⟨S_, .f32⟩
  | 39 => ⟨S4x4096x2048, .f32⟩
  | 40 => ⟨S4x4096x2048, .f32⟩
  | 41 => ⟨S4x4096x2048, .f32⟩
  | 42 => ⟨S4x4096x2048, .f32⟩
  | 43 => ⟨S4x4096x2048, .f32⟩
  | 44 => ⟨S_, .f32⟩
  | 45 => ⟨S4x4096, .f32⟩
  | 46 => ⟨S4x4096x1, .f32⟩
  | 47 => ⟨S_, .f32⟩
  | 48 => ⟨S4x4096x1, .f32⟩
  | 49 => ⟨S4x4096x1, .f32⟩
  | 50 => ⟨S4x4096x2048, .f32⟩
  | 51 => ⟨S4x4096x2048, .f32⟩
  | 52 => ⟨S4x4096x2048, .f32⟩
  | 53 => ⟨S_, .f32⟩
  | 54 => ⟨S4x4096, .f32⟩
  | 55 => ⟨S4x4096x1, .f32⟩
  | 56 => ⟨S_, .f32⟩
  | 57 => ⟨S4x4096x1, .f32⟩
  | 58 => ⟨S4x4096x1, .f32⟩
  | 59 => ⟨S4x4096x2048, .f32⟩
  | 60 => ⟨S4x4096x2048, .f32⟩
  | 61 => ⟨S_, .f32⟩
  | 62 => ⟨S4x4096x1, .f32⟩
  | 63 => ⟨S4x4096x1, .f32⟩
  | 64 => ⟨S4x4096x1, .f32⟩
  | 65 => ⟨S4x4096x2048, .f32⟩
  | 66 => ⟨S4x4096x2048, .f32⟩
  | 67 => ⟨S1x1x2048, .f32⟩
  | 68 => ⟨S4x4096x2048, .f32⟩
  | 69 => ⟨S4x4096x2048, .f32⟩
  | 70 => ⟨S1x1x2048, .f32⟩
  | 71 => ⟨S4x4096x2048, .f32⟩
  | 72 => ⟨S4x4096x2048, .f32⟩
  | 73 => ⟨S_, .f32⟩
  | 74 => ⟨S4x1x2048, .f32⟩
  | 75 => ⟨S4x1x2048, .f32⟩
  | 76 => ⟨S4x4096x2048, .f32⟩
  | 77 => ⟨S4x4096x2048, .f32⟩
  | 78 => ⟨S4x4096x2048, .f32⟩
  | 79 => ⟨S4x4096x2048, .f32⟩
  | 80 => ⟨S16384x2048, .f32⟩
  | 81 => ⟨S16384x2048, .f32⟩
  | 82 => ⟨S16384x4, .f32⟩
  | 83 => ⟨S1x4, .f32⟩
  | 84 => ⟨S16384x4, .f32⟩
  | 85 => ⟨S16384x4, .f32⟩
  | 86 => ⟨S16384x32, .f32⟩
  | 87 => ⟨S1x32, .f32⟩
  | 88 => ⟨S16384x32, .f32⟩
  | 89 => ⟨S16384x32, .f32⟩
  | 90 => ⟨S16384x36, .f32⟩
  | 91 => ⟨S24576x2048, .f32⟩
  | 92 => ⟨S24576x2048, .f32⟩
  | 93 => ⟨S24576x36, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_4 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_5 : Ref sig .tc := ⟨.hbm, 69, rfl⟩
abbrev main_v42 : Ref sig .tc := ⟨.hbm, 70, rfl⟩
abbrev main_v43 : Ref sig .tc := ⟨.hbm, 71, rfl⟩
abbrev main_cst_6 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_7 : Ref sig .tc := ⟨.hbm, 78, rfl⟩
abbrev main_v49 : Ref sig .tc := ⟨.hbm, 79, rfl⟩
abbrev main_v50 : Ref sig .tc := ⟨.hbm, 80, rfl⟩
abbrev main_cst_8 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_10 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_11 : Ref sig .tc := ⟨.hbm, 120, rfl⟩
abbrev main_v87 : Ref sig .tc := ⟨.hbm, 121, rfl⟩
abbrev main_v88 : Ref sig .tc := ⟨.hbm, 122, rfl⟩
abbrev main_cst_12 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_13 : Ref sig .tc := ⟨.hbm, 129, rfl⟩
abbrev main_v94 : Ref sig .tc := ⟨.hbm, 130, rfl⟩
abbrev main_v95 : Ref sig .tc := ⟨.hbm, 131, rfl⟩
abbrev main_cst_14 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_15 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_call1_v0 : Ref sig .tc := ⟨.hbm, 149, rfl⟩
abbrev main_call1_v1 : Ref sig .tc := ⟨.hbm, 150, rfl⟩
abbrev main_call1_cst : Ref sig .tc := ⟨.hbm, 151, rfl⟩
abbrev main_call1_v2 : Ref sig .tc := ⟨.hbm, 152, rfl⟩
abbrev main_call1_v3 : Ref sig .tc := ⟨.hbm, 153, rfl⟩
abbrev main_call1_cst_0 : Ref sig .tc := ⟨.hbm, 154, rfl⟩
abbrev main_call1_v4 : Ref sig .tc := ⟨.hbm, 155, rfl⟩
abbrev main_call1_v5 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_cst_16 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_cst_17 : Ref sig .tc := ⟨.hbm, 172, rfl⟩
abbrev main_v125 : Ref sig .tc := ⟨.hbm, 173, rfl⟩
abbrev main_v126 : Ref sig .tc := ⟨.hbm, 174, rfl⟩
abbrev main_cst_18 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_cst_19 : Ref sig .tc := ⟨.hbm, 181, rfl⟩
abbrev main_v132 : Ref sig .tc := ⟨.hbm, 182, rfl⟩
abbrev main_v133 : Ref sig .tc := ⟨.hbm, 183, rfl⟩
abbrev main_cst_20 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_cst_21 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_cst_22 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩

abbrev nD : Nat := 1
abbrev τ : Topo := Topo.v7x

variable {F : FTy → Type} [FloatOps F]
-- ==== QkKernel.lean ====
abbrev S24576x4608 : Shape := ⟨2, ![24576, 4608]⟩
abbrev S4096x64 : Shape := ⟨2, ![4096, 64]⟩
abbrev S128 : Shape := ⟨1, ![128]⟩
abbrev S4096x32 : Shape := ⟨2, ![4096, 32]⟩
abbrev S_ : Shape := ⟨0, ![]⟩
abbrev S4096x128 : Shape := ⟨2, ![4096, 128]⟩
abbrev S8192x128 : Shape := ⟨2, ![8192, 128]⟩
abbrev S24576x128 : Shape := ⟨2, ![24576, 128]⟩
abbrev S1x128 : Shape := ⟨2, ![1, 128]⟩
abbrev S24576x1024 : Shape := ⟨2, ![24576, 1024]⟩
abbrev S24576x256 : Shape := ⟨2, ![24576, 256]⟩
abbrev S512x1024 : Shape := ⟨2, ![512, 1024]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S8192x256 : Shape := ⟨2, ![8192, 256]⟩
abbrev S32x256x2x128 : Shape := ⟨4, ![32, 256, 2, 128]⟩
abbrev S32x2x256x128 : Shape := ⟨4, ![32, 2, 256, 128]⟩
abbrev S32x1x2x256x128 : Shape := ⟨5, ![32, 1, 2, 256, 128]⟩

abbrev nBuf : Space → Nat
  | .hbm => 38
  | .vmem => 16
  | .smem => 0
  | _ => 0

abbrev bufTy : (tb : Table) → Fin (tcTables nBuf tb) → BufTy
  | .hbm, ⟨0, _⟩ => ⟨S24576x4608, .f32⟩
  | .hbm, ⟨1, _⟩ => ⟨S4096x64, .f32⟩
  | .hbm, ⟨2, _⟩ => ⟨S4096x64, .f32⟩
  | .hbm, ⟨3, _⟩ => ⟨S128, .f32⟩
  | .hbm, ⟨4, _⟩ => ⟨S128, .f32⟩
  | .hbm, ⟨5, _⟩ => ⟨S4096x32, .f32⟩
  | .hbm, ⟨6, _⟩ => ⟨S4096x32, .f32⟩
  | .hbm, ⟨7, _⟩ => ⟨S_, .f32⟩
  | .hbm, ⟨8, _⟩ => ⟨S4096x32, .f32⟩
  | .hbm, ⟨9, _⟩ => ⟨S4096x32, .f32⟩
  | .hbm, ⟨10, _⟩ => ⟨S_, .f32⟩
  | .hbm, ⟨11, _⟩ => ⟨S4096x32, .f32⟩
  | .hbm, ⟨12, _⟩ => ⟨S4096x32, .f32⟩
  | .hbm, ⟨13, _⟩ => ⟨S4096x128, .f32⟩
  | .hbm, ⟨14, _⟩ => ⟨S_, .f32⟩
  | .hbm, ⟨15, _⟩ => ⟨S8192x128, .f32⟩
  | .hbm, ⟨16, _⟩ => ⟨S24576x128, .f32⟩
  | .hbm, ⟨17, _⟩ => ⟨S4096x32, .f32⟩
  | .hbm, ⟨18, _⟩ => ⟨S4096x32, .f32⟩
  | .hbm, ⟨19, _⟩ => ⟨S_, .f32⟩
  | .hbm, ⟨20, _⟩ => ⟨S4096x32, .f32⟩
  | .hbm, ⟨21, _⟩ => ⟨S4096x32, .f32⟩
  | .hbm, ⟨22, _⟩ => ⟨S_, .f32⟩
  | .hbm, ⟨23, _⟩ => ⟨S4096x32, .f32⟩
  | .hbm, ⟨24, _⟩ => ⟨S4096x32, .f32⟩
  | .hbm, ⟨25, _⟩ => ⟨S4096x128, .f32⟩
  | .hbm, ⟨26, _⟩ => ⟨S_, .f32⟩
  | .hbm, ⟨27, _⟩ => ⟨S8192x128, .f32⟩
  | .hbm, ⟨28, _⟩ => ⟨S24576x128, .f32⟩
  | .hbm, ⟨29, _⟩ => ⟨S1x128, .f32⟩
  | .hbm, ⟨30, _⟩ => ⟨S1x128, .f32⟩
  | .hbm, ⟨31, _⟩ => ⟨S24576x1024, .bf16⟩
  | .hbm, ⟨32, _⟩ => ⟨S24576x256, .f32⟩
  | .hbm, ⟨33, _⟩ => ⟨S24576x256, .bf16⟩
  | .hbm, ⟨34, _⟩ => ⟨S8192x256, .f32⟩
  | .hbm, ⟨35, _⟩ => ⟨S32x256x2x128, .f32⟩
  | .hbm, ⟨36, _⟩ => ⟨S32x2x256x128, .f32⟩
  | .hbm, ⟨37, _⟩ => ⟨S32x1x2x256x128, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x128, .f32⟩
  | .local _ .vmem, ⟨9, _⟩ => ⟨S1x128, .f32⟩
  | .local _ .vmem, ⟨10, _⟩ => ⟨S512x1024, .bf16⟩
  | .local _ .vmem, ⟨11, _⟩ => ⟨S512x1024, .bf16⟩
  | .local _ .vmem, ⟨12, _⟩ => ⟨S512x256, .f32⟩
  | .local _ .vmem, ⟨13, _⟩ => ⟨S512x256, .f32⟩
  | .local _ .vmem, ⟨14, _⟩ => ⟨S512x256, .bf16⟩
  | .local _ .vmem, ⟨15, _⟩ => ⟨S512x256, .bf16⟩
  | _, _ => ⟨S24576x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== QkReferenceIdeal.lean ====
abbrev S24576x4608 : Shape := ⟨2, ![24576, 4608]⟩
abbrev S4096x64 : Shape := ⟨2, ![4096, 64]⟩
abbrev S128 : Shape := ⟨1, ![128]⟩
abbrev S8192x4608 : Shape := ⟨2, ![8192, 4608]⟩
abbrev S32x256x4608 : Shape := ⟨3, ![32, 256, 4608]⟩
abbrev S32x256x1024 : Shape := ⟨3, ![32, 256, 1024]⟩
abbrev S32x256x8x128 : Shape := ⟨4, ![32, 256, 8, 128]⟩
abbrev S_ : Shape := ⟨0, ![]⟩
abbrev S32x256x8 : Shape := ⟨3, ![32, 256, 8]⟩
abbrev S32x256x8x1 : Shape := ⟨4, ![32, 256, 8, 1]⟩
abbrev S1x1x1x128 : Shape := ⟨4, ![1, 1, 1, 128]⟩
abbrev S32x256x256 : Shape := ⟨3, ![32, 256, 256]⟩
abbrev S32x256x2x128 : Shape := ⟨4, ![32, 256, 2, 128]⟩
abbrev S32x256x2 : Shape := ⟨3, ![32, 256, 2]⟩
abbrev S32x256x2x1 : Shape := ⟨4, ![32, 256, 2, 1]⟩
abbrev S16384x4608 : Shape := ⟨2, ![16384, 4608]⟩
abbrev S4x4096x4608 : Shape := ⟨3, ![4, 4096, 4608]⟩
abbrev S4x4096x1024 : Shape := ⟨3, ![4, 4096, 1024]⟩
abbrev S4x4096x8x128 : Shape := ⟨4, ![4, 4096, 8, 128]⟩
abbrev S4x4096x8 : Shape := ⟨3, ![4, 4096, 8]⟩
abbrev S4x4096x8x1 : Shape := ⟨4, ![4, 4096, 8, 1]⟩
abbrev S4x4096x256 : Shape := ⟨3, ![4, 4096, 256]⟩
abbrev S4x4096x2x128 : Shape := ⟨4, ![4, 4096, 2, 128]⟩
abbrev S4x4096x2 : Shape := ⟨3, ![4, 4096, 2]⟩
abbrev S4x4096x2x1 : Shape := ⟨4, ![4, 4096, 2, 1]⟩
abbrev S4x4096x8x2x2x32 : Shape := ⟨6, ![4, 4096, 8, 2, 2, 32]⟩
abbrev S4x4096x8x2x1x32 : Shape := ⟨6, ![4, 4096, 8, 2, 1, 32]⟩
abbrev S4x4096x8x2x32 : Shape := ⟨5, ![4, 4096, 8, 2, 32]⟩
abbrev S4096x1x2x32 : Shape := ⟨4, ![4096, 1, 2, 32]⟩
abbrev S1x4096x1x2x32 : Shape := ⟨5, ![1, 4096, 1, 2, 32]⟩
abbrev S4x4096x2x2x2x32 : Shape := ⟨6, ![4, 4096, 2, 2, 2, 32]⟩
abbrev S4x4096x2x2x1x32 : Shape := ⟨6, ![4, 4096, 2, 2, 1, 32]⟩
abbrev S4x4096x2x2x32 : Shape := ⟨5, ![4, 4096, 2, 2, 32]⟩
abbrev S8192x1024 : Shape := ⟨2, ![8192, 1024]⟩
abbrev S16384x1024 : Shape := ⟨2, ![16384, 1024]⟩
abbrev S24576x1024 : Shape := ⟨2, ![24576, 1024]⟩
abbrev S8192x256 : Shape := ⟨2, ![8192, 256]⟩
abbrev S16384x256 : Shape := ⟨2, ![16384, 256]⟩
abbrev S24576x256 : Shape := ⟨2, ![24576, 256]⟩
abbrev S32x2x256x128 : Shape := ⟨4, ![32, 2, 256, 128]⟩
abbrev S32x1x2x256x128 : Shape := ⟨5, ![32, 1, 2, 256, 128]⟩

abbrev nBuf : Space → Nat
  | .hbm => 144
  | .vmem => 0
  | .smem => 0
  | _ => 0

abbrev hbmTy0_0 (i : Nat) : BufTy := match i % 128 with
  | 0 => ⟨S24576x4608, .f32⟩
  | 1 => ⟨S4096x64, .f32⟩
  | 2 => ⟨S4096x64, .f32⟩
  | 3 => ⟨S128, .f32⟩
  | 4 => ⟨S128, .f32⟩
  | 5 => ⟨S8192x4608, .f32⟩
  | 6 => ⟨S32x256x4608, .f32⟩
  | 7 => ⟨S32x256x1024, .f32⟩
  | 8 => ⟨S32x256x8x128, .f32⟩
  | 9 => ⟨S32x256x8x128, .f32⟩
  | 10 => ⟨S_, .f32⟩
  | 11 => ⟨S32x256x8, .f32⟩
  | 12 => ⟨S32x256x8x1, .f32⟩
  | 13 => ⟨S_, .f32⟩
  | 14 => ⟨S32x256x8x1, .f32⟩
  | 15 => ⟨S32x256x8x1, .f32⟩
  | 16 => ⟨S_, .f32⟩
  | 17 => ⟨S32x256x8x1, .f32⟩
  | 18 => ⟨S32x256x8x1, .f32⟩
  | 19 => ⟨S32x256x8x1, .f32⟩
  | 20 => ⟨S32x256x8x128, .f32⟩
  | 21 => ⟨S32x256x8x128, .f32⟩
  | 22 => ⟨S1x1x1x128, .f32⟩
  | 23 => ⟨S32x256x8x128, .f32⟩
  | 24 => ⟨S32x256x8x128, .f32⟩
  | 25 => ⟨S32x256x256, .f32⟩
  | 26 => ⟨S32x256x2x128, .f32⟩
  | 27 => ⟨S32x256x2x128, .f32⟩
  | 28 => ⟨S_, .f32⟩
  | 29 => ⟨S32x256x2, .f32⟩
  | 30 => ⟨S32x256x2x1, .f32⟩
  | 31 => ⟨S_, .f32⟩
  | 32 => ⟨S32x256x2x1, .f32⟩
  | 33 => ⟨S32x256x2x1, .f32⟩
  | 34 => ⟨S_, .f32⟩
  | 35 => ⟨S32x256x2x1, .f32⟩
  | 36 => ⟨S32x256x2x1, .f32⟩
  | 37 => ⟨S32x256x2x1, .f32⟩
  | 38 => ⟨S32x256x2x128, .f32⟩
  | 39 => ⟨S32x256x2x128, .f32⟩
  | 40 => ⟨S1x1x1x128, .f32⟩
  | 41 => ⟨S32x256x2x128, .f32⟩
  | 42 => ⟨S32x256x2x128, .f32⟩
  | 43 => ⟨S16384x4608, .f32⟩
  | 44 => ⟨S4x4096x4608, .f32⟩
  | 45 => ⟨S4x4096x1024, .f32⟩
  | 46 => ⟨S4x4096x8x128, .f32⟩
  | 47 => ⟨S4x4096x8x128, .f32⟩
  | 48 => ⟨S_, .f32⟩
  | 49 => ⟨S4x4096x8, .f32⟩
  | 50 => ⟨S4x4096x8x1, .f32⟩
  | 51 => ⟨S_, .f32⟩
  | 52 => ⟨S4x4096x8x1, .f32⟩
  | 53 => ⟨S4x4096x8x1, .f32⟩
  | 54 => ⟨S_, .f32⟩
  | 55 => ⟨S4x4096x8x1, .f32⟩
  | 56 => ⟨S4x4096x8x1, .f32⟩
  | 57 => ⟨S4x4096x8x1, .f32⟩
  | 58 => ⟨S4x4096x8x128, .f32⟩
  | 59 => ⟨S4x4096x8x128, .f32⟩
  | 60 => ⟨S1x1x1x128, .f32⟩
  | 61 => ⟨S4x4096x8x128, .f32⟩
  | 62 => ⟨S4x4096x8x128, .f32⟩
  | 63 => ⟨S4x4096x256, .f32⟩
  | 64 => ⟨S4x4096x2x128, .f32⟩
  | 65 => ⟨S4x4096x2x128, .f32⟩
  | 66 => ⟨S_, .f32⟩
  | 67 => ⟨S4x4096x2, .f32⟩
  | 68 => ⟨S4x4096x2x1, .f32⟩
  | 69 => ⟨S_, .f32⟩
  | 70 => ⟨S4x4096x2x1, .f32⟩
  | 71 => ⟨S4x4096x2x1, .f32⟩
  | 72 => ⟨S_, .f32⟩
  | 73 => ⟨S4x4096x2x1, .f32⟩
  | 74 => ⟨S4x4096x2x1, .f32⟩
  | 75 => ⟨S4x4096x2x1, .f32⟩
  | 76 => ⟨S4x4096x2x128, .f32⟩
  | 77 => ⟨S4x4096x2x128, .f32⟩
  | 78 => ⟨S1x1x1x128, .f32⟩
  | 79 => ⟨S4x4096x2x128, .f32⟩
  | 80 => ⟨S4x4096x2x128, .f32⟩
  | 81 => ⟨S4x4096x8x2x2x32, .f32⟩
  | 82 => ⟨S4x4096x8x2x1x32, .f32⟩
  | 83 => ⟨S4x4096x8x2x32, .f32⟩
  | 84 => ⟨S4x4096x8x2x1x32, .f32⟩
  | 85 => ⟨S4x4096x8x2x32, .f32⟩
  | 86 => ⟨S4096x1x2x32, .f32⟩
  | 87 => ⟨S4096x1x2x32, .f32⟩
  | 88 => ⟨S1x4096x1x2x32, .f32⟩
  | 89 => ⟨S4x4096x8x2x32, .f32⟩
  | 90 => ⟨S4x4096x8x2x32, .f32⟩
  | 91 => ⟨S1x4096x1x2x32, .f32⟩
  | 92 => ⟨S4x4096x8x2x32, .f32⟩
  | 93 => ⟨S4x4096x8x2x32, .f32⟩
  | 94 => ⟨S4x4096x8x2x32, .f32⟩
  | 95 => ⟨S1x4096x1x2x32, .f32⟩
  | 96 => ⟨S4x4096x8x2x32, .f32⟩
  | 97 => ⟨S4x4096x8x2x32, .f32⟩
  | 98 => ⟨S1x4096x1x2x32, .f32⟩
  | 99 => ⟨S4x4096x8x2x32, .f32⟩
  | 100 => ⟨S4x4096x8x2x32, .f32⟩
  | 101 => ⟨S4x4096x8x2x32, .f32⟩
  | 102 => ⟨S4x4096x8x2x1x32, .f32⟩
  | 103 => ⟨S4x4096x8x2x1x32, .f32⟩
  | 104 => ⟨S4x4096x8x2x2x32, .f32⟩
  | 105 => ⟨S4x4096x8x128, .f32⟩
  | 106 => ⟨S4x4096x2x2x2x32, .f32⟩
  | 107 => ⟨S4x4096x2x2x1x32, .f32⟩
  | 108 => ⟨S4x4096x2x2x32, .f32⟩
  | 109 => ⟨S4x4096x2x2x1x32, .f32⟩
  | 110 => ⟨S4x4096x2x2x32, .f32⟩
  | 111 => ⟨S4096x1x2x32, .f32⟩
  | 112 => ⟨S4096x1x2x32, .f32⟩
  | 113 => ⟨S1x4096x1x2x32, .f32⟩
  | 114 => ⟨S4x4096x2x2x32, .f32⟩
  | 115 => ⟨S4x4096x2x2x32, .f32⟩
  | 116 => ⟨S1x4096x1x2x32, .f32⟩
  | 117 => ⟨S4x4096x2x2x32, .f32⟩
  | 118 => ⟨S4x4096x2x2x32, .f32⟩
  | 119 => ⟨S4x4096x2x2x32, .f32⟩
  | 120 => ⟨S1x4096x1x2x32, .f32⟩
  | 121 => ⟨S4x4096x2x2x32, .f32⟩
  | 122 => ⟨S4x4096x2x2x32, .f32⟩
  | 123 => ⟨S1x4096x1x2x32, .f32⟩
  | 124 => ⟨S4x4096x2x2x32, .f32⟩
  | 125 => ⟨S4x4096x2x2x32, .f32⟩
  | 126 => ⟨S4x4096x2x2x32, .f32⟩
  | 127 => ⟨S4x4096x2x2x1x32, .f32⟩
  | _ => ⟨S24576x4608, .f32⟩

abbrev hbmTy0_1 (i : Nat) : BufTy := match i % 128 with
  | 0 => ⟨S4x4096x2x2x1x32, .f32⟩
  | 1 => ⟨S4x4096x2x2x2x32, .f32⟩
  | 2 => ⟨S4x4096x2x128, .f32⟩
  | 3 => ⟨S8192x1024, .f32⟩
  | 4 => ⟨S16384x1024, .f32⟩
  | 5 => ⟨S24576x1024, .f32⟩
  | 6 => ⟨S8192x256, .f32⟩
  | 7 => ⟨S16384x256, .f32⟩
  | 8 => ⟨S24576x256, .f32⟩
  | 9 => ⟨S_, .f32⟩
  | 10 => ⟨S24576x1024, .f32⟩
  | 11 => ⟨S24576x1024, .f32⟩
  | 12 => ⟨S24576x1024, .bf16⟩
  | 13 => ⟨S24576x256, .bf16⟩
  | 14 => ⟨S32x2x256x128, .f32⟩
  | 15 => ⟨S32x1x2x256x128, .f32⟩
  | _ => ⟨S24576x4608, .f32⟩

abbrev hbmTy (i : Nat) : BufTy := match i / 128 with
  | 0 => hbmTy0_0 i
  | 1 => hbmTy0_1 i
  | _ => ⟨S24576x4608, .f32⟩

abbrev bufTy : (tb : Table) → Fin (tcTables nBuf tb) → BufTy
  | .hbm, ⟨i, _⟩ => hbmTy i
  | _, _ => ⟨S24576x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_cst_9 : Ref sig .tc := ⟨.hbm, 69, rfl⟩
abbrev main_v54 : Ref sig .tc := ⟨.hbm, 70, rfl⟩
abbrev main_v55 : Ref sig .tc := ⟨.hbm, 71, rfl⟩
abbrev main_cst_10 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_cst_11 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩

abbrev nD : Nat := 1
abbrev τ : Topo := Topo.v7x

variable {F : FTy → Type} [FloatOps F]
-- ==== CombineKernel.lean ====
abbrev S49408x2048 : Shape := ⟨2, ![49408, 2048]⟩
abbrev S24576x2048 : Shape := ⟨2, ![24576, 2048]⟩
abbrev S24576x128 : Shape := ⟨2, ![24576, 128]⟩
abbrev S8x12288 : Shape := ⟨2, ![8, 12288]⟩
abbrev S2048 : Shape := ⟨1, ![2048]⟩
abbrev S48x1x2048 : Shape := ⟨3, ![48, 1, 2048]⟩
abbrev S1x2048 : Shape := ⟨2, ![1, 2048]⟩
abbrev S8192x2048 : Shape := ⟨2, ![8192, 2048]⟩
abbrev S16384x2048 : Shape := ⟨2, ![16384, 2048]⟩
abbrev S256x2048 : Shape := ⟨2, ![256, 2048]⟩
abbrev S256x128 : Shape := ⟨2, ![256, 128]⟩
abbrev S1x1x2048 : Shape := ⟨3, ![1, 1, 2048]⟩
abbrev S256x1 : Shape := ⟨2, ![256, 1]⟩
abbrev S256 : Shape := ⟨1, ![256]⟩
abbrev S32x256x2048 : Shape := ⟨3, ![32, 256, 2048]⟩
abbrev S4x4096x2048 : Shape := ⟨3, ![4, 4096, 2048]⟩

abbrev nBuf : Space → Nat
  | .hbm => 13
  | .vmem => 16
  | .smem => 0
  | _ => 0

abbrev bufTy : (tb : Table) → Fin (tcTables nBuf tb) → BufTy
  | .hbm, ⟨0, _⟩ => ⟨S49408x2048, .f32⟩
  | .hbm, ⟨1, _⟩ => ⟨S24576x2048, .f32⟩
  | .hbm, ⟨2, _⟩ => ⟨S24576x128, .f32⟩
  | .hbm, ⟨3, _⟩ => ⟨S8x12288, .f32⟩
  | .hbm, ⟨4, _⟩ => ⟨S2048, .f32⟩
  | .hbm, ⟨5, _⟩ => ⟨S2048, .f32⟩
  | .hbm, ⟨6, _⟩ => ⟨S48x1x2048, .f32⟩
  | .hbm, ⟨7, _⟩ => ⟨S1x2048, .f32⟩
  | .hbm, ⟨8, _⟩ => ⟨S1x2048, .f32⟩
  | .hbm, ⟨9, _⟩ => ⟨S8192x2048, .f32⟩
  | .hbm, ⟨10, _⟩ => ⟨S16384x2048, .f32⟩
  | .hbm, ⟨11, _⟩ => ⟨S32x256x2048, .f32⟩
  | .hbm, ⟨12, _⟩ => ⟨S4x4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x128, .f32⟩
  | .local _ .vmem, ⟨7, _⟩ => ⟨S256x128, .f32⟩
  | .local _ .vmem, ⟨8, _⟩ => ⟨S1x1x2048, .f32⟩
  | .local _ .vmem, ⟨9, _⟩ => ⟨S1x1x2048, .f32⟩
  | .local _ .vmem, ⟨10, _⟩ => ⟨S1x2048, .f32⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S49408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![96], ![false]⟩

def k0_cond1 (i : grid0.Coords) : BitVec 1 :=
  let arg0 : BitVec 32 := BitVec.ofNat 32 (i 0).val
  let c32_i32 : BitVec 32 := 32#32
  let v42 : BitVec 1 := Scalar.cmpi .slt arg0 c32_i32
  let v43 : BitVec 32 := Scalar.extui v42
  let c0_i32 : BitVec 32 := 0#32
  let v44 : BitVec 1 := Scalar.cmpi .ne v43 c0_i32
  v44

def k0_cond2 (i : grid0.Coords) : BitVec 1 :=
  let arg0 : BitVec 32 := BitVec.ofNat 32 (i 0).val
  let c32_i32_19 : BitVec 32 := 32#32
  let v45 : BitVec 1 := Scalar.cmpi .sge arg0 c32_i32_19
  let v46 : BitVec 32 := Scalar.extui v45
  let c0_i32_20 : BitVec 32 := 0#32
  let v47 : BitVec 1 := Scalar.cmpi .ne v46 c0_i32_20
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c96_i32 : BitVec 32 := 96#32
  let v0 : BitVec 32 := Scalar.addi c96_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c6_i32 : BitVec 32 := 6#32
  let v22 : BitVec 32 := Scalar.muli v21 c6_i32
  let c5_i32 : BitVec 32 := 5#32
  let v23 : BitVec 32 := Scalar.addi v22 c5_i32
  let c0_i32_7 : BitVec 32 := 0#32
  let c0_i32_8 : BitVec 32 := 0#32
  let c0_i32_9 : BitVec 32 := 0#32
  ![v23.toNat, c0_i32_7.toNat, c0_i32_8.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== CombineReferenceIdeal.lean ====
abbrev S49408x2048 : Shape := ⟨2, ![49408, 2048]⟩
abbrev S24576x2048 : Shape := ⟨2, ![24576, 2048]⟩
abbrev S24576x128 : Shape := ⟨2, ![24576, 128]⟩
abbrev S8x12288 : Shape := ⟨2, ![8, 12288]⟩
abbrev S2048 : Shape := ⟨1, ![2048]⟩
abbrev S24576x1 : Shape := ⟨2, ![24576, 1]⟩
abbrev S8192x2048 : Shape := ⟨2, ![8192, 2048]⟩
abbrev S32x256x2048 : Shape := ⟨3, ![32, 256, 2048]⟩
abbrev S1x12288 : Shape := ⟨2, ![1, 12288]⟩
abbrev S1x1x12288 : Shape := ⟨3, ![1, 1, 12288]⟩
abbrev S1x1x2048 : Shape := ⟨3, ![1, 1, 2048]⟩
abbrev S_ : Shape := ⟨0, ![]⟩
abbrev S32x256 : Shape := ⟨2, ![32, 256]⟩
abbrev S32x256x1 : Shape := ⟨3, ![32, 256, 1]⟩
abbrev S16384x2048 : Shape := ⟨2, ![16384, 2048]⟩
abbrev S4x4096x2048 : Shape := ⟨3, ![4, 4096, 2048]⟩
abbrev S4x12288 : Shape := ⟨2, ![4, 12288]⟩
abbrev S4x1x12288 : Shape := ⟨3, ![4, 1, 12288]⟩
abbrev S4x1x2048 : Shape := ⟨3, ![4, 1, 2048]⟩
abbrev S4x4096 : Shape := ⟨2, ![4, 4096]⟩
abbrev S4x4096x1 : Shape := ⟨3, ![4, 4096, 1]⟩

abbrev nBuf : Space → Nat
  | .hbm => 109
  | .vmem => 0
  | .smem => 0
  | _ => 0

abbrev bufTy : (tb : Table) → Fin (tcTables nBuf tb) → BufTy
  | .hbm, ⟨0, _⟩ => ⟨S49408x2048, .f32⟩
  | .hbm, ⟨1, _⟩ => ⟨S24576x2048, .f32⟩
  | .hbm, ⟨2, _⟩ => ⟨S24576x128, .f32⟩
  | .hbm, ⟨3, _⟩ => ⟨S8x12288, .f32⟩
  | .hbm, ⟨4, _⟩ => ⟨S2048, .f32⟩
  | .hbm, ⟨5, _⟩ => ⟨S2048, .f32⟩
  | .hbm, ⟨6, _⟩ => ⟨S24576x1, .f32⟩
  | .hbm, ⟨7, _⟩ => ⟨S24576x2048, .f32⟩
  | .hbm, ⟨8, _⟩ => ⟨S24576x2048, .f32⟩
  | .hbm, ⟨9, _⟩ => ⟨S24576x2048, .f32⟩
  | .hbm, ⟨10, _⟩ => ⟨S24576x1, .f32⟩
  | .hbm, ⟨11, _⟩ => ⟨S24576x2048, .f32⟩
  | .hbm, ⟨12, _⟩ => ⟨S24576x2048, .f32⟩
  | .hbm, ⟨13, _⟩ => ⟨S24576x2048, .f32⟩
  | .hbm, ⟨14, _⟩ => ⟨S24576x2048, .f32⟩
  | .hbm, ⟨15, _⟩ => ⟨S8192x2048, .f32⟩
  | .hbm, ⟨16, _⟩ => ⟨S32x256x2048, .f32⟩
  | .hbm, ⟨17, _⟩ => ⟨S8192x2048, .f32⟩
  | .hbm, ⟨18, _⟩ => ⟨S32x256x2048, .f32⟩
  | .hbm, ⟨19, _⟩ => ⟨S1x12288, .f32⟩
  | .hbm, ⟨20, _⟩ => ⟨S1x1x12288, .f32⟩
  | .hbm, ⟨21, _⟩ => ⟨S1x1x2048, .f32⟩
  | .hbm, ⟨22, _⟩ => ⟨S1x1x2048, .f32⟩
  | .hbm, ⟨23, _⟩ => ⟨S1x1x2048, .f32⟩
  | .hbm, ⟨24, _⟩ => ⟨S1x1x2048, .f32⟩
  | .hbm, ⟨25, _⟩ => ⟨S1x1x2048, .f32⟩
  | .hbm, ⟨26, _⟩ => ⟨S1x1x2048, .f32⟩
  | .hbm, ⟨27, _⟩ => ⟨S_, .f32⟩
  | .hbm, ⟨28, _⟩ => ⟨S32x256x2048, .f32⟩
  | .hbm, ⟨29, _⟩ => ⟨S32x256x2048, .f32⟩
  | .hbm, ⟨30, _⟩ => ⟨S32x256x2048, .f32⟩
  | .hbm, ⟨31, _⟩ => ⟨S32x256x2048, .f32⟩
  | .hbm, ⟨32, _⟩ => ⟨S32x256x2048, .f32⟩
  | .hbm, ⟨33, _⟩ => ⟨S_, .f32⟩
  | .hbm, ⟨34, _⟩ => ⟨S32x256, .f32⟩
  | .hbm, ⟨35, _⟩ => ⟨S32x256x1, .f32⟩
  | .hbm, ⟨36, _⟩ => ⟨S_, .f32⟩
  | .hbm, ⟨37, _⟩ => ⟨S32x256x1, .f32⟩
  | .hbm, ⟨38, _⟩ => ⟨S32x256x1, .f32⟩
  | .hbm, ⟨39, _⟩ => ⟨S32x256x2048, .f32⟩
  | .hbm, ⟨40, _⟩ => ⟨S32x256x2048, .f32⟩
  | .hbm, ⟨41, _⟩ => ⟨S32x256x2048, .f32⟩
  | .hbm, ⟨42, _⟩ => ⟨S_, .f32⟩
  | .hbm, ⟨43, _⟩ => ⟨S32x256, .f32⟩
  | .hbm, ⟨44, _⟩ => ⟨S32x256x1, .f32⟩
  | .hbm, ⟨45, _⟩ => ⟨S_, .f32⟩
  | .hbm, ⟨46, _⟩ => ⟨S32x256x1, .f32⟩
  | .hbm, ⟨47, _⟩ => ⟨S32x256x1, .f32⟩
  | .hbm, ⟨48, _⟩ => ⟨S32x256x2048, .f32⟩
  | .hbm, ⟨49, _⟩ => ⟨S32x256x2048, .f32⟩
  | .hbm, ⟨50, _⟩ => ⟨S_, .f32⟩
  | .hbm, ⟨51, _⟩ => ⟨S32x256x1, .f32⟩
  | .hbm, ⟨52, _⟩ => ⟨S32x256x1, .f32⟩
  | .hbm, ⟨53, _⟩ => ⟨S32x256x1, .f32⟩
  | .hbm, ⟨54, _⟩ => ⟨S32x256x2048, .f32⟩
  | .hbm, ⟨55, _⟩ => ⟨S32x256x2048, .f32⟩
  | .hbm, ⟨56, _⟩ => ⟨S1x1x2048, .f32⟩
  | .hbm, ⟨57, _⟩ => ⟨S32x256x2048, .f32⟩
  | .hbm, ⟨58, _⟩ => ⟨S32x256x2048, .f32⟩
  | .hbm, ⟨59, _⟩ => ⟨S1x1x2048, .f32⟩
  | .hbm, ⟨60, _⟩ => ⟨S32x256x2048, .f32⟩
  | .hbm, ⟨61, _⟩ => ⟨S32x256x2048, .f32⟩
  | .hbm, ⟨62, _⟩ => ⟨S16384x2048, .f32⟩
  | .hbm, ⟨63, _⟩ => ⟨S4x4096x2048, .f32⟩
  | .hbm, ⟨64, _⟩ => ⟨S16384x2048, .f32⟩
  | .hbm, ⟨65, _⟩ => ⟨S4x4096x2048, .f32⟩
  | .hbm, ⟨66, _⟩ => ⟨S4x12288, .f32⟩
  | .hbm, ⟨67, _⟩ => ⟨S4x1x12288, .f32⟩
  | .hbm, ⟨68, _⟩ => ⟨S4x1x2048, .f32⟩
  | .hbm, ⟨69, _⟩ => ⟨S4x1x2048, .f32⟩
  | .hbm, ⟨70, _⟩ => ⟨S4x1x2048, .f32⟩
  | .hbm, ⟨71, _⟩ => ⟨S4x1x2048, .f32⟩
  | .hbm, ⟨72, _⟩ => ⟨S4x1x2048, .f32⟩
  | .hbm, ⟨73, _⟩ => ⟨S4x1x2048, .f32⟩
  | .hbm, ⟨74, _⟩ => ⟨S_, .f32⟩
  | .hbm, ⟨75, _⟩ => ⟨S4x4096x2048, .f32⟩
  | .hbm, ⟨76, _⟩ => ⟨S4x4096x2048, .f32⟩
  | .hbm, ⟨77, _⟩ => ⟨S4x4096x2048, .f32⟩
  | .hbm, ⟨78, _⟩ => ⟨S4x4096x2048, .f32⟩
  | .hbm, ⟨79, _⟩ => ⟨S4x4096x2048, .f32⟩
  | .hbm, ⟨80, _⟩ => ⟨S_, .f32⟩
  | .hbm, ⟨81, _⟩ => ⟨S4x4096, .f32⟩
  | .hbm, ⟨82, _⟩ => ⟨S4x4096x1, .f32⟩
  | .hbm, ⟨83, _⟩ => ⟨S_, .f32⟩
  | .hbm, ⟨84, _⟩ => ⟨S4x4096x1, .f32⟩
  | .hbm, ⟨85, _⟩ => ⟨S4x4096x1, .f32⟩
  | .hbm, ⟨86, _⟩ => ⟨S4x4096x2048, .f32⟩
  | .hbm, ⟨87, _⟩ => ⟨S4x4096x2048, .f32⟩
  | .hbm, ⟨88, _⟩ => ⟨S4x4096x2048, .f32⟩
  | .hbm, ⟨89, _⟩ => ⟨S_, .f32⟩
  | .hbm, ⟨90, _⟩ => ⟨S4x4096, .f32⟩
  | .hbm, ⟨91, _⟩ => ⟨S4x4096x1, .f32⟩
  | .hbm, ⟨92, _⟩ => ⟨S_, .f32⟩
  | .hbm, ⟨93, _⟩ => ⟨S4x4096x1, .f32⟩
  | .hbm, ⟨94, _⟩ => ⟨S4x4096x1, .f32⟩
  | .hbm, ⟨95, _⟩ => ⟨S4x4096x2048, .f32⟩
  | .hbm, ⟨96, _⟩ => ⟨S4x4096x2048, .f32⟩
  | .hbm, ⟨97, _⟩ => ⟨S_, .f32⟩
  | .hbm, ⟨98, _⟩ => ⟨S4x4096x1, .f32⟩
  | .hbm, ⟨99, _⟩ => ⟨S4x4096x1, .f32⟩
  | .hbm, ⟨100, _⟩ => ⟨S4x4096x1, .f32⟩
  | .hbm, ⟨101, _⟩ => ⟨S4x4096x2048, .f32⟩
  | .hbm, ⟨102, _⟩ => ⟨S4x4096x2048, .f32⟩
  | .hbm, ⟨103, _⟩ => ⟨S1x1x2048, .f32⟩
  | .hbm, ⟨104, _⟩ => ⟨S4x4096x2048, .f32⟩
  | .hbm, ⟨105, _⟩ => ⟨S4x4096x2048, .f32⟩
  | .hbm, ⟨106, _⟩ => ⟨S1x1x2048, .f32⟩
  | .hbm, ⟨107, _⟩ => ⟨S4x4096x2048, .f32⟩
  | .hbm, ⟨108, _⟩ => ⟨S4x4096x2048, .f32⟩
  | _, _ => ⟨S49408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_0 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_5 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_cst_6 : Ref sig .tc := ⟨.hbm, 80, rfl⟩
abbrev main_v67 : Ref sig .tc := ⟨.hbm, 81, rfl⟩
abbrev main_v68 : Ref sig .tc := ⟨.hbm, 82, rfl⟩
abbrev main_cst_7 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_cst_8 : Ref sig .tc := ⟨.hbm, 89, rfl⟩
abbrev main_v74 : Ref sig .tc := ⟨.hbm, 90, rfl⟩
abbrev main_v75 : Ref sig .tc := ⟨.hbm, 91, rfl⟩
abbrev main_cst_9 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_10 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩

abbrev nD : Nat := 1
abbrev τ : Topo := Topo.v7x

variable {F : FTy → Type} [FloatOps F]
-- ==== RouteKernel.lean ====
abbrev S24576x128 : Shape := ⟨2, ![24576, 128]⟩
abbrev S512x512 : Shape := ⟨2, ![512, 512]⟩
abbrev S_ : Shape := ⟨0, ![]⟩
abbrev S8x128 : Shape := ⟨2, ![8, 128]⟩
abbrev S512x128 : Shape := ⟨2, ![512, 128]⟩
abbrev S512 : Shape := ⟨1, ![512]⟩
abbrev S512x1 : Shape := ⟨2, ![512, 1]⟩
abbrev S1x128 : Shape := ⟨2, ![1, 128]⟩
abbrev S128 : Shape := ⟨1, ![128]⟩
abbrev S24576x2 : Shape := ⟨2, ![24576, 2]⟩

abbrev nBuf : Space → Nat
  | .hbm => 15
  | .vmem => 9
  | .smem => 0
  | _ => 0

abbrev bufTy : (tb : Table) → Fin (tcTables nBuf tb) → BufTy
  | .hbm, ⟨0, _⟩ => ⟨S24576x128, .f32⟩
  | .hbm, ⟨1, _⟩ => ⟨S512x512, .i32⟩
  | .hbm, ⟨2, _⟩ => ⟨S512x512, .i32⟩
  | .hbm, ⟨3, _⟩ => ⟨S512x512, .i1⟩
  | .hbm, ⟨4, _⟩ => ⟨S_, .f32⟩
  | .hbm, ⟨5, _⟩ => ⟨S_, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .bf16⟩
  | .hbm, ⟨10, _⟩ => ⟨S24576x128, .i32⟩
  | .hbm, ⟨11, _⟩ => ⟨S24576x128, .f32⟩
  | .hbm, ⟨12, _⟩ => ⟨S8x128, .f32⟩
  | .hbm, ⟨13, _⟩ => ⟨S24576x2, .f32⟩
  | .hbm, ⟨14, _⟩ => ⟨S24576x2, .i32⟩
  | .local _ .vmem, ⟨0, _⟩ => ⟨S512x128, .f32⟩
  | .local _ .vmem, ⟨1, _⟩ => ⟨S512x128, .f32⟩
  | .local _ .vmem, ⟨2, _⟩ => ⟨S512x512, .bf16⟩
  | .local _ .vmem, ⟨3, _⟩ => ⟨S512x128, .i32⟩
  | .local _ .vmem, ⟨4, _⟩ => ⟨S512x128, .i32⟩
  | .local _ .vmem, ⟨5, _⟩ => ⟨S512x128, .f32⟩
  | .local _ .vmem, ⟨6, _⟩ => ⟨S512x128, .f32⟩
  | .local _ .vmem, ⟨7, _⟩ => ⟨S8x128, .f32⟩
  | .local _ .vmem, ⟨8, _⟩ => ⟨S8x128, .f32⟩
  | _, _ => ⟨S24576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RouteReferenceIdeal.lean ====
abbrev S24576x128 : Shape := ⟨2, ![24576, 128]⟩
abbrev S24576x4 : Shape := ⟨2, ![24576, 4]⟩
abbrev S24576x32 : Shape := ⟨2, ![24576, 32]⟩
abbrev S24576x4x8 : Shape := ⟨3, ![24576, 4, 8]⟩
abbrev S_ : Shape := ⟨0, ![]⟩
abbrev S24576 : Shape := ⟨1, ![24576]⟩
abbrev S24576x1 : Shape := ⟨2, ![24576, 1]⟩
abbrev S24576x1x1 : Shape := ⟨3, ![24576, 1, 1]⟩
abbrev S1 : Shape := ⟨1, ![1]⟩
abbrev S1x1x1 : Shape := ⟨3, ![1, 1, 1]⟩
abbrev S24576x1x8 : Shape := ⟨3, ![24576, 1, 8]⟩
abbrev S24576x8 : Shape := ⟨2, ![24576, 8]⟩
abbrev S24576x2 : Shape := ⟨2, ![24576, 2]⟩

abbrev nBuf : Space → Nat
  | .hbm => 97
  | .vmem => 0
  | .smem => 0
  | _ => 0

abbrev bufTy : (tb : Table) → Fin (tcTables nBuf tb) → BufTy
  | .hbm, ⟨0, _⟩ => ⟨S24576x128, .f32⟩
  | .hbm, ⟨1, _⟩ => ⟨S24576x4, .f32⟩
  | .hbm, ⟨2, _⟩ => ⟨S24576x32, .f32⟩
  | .hbm, ⟨3, _⟩ => ⟨S24576x4x8, .f32⟩
  | .hbm, ⟨4, _⟩ => ⟨S_, .f32⟩
  | .hbm, ⟨5, _⟩ => ⟨S24576, .f32⟩
  | .hbm, ⟨6, _⟩ => ⟨S_, .f32⟩
  | .hbm, ⟨7, _⟩ => ⟨S24576, .f32⟩
  | .hbm, ⟨8, _⟩ => ⟨S24576, .f32⟩
  | .hbm, ⟨9, _⟩ => ⟨S24576x1, .f32⟩
  | .hbm, ⟨10, _⟩ => ⟨S24576x4, .f32⟩
  | .hbm, ⟨11, _⟩ => ⟨S24576x4, .f32⟩
  | .hbm, ⟨12, _⟩ => ⟨S24576x4, .f32⟩
  | .hbm, ⟨13, _⟩ => ⟨S_, .f32⟩
  | .hbm, ⟨14, _⟩ => ⟨S24576, .f32⟩
  | .hbm, ⟨15, _⟩ => ⟨S24576x1, .f32⟩
  | .hbm, ⟨16, _⟩ => ⟨S24576x4, .f32⟩
  | .hbm, ⟨17, _⟩ => ⟨S24576x4, .f32⟩
  | .hbm, ⟨18, _⟩ => ⟨S24576x1, .f32⟩
  | .hbm, ⟨19, _⟩ => ⟨S24576x1, .i32⟩
  | .hbm, ⟨20, _⟩ => ⟨S24576, .i32⟩
  | .hbm, ⟨21, _⟩ => ⟨S24576x1, .i32⟩
  | .hbm, ⟨22, _⟩ => ⟨S_, .i32⟩
  | .hbm, ⟨23, _⟩ => ⟨S24576x1, .i32⟩
  | .hbm, ⟨24, _⟩ => ⟨S24576x1, .i1⟩
  | .hbm, ⟨25, _⟩ => ⟨S_, .i32⟩
  | .hbm, ⟨26, _⟩ => ⟨S24576x1, .i32⟩
  | .hbm, ⟨27, _⟩ => ⟨S24576x1, .i32⟩
  | .hbm, ⟨28, _⟩ => ⟨S24576x1, .i32⟩
  | .hbm, ⟨29, _⟩ => ⟨S24576x1x1, .i32⟩
  | .hbm, ⟨30, _⟩ => ⟨S1, .i32⟩
  | .hbm, ⟨31, _⟩ => ⟨S_, .i32⟩
  | .hbm, ⟨32, _⟩ => ⟨S24576x1x1, .i32⟩
  | .hbm, ⟨33, _⟩ => ⟨S24576x1x1, .i1⟩
  | .hbm, ⟨34, _⟩ => ⟨S1x1x1, .i32⟩
  | .hbm, ⟨35, _⟩ => ⟨S24576x1x1, .i32⟩
  | .hbm, ⟨36, _⟩ => ⟨S24576x1x1, .i1⟩
  | .hbm, ⟨37, _⟩ => ⟨S24576x1x1, .i1⟩
  | .hbm, ⟨38, _⟩ => ⟨S_, .i1⟩
  | .hbm, ⟨39, _⟩ => ⟨S24576x1, .i1⟩
  | .hbm, ⟨40, _⟩ => ⟨S24576x1, .f32⟩
  | .hbm, ⟨41, _⟩ => ⟨S_, .f32⟩
  | .hbm, ⟨42, _⟩ => ⟨S24576x1, .f32⟩
  | .hbm, ⟨43, _⟩ => ⟨S24576x1, .f32⟩
  | .hbm, ⟨44, _⟩ => ⟨S24576x1x1, .i32⟩
  | .hbm, ⟨45, _⟩ => ⟨S_, .i32⟩
  | .hbm, ⟨46, _⟩ => ⟨S24576x1x1, .i32⟩
  | .hbm, ⟨47, _⟩ => ⟨S24576x1x1, .i1⟩
  | .hbm, ⟨48, _⟩ => ⟨S_, .i32⟩
  | .hbm, ⟨49, _⟩ => ⟨S24576x1x1, .i32⟩
  | .hbm, ⟨50, _⟩ => ⟨S24576x1x1, .i32⟩
  | .hbm, ⟨51, _⟩ => ⟨S24576x1x1, .i32⟩
  | .hbm, ⟨52, _⟩ => ⟨S1, .i32⟩
  | .hbm, ⟨53, _⟩ => ⟨S_, .i32⟩
  | .hbm, ⟨54, _⟩ => ⟨S24576x1x1, .i32⟩
  | .hbm, ⟨55, _⟩ => ⟨S24576x1x1, .i1⟩
  | .hbm, ⟨56, _⟩ => ⟨S1x1x1, .i32⟩
  | .hbm, ⟨57, _⟩ => ⟨S24576x1x1, .i32⟩
  | .hbm, ⟨58, _⟩ => ⟨S24576x1x1, .i1⟩
  | .hbm, ⟨59, _⟩ => ⟨S24576x1x1, .i1⟩
  | .hbm, ⟨60, _⟩ => ⟨S_, .i1⟩
  | .hbm, ⟨61, _⟩ => ⟨S24576x1, .i1⟩
  | .hbm, ⟨62, _⟩ => ⟨S24576x1x8, .f32⟩
  | .hbm, ⟨63, _⟩ => ⟨S24576x1x8, .i1⟩
  | .hbm, ⟨64, _⟩ => ⟨S_, .f32⟩
  | .hbm, ⟨65, _⟩ => ⟨S24576x1x8, .f32⟩
  | .hbm, ⟨66, _⟩ => ⟨S24576x1x8, .f32⟩
  | .hbm, ⟨67, _⟩ => ⟨S24576x8, .f32⟩
  | .hbm, ⟨68, _⟩ => ⟨S_, .f32⟩
  | .hbm, ⟨69, _⟩ => ⟨S24576, .f32⟩
  | .hbm, ⟨70, _⟩ => ⟨S_, .f32⟩
  | .hbm, ⟨71, _⟩ => ⟨S24576, .f32⟩
  | .hbm, ⟨72, _⟩ => ⟨S24576, .f32⟩
  | .hbm, ⟨73, _⟩ => ⟨S24576x1, .f32⟩
  | .hbm, ⟨74, _⟩ => ⟨S24576x8, .f32⟩
  | .hbm, ⟨75, _⟩ => ⟨S24576x8, .f32⟩
  | .hbm, ⟨76, _⟩ => ⟨S24576x8, .f32⟩
  | .hbm, ⟨77, _⟩ => ⟨S_, .f32⟩
  | .hbm, ⟨78, _⟩ => ⟨S24576, .f32⟩
  | .hbm, ⟨79, _⟩ => ⟨S24576x1, .f32⟩
  | .hbm, ⟨80, _⟩ => ⟨S24576x8, .f32⟩
  | .hbm, ⟨81, _⟩ => ⟨S24576x8, .f32⟩
  | .hbm, ⟨82, _⟩ => ⟨S24576x2, .f32⟩
  | .hbm, ⟨83, _⟩ => ⟨S24576x2, .i32⟩
  | .hbm, ⟨84, _⟩ => ⟨S24576x2, .f32⟩
  | .hbm, ⟨85, _⟩ => ⟨S24576x2, .f32⟩
  | .hbm, ⟨86, _⟩ => ⟨S_, .f32⟩
  | .hbm, ⟨87, _⟩ => ⟨S24576, .f32⟩
  | .hbm, ⟨88, _⟩ => ⟨S24576x1, .f32⟩
  | .hbm, ⟨89, _⟩ => ⟨S24576x2, .f32⟩
  | .hbm, ⟨90, _⟩ => ⟨S24576x2, .f32⟩
  | .hbm, ⟨91, _⟩ => ⟨S24576x1, .i32⟩
  | .hbm, ⟨92, _⟩ => ⟨S_, .i32⟩
  | .hbm, ⟨93, _⟩ => ⟨S24576x1, .i32⟩
  | .hbm, ⟨94, _⟩ => ⟨S24576x1, .i32⟩
  | .hbm, ⟨95, _⟩ => ⟨S24576x2, .i32⟩
  | .hbm, ⟨96, _⟩ => ⟨S24576x2, .i32⟩
  | _, _ => ⟨S24576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_values : Ref sig .tc := ⟨.hbm, 18, rfl⟩
abbrev main_indices : Ref sig .tc := ⟨.hbm, 19, rfl⟩
abbrev main_v14 : Ref sig .tc := ⟨.hbm, 20, rfl⟩
abbrev main_v15 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_cst : Ref sig .tc := ⟨.hbm, 41, rfl⟩
abbrev main_call0_v14 : Ref sig .tc := ⟨.hbm, 42, rfl⟩
abbrev main_v16 : Ref sig .tc := ⟨.hbm, 43, rfl⟩
abbrev main_v17 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_1 : Ref sig .tc := ⟨.hbm, 52, rfl⟩
abbrev main_call1_c_2 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_c_3 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_cst : Ref sig .tc := ⟨.hbm, 64, rfl⟩
abbrev main_call1_v14 : Ref sig .tc := ⟨.hbm, 65, rfl⟩
abbrev main_v18 : Ref sig .tc := ⟨.hbm, 66, rfl⟩
abbrev main_v19 : Ref sig .tc := ⟨.hbm, 67, rfl⟩
abbrev main_cst_2 : Ref sig .tc := ⟨.hbm, 68, rfl⟩
abbrev main_v20 : Ref sig .tc := ⟨.hbm, 69, rfl⟩
abbrev main_cst_3 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_cst_4 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_values_5 : Ref sig .tc := ⟨.hbm, 82, rfl⟩
abbrev main_indices_6 : Ref sig .tc := ⟨.hbm, 83, rfl⟩
abbrev main_v31 : Ref sig .tc := ⟨.hbm, 84, rfl⟩
abbrev main_v32 : Ref sig .tc := ⟨.hbm, 85, rfl⟩
abbrev main_cst_7 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_c : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩

abbrev nD : Nat := 1
abbrev τ : Topo := Topo.v7x

variable {F : FTy → Type} [FloatOps F]
-- ==== Proof.Attention.Row.lean ====
/- One row of attention over two groups of keys: its terms on the extended reals. -/
module

public import Idealize.ShloMosaic.Lib.Pointwise

@[expose] public section

noncomputable section

namespace Cert.Attention

open Idealize.ShloMosaic

/-- The largest score of a row, from `-∞` up. -/
def top {n : ℕ} (s : Fin n → EReal) : EReal := Finset.fold max (Ideal.ofBits FTy.f32 4286578688#32) s Finset.univ

/-- A row's output over its own keys' scores `s` and values `v` and the cached keys' scores `c` and values `w`: the
    weighted values summed first, divided by the sum of the weights after. -/
def lateDivided {n k : ℕ} (s v : Fin n → EReal) (c w : Fin k → EReal) : EReal :=
  Ideal.div (∑ j, Ideal.exp (s j - max (top s) (top c)) * v j + ∑ j, Ideal.exp (c j - max (top s) (top c)) * w j)
    (∑ j, Ideal.exp (s j - max (top s) (top c)) + ∑ j, Ideal.exp (c j - max (top s) (top c)))

/-- Equal scores and equal values give equal outputs. -/
theorem lateDivided_congr {n k : ℕ} {s s' v v' : Fin n → EReal} {c c' w w' : Fin k → EReal} (hs : ∀ j, s j = s' j)
    (hv : ∀ j, v j = v' j) (hc : ∀ j, c j = c' j) (hw : ∀ j, w j = w' j) : lateDivided s v c w = lateDivided s' v' c' w' := by
  rw [funext hs, funext hv, funext hc, funext hw]

end Cert.Attention

end
-- ==== Proof.Attention.Block.lean ====
/- One row of one head of the attention kernel: what the body computes from the row's query, the context's keys and
   values and the cache's, and that the four stored tiles are such rows. -/
module

public import proofs.«01_k».proof.Proof.Gen.KernelIdeal.Skeleton
public import proofs.«01_k».proof.Proof.Attention.Row
public import Idealize.ShloMosaic.Lib.Pointwise

@[expose] public section

set_option maxRecDepth 16384

noncomputable section

namespace Cert.KernelIdeal.Attention

open Cert.KernelIdeal Cert.KernelIdeal.Gen Cert.Attention Idealize.ShloMosaic

variable (v0 v2 : FVec Ideal S128x128 .bf16) (v5 : FVec Ideal S4096x128 .bf16) (v10 v33 : FVec Ideal S1x1x1x512x128 .f32)
  (v23 : FVec Ideal S4096x128 .f32)

/-- The score of a query row against one of the context's own keys. -/
theorem own_score (r : Fin 256) (j : Fin 4096) :
    k0_pay5 (F := Ideal) v0 v2 v5 (ix2 r j) = ∑ k, k0_pay4 (F := Ideal) v0 v2 (ix2 r k) * v5 (ix2 j k) := by
  pointwise [k0_pay5]

/-- The score of a query row against a cached key. -/
theorem cached_score (r : Fin 256) (j : Fin 512) :
    k0_pay6 (F := Ideal) v0 v2 v10 (ix2 r j) = ∑ k, k0_pay4 (F := Ideal) v0 v2 (ix2 r k) * v10 (ix5 0 0 0 j k) := by
  pointwise [k0_pay6]

/-- The reduction to a row's largest score, over the context's own keys. -/
theorem top_own (x : FVec Ideal S256x4096 .f32) :
    multiReduction .maximumf [1] S256 x 0xFF800000#32 reduces_S256x4096_S256 (.inl rfl) rfl
      = fun i => top fun j : Fin 4096 => x (ix2 (i 0) j) := by
  funext i
  refine (Ideal.multiReduction_maximumf_single x _ reduces_S256x4096_S256 _ rfl i).trans ?_
  refine congrArg (fun f => Finset.fold max (Ideal.ofBits FTy.f32 4286578688#32) f Finset.univ) (funext fun j => congrArg x ?_)
  funext a
  fin_cases a <;> rfl

/-- The same over the cached keys. -/
theorem top_cached (x : FVec Ideal S256x512 .f32) :
    multiReduction .maximumf [1] S256 x 0xFF800000#32 reduces_S256x512_S256 (.inl rfl) rfl
      = fun i => top fun j : Fin 512 => x (ix2 (i 0) j) := by
  funext i
  refine (Ideal.multiReduction_maximumf_single x _ reduces_S256x512_S256 _ rfl i).trans ?_
  refine congrArg (fun f => Finset.fold max (Ideal.ofBits FTy.f32 4286578688#32) f Finset.univ) (funext fun j => congrArg x ?_)
  funext a
  fin_cases a <;> rfl

/-- The row's shift: the larger of the two groups' largest scores. -/
theorem shift (r : Fin 256) : k0_pay7 (F := Ideal) v0 v2 v5 v10 (ix2 r 0) = max (top fun j => k0_pay5 (F := Ideal) v0 v2 v5 (ix2 r j)) (top fun j => k0_pay6 (F := Ideal) v0 v2 v10 (ix2 r j)) := by
  refine (congrArg₂ (fun a b => maximumf (F := Ideal) (φ := .f32) (shapeCast S256x1 a shapeCasts_S256_S256x1) (shapeCast S256x1 b shapeCasts_S256_S256x1) (ix2 r 0))
    (top_own _) (top_cached _)).trans ?_
  pointwise
/-- The same in the second pair of heads. -/
theorem second_shift (r : Fin 256) : k0_pay19 (F := Ideal) v0 v2 v5 v10 (ix2 r 0)
    = max (top fun j => k0_pay17 (F := Ideal) v0 v2 v5 (ix2 r j)) (top fun j => k0_pay18 (F := Ideal) v0 v2 v10 (ix2 r j)) := by
  refine (congrArg₂ (fun a b => maximumf (F := Ideal) (φ := .f32) (shapeCast S256x1 a shapeCasts_S256_S256x1)
    (shapeCast S256x1 b shapeCasts_S256_S256x1) (ix2 r 0)) (top_own _) (top_cached _)).trans ?_
  pointwise

/-- The row's output, over its scores. -/
theorem row_of_scores (r : Fin 256) (d : Fin 128) :
    k0_pay13 (F := Ideal) (k0_pay9 v0 v2 v5 v10 v23) (k0_pay11 v0 v2 v5 v10) (k0_pay12 v0 v2 v5 v10) v33 (ix2 r d)
      = lateDivided (fun j => k0_pay5 (F := Ideal) v0 v2 v5 (ix2 r j)) (fun j => v23 (ix2 j d))
          (fun j => k0_pay6 (F := Ideal) v0 v2 v10 (ix2 r j)) (fun j => v33 (ix5 0 0 0 j d)) := by
  pointwise [k0_pay13, k0_pay9, k0_pay11, k0_pay12, k0_pay10, k0_pay8, shift, lateDivided]

/-- The second pair of heads is the same computation as the first. -/
theorem second_scores :
    k0_pay17 (F := Ideal) v0 v2 v5 = k0_pay5 v0 v2 v5 ∧ k0_pay18 (F := Ideal) v0 v2 v10 = k0_pay6 v0 v2 v10 := ⟨rfl, rfl⟩

/-- The row's output in the second pair, over its scores. -/
theorem second_row_of_scores (r : Fin 256) (d : Fin 128) :
    k0_pay1 (F := Ideal) (k0_pay18 v0 v2 v10) (k0_pay19 v0 v2 v5 v10) (k0_pay21 v0 v2 v5 v10) (k0_pay22 v0 v2 v5 v10) v23 v33 (ix2 r d)
      = lateDivided (fun j => k0_pay5 (F := Ideal) v0 v2 v5 (ix2 r j)) (fun j => v23 (ix2 j d))
          (fun j => k0_pay6 (F := Ideal) v0 v2 v10 (ix2 r j)) (fun j => v33 (ix5 0 0 0 j d)) := by
  rw [← (second_scores v0 v2 v5 v10).1, ← (second_scores v0 v2 v5 v10).2]
  pointwise [k0_pay1, second_shift, k0_pay21, k0_pay22, k0_pay20, lateDivided]

/-- The first head's rows lie in the upper half of the stacked pair, the second's in the lower. -/
theorem upper (r : Fin 128) (k : Fin 128) : k0_pay4 (F := Ideal) v0 v2 (ix2 ⟨r, by omega⟩ k) = v0 (ix2 r k) := by
  pointwise [k0_pay4]

theorem lower (r : Fin 128) (k : Fin 128) : k0_pay4 (F := Ideal) v0 v2 (ix2 ⟨128 + r, by omega⟩ k) = v2 (ix2 r k) := by
  pointwise [k0_pay4]

/-- The tile of the first head. -/
theorem head0 (r d : Fin 128) :
    k0_pay14 (F := Ideal) (k0_pay9 v0 v2 v5 v10 v23) (k0_pay11 v0 v2 v5 v10) (k0_pay12 v0 v2 v5 v10) v33 (ix2 r d)
      = lateDivided (fun j => ∑ k, v0 (ix2 r k) * v5 (ix2 j k)) (fun j => v23 (ix2 j d))
          (fun j => ∑ k, v0 (ix2 r k) * v10 (ix5 0 0 0 j k)) (fun j => v33 (ix5 0 0 0 j d)) := by
  pointwise [k0_pay14]
  refine (row_of_scores _ _ _ _ _ _ _ _).trans (lateDivided_congr (fun j => (own_score _ _ _ _ _).trans ?_) (fun j => rfl)
    (fun j => (cached_score _ _ _ _ _).trans ?_) (fun j => rfl))
  all_goals exact Finset.sum_congr rfl fun k _ => congrArg (· * _) (upper v0 v2 r k)

/-- The tile of the second head. -/
theorem head1 (r d : Fin 128) :
    k0_pay15 (F := Ideal) (k0_pay9 v0 v2 v5 v10 v23) (k0_pay11 v0 v2 v5 v10) (k0_pay12 v0 v2 v5 v10) v33 (ix2 r d)
      = lateDivided (fun j => ∑ k, v2 (ix2 r k) * v5 (ix2 j k)) (fun j => v23 (ix2 j d))
          (fun j => ∑ k, v2 (ix2 r k) * v10 (ix5 0 0 0 j k)) (fun j => v33 (ix5 0 0 0 j d)) := by
  pointwise [k0_pay15]
  refine (row_of_scores _ _ _ _ _ _ _ _).trans (lateDivided_congr (fun j => (own_score _ _ _ _ _).trans ?_) (fun j => rfl)
    (fun j => (cached_score _ _ _ _ _).trans ?_) (fun j => rfl))
  all_goals exact Finset.sum_congr rfl fun k _ => congrArg (· * _) (lower v0 v2 r k)

/-- The tile of the third head. -/
theorem head2 (r d : Fin 128) :
    k0_pay2 (F := Ideal) (k0_pay18 v0 v2 v10) (k0_pay19 v0 v2 v5 v10) (k0_pay21 v0 v2 v5 v10) (k0_pay22 v0 v2 v5 v10) v23 v33 (ix2 r d)
      = lateDivided (fun j => ∑ k, v0 (ix2 r k) * v5 (ix2 j k)) (fun j => v23 (ix2 j d))
          (fun j => ∑ k, v0 (ix2 r k) * v10 (ix5 0 0 0 j k)) (fun j => v33 (ix5 0 0 0 j d)) := by
  pointwise [k0_pay2]
  refine (second_row_of_scores _ _ _ _ _ _ _ _).trans (lateDivided_congr (fun j => (own_score _ _ _ _ _).trans ?_) (fun j => rfl)
    (fun j => (cached_score _ _ _ _ _).trans ?_) (fun j => rfl))
  all_goals exact Finset.sum_congr rfl fun k _ => congrArg (· * _) (upper v0 v2 r k)

/-- The tile of the fourth head. -/
theorem head3 (r d : Fin 128) :
    k0_pay3 (F := Ideal) (k0_pay18 v0 v2 v10) (k0_pay19 v0 v2 v5 v10) (k0_pay21 v0 v2 v5 v10) (k0_pay22 v0 v2 v5 v10) v23 v33 (ix2 r d)
      = lateDivided (fun j => ∑ k, v2 (ix2 r k) * v5 (ix2 j k)) (fun j => v23 (ix2 j d))
          (fun j => ∑ k, v2 (ix2 r k) * v10 (ix5 0 0 0 j k)) (fun j => v33 (ix5 0 0 0 j d)) := by
  pointwise [k0_pay3]
  refine (second_row_of_scores _ _ _ _ _ _ _ _).trans (lateDivided_congr (fun j => (own_score _ _ _ _ _).trans ?_) (fun j => rfl)
    (fun j => (cached_score _ _ _ _ _).trans ?_) (fun j => rfl))
  all_goals exact Finset.sum_congr rfl fun k _ => congrArg (· * _) (lower v0 v2 r k)

end Cert.KernelIdeal.Attention

end
-- ==== Proof.Attention.Array.lean ====
/- The attention kernel's result array: each element is one row's output, over the row's query and the keys and values of
   its context and of the cache. -/
module

public import proofs.«01_k».proof.Proof.Gen.KernelIdeal.Value
public import proofs.«01_k».proof.Proof.Attention.Block
public import Idealize.ShloMosaic.Lib.Pipeline.ValueKit

@[expose] public section

set_option maxRecDepth 16384

noncomputable section

namespace Cert.KernelIdeal.Attention

open Cert.KernelIdeal Cert.KernelIdeal.Gen Cert.Attention Idealize.ShloMosaic Idealize.ShloMosaic.TcCoe
open Idealize.ShloMosaic.Pipeline (Dat)

variable (m : (ℓ : Loc nD τ sig) → Buf (Elt Ideal) ℓ)

/-- The blocks' places in the arrays. -/
theorem idx : ∀ t : Fin cfg0.N,
    win0_0.index t = ![64 + t.val / 64 * 32 + t.val % 32, t.val / 32 % 2] ∧ win0_1.index t = ![2 + t.val / 64, t.val / 32 % 2]
      ∧ win0_2.index t = ![2 + t.val / 64, 10 + t.val / 32 % 2] ∧ win0_3.index t = ![t.val / 64, 0, t.val / 32 % 2, 0, 0]
      ∧ win0_4.index t = ![t.val / 64, 0, t.val / 32 % 2, 0, 0] ∧ win0_5.index t = ![t.val / 64 * 32 + t.val % 32, t.val / 32 % 2] :=
  (by decide +kernel : ∀ t : Fin grid0.N, _)

/-- The result element `i` from the scaled queries `Q`, keys `K`, projection `Z` and cache `CK`, `CV`. -/
def result (Q : FVec Ideal S24576x1024 .bf16) (K : FVec Ideal S24576x256 .bf16) (Z : FVec Ideal S24576x4608 .f32)
    (CK CV : FVec Ideal S4x1x2x512x128 .f32) : FVec Ideal S16384x1024 .bf16 := fun i =>
  lateDivided
    (fun j : Fin 4096 => ∑ k : Fin 128, Q (ix2 ⟨8192 + i 0, by idx_bounds; omega⟩ ⟨i 1 / 128 * 128 + k, by idx_bounds; omega⟩)
      * K (ix2 ⟨8192 + i 0 / 4096 * 4096 + j, by idx_bounds; omega⟩ ⟨i 1 / 512 * 128 + k, by idx_bounds; omega⟩))
    (fun j => Z (ix2 ⟨8192 + i 0 / 4096 * 4096 + j, by idx_bounds; omega⟩ ⟨1280 + i 1 / 512 * 128 + i 1 % 128, by idx_bounds; omega⟩))
    (fun j : Fin 512 => ∑ k : Fin 128, Q (ix2 ⟨8192 + i 0, by idx_bounds; omega⟩ ⟨i 1 / 128 * 128 + k, by idx_bounds; omega⟩)
      * CK (ix5 ⟨i 0 / 4096, by idx_bounds; omega⟩ 0 ⟨i 1 / 512, by idx_bounds; omega⟩ j k))
    (fun j => CV (ix5 ⟨i 0 / 4096, by idx_bounds; omega⟩ 0 ⟨i 1 / 512, by idx_bounds; omega⟩ j ⟨i 1 % 128, by idx_bounds; omega⟩))

/-- The result's element at a place of head `h` of a grid point's block, from the point's input blocks. -/
theorem result_at (c : Dev nD) (t : Fin cfg0.N) (i : S16384x1024.Idx) (h : Fin 4) (r d : Fin 128)
    (h0 : (i 0 : ℕ) = (t.val / 64 * 32 + t.val % 32) * 128 + r) (h1 : (i 1 : ℕ) = t.val / 32 % 2 * 512 + (h * 128 + d)) :
    lateDivided
        (fun j => ∑ k : Fin 128, (show FVec Ideal S128x512 .bf16 from iblk m c 0 t) (ix2 r ⟨h * 128 + k, by omega⟩)
          * (show FVec Ideal S4096x128 .bf16 from iblk m c 1 t) (ix2 j k))
        (fun j => (show FVec Ideal S4096x128 .f32 from iblk m c 2 t) (ix2 j d))
        (fun j => ∑ k : Fin 128, (show FVec Ideal S128x512 .bf16 from iblk m c 0 t) (ix2 r ⟨h * 128 + k, by omega⟩)
          * (show FVec Ideal S1x1x1x512x128 .f32 from iblk m c 3 t) (ix5 0 0 0 j k))
        (fun j => (show FVec Ideal S1x1x1x512x128 .f32 from iblk m c 4 t) (ix5 0 0 0 j d))
      = result (V m c main_v2) (V m c main_v3) (V m c main_arg2) (V m c main_arg3) (V m c main_arg4) i := by
  refine lateDivided_congr (fun j => Finset.sum_congr rfl fun k _ => congrArg₂ (· * ·) ?_ ?_) (fun j => ?_)
    (fun j => Finset.sum_congr rfl fun k _ => congrArg₂ (· * ·) ?_ ?_) (fun j => ?_)
  all_goals blk_ext [iblk, idx t]

/-- What a grid point leaves at a place of its block is the result's element there. -/
theorem point (c : Dev nD) (t : Fin cfg0.N) (y : S128x512.Idx) :
    out0_5 (F := Ideal) (iblk m c 0 t) (iblk m c 1 t) (iblk m c 2 t) (iblk m c 3 t) (iblk m c 4 t) y
      = result (V m c main_v2) (V m c main_v3) (V m c main_arg2) (V m c main_arg3) (V m c main_arg4)
          (((cfg0.win 5).blk t).view.emb y) := by
  unfold_out out0_5
  canon_tiles x h
  case piece0 =>
    obtain ⟨r, d, rfl⟩ : ∃ r d : Fin 128, x = ix2 r d := ⟨x 0, x 1, eq_ix2 x⟩
    refine (head3 _ _ _ _ _ _ r d).trans (Eq.trans (lateDivided_congr (fun j => ?_) (fun j => ?_) (fun j => ?_) (fun j => ?_))
      (result_at m c t _ 3 r d ?_ ?_))
    iterate 4 pointwise
    · blk_simp [idx t]; simp only [ix2_0] at h0; omega
    · blk_simp [idx t]; simp only [ix2_1] at h1; omega
  case piece1 =>
    obtain ⟨r, d, rfl⟩ : ∃ r d : Fin 128, x = ix2 r d := ⟨x 0, x 1, eq_ix2 x⟩
    refine (head2 _ _ _ _ _ _ r d).trans (Eq.trans (lateDivided_congr (fun j => ?_) (fun j => ?_) (fun j => ?_) (fun j => ?_))
      (result_at m c t _ 2 r d ?_ ?_))
    iterate 4 pointwise
    · blk_simp [idx t]; simp only [ix2_0] at h0; omega
    · blk_simp [idx t]; simp only [ix2_1] at h1; omega
  case piece2 =>
    obtain ⟨r, d, rfl⟩ : ∃ r d : Fin 128, x = ix2 r d := ⟨x 0, x 1, eq_ix2 x⟩
    refine (head1 _ _ _ _ _ _ r d).trans (Eq.trans (lateDivided_congr (fun j => ?_) (fun j => ?_) (fun j => ?_) (fun j => ?_))
      (result_at m c t _ 1 r d ?_ ?_))
    iterate 4 pointwise
    · blk_simp [idx t]; simp only [ix2_0] at h0; omega
    · blk_simp [idx t]; simp only [ix2_1] at h1; omega
  case piece3 =>
    obtain ⟨r, d, rfl⟩ : ∃ r d : Fin 128, x = ix2 r d := ⟨x 0, x 1, eq_ix2 x⟩
    refine (head0 _ _ _ _ _ _ r d).trans (Eq.trans (lateDivided_congr (fun j => ?_) (fun j => ?_) (fun j => ?_) (fun j => ?_))
      (result_at m c t _ 0 r d ?_ ?_))
    iterate 4 pointwise
    · blk_simp [idx t]; simp only [ix2_0] at h0; omega
    · blk_simp [idx t]; simp only [ix2_1] at h1; omega

/-- The result array after the run. -/
theorem final (c : Dev nD) : (dats m 0 c).arrAt 5 (cfgs 0).N
    = result (V m c main_v2) (V m c main_v3) (V m c main_arg2) (V m c main_arg3) (V m c main_arg4) := by
  refine (dats m 0 c).arrAt_eq_of_covers 5 _ (by decide +kernel) fun t _ y => ?_
  blk_simp
  rw [after0_5]
  exact point m c t y

end Cert.KernelIdeal.Attention

end
-- ==== Proof.Attention.Reference.lean ====
/- The attention reference read at an index: keys and values of the cache and of the context joined, scores scaled, a
   softmax over the joined keys, the weighted sum of the joined values. -/
module

public import proofs.«01_k».proof.Proof.Gen.ReferenceIdeal.Run
public import proofs.«01_k».proof.Proof.Attention.Row
public import Idealize.ShloMosaic.Lib.Pipeline.ValueKit
public import Idealize.ShloMosaic.Lib.KernelVsHost

@[expose] public section

set_option maxRecDepth 16384

noncomputable section

namespace Cert.ReferenceIdeal.Attention

open Cert.ReferenceIdeal Cert.ReferenceIdeal.Gen Cert.Attention Idealize.ShloMosaic Idealize.ShloMosaic.TcCoe

/-- The joined keys: the cache's first, then the context's own. -/
def keys (K : FVec Ideal S24576x256 .f32) (CK : FVec Ideal S4x1x2x512x128 .f32) : FVec Ideal S4x2x4608x128 .f32 :=
  concatenate S4x2x4608x128 2 [⟨S4x2x512x128, (shapeCast _ CK shapeCasts_S4x1x2x512x128_S4x2x512x128)⟩, ⟨S4x2x4096x128, (transpose S4x2x4096x128 [0, 2, 1, 3] (shapeCast _ (extractStridedSlice S16384x256 ![8192, 0] K slices_S24576x256_S16384x256_8192_0) shapeCasts_S16384x256_S4x4096x2x128) transposes_S4x4096x2x128_S4x2x4096x128_0_2_1_3)⟩] concatenates_S4x2x512x128_S4x2x4096x128_S4x2x4608x128_d2

/-- The joined values: the cache's first, then the context's own, columns of the projection. -/
def vals (Z : FVec Ideal S24576x4608 .f32) (CV : FVec Ideal S4x1x2x512x128 .f32) : FVec Ideal S4x2x4608x128 .f32 :=
  concatenate S4x2x4608x128 2 [⟨S4x2x512x128, (shapeCast _ CV shapeCasts_S4x1x2x512x128_S4x2x512x128)⟩, ⟨S4x2x4096x128, (transpose S4x2x4096x128 [0, 2, 1, 3] (shapeCast _ (extractStridedSlice S16384x256 ![8192, 1280] Z slices_S24576x4608_S16384x256_8192_1280) shapeCasts_S16384x256_S4x4096x2x128) transposes_S4x4096x2x128_S4x2x4096x128_0_2_1_3)⟩] concatenates_S4x2x512x128_S4x2x4096x128_S4x2x4608x128_d2

/-- The scaled scores of every query against the joined keys `X`. -/
def scores (Q : FVec Ideal S24576x1024 .f32) (X : FVec Ideal S4x2x4608x128 .f32) : FVec Ideal S4x2x4x4096x4608 .f32 :=
  mulf (Host.dotGeneral dot_S4x2x4x4096x128_S4x2x4608x128_S4x2x4x4096x4608_4_3_23_2_01_01 none (shapeCast _ (transpose S4x8x4096x128 [0, 2, 1, 3] (shapeCast _ (extractStridedSlice S16384x1024 ![8192, 0] Q slices_S24576x1024_S16384x1024_8192_0) shapeCasts_S16384x1024_S4x4096x8x128) transposes_S4x4096x8x128_S4x8x4096x128_0_2_1_3) shapeCasts_S4x8x4096x128_S4x2x4x4096x128) X) (broadcastInDim S4x2x4x4096x4608 ![] bcast_S_S4x2x4x4096x4608 (constant S_ .f32 0x3DB504F3#32))

/-- The scores' largest, over the joined keys. -/
def largest (S : FVec Ideal S4x2x4x4096x4608 .f32) : FVec Ideal S4x2x4x4096 .f32 :=
  Host.reduce FloatOps.maximumf S (constant S_ .f32 0xFF800000#32) reducesTo_S4x2x4x4096x4608_S4x2x4x4096_d4 h_S_

/-- The exponentials of the scores less `M`, a row's largest. -/
def weights (M : FVec Ideal S4x2x4x4096 .f32) (S : FVec Ideal S4x2x4x4096x4608 .f32) : FVec Ideal S4x2x4x4096x4608 .f32 :=
  Host.exp (subf S (broadcastInDim S4x2x4x4096x4608 ![0, 1, 2, 3, 4] bcast_S4x2x4x4096x1_S4x2x4x4096x4608_0_1_2_3_4 (broadcastInDim S4x2x4x4096x1 ![0, 1, 2, 3] bcast_S4x2x4x4096_S4x2x4x4096x1_0_1_2_3 (maximumf (broadcastInDim S4x2x4x4096 ![] bcast_S_S4x2x4x4096 (constant S_ .f32 0xFF800000#32)) M))))

/-- The values `Y` weighted by `W` normalised. -/
def weighted (W : FVec Ideal S4x2x4x4096x4608 .f32) (Y : FVec Ideal S4x2x4608x128 .f32) : FVec Ideal S4x2x4x4096x128 .f32 :=
  Host.dotGeneral dot_S4x2x4x4096x4608_S4x2x4608x128_S4x2x4x4096x128_4_2_23_3_01_01 none (Host.divf W (broadcastInDim S4x2x4x4096x4608 ![0, 1, 2, 3, 4] bcast_S4x2x4x4096x1_S4x2x4x4096x4608_0_1_2_3_4 (broadcastInDim S4x2x4x4096x1 ![0, 1, 2, 3] bcast_S4x2x4x4096_S4x2x4x4096x1_0_1_2_3 (Host.reduceAdd W (constant S_ .f32 0x00000000#32) reducesTo_S4x2x4x4096x4608_S4x2x4x4096_d4 h_S_)))) Y

/-- The heads laid side by side, token by token. -/
def laid (O : FVec Ideal S4x2x4x4096x128 .f32) : FVec Ideal S16384x1024 .bf16 :=
  truncf .bf16 (shapeCast _ (transpose S4x4096x8x128 [0, 2, 1, 3] (shapeCast _ O shapeCasts_S4x2x4x4096x128_S4x8x4096x128) transposes_S4x8x4096x128_S4x4096x8x128_0_2_1_3) shapeCasts_S4x4096x8x128_S16384x1024) bitsLt_bf16_f32

/-- The reference's scores. -/
abbrev resultScores (m : (ℓ : Loc nD τ sig) → Buf (Elt Ideal) ℓ) (c : Dev nD) : FVec Ideal S4x2x4x4096x4608 .f32 :=
  scores (m ((c.tc : Thread nD τ).loc main_arg0)) (keys (m ((c.tc : Thread nD τ).loc main_arg1)) (m ((c.tc : Thread nD τ).loc main_arg3)))

/-- The reference's result is these, composed. -/
theorem result_eq (m : (ℓ : Loc nD τ sig) → Buf (Elt Ideal) ℓ) (c : Dev nD) :
    Value.res_main_v32 m c
      = laid (weighted (weights (largest (resultScores m c)) (resultScores m c))
          (vals (m ((c.tc : Thread nD τ).loc main_arg2)) (m ((c.tc : Thread nD τ).loc main_arg4)))) := rfl

variable (b : Fin 4) (h : Fin 2) (g : Fin 4) (l : Fin 4096)

theorem keys_cached (K : FVec Ideal S24576x256 .f32) (CK : FVec Ideal S4x1x2x512x128 .f32) (j : Fin 512) (k : Fin 128) :
    keys K CK (ix4 b h ⟨j, by omega⟩ k) = CK (ix5 b 0 h j k) := by
  pointwise [keys]

theorem keys_own (K : FVec Ideal S24576x256 .f32) (CK : FVec Ideal S4x1x2x512x128 .f32) (j : Fin 4096) (k : Fin 128) :
    keys K CK (ix4 b h ⟨512 + j, by omega⟩ k) = K (ix2 ⟨8192 + b * 4096 + j, by omega⟩ ⟨h * 128 + k, by omega⟩) := by
  pointwise [keys]
  blk_ext

theorem vals_cached (Z : FVec Ideal S24576x4608 .f32) (CV : FVec Ideal S4x1x2x512x128 .f32) (j : Fin 512) (k : Fin 128) :
    vals Z CV (ix4 b h ⟨j, by omega⟩ k) = CV (ix5 b 0 h j k) := by
  pointwise [vals]

theorem vals_own (Z : FVec Ideal S24576x4608 .f32) (CV : FVec Ideal S4x1x2x512x128 .f32) (j : Fin 4096) (k : Fin 128) :
    vals Z CV (ix4 b h ⟨512 + j, by omega⟩ k) = Z (ix2 ⟨8192 + b * 4096 + j, by omega⟩ ⟨1280 + h * 128 + k, by omega⟩) := by
  pointwise [vals]
  blk_ext

theorem scores_at (Q : FVec Ideal S24576x1024 .f32) (X : FVec Ideal S4x2x4608x128 .f32) (j : Fin 4608) :
    scores Q X (ix5 b h g l j)
      = (∑ k : Fin 128, Q (ix2 ⟨8192 + b * 4096 + l, by omega⟩ ⟨(h * 4 + g) * 128 + k, by omega⟩) * X (ix4 b h j k))
        * Ideal.ofBits .f32 0x3DB504F3#32 := by
  pointwise [scores]
  blk_point []

theorem reduces_last : S4x2x4x4096x4608.Reduces [4] S4x2x4x4096 := by decide

theorem largest_at (S : FVec Ideal S4x2x4x4096x4608 .f32) :
    largest S (ix4 b h g l) = top fun j : Fin 4608 => S (ix5 b h g l j) := by
  refine (congrFun (hostReduce_maximumf_eq_multiReduction S 0xFF800000#32 reducesTo_S4x2x4x4096x4608_S4x2x4x4096_d4 h_S_
    reduces_last (.inl rfl) rfl) _).trans ?_
  refine (Ideal.multiReduction_maximumf_single S _ reduces_last _ rfl _).trans ?_
  refine congrArg (fun f => Finset.fold max (Ideal.ofBits FTy.f32 4286578688#32) f Finset.univ) (funext fun j => congrArg S ?_)
  funext a
  fin_cases a <;> rfl

theorem weights_at (M : FVec Ideal S4x2x4x4096 .f32) (S : FVec Ideal S4x2x4x4096x4608 .f32) (j : Fin 4608) :
    weights M S (ix5 b h g l j) = Ideal.exp (S (ix5 b h g l j) - max (Ideal.ofBits FTy.f32 4286578688#32) (M (ix4 b h g l))) := by
  pointwise [weights]

theorem weighted_at (W : FVec Ideal S4x2x4x4096x4608 .f32) (Y : FVec Ideal S4x2x4608x128 .f32) (d : Fin 128) :
    weighted W Y (ix5 b h g l d)
      = ∑ j : Fin 4608, Ideal.div (W (ix5 b h g l j)) (∑ j : Fin 4608, W (ix5 b h g l j)) * Y (ix4 b h j d) := by
  pointwise [weighted]

theorem laid_at (O : FVec Ideal S4x2x4x4096x128 .f32) (i : S16384x1024.Idx) (d : Fin 128) (h0 : (i 0 : ℕ) = b * 4096 + l)
    (h1 : (i 1 : ℕ) = (h * 4 + g) * 128 + d) : laid O i = O (ix5 b h g l d) := by
  pointwise [laid]
  blk_ext

end Cert.ReferenceIdeal.Attention

end
-- ==== Proof.Attention.Softmax.lean ====
/- The softmax of a row: dividing each weight by the weights' sum before the values are summed, or dividing the sum of
   the weighted values once, is one number where the scores are real. -/
module

public import proofs.«01_k».proof.Proof.Attention.Row

@[expose] public section

noncomputable section

namespace Cert.Attention

open Idealize.ShloMosaic

/-- A real number, not one of the infinities. -/
def Finite (x : EReal) : Prop := ∃ r : ℝ, x = r

theorem Finite.mul {x y : EReal} (hx : Finite x) (hy : Finite y) : Finite (x * y) := by
  obtain ⟨r, rfl⟩ := hx
  obtain ⟨t, rfl⟩ := hy
  exact ⟨r * t, (EReal.coe_mul r t).symm⟩

theorem Finite.sum {ι : Type} (f : ι → EReal) (s : Finset ι) (h : ∀ i, Finite (f i)) : Finite (∑ i ∈ s, f i) := by
  classical
  induction s using Finset.induction_on with
  | empty => exact ⟨0, by simp⟩
  | insert a t ha ih =>
    rw [Finset.sum_insert ha]
    obtain ⟨r, hr⟩ := h a
    obtain ⟨u, hu⟩ := ih
    exact ⟨r + u, by rw [hr, hu, EReal.coe_add]⟩

theorem coe_sum_real {ι : Type} (f : ι → ℝ) (s : Finset ι) : ((∑ i ∈ s, f i : ℝ) : EReal) = ∑ i ∈ s, (f i : EReal) := by
  classical
  induction s using Finset.induction_on with
  | empty => simp
  | insert i t hi ih => rw [Finset.sum_insert hi, Finset.sum_insert hi, EReal.coe_add, ih]

/-- A nonnegative real factor goes through a sum. -/
theorem sum_mul_real {ι : Type} (f : ι → EReal) (s : Finset ι) {a : ℝ} (ha : 0 ≤ a) :
    (∑ i ∈ s, f i) * (a : EReal) = ∑ i ∈ s, f i * (a : EReal) := by
  classical
  induction s using Finset.induction_on with
  | empty => simp
  | insert i t hi ih =>
    rw [Finset.sum_insert hi, Finset.sum_insert hi, ← ih,
      EReal.right_distrib_of_nonneg_of_ne_top (EReal.coe_nonneg.mpr ha) (EReal.coe_ne_top a)]

theorem lowest : Ideal.ofBits FTy.f32 4286578688#32 = ⊥ := by simp [Ideal.ofBits, Ideal.ieee]

theorem top_eq_sup {n : ℕ} (s : Fin n → EReal) : top s = Finset.univ.sup s := by
  rw [top, lowest]
  rfl

/-- A nonempty row of reals has a real largest. -/
theorem top_finite {n : ℕ} (hn : 0 < n) (s : Fin n → EReal) (h : ∀ j, Finite (s j)) : Finite (top s) := by
  rw [top_eq_sup]
  obtain ⟨j, -, hj⟩ := Finset.exists_mem_eq_sup Finset.univ ⟨⟨0, hn⟩, Finset.mem_univ _⟩ s
  rw [hj]
  exact h j

/-- The largest of two groups together. -/
theorem top_joined {n k N : ℕ} (hN : N = k + n) (x : Fin N → EReal) (s : Fin n → EReal) (c : Fin k → EReal)
    (hc : ∀ j : Fin k, x ⟨j, by omega⟩ = c j) (hs : ∀ j : Fin n, x ⟨k + j, by omega⟩ = s j) :
    top x = max (top s) (top c) := by
  rw [top_eq_sup, top_eq_sup, top_eq_sup]
  apply le_antisymm
  · refine Finset.sup_le fun j _ => ?_
    by_cases h : (j : ℕ) < k
    · exact le_max_of_le_right ((hc ⟨j, h⟩).le.trans (Finset.le_sup (f := c) (Finset.mem_univ _)))
    · have e : (⟨k + (⟨(j : ℕ) - k, by omega⟩ : Fin n), by simp only; omega⟩ : Fin N) = j := Fin.ext (by simp only; omega)
      have := hs ⟨(j : ℕ) - k, by omega⟩
      rw [e] at this
      exact le_max_of_le_left (this.le.trans (Finset.le_sup (f := s) (Finset.mem_univ _)))
  · refine max_le (Finset.sup_le fun j _ => ?_) (Finset.sup_le fun j _ => ?_)
    · exact (hs j).ge.trans (Finset.le_sup (f := x) (Finset.mem_univ _))
    · exact (hc j).ge.trans (Finset.le_sup (f := x) (Finset.mem_univ _))

/-- The row's output with each weight divided by the weights' sum, over joined scores `x` and values `y`, the
    exponentials taken less `M`. -/
def earlyDivided {N : ℕ} (M : EReal) (x y : Fin N → EReal) : EReal :=
  ∑ j, Ideal.div (Ideal.exp (x j - M)) (∑ j, Ideal.exp (x j - M)) * y j

/-- The two orders of division agree on real scores, whatever the values. -/
theorem earlyDivided_eq {n k N : ℕ} (hN : N = k + n) (hn : 0 < n) (x y : Fin N → EReal) (s v : Fin n → EReal)
    (c w : Fin k → EReal) (hx : ∀ j, Finite (x j)) (hc : ∀ j : Fin k, x ⟨j, by omega⟩ = c j)
    (hs : ∀ j : Fin n, x ⟨k + j, by omega⟩ = s j) (hw : ∀ j : Fin k, y ⟨j, by omega⟩ = w j)
    (hv : ∀ j : Fin n, y ⟨k + j, by omega⟩ = v j) :
    earlyDivided (max (Ideal.ofBits FTy.f32 4286578688#32) (top x)) x y = lateDivided s v c w := by
  obtain ⟨M, hM⟩ := top_finite (by omega) x hx
  have hsplit := top_joined hN x s c hc hs
  rw [lateDivided, ← hsplit, lowest, max_eq_right bot_le, earlyDivided, hM]
  choose r hr using hx
  have he : ∀ j, Ideal.exp (x j - (M : EReal)) = (Real.exp (r j - M) : ℝ) := fun j => by
    rw [hr j, ← EReal.coe_sub, Ideal.exp_coe]
  have hl : ∑ j, Ideal.exp (x j - (M : EReal)) = ((∑ j, Real.exp (r j - M) : ℝ) : EReal) := by
    rw [coe_sum_real]
    exact Finset.sum_congr rfl fun j _ => he j
  have hpos : 0 < ∑ j, Real.exp (r j - M) :=
    Finset.sum_pos (fun j _ => Real.exp_pos _) ⟨⟨0, by omega⟩, Finset.mem_univ _⟩
  have hsum : ∑ j, Ideal.exp (x j - (M : EReal)) = ∑ j, Ideal.exp (s j - (M : EReal)) + ∑ j, Ideal.exp (c j - (M : EReal)) := by
    subst hN
    rw [Fin.sum_univ_add, add_comm]
    refine congrArg₂ (· + ·) (Finset.sum_congr rfl fun j _ => ?_) (Finset.sum_congr rfl fun j _ => ?_)
    · rw [← hs j]; rfl
    · rw [← hc j]; rfl
  have hval : ∑ j, Ideal.exp (x j - (M : EReal)) * y j
      = ∑ j, Ideal.exp (s j - (M : EReal)) * v j + ∑ j, Ideal.exp (c j - (M : EReal)) * w j := by
    subst hN
    rw [Fin.sum_univ_add, add_comm]
    refine congrArg₂ (· + ·) (Finset.sum_congr rfl fun j _ => ?_) (Finset.sum_congr rfl fun j _ => ?_)
    · rw [← hs j, ← hv j]; rfl
    · rw [← hc j, ← hw j]; rfl
  rw [← hsum, ← hval, hl, Ideal.div_coe hpos.ne', sum_mul_real _ _ (one_div_nonneg.mpr hpos.le)]
  refine Finset.sum_congr rfl fun j _ => ?_
  rw [Ideal.div_coe hpos.ne', mul_assoc, mul_comm ((1 / _ : ℝ) : EReal) (y j), ← mul_assoc]

/-- The scale of the scores is a nonnegative real. -/
theorem scale_real : ∃ a : ℝ, 0 ≤ a ∧ Ideal.ofBits .f32 0x3DB504F3#32 = a := by
  refine ⟨_, ?_, by simp [Ideal.ofBits, Ideal.ieee, -EReal.coe_mul]; rfl⟩
  positivity

/-- Scaling the query or the scores is one number. -/
theorem scaled_score {n : ℕ} (q x : Fin n → EReal) :
    ∑ k, q k * Ideal.ofBits .f32 0x3DB504F3#32 * x k = (∑ k, q k * x k) * Ideal.ofBits .f32 0x3DB504F3#32 := by
  obtain ⟨a, ha, e⟩ := scale_real
  rw [e, sum_mul_real _ _ ha]
  exact Finset.sum_congr rfl fun k _ => by rw [mul_assoc, mul_comm (a : EReal), ← mul_assoc]

end Cert.Attention

end
-- ==== Proof.Attention.Equation.lean ====
/- The kernel's result array is the reference's, where queries and keys are real. -/
module

public import proofs.«01_k».proof.Proof.Attention.Array
public import proofs.«01_k».proof.Proof.Attention.Reference
public import proofs.«01_k».proof.Proof.Attention.Softmax

@[expose] public section

set_option maxRecDepth 16384

noncomputable section

namespace Cert.Attention

open Idealize.ShloMosaic Cert.ReferenceIdeal Cert.ReferenceIdeal.Attention

/-- One element of the reference: a row's output with the weights divided first. -/
theorem reference_at (M : FVec Ideal S4x2x4x4096 .f32) (S : FVec Ideal S4x2x4x4096x4608 .f32) (Y : FVec Ideal S4x2x4608x128 .f32)
    (b : Fin 4) (h : Fin 2) (g : Fin 4) (l : Fin 4096) (d : Fin 128) :
    weighted (weights M S) Y (ix5 b h g l d)
      = earlyDivided (max (Ideal.ofBits FTy.f32 4286578688#32) (M (ix4 b h g l))) (fun j : Fin 4608 => S (ix5 b h g l j))
          (fun j => Y (ix4 b h j d)) := by
  refine (weighted_at b h g l (weights M S) Y d).trans ?_
  rw [earlyDivided]
  have e : ∀ j, weights M S (ix5 b h g l j)
      = Ideal.exp (S (ix5 b h g l j) - max (Ideal.ofBits FTy.f32 4286578688#32) (M (ix4 b h g l))) := weights_at b h g l M S
  simp only [e]

/-- The kernel's element is the reference's. -/
theorem equation (Q : FVec Ideal S24576x1024 .f32) (K : FVec Ideal S24576x256 .f32) (Z : FVec Ideal S24576x4608 .f32)
    (CK CV : FVec Ideal S4x1x2x512x128 .f32) (Q' : FVec Ideal S24576x1024 .bf16) (K' : FVec Ideal S24576x256 .bf16)
    (hQ' : ∀ i, Q' i = Q i * Ideal.ofBits .f32 0x3DB504F3#32) (hK' : ∀ i, K' i = K i)
    (hQ : ∀ i, Finite (Q i)) (hK : ∀ i, Finite (K i)) (hCK : ∀ i, Finite (CK i)) :
    KernelIdeal.Attention.result Q' K' Z CK CV
      = laid (weighted (weights (largest (scores Q (keys K CK))) (scores Q (keys K CK))) (vals Z CV)) := by
  funext i
  have i0 : (i 0 : ℕ) < 16384 := (i 0).isLt
  have i1 : (i 1 : ℕ) < 1024 := (i 1).isLt
  let b : Fin 4 := ⟨(i 0 : ℕ) / 4096, by omega⟩
  let h : Fin 2 := ⟨(i 1 : ℕ) / 512, by omega⟩
  let g : Fin 4 := ⟨(i 1 : ℕ) / 128 % 4, by omega⟩
  let l : Fin 4096 := ⟨(i 0 : ℕ) % 4096, by omega⟩
  let d : Fin 128 := ⟨(i 1 : ℕ) % 128, by omega⟩
  have hS : ∀ j : Fin 4608, Finite (scores Q (keys K CK) (ix5 b h g l j)) := fun j => by
    rw [scores_at]
    refine (Finite.sum _ _ fun k => (hQ _).mul ?_).mul ?_
    · by_cases hj : (j : ℕ) < 512
      · have := keys_cached b h K CK ⟨j, hj⟩ k
        exact this.symm ▸ hCK _
      · have e : (⟨512 + (⟨(j : ℕ) - 512, by omega⟩ : Fin 4096), by simp only; omega⟩ : Fin 4608) = j := Fin.ext (by simp only; omega)
        have := keys_own b h K CK ⟨(j : ℕ) - 512, by omega⟩ k
        rw [e] at this
        exact this.symm ▸ hK _
    · obtain ⟨a, -, e⟩ := scale_real
      exact ⟨a, e⟩
  refine Eq.trans ?_ (laid_at b h g l _ i d (by simp only [b, l]; omega) (by simp only [h, g, d]; omega)).symm
  refine Eq.trans ?_ (reference_at _ _ _ b h g l d).symm
  rw [largest_at b h g l]
  refine (earlyDivided_eq (n := 4096) (k := 512) (by norm_num) (by norm_num) _ _ _ _ _ _ hS (fun j => ?_) (fun j => ?_) (fun j => ?_)
    (fun j => ?_)).symm
  · refine (scores_at b h g l Q _ _).trans ?_
    rw [← scaled_score]
    refine Finset.sum_congr rfl fun k _ => ?_
    rw [hQ', keys_cached]
    refine congrArg₂ (· * ·) (congrArg (· * _) (congrArg Q ?_)) (congrArg CK ?_)
    · exact congrArg₂ ix2 (Fin.ext (by simp only [b, l]; omega)) (Fin.ext (by simp only [h, g]; omega))
    · rfl
  · refine (scores_at b h g l Q _ _).trans ?_
    rw [← scaled_score]
    refine Finset.sum_congr rfl fun k _ => ?_
    rw [hQ', hK', keys_own]
    refine congrArg₂ (· * ·) (congrArg (· * _) (congrArg Q ?_)) rfl
    exact congrArg₂ ix2 (Fin.ext (by simp only [b, l]; omega)) (Fin.ext (by simp only [h, g]; omega))
  · exact vals_cached b h Z CV j d
  · exact vals_own b h Z CV j d

end Cert.Attention

end
-- ==== Proof.Attention.Finite.lean ====
/- The precondition read off: every query, key and cached key is a real number. -/
module

public import proofs.«01_k».proof.Pre_scores_finite
public import proofs.«01_k».proof.Proof.Gen.Pre_scores_finite
public import proofs.«01_k».proof.Proof.Attention.Softmax
public import Idealize.ShloMosaic.Lib.ReduceAll
public import Idealize.ShloMosaic.Lib.Pointwise

@[expose] public section

noncomputable section

namespace Cert.Attention

open Idealize.ShloMosaic Cert.Pre_scores_finite

/-- A number whose absolute value the comparison with `+∞` puts below it is real. -/
theorem finite_of_cmp {x : EReal} (h : Ideal.cmp .olt (max x (-x)) (Ideal.ofBits FTy.f32 2139095040#32) = 1#1) : Finite x := by
  have e : Ideal.ofBits FTy.f32 2139095040#32 = ⊤ := by simp [Ideal.ofBits, Ideal.ieee]
  rw [e] at h
  induction x using EReal.rec with
  | bot => simp [Ideal.cmp] at h
  | top => simp [Ideal.cmp] at h
  | coe r => exact ⟨r, rfl⟩

theorem andi_one {a b : BitVec 1} (h : IntOp.andi a b = 1#1) : a = 1#1 ∧ b = 1#1 := by
  revert a b
  decide

theorem finite_inputs [Facts] (Q : FVec Ideal S24576x1024 .f32) (K : FVec Ideal S24576x256 .f32) (Z : FVec Ideal S24576x4608 .f32)
    (CK CV : FVec Ideal S4x1x2x512x128 .f32) (h : fn (F := Ideal) Q K Z CK CV = fun _ => 1#1) :
    (∀ i, Finite (Q i)) ∧ (∀ i, Finite (K i)) ∧ ∀ i, Finite (CK i) := by
  have e := congrFun h ix0
  obtain ⟨e1, e3⟩ := andi_one e
  obtain ⟨e1, e2⟩ := andi_one e1
  haveI : Subsingleton S_.Idx := ⟨fun a b => funext fun k => k.elim0⟩
  exact ⟨fun i => finite_of_cmp (Host.reduce_andi_all _ _ _ _ _ e1 i), fun i => finite_of_cmp (Host.reduce_andi_all _ _ _ _ _ e2 i),
    fun i => finite_of_cmp (Host.reduce_andi_all _ _ _ _ _ e3 i)⟩

end Cert.Attention

end
-- ==== Proof.Attention.Claims.lean ====
/- The attention's claims: the reference's frame and the equality of the two results. -/
module

public import proofs.«01_k».proof.Defs
public import proofs.«01_k».proof.Proof.Gen.KernelIdeal.Frame
public import proofs.«01_k».proof.Proof.Attention.Equation
public import proofs.«01_k».proof.Proof.Attention.Finite
public import Idealize.ShloMosaic.Adequacy
public import Idealize.ShloMosaic.Init

@[expose] public section

noncomputable section

namespace Cert.Proof

open Idealize.ShloMosaic Idealize.SL.Sem Idealize.ShloMosaic.TcCoe

namespace Attention

/-- The scaled queries the kernel is given. -/
theorem queries (m : (ℓ : Loc Cert.KernelIdeal.nD Cert.KernelIdeal.τ Cert.KernelIdeal.sig) → Buf (Elt Ideal) ℓ)
    (c : Dev Cert.KernelIdeal.nD) (i : Cert.KernelIdeal.S24576x1024.Idx) :
    (show FVec Ideal Cert.KernelIdeal.S24576x1024 .bf16 from Cert.KernelIdeal.Gen.V m c Cert.KernelIdeal.main_v2) i
      = (show FVec Ideal Cert.KernelIdeal.S24576x1024 .f32 from m ((c.tc : Thread _ _).loc Cert.KernelIdeal.main_arg0)) i
        * Ideal.ofBits .f32 0x3DB504F3#32 := by
  entry_read
  pointwise

/-- The keys the kernel is given. -/
theorem keys (m : (ℓ : Loc Cert.KernelIdeal.nD Cert.KernelIdeal.τ Cert.KernelIdeal.sig) → Buf (Elt Ideal) ℓ)
    (c : Dev Cert.KernelIdeal.nD) (i : Cert.KernelIdeal.S24576x256.Idx) :
    (show FVec Ideal Cert.KernelIdeal.S24576x256 .bf16 from Cert.KernelIdeal.Gen.V m c Cert.KernelIdeal.main_v3) i
      = (show FVec Ideal Cert.KernelIdeal.S24576x256 .f32 from m ((c.tc : Thread _ _).loc Cert.KernelIdeal.main_arg1)) i := by
  entry_read
  pointwise

/-- The two results agree. -/
theorem value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hpre : Cert.Pre_KernelIdeal_scores_finite m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.KernelIdeal.Gen.dats m 0 c).arrAt 5 Cert.KernelIdeal.cfg0.N = Cert.ReferenceIdeal.Value.res_main_v32 m' c := by
  obtain ⟨hQ, hK, hCK⟩ := Cert.Attention.finite_inputs _ _ _ _ _ (hpre c)
  rw [Cert.ReferenceIdeal.Attention.result_eq]
  unfold Cert.ReferenceIdeal.Attention.resultScores
  rw [h0, h1, h2, h3, h4]
  refine (Cert.KernelIdeal.Attention.final m c).trans ?_
  rw [Cert.KernelIdeal.Gen.V_main_arg2, Cert.KernelIdeal.Gen.V_main_arg3, Cert.KernelIdeal.Gen.V_main_arg4]
  exact Cert.Attention.equation _ _ _ _ _ _ _ (queries m c) (keys m c) hQ hK hCK

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal_pre_scores_finite := fun m g m' g' hpre hm =>
  ⟨fun c => Cert.ReferenceIdeal.Value.res_main_v32 m' c,
    (θ_run Cert.KernelIdeal.defs _ _).mono
      (fun _ h c => ⟨(h c).1.trans (value m m' c hpre (hm c).1 (hm c).2.1 (hm c).2.2.1 (hm c).2.2.2.1 (hm c).2.2.2.2), (h c).2⟩)
      (Cert.KernelIdeal.Value.run_blocks m g),
    Cert.ReferenceIdeal.Value.run m' g'⟩

end Attention

end Cert.Proof

end
-- ==== Proof.Projection.Block.lean ====
/- The input projection's kernel: what a grid point leaves in its block and in the rows it keeps between points. -/
module

public import proofs.«01_k».proof.Proof.Gen.InKernelIdeal.Frame
public import Idealize.ShloMosaic.Lib.Pipeline.ValueKit
public import Idealize.ShloMosaic.Lib.Pointwise

@[expose] public section

set_option maxRecDepth 16384

noncomputable section

namespace Cert.InKernelIdeal.Projection

open Cert.InKernelIdeal Cert.InKernelIdeal.Gen Idealize.ShloMosaic Idealize.ShloMosaic.TcCoe
open Idealize.ShloMosaic.Pipeline (Dat)

/-- A row scaled and shifted by its group's modulation. -/
theorem modulated_row (x : Vec Ideal S1024x2048 .f32) (sc sh : Vec Ideal S1x1x2048 .f32) (r : Fin 1024) (k : Fin 2048) :
    k0_pay1 (F := Ideal) x sc sh (ix2 r k) = x (ix2 r k) * (Ideal.ofBits .f32 0x3F800000#32 + sc (ix3 0 0 k)) + sh (ix3 0 0 k) := by
  pointwise [k0_pay1]

/-- The product of the kept rows with the weights' block. -/
theorem product (h : Vec Ideal S1024x2048 .bf16) (w : Vec Ideal S2048x512 .bf16) (r : Fin 1024) (d : Fin 512) :
    k0_pay2 (F := Ideal) h w (ix2 r d) = ∑ k : Fin 2048, h (ix2 r k) * w (ix2 k d) := by
  pointwise [k0_pay2]

variable (m : (ℓ : Loc nD τ sig) → Buf (Elt Ideal) ℓ)

/-- The blocks' places in the arrays. -/
theorem idx : ∀ t : Fin cfg0.N,
    win0_0.index t = ![t.val / 9, 0] ∧ win0_1.index t = ![(t.val / 36 - 1) * 6 + 1, 0, 0]
      ∧ win0_2.index t = ![(t.val / 36 - 1) * 6, 0, 0] ∧ win0_3.index t = ![0, t.val % 9] ∧ win0_4.index t = ![t.val / 9, t.val % 9] :=
  (by decide +kernel : ∀ t : Fin grid0.N, _)

/-- A first point of a row of blocks: rows kept, and their product. -/
theorem first (c : Dev nD) (t : Fin cfg0.N) (h : t.val % 9 = 0) :
    outsAt0 m c t.val t.isLt = (k0_pay2 (F := Ideal) (k0_pay1 (iblk m c 0 t) (iblk m c 1 t) (iblk m c 2 t)) (iblk m c 3 t),
      k0_pay1 (iblk m c 0 t) (iblk m c 1 t) (iblk m c 2 t)) := by
  rw [outsAt0_A m c t h]
  refine Prod.ext ?_ ?_
  · frame_out
  · frame_out

/-- A later point: the rows kept before, and their product. -/
theorem later (c : Dev nD) (t : Fin cfg0.N) (h : ¬t.val % 9 = 0) :
    outsAt0 m c t.val t.isLt = (k0_pay2 (F := Ideal) (outsAt0 m c (t.val - 1) (Nat.lt_of_le_of_lt (Nat.sub_le _ _) t.isLt)).2 (iblk m c 3 t),
      (outsAt0 m c (t.val - 1) (Nat.lt_of_le_of_lt (Nat.sub_le _ _) t.isLt)).2) := by
  rw [outsAt0_B m c t h]
  refine Prod.ext ?_ ?_
  · frame_out
    exact congrArg (fun x => k0_pay2 (F := Ideal) x _) ((Memref.isWhole_whole cc0_scratch0).read_unread _)
  · rfl

/-- The rows kept at a point, from the arrays. -/
def rows (X : FVec Ideal S24576x2048 .f32) (M : FVec Ideal S48x1x2048 .f32) (r : Fin 24576) (k : Fin 2048) : EReal :=
  X (ix2 r k) * (Ideal.ofBits .f32 0x3F800000#32 + M (ix3 ⟨(r.val / 4096 - 1) * 6 + 1, by omega⟩ 0 k)) + M (ix3 ⟨(r.val / 4096 - 1) * 6, by omega⟩ 0 k)

theorem rows_at (c : Dev nD) (t : Fin cfg0.N) (r : Fin 1024) (k : Fin 2048) (q : Fin 24576) (hq : q.val = t.val / 9 * 1024 + r) :
    k0_pay1 (F := Ideal) (iblk m c 0 t) (iblk m c 1 t) (iblk m c 2 t) (ix2 r k) = rows (V m c main_v2) (V m c main_v3) q k := by
  refine (modulated_row _ _ _ r k).trans ?_
  unfold rows
  refine congrArg₂ (· + ·) (congrArg₂ (· * ·) ?_ (congrArg₂ (· + ·) rfl ?_)) ?_
  all_goals blk_ext [iblk, idx t]

/-- What every point keeps: its row of blocks' rows, modulated. -/
theorem kept (c : Dev nD) : ∀ (n : ℕ) (hn : n < cfg0.N) (r : Fin 1024) (k : Fin 2048) (q : Fin 24576) (hq : q.val = n / 9 * 1024 + r),
    (outsAt0 m c n hn).2 (ix2 r k) = rows (V m c main_v2) (V m c main_v3) q k := by
  intro n
  induction n with
  | zero =>
    intro hn r k q hq
    rw [first m c ⟨0, hn⟩ rfl]
    exact rows_at m c ⟨0, hn⟩ r k q hq
  | succ n ih =>
    intro hn r k q hq
    by_cases h : (n + 1) % 9 = 0
    · rw [first m c ⟨n + 1, hn⟩ h]
      exact rows_at m c ⟨n + 1, hn⟩ r k q hq
    · rw [later m c ⟨n + 1, hn⟩ h]
      exact ih _ r k q (by omega)

/-- What every point leaves in its block: the product of those rows. -/
theorem left (c : Dev nD) (t : Fin cfg0.N) (r : Fin 1024) (d : Fin 512) (q : Fin 24576) (hq : q.val = t.val / 9 * 1024 + r) :
    (outsAt0 m c t.val t.isLt).1 (ix2 r d)
      = ∑ k : Fin 2048, rows (V m c main_v2) (V m c main_v3) q k * (show FVec Ideal S2048x512 .bf16 from iblk m c 3 t) (ix2 k d) := by
  by_cases h : t.val % 9 = 0
  · rw [first m c t h]
    refine (product _ _ r d).trans (Finset.sum_congr rfl fun k _ => congrArg (· * _) ?_)
    exact rows_at m c t r k q hq
  · rw [later m c t h]
    refine (product _ _ r d).trans (Finset.sum_congr rfl fun k _ => congrArg (· * _) ?_)
    exact kept m c (t.val - 1) _ r k q (by omega)

/-- The projection, from the arrays the kernel is given. -/
def result (X : FVec Ideal S24576x2048 .f32) (M : FVec Ideal S48x1x2048 .f32) (W : FVec Ideal S2048x4608 .bf16) : FVec Ideal S24576x4608 .f32 :=
  fun i => ∑ k : Fin 2048, rows X M (i 0) k * W (ix2 k (i 1))

/-- The result array after the run. -/
theorem final (c : Dev nD) : (dats m 0 c).arrAt 4 (cfgs 0).N = result (V m c main_v2) (V m c main_v3) (V m c main_v4) := by
  refine (dats m 0 c).arrAt_eq_of_covers 4 _ (by decide +kernel) fun t _ y => ?_
  blk_simp
  rw [after0_4]
  obtain ⟨r, d, rfl⟩ : ∃ (r : Fin 1024) (d : Fin 512), y = ix2 r d := ⟨y 0, y 1, eq_ix2 y⟩
  refine (left m c t r d (((cfg0.win 4).blk t).view.emb (ix2 r d) 0) ?_).trans ?_
  · blk_simp [idx t]
  · refine Finset.sum_congr rfl fun k _ => congrArg₂ (· * ·) rfl ?_
    blk_ext [iblk, idx t]

end Cert.InKernelIdeal.Projection

end
-- ==== Proof.Projection.Claims.lean ====
/- The input projection's claims: its results, the projection and its values' columns, are the reference's. -/
module

public import proofs.«01_k».proof.Defs
public import proofs.«01_k».proof.Proof.Projection.Block
public import proofs.«01_k».proof.Proof.Gen.InReferenceIdeal.Run
public import Idealize.ShloMosaic.Adequacy
public import Idealize.ShloMosaic.Lib.Claim

@[expose] public section

set_option maxRecDepth 16384

noncomputable section

namespace Cert.InReferenceIdeal.Projection

open Cert.InReferenceIdeal Cert.InReferenceIdeal.Gen Idealize.ShloMosaic Idealize.ShloMosaic.TcCoe

/-- The prompt's projection. -/
def prompt (X : FVec Ideal S32x256x2048 .f32) (M : FVec Ideal S8x12288 .f32) (W : FVec Ideal S2048x4608 .f32) : FVec Ideal S32x256x4608 .f32 :=
  Host.dotGeneral dot_S32x256x2048_S2048x4608_S32x256x4608_2_0_01_1_n_n none (addf (mulf X (broadcastInDim S32x256x2048 ![0, 1, 2] bcast_S1x1x2048_S32x256x2048_0_1_2 (addf (broadcastInDim S1x1x2048 ![] bcast_S_S1x1x2048 (constant S_ .f32 0x3F800000#32)) (extractStridedSlice S1x1x2048 ![0, 0, 2048] (broadcastInDim S1x1x12288 ![0, 2] bcast_S1x12288_S1x1x12288_0_2 (extractStridedSlice S1x12288 ![0, 0] M slices_S8x12288_S1x12288_0_0)) slices_S1x1x12288_S1x1x2048_0_0_2048)))) (broadcastInDim S32x256x2048 ![0, 1, 2] bcast_S1x1x2048_S32x256x2048_0_1_2 (extractStridedSlice S1x1x2048 ![0, 0, 0] (broadcastInDim S1x1x12288 ![0, 2] bcast_S1x12288_S1x1x12288_0_2 (extractStridedSlice S1x12288 ![0, 0] M slices_S8x12288_S1x12288_0_0)) slices_S1x1x12288_S1x1x2048_0_0_0))) W

/-- The samples' projection. -/
def sample (X : FVec Ideal S4x4096x2048 .f32) (M : FVec Ideal S8x12288 .f32) (W : FVec Ideal S2048x4608 .f32) : FVec Ideal S4x4096x4608 .f32 :=
  Host.dotGeneral dot_S4x4096x2048_S2048x4608_S4x4096x4608_2_0_01_1_n_n none (addf (mulf X (broadcastInDim S4x4096x2048 ![0, 1, 2] bcast_S4x1x2048_S4x4096x2048_0_1_2 (addf (broadcastInDim S4x1x2048 ![] bcast_S_S4x1x2048 (constant S_ .f32 0x3F800000#32)) (extractStridedSlice S4x1x2048 ![0, 0, 2048] (broadcastInDim S4x1x12288 ![0, 2] bcast_S4x12288_S4x1x12288_0_2 (extractStridedSlice S4x12288 ![1, 0] M slices_S8x12288_S4x12288_1_0)) slices_S4x1x12288_S4x1x2048_0_0_2048)))) (broadcastInDim S4x4096x2048 ![0, 1, 2] bcast_S4x1x2048_S4x4096x2048_0_1_2 (extractStridedSlice S4x1x2048 ![0, 0, 0] (broadcastInDim S4x1x12288 ![0, 2] bcast_S4x12288_S4x1x12288_0_2 (extractStridedSlice S4x12288 ![1, 0] M slices_S8x12288_S4x12288_1_0)) slices_S4x1x12288_S4x1x2048_0_0_0))) W

/-- The two, one after the other. -/
def joined (P : FVec Ideal S32x256x4608 .f32) (S : FVec Ideal S4x4096x4608 .f32) : FVec Ideal S24576x4608 .f32 :=
  concatenate S24576x4608 0 [⟨S8192x4608, (shapeCast _ P shapeCasts_S32x256x4608_S8192x4608)⟩, ⟨S16384x4608, (shapeCast _ S shapeCasts_S4x4096x4608_S16384x4608)⟩] concatenates_S8192x4608_S16384x4608_S24576x4608_d0

/-- The prompt's values, head by head. -/
def values (P : FVec Ideal S32x256x4608 .f32) : FVec Ideal S32x1x2x256x128 .f32 :=
  broadcastInDim S32x1x2x256x128 ![0, 2, 3, 4] bcast_S32x2x256x128_S32x1x2x256x128_0_2_3_4 (transpose S32x2x256x128 [0, 2, 1, 3] (shapeCast _ (extractStridedSlice S32x256x256 ![0, 0, 1280] P slices_S32x256x4608_S32x256x256_0_0_1280) shapeCasts_S32x256x256_S32x256x2x128) transposes_S32x256x2x128_S32x2x256x128_0_2_1_3)

theorem prompt_at (X : FVec Ideal S32x256x2048 .f32) (M : FVec Ideal S8x12288 .f32) (W : FVec Ideal S2048x4608 .f32)
    (b : Fin 32) (l : Fin 256) (d : Fin 4608) :
    prompt X M W (ix3 b l d) = ∑ k : Fin 2048, (X (ix3 b l k) * (Ideal.ofBits .f32 0x3F800000#32 + M (ix2 0 ⟨2048 + k, by omega⟩)) + M (ix2 0 ⟨k, by omega⟩)) * W (ix2 k d) := by
  pointwise [prompt]

theorem sample_at (X : FVec Ideal S4x4096x2048 .f32) (M : FVec Ideal S8x12288 .f32) (W : FVec Ideal S2048x4608 .f32)
    (b : Fin 4) (l : Fin 4096) (d : Fin 4608) :
    sample X M W (ix3 b l d) = ∑ k : Fin 2048, (X (ix3 b l k) * (Ideal.ofBits .f32 0x3F800000#32 + M (ix2 ⟨1 + b, by omega⟩ ⟨2048 + k, by omega⟩)) + M (ix2 ⟨1 + b, by omega⟩ ⟨k, by omega⟩)) * W (ix2 k d) := by
  pointwise [sample]

theorem joined_prompt (P : FVec Ideal S32x256x4608 .f32) (S : FVec Ideal S4x4096x4608 .f32) (b : Fin 32) (l : Fin 256) (d : Fin 4608) :
    joined P S (ix2 ⟨b * 256 + l, by omega⟩ d) = P (ix3 b l d) := by
  pointwise [joined]
  rw [dif_pos (by omega)]

theorem joined_sample (P : FVec Ideal S32x256x4608 .f32) (S : FVec Ideal S4x4096x4608 .f32) (b : Fin 4) (l : Fin 4096) (d : Fin 4608) :
    joined P S (ix2 ⟨8192 + b * 4096 + l, by omega⟩ d) = S (ix3 b l d) := by
  pointwise [joined]
  rw [dif_neg (by omega)]
  blk_ext

theorem values_at (P : FVec Ideal S32x256x4608 .f32) (b : Fin 32) (z : Fin 1) (h : Fin 2) (l : Fin 256) (k : Fin 128) :
    values P (ix5 b z h l k) = P (ix3 b l ⟨1280 + h * 128 + k, by omega⟩) := by
  pointwise [values]
  blk_ext

end Cert.InReferenceIdeal.Projection

namespace Cert.InKernelIdeal.Projection

open Cert.InKernelIdeal Cert.InKernelIdeal.Gen Idealize.ShloMosaic Idealize.ShloMosaic.TcCoe

variable (m : (ℓ : Loc nD τ sig) → Buf (Elt Ideal) ℓ) (c : Dev nD)

/-- The rows the kernel is given: the prompt's, then the samples'. -/
def allRows (P : FVec Ideal S32x256x2048 .f32) (S : FVec Ideal S4x4096x2048 .f32) : FVec Ideal S24576x2048 .f32 :=
  concatenate S24576x2048 0 [⟨S8192x2048, shapeCast S8192x2048 P shapeCasts_S32x256x2048_S8192x2048⟩,
    ⟨S16384x2048, shapeCast S16384x2048 S shapeCasts_S4x4096x2048_S16384x2048⟩] concatenates_S8192x2048_S16384x2048_S24576x2048_d0

theorem given_rows : V m c main_v2 = allRows (m ((c.tc : Thread _ _).loc main_arg0)) (m ((c.tc : Thread _ _).loc main_arg1)) := by
  simp only [V, V0, List.flatten_cons, List.flatten_nil, List.append_nil]
  after_results
  rfl

/-- The modulation's rows as the kernel is given them. -/
def parts (M : FVec Ideal S8x12288 .f32) : FVec Ideal S48x1x2048 .f32 := shapeCast S48x1x2048 M shapeCasts_S8x12288_S48x1x2048

theorem given_modulation : V m c main_v3 = parts (m ((c.tc : Thread _ _).loc main_arg2)) := by
  simp only [V, V0, List.flatten_cons, List.flatten_nil, List.append_nil]
  after_results
  rfl

/-- The weights as the kernel is given them. -/
def rounded (W : FVec Ideal S2048x4608 .f32) : FVec Ideal S2048x4608 .bf16 := truncf .bf16 W bitsLt_bf16_f32

theorem given_weights : V m c main_v4 = rounded (m ((c.tc : Thread _ _).loc main_arg3)) := by
  simp only [V, V0, List.flatten_cons, List.flatten_nil, List.append_nil]
  after_results
  rfl

theorem rows_prompt (P : FVec Ideal S32x256x2048 .f32) (S : FVec Ideal S4x4096x2048 .f32) (b : Fin 32) (l : Fin 256) (k : Fin 2048) :
    allRows P S (ix2 ⟨b * 256 + l, by omega⟩ k) = P (ix3 b l k) := by
  pointwise [allRows]
  rw [dif_pos (by omega)]

theorem rows_sample (P : FVec Ideal S32x256x2048 .f32) (S : FVec Ideal S4x4096x2048 .f32) (b : Fin 4) (l : Fin 4096) (k : Fin 2048) :
    allRows P S (ix2 ⟨8192 + b * 4096 + l, by omega⟩ k) = S (ix3 b l k) := by
  pointwise [allRows]
  rw [dif_neg (by omega)]
  blk_ext

theorem parts_at (M : FVec Ideal S8x12288 .f32) (g : Fin 8) (w : Fin 6) (k : Fin 2048) :
    parts M (ix3 ⟨g * 6 + w, by omega⟩ 0 k) = M (ix2 g ⟨w * 2048 + k, by omega⟩) := by
  pointwise [parts]
  blk_ext

theorem rounded_at (W : FVec Ideal S2048x4608 .f32) (k : Fin 2048) (d : Fin 4608) : rounded W (ix2 k d) = W (ix2 k d) := by
  pointwise [rounded]

theorem split_rows (i : Fin 24576) : (∃ (b : Fin 32) (l : Fin 256), i = ⟨b * 256 + l, by omega⟩) ∨ ∃ (b : Fin 4) (l : Fin 4096), i = ⟨8192 + b * 4096 + l, by omega⟩ := by
  by_cases h : i.val < 8192
  · exact .inl ⟨⟨i.val / 256, by omega⟩, ⟨i.val % 256, by omega⟩, Fin.ext (by simp only; omega)⟩
  · exact .inr ⟨⟨(i.val - 8192) / 4096, by omega⟩, ⟨i.val % 4096, by omega⟩, Fin.ext (by simp only; omega)⟩

variable (P : FVec Ideal S32x256x2048 .f32) (S : FVec Ideal S4x4096x2048 .f32) (M : FVec Ideal S8x12288 .f32) (W : FVec Ideal S2048x4608 .f32)

/-- The projection's rows are the reference's, the prompt's and the samples'. -/
theorem result_prompt (b : Fin 32) (l : Fin 256) (d : Fin 4608) :
    result (allRows P S) (parts M) (rounded W) (ix2 ⟨b * 256 + l, by omega⟩ d) = InReferenceIdeal.Projection.prompt P M W (ix3 b l d) := by
  refine Eq.trans ?_ (InReferenceIdeal.Projection.prompt_at _ _ _ b l d).symm
  refine Finset.sum_congr rfl fun k _ => congrArg₂ (· * ·) (congrArg₂ (· + ·) (congrArg₂ (· * ·) ?_ (congrArg₂ (· + ·) rfl ?_)) ?_) ?_
  · exact rows_prompt P S b l k
  · refine Eq.trans (congrArg (parts M) ?_) ((parts_at M 0 1 k).trans (congrArg M ?_))
    · refine congrArg (ix3 · 0 k) (Fin.ext ?_); simp only [ix2_0]; omega
    · refine congrArg (ix2 0 ·) (Fin.ext ?_); simp only [Fin.val_one]
  · refine Eq.trans (congrArg (parts M) ?_) ((parts_at M 0 0 k).trans (congrArg M ?_))
    · refine congrArg (ix3 · 0 k) (Fin.ext ?_); simp only [ix2_0]; omega
    · refine congrArg (ix2 0 ·) (Fin.ext ?_); simp only [Fin.val_zero]; omega
  · exact rounded_at W k d

theorem result_sample (b : Fin 4) (l : Fin 4096) (d : Fin 4608) :
    result (allRows P S) (parts M) (rounded W) (ix2 ⟨8192 + b * 4096 + l, by omega⟩ d) = InReferenceIdeal.Projection.sample S M W (ix3 b l d) := by
  refine Eq.trans ?_ (InReferenceIdeal.Projection.sample_at _ _ _ b l d).symm
  refine Finset.sum_congr rfl fun k _ => congrArg₂ (· * ·) (congrArg₂ (· + ·) (congrArg₂ (· * ·) ?_ (congrArg₂ (· + ·) rfl ?_)) ?_) ?_
  · exact rows_sample P S b l k
  · refine Eq.trans (congrArg (parts M) ?_) ((parts_at M ⟨1 + b, by omega⟩ 1 k).trans (congrArg M ?_))
    · refine congrArg (ix3 · 0 k) (Fin.ext ?_); simp only [ix2_0, Fin.val_one]; omega
    · refine congrArg (ix2 _ ·) (Fin.ext ?_); simp only [Fin.val_one]
  · refine Eq.trans (congrArg (parts M) ?_) ((parts_at M ⟨1 + b, by omega⟩ 0 k).trans (congrArg M ?_))
    · refine congrArg (ix3 · 0 k) (Fin.ext ?_); simp only [ix2_0, Fin.val_zero]; omega
    · refine congrArg (ix2 _ ·) (Fin.ext ?_); simp only [Fin.val_zero]; omega
  · exact rounded_at W k d

/-- The columns of the values, as the lines after the kernel lay them out. -/
def valueColumns (Z : FVec Ideal S24576x4608 .f32) : FVec Ideal S32x1x2x256x128 .f32 :=
  shapeCast S32x1x2x256x128 (transpose S32x2x256x128 [0, 2, 1, 3] (shapeCast S32x256x2x128 (extractStridedSlice S8192x256 ![0, 1280] Z slices_S24576x4608_S8192x256_0_1280) shapeCasts_S8192x256_S32x256x2x128) transposes_S32x256x2x128_S32x2x256x128_0_2_1_3) shapeCasts_S32x2x256x128_S32x1x2x256x128

theorem tail_values : Pipeline.afterTail₀ cfgs (dats m) 0 (V0 m) [hostOps1] c main_v9 = valueColumns ((dats m 0 c).arrAt 4 (cfgs 0).N) := by
  unfold Pipeline.afterTail₀
  simp only [List.flatten_cons, List.flatten_nil, List.append_nil]
  after_results
  exact congrArg valueColumns (Pipeline.Dat.withArrays_arrAt (dats m 0 c) sharedIn0 (V0 m c) (A_eq m c) 4)

/-- The projection's array is the reference's two projections, joined. -/
theorem projection_eq : result (allRows P S) (parts M) (rounded W)
    = InReferenceIdeal.Projection.joined (InReferenceIdeal.Projection.prompt P M W) (InReferenceIdeal.Projection.sample S M W) := by
  funext i
  obtain ⟨q, d, rfl⟩ : ∃ (q : Fin 24576) (d : Fin 4608), i = ix2 q d := ⟨i 0, i 1, eq_ix2 i⟩
  rcases split_rows q with ⟨b, l, rfl⟩ | ⟨b, l, rfl⟩
  · exact (result_prompt P S M W b l d).trans (InReferenceIdeal.Projection.joined_prompt _ _ b l d).symm
  · exact (result_sample P S M W b l d).trans (InReferenceIdeal.Projection.joined_sample _ _ b l d).symm

theorem valueColumns_at (Z : FVec Ideal S24576x4608 .f32) (b : Fin 32) (z : Fin 1) (h : Fin 2) (l : Fin 256) (k : Fin 128) :
    valueColumns Z (ix5 b z h l k) = Z (ix2 ⟨b * 256 + l, by omega⟩ ⟨1280 + h * 128 + k, by omega⟩) := by
  pointwise [valueColumns]
  blk_ext

/-- The values' columns are the reference's. -/
theorem values_eq : valueColumns (result (allRows P S) (parts M) (rounded W))
    = InReferenceIdeal.Projection.values (InReferenceIdeal.Projection.prompt P M W) := by
  funext i
  obtain ⟨b, z, h, l, k, rfl⟩ : ∃ (b : Fin 32) (z : Fin 1) (h : Fin 2) (l : Fin 256) (k : Fin 128), i = ix5 b z h l k := ⟨i 0, i 1, i 2, i 3, i 4, eq_ix5 i⟩
  exact (valueColumns_at _ b z h l k).trans ((result_prompt P S M W b l _).trans (InReferenceIdeal.Projection.values_at _ b z h l k).symm)

end Cert.InKernelIdeal.Projection

namespace Cert.Proof.Projection

open Idealize.ShloMosaic Idealize.SL.Sem Idealize.ShloMosaic.TcCoe

theorem frame_reference : Cert.quiescent_InReferenceIdeal := fun m ρ _ =>
  (θ_run Cert.InReferenceIdeal.defs _ _).mono (fun r h => ⟨fun c => (h c).2.2, sem_eq_zero_of_no_sems (by decide) r.2⟩)
    (Cert.InReferenceIdeal.Value.run (F := Ideal) m ρ)

open Cert.InKernelIdeal Cert.InKernelIdeal.Gen in
/-- The kernel's run: its two results, read through the lines that follow the kernel. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = Cert.InKernelIdeal.Projection.result (V m c main_v2) (V m c main_v3) (V m c main_v4)
      ∧ r.2.mem ((c.tc : Thread nD τ).loc main_v9) = Cert.InKernelIdeal.Projection.valueColumns (Cert.InKernelIdeal.Projection.result (V m c main_v2) (V m c main_v3) (V m c main_v4)) :=
  (θ_run defs _ _).mono (fun r h c => ⟨((h c).1 4).trans (Cert.InKernelIdeal.Projection.final m c),
    ((h c).2 main_v9 (Pipeline.mem_restRefs_of main_v9 (by decide) (by decide))).trans
      ((Cert.InKernelIdeal.Projection.tail_values m c).trans (congrArg _ (Cert.InKernelIdeal.Projection.final m c)))⟩) (run_main m ρ)

theorem algebraic : Cert.algebraic_InKernelIdeal_InReferenceIdeal := fun m g m' g' _ hm =>
  ⟨_, _, (θ_run Cert.InKernelIdeal.defs _ _).mono (fun r h c => ⟨(h.1 c).1, (h.1 c).2, h.2 c⟩)
      (θ_run_and (run m g) (Cert.InKernelIdeal.Gen.unchanged m g)),
    (θ_run Cert.InReferenceIdeal.defs _ _).mono (fun r h c => ⟨(h c).1.trans (by
        rw [Cert.InKernelIdeal.Projection.given_rows, Cert.InKernelIdeal.Projection.given_modulation, Cert.InKernelIdeal.Projection.given_weights, Cert.InKernelIdeal.Projection.projection_eq, ← (hm c).1, ← (hm c).2.1, ← (hm c).2.2.1, ← (hm c).2.2.2]; rfl),
      (h c).2.1.trans (by
        rw [Cert.InKernelIdeal.Projection.given_rows, Cert.InKernelIdeal.Projection.given_modulation, Cert.InKernelIdeal.Projection.given_weights, Cert.InKernelIdeal.Projection.values_eq, ← (hm c).1, ← (hm c).2.2.1, ← (hm c).2.2.2]; rfl), (h c).2.2⟩)
      (Cert.InReferenceIdeal.Value.run (F := Ideal) m' g')⟩

end Cert.Proof.Projection

end
-- ==== Proof.Gated.Block.lean ====
/- The convolution module's first product, gated: the kernel: what a grid point leaves in its block and in the rows it keeps between points. -/
module

public import proofs.«01_k».proof.Proof.Gen.GluKernelIdeal.Frame
public import Idealize.ShloMosaic.Lib.Pipeline.ValueKit
public import Idealize.ShloMosaic.Lib.Pointwise

@[expose] public section

set_option maxRecDepth 16384

noncomputable section

namespace Cert.Gated

open Idealize.ShloMosaic

/-- A row's product with one column of the weights, gated by its product with another. -/
def row (h : Fin 2048 → EReal) (a g : Fin 2048 → EReal) : EReal := (∑ k, h k * a k) * Ideal.logistic (∑ k, h k * g k)

end Cert.Gated

namespace Cert.GluKernelIdeal.Gated

open Cert.GluKernelIdeal Cert.GluKernelIdeal.Gen Idealize.ShloMosaic Idealize.ShloMosaic.TcCoe
open Idealize.ShloMosaic.Pipeline (Dat)

/-- A row scaled and shifted by its group's modulation. -/
theorem modulated_row (x : Vec Ideal S1024x2048 .f32) (sc sh : Vec Ideal S1x1x2048 .f32) (r : Fin 1024) (k : Fin 2048) :
    k0_pay1 (F := Ideal) x sc sh (ix2 r k) = x (ix2 r k) * (Ideal.ofBits .f32 0x3F800000#32 + sc (ix3 0 0 k)) + sh (ix3 0 0 k) := by
  pointwise [k0_pay1]

/-- The gated product of the kept rows with the two blocks of the weights. -/
theorem product (h : Vec Ideal S1024x2048 .bf16) (a g : Vec Ideal S2048x512 .bf16) (r : Fin 1024) (d : Fin 512) :
    k0_pay2 (F := Ideal) h a h g (ix2 r d) = Gated.row (fun k => h (ix2 r k)) (fun k => a (ix2 k d)) (fun k => g (ix2 k d)) := by
  pointwise [k0_pay2, Gated.row]

variable (m : (ℓ : Loc nD τ sig) → Buf (Elt Ideal) ℓ)

/-- The blocks' places in the arrays. -/
theorem idx : ∀ t : Fin cfg0.N,
    win0_0.index t = ![t.val / 4, 0] ∧ win0_1.index t = ![(t.val / 16 - 1) * 6 + 1, 0, 0]
      ∧ win0_2.index t = ![(t.val / 16 - 1) * 6, 0, 0] ∧ win0_3.index t = ![0, t.val % 4] ∧ win0_4.index t = ![0, t.val % 4 + 4]
      ∧ win0_5.index t = ![t.val / 4, t.val % 4] :=
  (by decide +kernel : ∀ t : Fin grid0.N, _)

/-- A first point of a row of blocks: rows kept, and their product. -/
theorem first (c : Dev nD) (t : Fin cfg0.N) (h : t.val % 4 = 0) :
    outsAt0 m c t.val t.isLt = (k0_pay2 (F := Ideal) (k0_pay1 (iblk m c 0 t) (iblk m c 1 t) (iblk m c 2 t)) (iblk m c 3 t)
        (k0_pay1 (iblk m c 0 t) (iblk m c 1 t) (iblk m c 2 t)) (iblk m c 4 t),
      k0_pay1 (iblk m c 0 t) (iblk m c 1 t) (iblk m c 2 t)) := by
  rw [outsAt0_A m c t h]
  refine Prod.ext ?_ ?_
  · frame_out
  · frame_out

/-- A later point: the rows kept before, and their product. -/
theorem later (c : Dev nD) (t : Fin cfg0.N) (h : ¬t.val % 4 = 0) :
    outsAt0 m c t.val t.isLt = (k0_pay2 (F := Ideal) (outsAt0 m c (t.val - 1) (Nat.lt_of_le_of_lt (Nat.sub_le _ _) t.isLt)).2 (iblk m c 3 t)
        (outsAt0 m c (t.val - 1) (Nat.lt_of_le_of_lt (Nat.sub_le _ _) t.isLt)).2 (iblk m c 4 t),
      (outsAt0 m c (t.val - 1) (Nat.lt_of_le_of_lt (Nat.sub_le _ _) t.isLt)).2) := by
  rw [outsAt0_B m c t h]
  refine Prod.ext ?_ ?_
  · frame_out
    exact congrArg (fun x => k0_pay2 (F := Ideal) x _ x _) ((Memref.isWhole_whole cc0_scratch0).read_unread _)
  · rfl

/-- The rows kept at a point, from the arrays. -/
def rows (X : FVec Ideal S24576x2048 .f32) (M : FVec Ideal S48x1x2048 .f32) (r : Fin 24576) (k : Fin 2048) : EReal :=
  X (ix2 r k) * (Ideal.ofBits .f32 0x3F800000#32 + M (ix3 ⟨(r.val / 4096 - 1) * 6 + 1, by omega⟩ 0 k)) + M (ix3 ⟨(r.val / 4096 - 1) * 6, by omega⟩ 0 k)

theorem rows_at (c : Dev nD) (t : Fin cfg0.N) (r : Fin 1024) (k : Fin 2048) (q : Fin 24576) (hq : q.val = t.val / 4 * 1024 + r) :
    k0_pay1 (F := Ideal) (iblk m c 0 t) (iblk m c 1 t) (iblk m c 2 t) (ix2 r k) = rows (V m c main_arg0) (V m c main_v0) q k := by
  refine (modulated_row _ _ _ r k).trans ?_
  unfold rows
  refine congrArg₂ (· + ·) (congrArg₂ (· * ·) ?_ (congrArg₂ (· + ·) rfl ?_)) ?_
  all_goals blk_ext [iblk, idx t]

/-- What every point keeps: its row of blocks' rows, modulated. -/
theorem kept (c : Dev nD) : ∀ (n : ℕ) (hn : n < cfg0.N) (r : Fin 1024) (k : Fin 2048) (q : Fin 24576) (hq : q.val = n / 4 * 1024 + r),
    (outsAt0 m c n hn).2 (ix2 r k) = rows (V m c main_arg0) (V m c main_v0) q k := by
  intro n
  induction n with
  | zero =>
    intro hn r k q hq
    rw [first m c ⟨0, hn⟩ rfl]
    exact rows_at m c ⟨0, hn⟩ r k q hq
  | succ n ih =>
    intro hn r k q hq
    by_cases h : (n + 1) % 4 = 0
    · rw [first m c ⟨n + 1, hn⟩ h]
      exact rows_at m c ⟨n + 1, hn⟩ r k q hq
    · rw [later m c ⟨n + 1, hn⟩ h]
      exact ih _ r k q (by omega)

/-- What every point leaves in its block: those rows' gated products. -/
theorem left (c : Dev nD) (t : Fin cfg0.N) (r : Fin 1024) (d : Fin 512) (q : Fin 24576) (hq : q.val = t.val / 4 * 1024 + r) :
    (outsAt0 m c t.val t.isLt).1 (ix2 r d)
      = Gated.row (rows (V m c main_arg0) (V m c main_v0) q) (fun k => (show FVec Ideal S2048x512 .bf16 from iblk m c 3 t) (ix2 k d))
          (fun k => (show FVec Ideal S2048x512 .bf16 from iblk m c 4 t) (ix2 k d)) := by
  by_cases h : t.val % 4 = 0
  · rw [first m c t h]
    refine (product _ _ _ r d).trans (congrArg (Gated.row · _ _) (funext fun k => ?_))
    exact rows_at m c t r k q hq
  · rw [later m c t h]
    refine (product _ _ _ r d).trans (congrArg (Gated.row · _ _) (funext fun k => ?_))
    exact kept m c (t.val - 1) _ r k q (by omega)

/-- The gated product, from the arrays the kernel is given. -/
def result (X : FVec Ideal S24576x2048 .f32) (M : FVec Ideal S48x1x2048 .f32) (W : FVec Ideal S2048x4096 .bf16) : FVec Ideal S24576x2048 .f32 :=
  fun i => Gated.row (rows X M (i 0)) (fun k => W (ix2 k ⟨i 1, by idx_bounds; omega⟩)) (fun k => W (ix2 k ⟨2048 + i 1, by idx_bounds; omega⟩))

/-- The result array after the run. -/
theorem final (c : Dev nD) : (dats m 0 c).arrAt 5 (cfgs 0).N = result (V m c main_arg0) (V m c main_v0) (V m c main_v1) := by
  refine (dats m 0 c).arrAt_eq_of_covers 5 _ (by decide +kernel) fun t _ y => ?_
  blk_simp
  rw [after0_5]
  obtain ⟨r, d, rfl⟩ : ∃ (r : Fin 1024) (d : Fin 512), y = ix2 r d := ⟨y 0, y 1, eq_ix2 y⟩
  refine (left m c t r d (((cfg0.win 5).blk t).view.emb (ix2 r d) 0) ?_).trans ?_
  · blk_simp [idx t]
  · refine congrArg₂ (Gated.row _) (funext fun k => ?_) (funext fun k => ?_)
    all_goals blk_ext [iblk, idx t]

end Cert.GluKernelIdeal.Gated

end
-- ==== Proof.Gated.Claims.lean ====
/- The gated product's claims: the kernel's result is the reference's. -/
module

public import proofs.«01_k».proof.Defs
public import proofs.«01_k».proof.Proof.Gated.Block
public import proofs.«01_k».proof.Proof.Gen.GluReferenceIdeal.Run
public import Idealize.ShloMosaic.Adequacy
public import Idealize.ShloMosaic.Lib.Claim

@[expose] public section

set_option maxRecDepth 16384

noncomputable section

namespace Cert.GluReferenceIdeal.Gated

open Cert.GluReferenceIdeal Cert.GluReferenceIdeal.Gen Idealize.ShloMosaic Idealize.ShloMosaic.TcCoe

/-- The prompt's rows, modulated. -/
def promptRows (X : FVec Ideal S32x256x2048 .f32) (M : FVec Ideal S8x12288 .f32) : FVec Ideal S32x256x2048 .f32 :=
  addf (mulf X (broadcastInDim S32x256x2048 ![0, 1, 2] bcast_S1x1x2048_S32x256x2048_0_1_2 (addf (broadcastInDim S1x1x2048 ![] bcast_S_S1x1x2048 (constant S_ .f32 0x3F800000#32)) (extractStridedSlice S1x1x2048 ![0, 0, 2048] (broadcastInDim S1x1x12288 ![0, 2] bcast_S1x12288_S1x1x12288_0_2 (extractStridedSlice S1x12288 ![0, 0] M slices_S8x12288_S1x12288_0_0)) slices_S1x1x12288_S1x1x2048_0_0_2048)))) (broadcastInDim S32x256x2048 ![0, 1, 2] bcast_S1x1x2048_S32x256x2048_0_1_2 (extractStridedSlice S1x1x2048 ![0, 0, 0] (broadcastInDim S1x1x12288 ![0, 2] bcast_S1x12288_S1x1x12288_0_2 (extractStridedSlice S1x12288 ![0, 0] M slices_S8x12288_S1x12288_0_0)) slices_S1x1x12288_S1x1x2048_0_0_0))

/-- The prompt's products. -/
def promptProduct (H : FVec Ideal S32x256x2048 .f32) (W : FVec Ideal S2048x4096 .f32) : FVec Ideal S32x256x4096 .f32 :=
  Host.dotGeneral dot_S32x256x2048_S2048x4096_S32x256x4096_2_0_01_1_n_n none H W

/-- One half of the prompt's products gated by the other. -/
def promptGated (A : FVec Ideal S32x256x4096 .f32) : FVec Ideal S32x256x2048 .f32 :=
  mulf (extractStridedSlice S32x256x2048 ![0, 0, 0] A slices_S32x256x4096_S32x256x2048_0_0_0) (Host.divf (broadcastInDim S32x256x2048 ![] bcast_S_S32x256x2048 (constant S_ .f32 0x3F800000#32)) (addf (broadcastInDim S32x256x2048 ![] bcast_S_S32x256x2048 (constant S_ .f32 0x3F800000#32)) (Host.exp (Host.negf (extractStridedSlice S32x256x2048 ![0, 0, 2048] A slices_S32x256x4096_S32x256x2048_0_0_2048)))))

/-- The prompt's part of the rows. -/
def promptPart (X : FVec Ideal S24576x2048 .f32) : FVec Ideal S32x256x2048 .f32 :=
  shapeCast _ (extractStridedSlice S8192x2048 ![0, 0] X slices_S24576x2048_S8192x2048_0_0) shapeCasts_S8192x2048_S32x256x2048

/-- The prompt's gated products. -/
def prompt (X : FVec Ideal S24576x2048 .f32) (M : FVec Ideal S8x12288 .f32) (W : FVec Ideal S2048x4096 .f32) : FVec Ideal S32x256x2048 .f32 :=
  promptGated (promptProduct (promptRows (promptPart X) M) W)

theorem promptPart_at (X : FVec Ideal S24576x2048 .f32) (b : Fin 32) (l : Fin 256) (k : Fin 2048) :
    promptPart X (ix3 b l k) = X (ix2 ⟨b * 256 + l, by omega⟩ k) := by
  pointwise [promptPart]
  blk_ext

theorem promptRows_at (X : FVec Ideal S32x256x2048 .f32) (M : FVec Ideal S8x12288 .f32) (b : Fin 32) (l : Fin 256) (k : Fin 2048) :
    promptRows X M (ix3 b l k) = X (ix3 b l k) * (Ideal.ofBits .f32 0x3F800000#32 + M (ix2 0 ⟨2048 + k, by omega⟩)) + M (ix2 0 ⟨k, by omega⟩) := by
  pointwise [promptRows]

theorem promptProduct_at (H : FVec Ideal S32x256x2048 .f32) (W : FVec Ideal S2048x4096 .f32) (b : Fin 32) (l : Fin 256) (d : Fin 4096) :
    promptProduct H W (ix3 b l d) = ∑ k : Fin 2048, H (ix3 b l k) * W (ix2 k d) := by
  pointwise [promptProduct]

theorem promptGated_at (A : FVec Ideal S32x256x4096 .f32) (b : Fin 32) (l : Fin 256) (d : Fin 2048) :
    promptGated A (ix3 b l d) = A (ix3 b l ⟨d, by omega⟩) * Ideal.logistic (A (ix3 b l ⟨2048 + d, by omega⟩)) := by
  pointwise [promptGated]
  rfl

theorem prompt_at (X : FVec Ideal S24576x2048 .f32) (M : FVec Ideal S8x12288 .f32) (W : FVec Ideal S2048x4096 .f32) (b : Fin 32) (l : Fin 256) (d : Fin 2048) :
    prompt X M W (ix3 b l d) = Gated.row (fun k => promptRows (promptPart X) M (ix3 b l k)) (fun k => W (ix2 k ⟨d, by omega⟩)) (fun k => W (ix2 k ⟨2048 + d, by omega⟩)) :=
  (promptGated_at _ b l d).trans (congrArg₂ (fun x y => x * Ideal.logistic y) (promptProduct_at _ W b l _) (promptProduct_at _ W b l _))

/-- The sample's rows, modulated. -/
def sampleRows (X : FVec Ideal S4x4096x2048 .f32) (M : FVec Ideal S8x12288 .f32) : FVec Ideal S4x4096x2048 .f32 :=
  addf (mulf X (broadcastInDim S4x4096x2048 ![0, 1, 2] bcast_S4x1x2048_S4x4096x2048_0_1_2 (addf (broadcastInDim S4x1x2048 ![] bcast_S_S4x1x2048 (constant S_ .f32 0x3F800000#32)) (extractStridedSlice S4x1x2048 ![0, 0, 2048] (broadcastInDim S4x1x12288 ![0, 2] bcast_S4x12288_S4x1x12288_0_2 (extractStridedSlice S4x12288 ![1, 0] M slices_S8x12288_S4x12288_1_0)) slices_S4x1x12288_S4x1x2048_0_0_2048)))) (broadcastInDim S4x4096x2048 ![0, 1, 2] bcast_S4x1x2048_S4x4096x2048_0_1_2 (extractStridedSlice S4x1x2048 ![0, 0, 0] (broadcastInDim S4x1x12288 ![0, 2] bcast_S4x12288_S4x1x12288_0_2 (extractStridedSlice S4x12288 ![1, 0] M slices_S8x12288_S4x12288_1_0)) slices_S4x1x12288_S4x1x2048_0_0_0))

/-- The sample's products. -/
def sampleProduct (H : FVec Ideal S4x4096x2048 .f32) (W : FVec Ideal S2048x4096 .f32) : FVec Ideal S4x4096x4096 .f32 :=
  Host.dotGeneral dot_S4x4096x2048_S2048x4096_S4x4096x4096_2_0_01_1_n_n none H W

/-- One half of the sample's products gated by the other. -/
def sampleGated (A : FVec Ideal S4x4096x4096 .f32) : FVec Ideal S4x4096x2048 .f32 :=
  mulf (extractStridedSlice S4x4096x2048 ![0, 0, 0] A slices_S4x4096x4096_S4x4096x2048_0_0_0) (Host.divf (broadcastInDim S4x4096x2048 ![] bcast_S_S4x4096x2048 (constant S_ .f32 0x3F800000#32)) (addf (broadcastInDim S4x4096x2048 ![] bcast_S_S4x4096x2048 (constant S_ .f32 0x3F800000#32)) (Host.exp (Host.negf (extractStridedSlice S4x4096x2048 ![0, 0, 2048] A slices_S4x4096x4096_S4x4096x2048_0_0_2048)))))

/-- The sample's part of the rows. -/
def samplePart (X : FVec Ideal S24576x2048 .f32) : FVec Ideal S4x4096x2048 .f32 :=
  shapeCast _ (extractStridedSlice S16384x2048 ![8192, 0] X slices_S24576x2048_S16384x2048_8192_0) shapeCasts_S16384x2048_S4x4096x2048

/-- The sample's gated products. -/
def sample (X : FVec Ideal S24576x2048 .f32) (M : FVec Ideal S8x12288 .f32) (W : FVec Ideal S2048x4096 .f32) : FVec Ideal S4x4096x2048 .f32 :=
  sampleGated (sampleProduct (sampleRows (samplePart X) M) W)

theorem samplePart_at (X : FVec Ideal S24576x2048 .f32) (b : Fin 4) (l : Fin 4096) (k : Fin 2048) :
    samplePart X (ix3 b l k) = X (ix2 ⟨8192 + b * 4096 + l, by omega⟩ k) := by
  pointwise [samplePart]
  blk_ext

theorem sampleRows_at (X : FVec Ideal S4x4096x2048 .f32) (M : FVec Ideal S8x12288 .f32) (b : Fin 4) (l : Fin 4096) (k : Fin 2048) :
    sampleRows X M (ix3 b l k) = X (ix3 b l k) * (Ideal.ofBits .f32 0x3F800000#32 + M (ix2 ⟨1 + b, by omega⟩ ⟨2048 + k, by omega⟩)) + M (ix2 ⟨1 + b, by omega⟩ ⟨k, by omega⟩) := by
  pointwise [sampleRows]

theorem sampleProduct_at (H : FVec Ideal S4x4096x2048 .f32) (W : FVec Ideal S2048x4096 .f32) (b : Fin 4) (l : Fin 4096) (d : Fin 4096) :
    sampleProduct H W (ix3 b l d) = ∑ k : Fin 2048, H (ix3 b l k) * W (ix2 k d) := by
  pointwise [sampleProduct]

theorem sampleGated_at (A : FVec Ideal S4x4096x4096 .f32) (b : Fin 4) (l : Fin 4096) (d : Fin 2048) :
    sampleGated A (ix3 b l d) = A (ix3 b l ⟨d, by omega⟩) * Ideal.logistic (A (ix3 b l ⟨2048 + d, by omega⟩)) := by
  pointwise [sampleGated]
  rfl

theorem sample_at (X : FVec Ideal S24576x2048 .f32) (M : FVec Ideal S8x12288 .f32) (W : FVec Ideal S2048x4096 .f32) (b : Fin 4) (l : Fin 4096) (d : Fin 2048) :
    sample X M W (ix3 b l d) = Gated.row (fun k => sampleRows (samplePart X) M (ix3 b l k)) (fun k => W (ix2 k ⟨d, by omega⟩)) (fun k => W (ix2 k ⟨2048 + d, by omega⟩)) :=
  (sampleGated_at _ b l d).trans (congrArg₂ (fun x y => x * Ideal.logistic y) (sampleProduct_at _ W b l _) (sampleProduct_at _ W b l _))

/-- The two, one after the other. -/
def joined (P : FVec Ideal S32x256x2048 .f32) (S : FVec Ideal S4x4096x2048 .f32) : FVec Ideal S24576x2048 .f32 :=
  concatenate S24576x2048 0 [⟨S8192x2048, (shapeCast _ P shapeCasts_S32x256x2048_S8192x2048)⟩, ⟨S16384x2048, (shapeCast _ S shapeCasts_S4x4096x2048_S16384x2048)⟩] concatenates_S8192x2048_S16384x2048_S24576x2048_d0

theorem joined_prompt (P : FVec Ideal S32x256x2048 .f32) (S : FVec Ideal S4x4096x2048 .f32) (b : Fin 32) (l : Fin 256) (d : Fin 2048) :
    joined P S (ix2 ⟨b * 256 + l, by omega⟩ d) = P (ix3 b l d) := by
  pointwise [joined]
  rw [dif_pos (by omega)]

theorem joined_sample (P : FVec Ideal S32x256x2048 .f32) (S : FVec Ideal S4x4096x2048 .f32) (b : Fin 4) (l : Fin 4096) (d : Fin 2048) :
    joined P S (ix2 ⟨8192 + b * 4096 + l, by omega⟩ d) = S (ix3 b l d) := by
  pointwise [joined]
  rw [dif_neg (by omega)]
  blk_ext

/-- The reference's result is these, composed. -/
theorem result_eq (m : (ℓ : Loc nD τ sig) → Buf (Elt Ideal) ℓ) (c : Dev nD) : Value.res_main_v54 m c
    = joined (prompt (m ((c.tc : Thread nD τ).loc main_arg0)) (m ((c.tc : Thread nD τ).loc main_arg1)) (m ((c.tc : Thread nD τ).loc main_arg2)))
        (sample (m ((c.tc : Thread nD τ).loc main_arg0)) (m ((c.tc : Thread nD τ).loc main_arg1)) (m ((c.tc : Thread nD τ).loc main_arg2))) := rfl

end Cert.GluReferenceIdeal.Gated

namespace Cert.GluKernelIdeal.Gated

open Cert.GluKernelIdeal Cert.GluKernelIdeal.Gen Idealize.ShloMosaic Idealize.ShloMosaic.TcCoe

variable (m : (ℓ : Loc nD τ sig) → Buf (Elt Ideal) ℓ) (c : Dev nD)

/-- The modulation's rows as the kernel is given them. -/
def parts (M : FVec Ideal S8x12288 .f32) : FVec Ideal S48x1x2048 .f32 := shapeCast S48x1x2048 M shapeCasts_S8x12288_S48x1x2048

theorem given_modulation : V m c main_v0 = parts (m ((c.tc : Thread _ _).loc main_arg1)) := by
  unfold V
  after_results
  rfl

/-- The weights as the kernel is given them. -/
def rounded (W : FVec Ideal S2048x4096 .f32) : FVec Ideal S2048x4096 .bf16 := truncf .bf16 W bitsLt_bf16_f32

theorem given_weights : V m c main_v1 = rounded (m ((c.tc : Thread _ _).loc main_arg2)) := by
  unfold V
  after_results
  rfl

theorem parts_at (M : FVec Ideal S8x12288 .f32) (g : Fin 8) (w : Fin 6) (k : Fin 2048) :
    parts M (ix3 ⟨g * 6 + w, by omega⟩ 0 k) = M (ix2 g ⟨w * 2048 + k, by omega⟩) := by
  pointwise [parts]
  blk_ext

theorem rounded_at (W : FVec Ideal S2048x4096 .f32) (k : Fin 2048) (d : Fin 4096) : rounded W (ix2 k d) = W (ix2 k d) := by
  pointwise [rounded]

theorem split_rows (i : Fin 24576) : (∃ (b : Fin 32) (l : Fin 256), i = ⟨b * 256 + l, by omega⟩) ∨ ∃ (b : Fin 4) (l : Fin 4096), i = ⟨8192 + b * 4096 + l, by omega⟩ := by
  by_cases h : i.val < 8192
  · exact .inl ⟨⟨i.val / 256, by omega⟩, ⟨i.val % 256, by omega⟩, Fin.ext (by simp only; omega)⟩
  · exact .inr ⟨⟨(i.val - 8192) / 4096, by omega⟩, ⟨i.val % 4096, by omega⟩, Fin.ext (by simp only; omega)⟩

variable (X : FVec Ideal S24576x2048 .f32) (M : FVec Ideal S8x12288 .f32) (W : FVec Ideal S2048x4096 .f32)

/-- The prompt's rows of the result are the reference's. -/
theorem result_prompt (b : Fin 32) (l : Fin 256) (d : Fin 2048) :
    result X (parts M) (rounded W) (ix2 ⟨b * 256 + l, by omega⟩ d) = GluReferenceIdeal.Gated.prompt X M W (ix3 b l d) := by
  refine Eq.trans ?_ (GluReferenceIdeal.Gated.prompt_at _ _ _ b l d).symm
  refine (congrArg (fun h => Gated.row h _ _) (funext fun k => ?_)).trans (congrArg₂ (Gated.row _) (funext fun k => rounded_at W k _) (funext fun k => rounded_at W k _))
  refine Eq.trans ?_ (GluReferenceIdeal.Gated.promptRows_at _ M b l k).symm
  refine congrArg₂ (· + ·) (congrArg₂ (· * ·) ?_ (congrArg₂ (· + ·) rfl ?_)) ?_
  · exact (GluReferenceIdeal.Gated.promptPart_at X b l k).symm
  · refine Eq.trans (congrArg (parts M) ?_) ((parts_at M 0 1 k).trans (congrArg M ?_))
    · refine congrArg (ix3 · 0 k) (Fin.ext ?_); simp only [ix2_0, Fin.val_zero, Fin.val_one]; omega
    · refine congrArg (ix2 _ ·) (Fin.ext ?_); simp only [Fin.val_one]; try omega
  · refine Eq.trans (congrArg (parts M) ?_) ((parts_at M 0 0 k).trans (congrArg M ?_))
    · refine congrArg (ix3 · 0 k) (Fin.ext ?_); simp only [ix2_0, Fin.val_zero]; omega
    · refine congrArg (ix2 _ ·) (Fin.ext ?_); simp only [Fin.val_zero]; omega

/-- The sample's rows of the result are the reference's. -/
theorem result_sample (b : Fin 4) (l : Fin 4096) (d : Fin 2048) :
    result X (parts M) (rounded W) (ix2 ⟨8192 + b * 4096 + l, by omega⟩ d) = GluReferenceIdeal.Gated.sample X M W (ix3 b l d) := by
  refine Eq.trans ?_ (GluReferenceIdeal.Gated.sample_at _ _ _ b l d).symm
  refine (congrArg (fun h => Gated.row h _ _) (funext fun k => ?_)).trans (congrArg₂ (Gated.row _) (funext fun k => rounded_at W k _) (funext fun k => rounded_at W k _))
  refine Eq.trans ?_ (GluReferenceIdeal.Gated.sampleRows_at _ M b l k).symm
  refine congrArg₂ (· + ·) (congrArg₂ (· * ·) ?_ (congrArg₂ (· + ·) rfl ?_)) ?_
  · exact (GluReferenceIdeal.Gated.samplePart_at X b l k).symm
  · refine Eq.trans (congrArg (parts M) ?_) ((parts_at M ⟨1 + b, by omega⟩ 1 k).trans (congrArg M ?_))
    · refine congrArg (ix3 · 0 k) (Fin.ext ?_); simp only [ix2_0, Fin.val_zero, Fin.val_one]; omega
    · refine congrArg (ix2 _ ·) (Fin.ext ?_); simp only [Fin.val_one]; try omega
  · refine Eq.trans (congrArg (parts M) ?_) ((parts_at M ⟨1 + b, by omega⟩ 0 k).trans (congrArg M ?_))
    · refine congrArg (ix3 · 0 k) (Fin.ext ?_); simp only [ix2_0, Fin.val_zero]; omega
    · refine congrArg (ix2 _ ·) (Fin.ext ?_); simp only [Fin.val_zero]; omega

/-- The result array is the reference's. -/
theorem result_eq : result X (parts M) (rounded W)
    = GluReferenceIdeal.Gated.joined (GluReferenceIdeal.Gated.prompt X M W) (GluReferenceIdeal.Gated.sample X M W) := by
  funext i
  obtain ⟨q, d, rfl⟩ : ∃ (q : Fin 24576) (d : Fin 2048), i = ix2 q d := ⟨i 0, i 1, eq_ix2 i⟩
  rcases split_rows q with ⟨b, l, rfl⟩ | ⟨b, l, rfl⟩
  · exact (result_prompt X M W b l d).trans (GluReferenceIdeal.Gated.joined_prompt _ _ b l d).symm
  · exact (result_sample X M W b l d).trans (GluReferenceIdeal.Gated.joined_sample _ _ b l d).symm

end Cert.GluKernelIdeal.Gated

namespace Cert.Proof.Gated

open Idealize.ShloMosaic Idealize.SL.Sem Idealize.ShloMosaic.TcCoe

theorem frame_reference : Cert.quiescent_GluReferenceIdeal := fun m ρ _ =>
  (θ_run Cert.GluReferenceIdeal.defs _ _).mono (fun r h => ⟨fun c => (h c).2, sem_eq_zero_of_no_sems (by decide) r.2⟩)
    (Cert.GluReferenceIdeal.Value.run (F := Ideal) m ρ)

theorem algebraic : Cert.algebraic_GluKernelIdeal_GluReferenceIdeal := fun m g m' g' _ hm =>
  ⟨_, (θ_run Cert.GluKernelIdeal.defs _ _).mono (fun r h c => ⟨((h.1 c).1 5).trans (Cert.GluKernelIdeal.Gated.final m c), h.2 c⟩)
      (θ_run_and (Cert.GluKernelIdeal.Gen.run_main m g) (Cert.GluKernelIdeal.Gen.unchanged m g)),
    (θ_run Cert.GluReferenceIdeal.defs _ _).mono (fun r h c => ⟨(h c).1.trans (by
        rw [Cert.GluReferenceIdeal.Gated.result_eq, (hm c).1, (hm c).2.1, (hm c).2.2, Cert.GluKernelIdeal.Gen.V_main_arg0,
          Cert.GluKernelIdeal.Gated.given_modulation, Cert.GluKernelIdeal.Gated.given_weights]
        exact (Cert.GluKernelIdeal.Gated.result_eq _ _ _).symm), (h c).2⟩)
      (Cert.GluReferenceIdeal.Value.run (F := Ideal) m' g')⟩

end Cert.Proof.Gated

end
-- ==== Proof.LayerNorm.lean ====
/- The layer norm of one row, as the kernels and the reference compute it. -/
module

public import Idealize.ShloMosaic.Lib.Pipeline.ValueKit
public import Idealize.ShloMosaic.Lib.Pointwise

@[expose] public section

noncomputable section

namespace Cert.LayerNorm

open Idealize.ShloMosaic

/-- A row's mean. -/
def mean (z : Fin 2048 → EReal) : EReal := Ideal.div (∑ k, z k) (Ideal.ofBits .f32 0x45000000#32)

/-- A row less its mean. -/
def centred (z : Fin 2048 → EReal) (j : Fin 2048) : EReal := z j - mean z

/-- A row less its mean, over the root of its variance. -/
def normed (z : Fin 2048 → EReal) (j : Fin 2048) : EReal :=
  centred z j * Ideal.rsqrt (mean (fun k => centred z k * centred z k) + Ideal.ofBits .f32 0x358637BD#32)

/-- The same, scaled and shifted lane by lane. -/
def layerNorm (z g b : Fin 2048 → EReal) (j : Fin 2048) : EReal := normed z j * g j + b j

/-- The residual's row, scaled, plus the gated row. -/
def residual (x s y : EReal) : EReal := Ideal.ofBits .f32 0x3FB504F3#32 * x + s * y

/-- A row lies in one of the prompts or in one of the samples. -/
theorem split_rows (i : Fin 24576) :
    (∃ (b : Fin 32) (l : Fin 256), i = ⟨b * 256 + l, by omega⟩) ∨ ∃ (b : Fin 4) (l : Fin 4096), i = ⟨8192 + b * 4096 + l, by omega⟩ := by
  by_cases h : i.val < 8192
  · exact .inl ⟨⟨i.val / 256, by omega⟩, ⟨i.val % 256, by omega⟩, Fin.ext (by simp only; omega)⟩
  · exact .inr ⟨⟨(i.val - 8192) / 4096, by omega⟩, ⟨i.val % 4096, by omega⟩, Fin.ext (by simp only; omega)⟩

end Cert.LayerNorm

end
-- ==== Proof.Router.lean ====
/- The router's scores: weights laid side by side, a product taken in two halves, and where the numbers are real. -/
module

public import proofs.«01_k».proof.Proof.LayerNorm
public import proofs.«01_k».proof.Proof.Attention.Softmax
public import Idealize.ShloMosaic.Lib.Routing.OpsOne

@[expose] public section

noncomputable section

namespace Cert.Router

open Idealize.ShloMosaic Idealize.ShloMosaic.Routing

/-- An update of some columns lands at the same row, its columns from the index word on. -/
theorem lands_columns {R C U w : Nat} (d : ScatterDims (shape2 R C) (shape1 1) (shape2 R U)) (huw : d.updateWindowDims = [0, 1])
    (hiw : d.insertedWindowDims = []) (hsd : d.scatterDimsToOperandDims = [1]) (idx : IVec (shape1 1) w)
    (r' : Fin R) (j : Fin U) (r : Fin R) (c : Fin C) :
    d.resultIdx? (ValueIdx.ix2 r' j) idx = some (ValueIdx.ix2 r c) ↔ (r'.val = r.val ∧ (idx (ValueIdx.ix1 0)).toInt + (j.val : Int) = c.val) := by
  obtain ⟨uw, iw, sd, iv, wf⟩ := d
  simp only at huw hiw hsd
  subst huw hiw hsd
  rw [resultIdx?_ix2]
  have w0 : ScatterDims.window ⟨[0, 1], [], [1], iv, wf⟩ (ValueIdx.ix2 r' j) (0 : Fin 2) = r'.val := rfl
  have w1 : ScatterDims.window ⟨[0, 1], [], [1], iv, wf⟩ (ValueIdx.ix2 r' j) (1 : Fin 2) = j.val := rfl
  have s0 : ScatterDims.start ⟨[0, 1], [], [1], iv, wf⟩ (ValueIdx.ix2 r' j) idx (0 : Fin 2) = 0 := rfl
  have s1 : ScatterDims.start ⟨[0, 1], [], [1], iv, wf⟩ (ValueIdx.ix2 r' j) idx (1 : Fin 2) = (idx (ValueIdx.ix1 0)).toInt := by
    unfold ScatterDims.start
    rw [dif_pos (List.mem_singleton.2 rfl)]
    refine congrArg (fun i => (idx i).toInt) (funext fun b => ?_)
    match b with
    | ⟨0, _⟩ => exact Subsingleton.elim (α := Fin 1) _ _
  rw [w0, w1, s0, s1]
  omega

/-- Columns written over an array: inside them the update's. -/
theorem columns_in {α : Type} {R C U w : Nat} (d : ScatterDims (shape2 R C) (shape1 1) (shape2 R U)) (huw : d.updateWindowDims = [0, 1])
    (hiw : d.insertedWindowDims = []) (hsd : d.scatterDimsToOperandDims = [1]) (x : (shape2 R C).Idx → α) (idx : IVec (shape1 1) w)
    (u : (shape2 R U).Idx → α) (k : Nat) (hk : (idx (ValueIdx.ix1 0)).toInt = (k : Int)) (r : Fin R) (c : Fin C) (j : Fin U) (hc : c.val = k + j.val) :
    Host.scatter d (fun _ b => b) x idx u (ValueIdx.ix2 r c) = u (ValueIdx.ix2 r j) := by
  refine scatter_set_hit d x idx u _ _ (fun i hi => ?_) (ValueIdx.ix2 r j) ((lands_columns d huw hiw hsd idx r j r c).2 ⟨rfl, by omega⟩)
  obtain ⟨r', j', rfl⟩ : ∃ (r' : Fin R) (j' : Fin U), i = ValueIdx.ix2 r' j' := ⟨i 0, i 1, ValueIdx.eq_ix2 i⟩
  obtain ⟨e0, e1⟩ := (lands_columns d huw hiw hsd idx r' j' r c).1 hi
  rw [show r' = r from Fin.ext e0, show j' = j from Fin.ext (by omega)]

/-- Before them, the array's own. -/
theorem columns_before {α : Type} {R C U w : Nat} (d : ScatterDims (shape2 R C) (shape1 1) (shape2 R U)) (huw : d.updateWindowDims = [0, 1])
    (hiw : d.insertedWindowDims = []) (hsd : d.scatterDimsToOperandDims = [1]) (x : (shape2 R C).Idx → α) (idx : IVec (shape1 1) w)
    (u : (shape2 R U).Idx → α) (k : Nat) (hk : (idx (ValueIdx.ix1 0)).toInt = (k : Int)) (r : Fin R) (c : Fin C) (hc : c.val < k) :
    Host.scatter d (fun _ b => b) x idx u (ValueIdx.ix2 r c) = x (ValueIdx.ix2 r c) := by
  refine scatter_set_miss d x idx u _ fun i hi => ?_
  obtain ⟨r', j', rfl⟩ : ∃ (r' : Fin R) (j' : Fin U), i = ValueIdx.ix2 r' j' := ⟨i 0, i 1, ValueIdx.eq_ix2 i⟩
  obtain ⟨-, e1⟩ := (lands_columns d huw hiw hsd idx r' j' r c).1 hi
  omega

/-- An update of some of one row's entries lands on that row, its entries from the second index word on. -/
theorem lands_entries {C U w : Nat} (d : ScatterDims (shape2 1 C) (shape1 2) (shape1 U)) (huw : d.updateWindowDims = [0])
    (hiw : d.insertedWindowDims = [0]) (hsd : d.scatterDimsToOperandDims = [0, 1]) (hiv : d.indexVectorDim = 0) (idx : IVec (shape1 2) w)
    (h0 : (idx (ValueIdx.ix1 0)).toInt = 0) (j : Fin U) (c : Fin C) :
    d.resultIdx? (ValueIdx.ix1 j) idx = some (ValueIdx.ix2 0 c) ↔ (idx (ValueIdx.ix1 1)).toInt + (j.val : Int) = c.val := by
  rw [resultIdx?_ix2, start_pair d hsd hiv, start_pair d hsd hiv]
  obtain ⟨uw, iw, sd, iv, wf⟩ := d
  simp only at huw hiw hsd hiv
  subst huw hiw hsd hiv
  have w0 : ScatterDims.window ⟨[0], [0], [0, 1], 0, wf⟩ (ValueIdx.ix1 j) (0 : Fin 2) = 0 := rfl
  have w1 : ScatterDims.window ⟨[0], [0], [0, 1], 0, wf⟩ (ValueIdx.ix1 j) (1 : Fin 2) = j.val := rfl
  rw [w0, w1, h0]
  have : ((0 : Fin 1).val : Int) = 0 := rfl
  constructor
  · intro h; exact h.2
  · intro h; exact ⟨by omega, h⟩

theorem entries_in {α : Type} {C U w : Nat} (d : ScatterDims (shape2 1 C) (shape1 2) (shape1 U)) (huw : d.updateWindowDims = [0])
    (hiw : d.insertedWindowDims = [0]) (hsd : d.scatterDimsToOperandDims = [0, 1]) (hiv : d.indexVectorDim = 0) (x : (shape2 1 C).Idx → α)
    (idx : IVec (shape1 2) w) (u : (shape1 U).Idx → α) (h0 : (idx (ValueIdx.ix1 0)).toInt = 0) (k : Nat) (hk : (idx (ValueIdx.ix1 1)).toInt = (k : Int))
    (c : Fin C) (j : Fin U) (hc : c.val = k + j.val) :
    Host.scatter d (fun _ b => b) x idx u (ValueIdx.ix2 0 c) = u (ValueIdx.ix1 j) := by
  refine scatter_set_hit d x idx u _ _ (fun i hi => ?_) (ValueIdx.ix1 j) ((lands_entries d huw hiw hsd hiv idx h0 j c).2 (by omega))
  obtain ⟨j', rfl⟩ : ∃ j' : Fin U, i = ValueIdx.ix1 j' := ⟨i 0, ValueIdx.eq_ix1 i⟩
  have e1 := (lands_entries d huw hiw hsd hiv idx h0 j' c).1 hi
  rw [show j' = j from Fin.ext (by omega)]

theorem entries_before {α : Type} {C U w : Nat} (d : ScatterDims (shape2 1 C) (shape1 2) (shape1 U)) (huw : d.updateWindowDims = [0])
    (hiw : d.insertedWindowDims = [0]) (hsd : d.scatterDimsToOperandDims = [0, 1]) (hiv : d.indexVectorDim = 0) (x : (shape2 1 C).Idx → α)
    (idx : IVec (shape1 2) w) (u : (shape1 U).Idx → α) (h0 : (idx (ValueIdx.ix1 0)).toInt = 0) (k : Nat) (hk : (idx (ValueIdx.ix1 1)).toInt = (k : Int))
    (c : Fin C) (hc : c.val < k) :
    Host.scatter d (fun _ b => b) x idx u (ValueIdx.ix2 0 c) = x (ValueIdx.ix2 0 c) := by
  refine scatter_set_miss d x idx u _ fun i hi => ?_
  obtain ⟨j', rfl⟩ : ∃ j' : Fin U, i = ValueIdx.ix1 j' := ⟨i 0, ValueIdx.eq_ix1 i⟩
  have e1 := (lands_entries d huw hiw hsd hiv idx h0 j' c).1 hi
  omega

/-- The next layer's input at a lane: the layer norm, scaled and shifted by the modulation. -/
def shifted (n sc sh : EReal) : EReal := n * (Ideal.ofBits .f32 0x3F800000#32 + sc) + sh

/-- A row's score for one column of the weights. -/
def score (h w : Fin 2048 → EReal) (b : EReal) : EReal := (∑ k, h k * w k) + b

/-- The same with row and weights each taken as a rounded part and what the rounding left. -/
def halves (h w : Fin 2048 → EReal) (b : EReal) : EReal :=
  (∑ k, h k * w k) + (∑ k, h k * (w k - w k)) + (∑ k, (h k - h k) * w k) + b

end Cert.Router

namespace Cert.Attention

open Idealize.ShloMosaic

theorem Finite.add {x y : EReal} (hx : Finite x) (hy : Finite y) : Finite (x + y) := by
  obtain ⟨r, rfl⟩ := hx
  obtain ⟨t, rfl⟩ := hy
  exact ⟨r + t, (EReal.coe_add r t).symm⟩

theorem Finite.sub {x y : EReal} (hx : Finite x) (hy : Finite y) : Finite (x - y) := by
  obtain ⟨r, rfl⟩ := hx
  obtain ⟨t, rfl⟩ := hy
  exact ⟨r - t, (EReal.coe_sub r t).symm⟩

theorem Finite.sub_self {x : EReal} (hx : Finite x) : x - x = 0 := by
  obtain ⟨r, rfl⟩ := hx
  rw [← EReal.coe_sub, _root_.sub_self, EReal.coe_zero]

theorem finite_zero : Finite 0 := ⟨0, rfl⟩

theorem finite_one : Finite 1 := ⟨1, rfl⟩

end Cert.Attention

namespace Cert.Router

open Idealize.ShloMosaic Cert.Attention

/-- Real numbers lose nothing to the halving. -/
theorem halves_eq (h w : Fin 2048 → EReal) (b : EReal) (hh : ∀ k, Finite (h k)) (hw : ∀ k, Finite (w k)) : halves h w b = score h w b := by
  unfold halves score
  rw [show (∑ k, h k * (w k - w k)) = 0 from Finset.sum_eq_zero (fun k _ => by rw [(hw k).sub_self, mul_zero]),
    show (∑ k, (h k - h k) * w k) = 0 from Finset.sum_eq_zero (fun k _ => by rw [(hh k).sub_self, zero_mul]), add_zero, add_zero]

theorem length_eq : Ideal.ofBits .f32 0x45000000#32 = ((2048 : ℝ) : EReal) := by
  simp [Ideal.ofBits, Ideal.ieee]
  rw [← EReal.coe_mul]
  norm_num

theorem epsilon_pos : ∃ r : ℝ, 0 < r ∧ Ideal.ofBits .f32 0x358637BD#32 = (r : EReal) := by
  refine ⟨8796093 * (1 / 8796093022208), by norm_num, ?_⟩
  simp [Ideal.ofBits, Ideal.ieee]
  norm_num

theorem alpha_real : Finite (Ideal.ofBits .f32 0x3FB504F3#32) := ⟨_, by simp only [Ideal.ofBits, Ideal.ieee]; rfl⟩

theorem mean_real (z : Fin 2048 → ℝ) : LayerNorm.mean (fun k => (z k : EReal)) = ((∑ k, z k) * (1 / 2048) : ℝ) := by
  unfold LayerNorm.mean
  rw [length_eq, Ideal.div_coe (by norm_num), ← coe_sum_real, ← EReal.coe_mul]

/-- A real row's layer norm is real. -/
theorem layerNorm_real (z g b : Fin 2048 → EReal) (hz : ∀ k, Finite (z k)) (hg : ∀ k, Finite (g k)) (hb : ∀ k, Finite (b k)) (j : Fin 2048) :
    Finite (LayerNorm.layerNorm z g b j) := by
  choose x hx using hz
  obtain rfl : z = fun k => (x k : EReal) := funext hx
  have hc : LayerNorm.centred (fun k => (x k : EReal)) = fun k => ((x k - (∑ k, x k) * (1 / 2048) : ℝ) : EReal) := funext fun k => by
    unfold LayerNorm.centred
    rw [mean_real, ← EReal.coe_sub]
  obtain ⟨e, he, hE⟩ := epsilon_pos
  unfold LayerNorm.layerNorm LayerNorm.normed
  rw [hc, hE]
  generalize hy : (fun k => x k - (∑ k, x k) * (1 / 2048)) = y
  refine ((Finite.mul ⟨_, rfl⟩ ?_).mul (hg j)).add (hb j)
  have hm : (fun k => ((x k - (∑ k, x k) * (1 / 2048) : ℝ) : EReal) * ((x k - (∑ k, x k) * (1 / 2048) : ℝ) : EReal)) = fun k => ((y k * y k : ℝ) : EReal) := by
    rw [← hy]
    exact funext fun k => (EReal.coe_mul _ _).symm
  rw [hm, mean_real, ← EReal.coe_add, Ideal.rsqrt_coe]
  have hp : 0 < (∑ k, y k * y k) * (1 / 2048) + e := by
    have : 0 ≤ ∑ k, y k * y k := Finset.sum_nonneg fun k _ => mul_self_nonneg _
    positivity
  rw [if_neg (not_lt.2 hp.le), if_neg hp.ne']
  exact ⟨_, rfl⟩

theorem residual_real {x s y : EReal} (hx : Finite x) (hs : Finite s) (hy : Finite y) : Finite (LayerNorm.residual x s y) :=
  (alpha_real.mul hx).add (hs.mul hy)

theorem shifted_real {n sc sh : EReal} (hn : Finite n) (hs : Finite sc) (hh : Finite sh) : Finite (shifted n sc sh) :=
  (hn.mul ((show Finite (Ideal.ofBits .f32 0x3F800000#32) from ⟨_, by simp only [Ideal.ofBits, Ideal.ieee]; rfl⟩).add hs)).add hh

/-- A real number times its logistic is real. -/
theorem silu_real {x : EReal} (hx : Finite x) : Finite (x * Ideal.logistic x) := by
  obtain ⟨r, rfl⟩ := hx
  rw [Ideal.logistic_coe, ← EReal.coe_mul]
  exact ⟨_, rfl⟩

/-- A sum over the lanes of two halves side by side. -/
theorem sum_halves (f : Fin 2048 → EReal) :
    ∑ k, f k = (∑ k : Fin 1024, f ⟨k.val, by omega⟩) + ∑ k : Fin 1024, f ⟨1024 + k.val, by omega⟩ := Fin.sum_univ_add (a := 1024) (b := 1024) f

end Cert.Router

end
-- ==== Proof.Output.Block.lean ====
/- The attention's and the convolution's output product: what one grid point computes. -/
module

public import proofs.«01_k».proof.Proof.Gen.OutKernelIdeal.Frame
public import proofs.«01_k».proof.Proof.Router
public import Idealize.ShloMosaic.Lib.Pipeline.ValueKit
public import Idealize.ShloMosaic.Lib.Pointwise
public import Idealize.ShloMosaic.Lib.Tactic

@[expose] public section

set_option maxRecDepth 16384

noncomputable section

namespace Cert.OutKernelIdeal.Output

open Cert.OutKernelIdeal Cert.OutKernelIdeal.Gen Idealize.ShloMosaic Idealize.ShloMosaic.TcCoe

/-- The prompts' block at a prompts' point, the samples' at a samples'. -/
def pick {α : Type} (n : ℕ) (a b : α) : α := Scalar.select (Scalar.cmpi .slt (BitVec.ofNat 32 n) 16#32) a b

theorem pick_lt {α : Type} {n : ℕ} (h : n < 16) (a b : α) : pick n a b = a := by
  have : Scalar.cmpi .slt (BitVec.ofNat 32 n) 16#32 = 1#1 := (by decide : ∀ k : Fin 16, Scalar.cmpi .slt (BitVec.ofNat 32 k.val) 16#32 = 1#1) ⟨n, h⟩
  unfold pick
  rw [this]
  rfl

theorem pick_ge {α : Type} {n : ℕ} (h : 16 ≤ n) (hn : n < 48) (a b : α) : pick n a b = b := by
  have : Scalar.cmpi .slt (BitVec.ofNat 32 n) 16#32 = 0#1 :=
    (by decide : ∀ k : Fin 48, 16 ≤ k.val → Scalar.cmpi .slt (BitVec.ofNat 32 k.val) 16#32 = 0#1) ⟨n, hn⟩ h
  unfold pick
  rw [this]
  rfl

/-- A point's two products, summed. -/
def product (o : FVec Ideal S512x1024 .bf16) (y : FVec Ideal S512x1024 .f32) (w u : FVec Ideal S1024x2048 .bf16) : FVec Ideal S512x2048 .f32 :=
  addf (matmul dot_S512x1024_S1024x2048_S512x2048_1_0_0_1_n_n none (shapeCast S512x1024 o shapeCasts_S512x1024_S512x1024)
      (shapeCast S1024x2048 w shapeCasts_S1024x2048_S1024x2048) (constant S512x2048 .f32 0x00000000#32))
    (matmul dot_S512x1024_S1024x2048_S512x2048_1_0_0_1_n_n none (truncf .bf16 y bitsLt_bf16_f32)
      (shapeCast S1024x2048 u shapeCasts_S1024x2048_S1024x2048) (constant S512x2048 .f32 0x00000000#32))

theorem product_at (o : FVec Ideal S512x1024 .bf16) (y : FVec Ideal S512x1024 .f32) (w u : FVec Ideal S1024x2048 .bf16) (r : Fin 512) (j : Fin 2048) :
    product o y w u (ix2 r j) = (∑ k : Fin 1024, o (ix2 r k) * w (ix2 k j)) + ∑ k : Fin 1024, y (ix2 r k) * u (ix2 k j) := by
  pointwise [product]

/-- The residual's rows, scaled, plus the gated product. -/
def mixed (x : FVec Ideal S512x2048 .f32) (g : FVec Ideal S1x1x2048 .f32) (p : FVec Ideal S512x2048 .f32) : FVec Ideal S512x2048 .f32 :=
  addf (mulf (broadcast S512x2048 (Scalar.ofBits .f32 0x3FB504F3#32)) x)
    (mulf (broadcastTo S512x2048 (shapeCast S1x2048 g shapeCasts_S1x1x2048_S1x2048) broadcasts_S1x2048_S512x2048) p)

theorem mixed_at (x : FVec Ideal S512x2048 .f32) (g : FVec Ideal S1x1x2048 .f32) (p : FVec Ideal S512x2048 .f32) (r : Fin 512) (j : Fin 2048) :
    mixed x g p (ix2 r j) = LayerNorm.residual (x (ix2 r j)) (g (ix3 0 0 j)) (p (ix2 r j)) := by
  unfold LayerNorm.residual
  pointwise [mixed]

theorem pick_cast (n : ℕ) (a b : FVec Ideal S512x1024 .bf16) :
    Scalar.select (Scalar.cmpi .slt (BitVec.ofNat 32 n) 16#32) (shapeCast S512x1024 a shapeCasts_S512x1024_S512x1024) (shapeCast S512x1024 b shapeCasts_S512x1024_S512x1024)
      = shapeCast S512x1024 (pick n a b) shapeCasts_S512x1024_S512x1024 := by
  unfold pick Scalar.select
  split <;> rfl

theorem pay2_eq (i : grid0.Coords) (v1 v3 : FVec Ideal S512x1024 .bf16) (v7 v8 : FVec Ideal S512x1024 .f32) (w u : FVec Ideal S1024x2048 .bf16)
    (x : FVec Ideal S512x2048 .f32) (g : FVec Ideal S1x1x2048 .f32) :
    k0_pay2 (F := Ideal) i v1 v3 v7 v8 w u x g = mixed x g (product (pick (i 0).val v1 v3) (pick (i 0).val v7 v8) w u) := by
  unfold product
  rw [← pick_cast]
  rfl

/-- A block's rows' sums. -/
def sums (z : FVec Ideal S512x2048 .f32) : FVec Ideal S512x1 .f32 :=
  shapeCast S512x1 (multiReduction .add [1] S512 z 0x00000000#32 reduces_S512x2048_S512 (.inl rfl) rfl) shapeCasts_S512_S512x1

/-- A block's rows less their means. -/
def centred (z : FVec Ideal S512x2048 .f32) : FVec Ideal S512x2048 .f32 :=
  subf z (broadcastTo S512x2048 (divf (sums z) (broadcast S512x1 (Scalar.ofBits .f32 0x45000000#32))) broadcasts_S512x1_S512x2048)

theorem centred_at (z : FVec Ideal S512x2048 .f32) (r : Fin 512) (k : Fin 2048) :
    centred z (ix2 r k) = LayerNorm.centred (fun k => z (ix2 r k)) k := by
  pointwise [centred, sums]
  rfl

/-- Rows less their means, over the roots of their variances, scaled and shifted. -/
def scaled (d : FVec Ideal S512x2048 .f32) (g b : FVec Ideal S1x2048 .f32) : FVec Ideal S512x2048 .f32 :=
  addf (mulf (mulf d (broadcastTo S512x2048 (rsqrt (addf (divf (sums (mulf d d)) (broadcast S512x1 (Scalar.ofBits .f32 0x45000000#32))) (broadcast S512x1 (Scalar.ofBits .f32 0x358637BD#32)))) broadcasts_S512x1_S512x2048))
      (broadcastTo S512x2048 (shapeCast S1x2048 g shapeCasts_S1x2048_S1x2048) broadcasts_S1x2048_S512x2048))
    (broadcastTo S512x2048 (shapeCast S1x2048 b shapeCasts_S1x2048_S1x2048) broadcasts_S1x2048_S512x2048)

theorem scaled_at (d : FVec Ideal S512x2048 .f32) (g b : FVec Ideal S1x2048 .f32) (r : Fin 512) (k : Fin 2048) :
    scaled d g b (ix2 r k) = d (ix2 r k) * Ideal.rsqrt (LayerNorm.mean (fun k => d (ix2 r k) * d (ix2 r k)) + Ideal.ofBits .f32 0x358637BD#32) * g (ix2 0 k) + b (ix2 0 k) := by
  pointwise [scaled, sums]
  rfl

/-- A block's rows, normed. -/
def state (z : FVec Ideal S512x2048 .f32) (g b : FVec Ideal S1x2048 .f32) : FVec Ideal S512x2048 .f32 := scaled (centred z) g b

theorem state_at (z : FVec Ideal S512x2048 .f32) (g b : FVec Ideal S1x2048 .f32) (r : Fin 512) (k : Fin 2048) :
    state z g b (ix2 r k) = LayerNorm.layerNorm (fun j => z (ix2 r j)) (fun j => g (ix2 0 j)) (fun j => b (ix2 0 j)) k := by
  have hc : (fun j => centred z (ix2 r j)) = LayerNorm.centred (fun j => z (ix2 r j)) := funext fun j => centred_at z r j
  refine (scaled_at _ g b r k).trans ?_
  unfold LayerNorm.layerNorm LayerNorm.normed
  rw [← hc]

/-- The next layer's input: the normed rows, scaled and shifted by the modulation. -/
def next (n : FVec Ideal S512x2048 .f32) (sc sh : FVec Ideal S1x1x2048 .f32) : FVec Ideal S512x2048 .f32 :=
  addf (mulf n (broadcastTo S512x2048 (addf (broadcast S1x2048 (Scalar.ofBits .f32 0x3F800000#32)) (shapeCast S1x2048 sc shapeCasts_S1x1x2048_S1x2048)) broadcasts_S1x2048_S512x2048))
    (broadcastTo S512x2048 (shapeCast S1x2048 sh shapeCasts_S1x1x2048_S1x2048) broadcasts_S1x2048_S512x2048)

theorem next_at (n : FVec Ideal S512x2048 .f32) (sc sh : FVec Ideal S1x1x2048 .f32) (r : Fin 512) (k : Fin 2048) :
    next n sc sh (ix2 r k) = Router.shifted (n (ix2 r k)) (sc (ix3 0 0 k)) (sh (ix3 0 0 k)) := by
  unfold Router.shifted
  pointwise [next]

/-- One product of the scores. -/
def part (h : FVec Ideal S512x2048 .bf16) (w : FVec Ideal S2048x128 .bf16) : FVec Ideal S512x128 .f32 :=
  matmul dot_S512x2048_S2048x128_S512x128_1_0_0_1_n_n none h (shapeCast S2048x128 w shapeCasts_S2048x128_S2048x128) (constant S512x128 .f32 0x00000000#32)

theorem part_at (h : FVec Ideal S512x2048 .bf16) (w : FVec Ideal S2048x128 .bf16) (r : Fin 512) (j : Fin 128) :
    part h w (ix2 r j) = ∑ k : Fin 2048, h (ix2 r k) * w (ix2 k j) := by
  pointwise [part]

/-- What rounding a block leaves of it, rounded. -/
def left (n : FVec Ideal S512x2048 .f32) : FVec Ideal S512x2048 .bf16 :=
  truncf .bf16 (subf n (extf .f32 (truncf .bf16 n bitsLt_bf16_f32) bitsLt_bf16_f32)) bitsLt_bf16_f32

theorem left_at (n : FVec Ideal S512x2048 .f32) (i : S512x2048.Idx) : left n i = n i - n i := by
  pointwise [left]

/-- A block's scores. -/
def scores (n : FVec Ideal S512x2048 .f32) (hi lo : FVec Ideal S2048x128 .bf16) (b : FVec Ideal S1x128 .f32) : FVec Ideal S512x128 .f32 :=
  addf (addf (addf (part (truncf .bf16 n bitsLt_bf16_f32) hi) (part (truncf .bf16 n bitsLt_bf16_f32) lo)) (part (left n) hi))
    (broadcastTo S512x128 (shapeCast S1x128 b shapeCasts_S1x128_S1x128) broadcasts_S1x128_S512x128)

theorem scores_at (n : FVec Ideal S512x2048 .f32) (hi lo : FVec Ideal S2048x128 .bf16) (b : FVec Ideal S1x128 .f32) (r : Fin 512) (j : Fin 128) :
    scores n hi lo b (ix2 r j) = (∑ k : Fin 2048, n (ix2 r k) * hi (ix2 k j)) + (∑ k : Fin 2048, n (ix2 r k) * lo (ix2 k j))
      + (∑ k : Fin 2048, (n (ix2 r k) - n (ix2 r k)) * hi (ix2 k j)) + b (ix2 0 j) := by
  pointwise [scores, part_at, left_at]

/-- The weights' rounded part and what the rounding left, one above the other. -/
def upper (w : FVec Ideal S4096x128 .bf16) : FVec Ideal S2048x128 .bf16 := View.ld (Val := Elt Ideal) (e' := .bf16) w r0_5

def lower (w : FVec Ideal S4096x128 .bf16) : FVec Ideal S2048x128 .bf16 := View.ld (Val := Elt Ideal) (e' := .bf16) w r0_6

theorem upper_at (w : FVec Ideal S4096x128 .bf16) (k : Fin 2048) (j : Fin 128) : upper w (ix2 k j) = w (ix2 ⟨k.val, by omega⟩ j) := by
  unfold upper
  pointwise
  blk_ext

theorem lower_at (w : FVec Ideal S4096x128 .bf16) (k : Fin 2048) (j : Fin 128) : lower w (ix2 k j) = w (ix2 ⟨2048 + k.val, by omega⟩ j) := by
  unfold lower
  pointwise
  blk_ext

section Outs

variable (i : grid0.Coords) (x0 x1 : FVec Ideal S512x1024 .bf16) (x2 x3 : FVec Ideal S512x1024 .f32) (x4 x5 : FVec Ideal S1024x2048 .bf16) (x6 : FVec Ideal S512x2048 .f32)
  (x7 : FVec Ideal S1x1x2048 .f32) (x8 x9 : FVec Ideal S1x2048 .f32) (x10 x11 : FVec Ideal S1x1x2048 .f32) (x12 : FVec Ideal S4096x128 .bf16) (x13 : FVec Ideal S1x128 .f32)

/-- A point's normed rows. -/
def states : FVec Ideal S512x2048 .f32 := state (mixed x6 x7 (product (pick (i 0).val x0 x1) (pick (i 0).val x2 x3) x4 x5)) x8 x9

theorem ld_o (x : FVec Ideal S512x1024 .bf16) : View.ld (Val := Elt Ideal) (e' := .bf16) x r0_0 = x := View.ld_unit_lit (Val := Elt Ideal) (e := .bf16) (S := S512x1024) (off := ![0, 0]) (by decide) x (by decide)
theorem ld_y (x : FVec Ideal S512x1024 .f32) : View.ld (Val := Elt Ideal) (e' := .f32) x r0_0 = x := View.ld_unit_lit (Val := Elt Ideal) (e := .f32) (S := S512x1024) (off := ![0, 0]) (by decide) x (by decide)
theorem ld_w (x : FVec Ideal S1024x2048 .bf16) : View.ld (Val := Elt Ideal) (e' := .bf16) x r0_1 = x := View.ld_unit_lit (Val := Elt Ideal) (e := .bf16) (S := S1024x2048) (off := ![0, 0]) (by decide) x (by decide)
theorem ld_x (x : FVec Ideal S512x2048 .f32) : View.ld (Val := Elt Ideal) (e' := .f32) x r0_2 = x := View.ld_unit_lit (Val := Elt Ideal) (e := .f32) (S := S512x2048) (off := ![0, 0]) (by decide) x (by decide)
theorem ld_m (x : FVec Ideal S1x1x2048 .f32) : View.ld (Val := Elt Ideal) (e' := .f32) x r0_3 = x := View.ld_unit_lit (Val := Elt Ideal) (e := .f32) (S := S1x1x2048) (off := ![0, 0, 0]) (by decide) x (by decide)
theorem ld_r (x : FVec Ideal S1x2048 .f32) : View.ld (Val := Elt Ideal) (e' := .f32) x r0_4 = x := View.ld_unit_lit (Val := Elt Ideal) (e := .f32) (S := S1x2048) (off := ![0, 0]) (by decide) x (by decide)

theorem pay6_eq (z : FVec Ideal S512x2048 .f32) (g b : FVec Ideal S1x2048 .f32) :
    k0_pay6 (F := Ideal) z (k0_pay3 g) (k0_pay4 b) (sums z) = state z g b := rfl

theorem pay11_eq : k0_pay11 (F := Ideal) i x0 x1 x2 x3 x4 x5 x6 x7 x8 x9 x10 x11 x12 x13
    = mixed x6 x7 (product (pick (i 0).val x0 x1) (pick (i 0).val x2 x3) x4 x5) := by
  unfold k0_pay11
  rw [ld_o, ld_o, ld_y, ld_y, ld_w, ld_w, ld_x, ld_m]
  exact pay2_eq i x0 x1 x2 x3 x4 x5 x6 x7

theorem pay12_eq : k0_pay12 (F := Ideal) i x0 x1 x2 x3 x4 x5 x6 x7 x8 x9 x10 x11 x12 x13 = k0_pay3 x8 := by
  unfold k0_pay12
  rw [ld_r]

theorem pay13_eq : k0_pay13 (F := Ideal) i x0 x1 x2 x3 x4 x5 x6 x7 x8 x9 x10 x11 x12 x13 = k0_pay4 x9 := by
  unfold k0_pay13
  rw [ld_r]

theorem pay14_eq : k0_pay14 (F := Ideal) i x0 x1 x2 x3 x4 x5 x6 x7 x8 x9 x10 x11 x12 x13
    = sums (mixed x6 x7 (product (pick (i 0).val x0 x1) (pick (i 0).val x2 x3) x4 x5)) := by
  unfold k0_pay14
  rw [ld_o, ld_o, ld_y, ld_y, ld_w, ld_w, ld_x, ld_m, ← pay2_eq]
  rfl

theorem state_eq : k0_pay6 (F := Ideal) (k0_pay11 i x0 x1 x2 x3 x4 x5 x6 x7 x8 x9 x10 x11 x12 x13) (k0_pay12 i x0 x1 x2 x3 x4 x5 x6 x7 x8 x9 x10 x11 x12 x13)
      (k0_pay13 i x0 x1 x2 x3 x4 x5 x6 x7 x8 x9 x10 x11 x12 x13) (k0_pay14 i x0 x1 x2 x3 x4 x5 x6 x7 x8 x9 x10 x11 x12 x13)
    = states i x0 x1 x2 x3 x4 x5 x6 x7 x8 x9 := by
  rw [pay11_eq, pay12_eq, pay13_eq, pay14_eq]
  exact pay6_eq _ x8 x9

theorem next_eq : k0_pay7 (F := Ideal) (k0_pay11 i x0 x1 x2 x3 x4 x5 x6 x7 x8 x9 x10 x11 x12 x13) (k0_pay12 i x0 x1 x2 x3 x4 x5 x6 x7 x8 x9 x10 x11 x12 x13)
      (k0_pay13 i x0 x1 x2 x3 x4 x5 x6 x7 x8 x9 x10 x11 x12 x13) (k0_pay14 i x0 x1 x2 x3 x4 x5 x6 x7 x8 x9 x10 x11 x12 x13) x10 x11
    = next (states i x0 x1 x2 x3 x4 x5 x6 x7 x8 x9) x10 x11 := by
  rw [← state_eq]
  rfl

theorem out14 : out0_14 (F := Ideal) i x0 x1 x2 x3 x4 x5 x6 x7 x8 x9 x10 x11 x12 x13 = states i x0 x1 x2 x3 x4 x5 x6 x7 x8 x9 := by
  frame_out
  exact state_eq i x0 x1 x2 x3 x4 x5 x6 x7 x8 x9 x10 x11 x12 x13

/-- A point's next input. -/
theorem out15 : out0_15 (F := Ideal) i x0 x1 x2 x3 x4 x5 x6 x7 x8 x9 x10 x11 x12 x13 = next (states i x0 x1 x2 x3 x4 x5 x6 x7 x8 x9) x10 x11 := by
  frame_out
  exact next_eq i x0 x1 x2 x3 x4 x5 x6 x7 x8 x9 x10 x11 x12 x13

theorem pay1_eq (z : FVec Ideal S512x2048 .f32) (g b : FVec Ideal S1x2048 .f32) (s : FVec Ideal S512x1 .f32) (sc sh : FVec Ideal S1x1x2048 .f32)
    (hi lo : FVec Ideal S2048x128 .bf16) (br : FVec Ideal S1x128 .f32) :
    k0_pay1 (F := Ideal) (k0_pay8 z g b s sc sh) (k0_pay9 z g b s sc sh) (k0_pay10 z g b s sc sh hi) lo hi br
      = scores (k0_pay7 z g b s sc sh) hi lo br := rfl

/-- A point's scores. -/
theorem out16 : out0_16 (F := Ideal) i x0 x1 x2 x3 x4 x5 x6 x7 x8 x9 x10 x11 x12 x13
    = scores (next (states i x0 x1 x2 x3 x4 x5 x6 x7 x8 x9) x10 x11) (upper x12) (lower x12) x13 := by
  frame_out
  rw [← next_eq i x0 x1 x2 x3 x4 x5 x6 x7 x8 x9 x10 x11 x12 x13]
  exact pay1_eq _ _ _ _ x10 x11 (upper x12) (lower x12) x13

end Outs

variable (m : (ℓ : Loc nD τ sig) → Buf (Elt Ideal) ℓ)

/-- The blocks' places in the arrays. -/
theorem idxA : ∀ t : Fin cfg0.N,
    win0_0.index t = ![min t.val 15, 0] ∧ win0_1.index t = ![t.val - 16, 0] ∧ win0_2.index t = ![min t.val 15, 0] ∧ win0_3.index t = ![t.val - 16, 0] :=
  (by decide +kernel : ∀ t : Fin grid0.N, _)

theorem idxB : ∀ t : Fin cfg0.N, win0_4.index t = ![0, 0] ∧ win0_5.index t = ![1, 0] := (by decide +kernel : ∀ t : Fin grid0.N, _)

theorem idxC : ∀ t : Fin cfg0.N, win0_6.index t = ![t.val, 0] ∧ win0_7.index t = ![(t.val / 8 - 1) * 6 + 2, 0, 0]
    ∧ win0_8.index t = ![0, 0] ∧ win0_9.index t = ![0, 0] :=
  (by decide +kernel : ∀ t : Fin grid0.N, _)

theorem idxD : ∀ t : Fin cfg0.N, win0_10.index t = ![(t.val / 8 - 1) * 6 + 4, 0, 0] ∧ win0_11.index t = ![(t.val / 8 - 1) * 6 + 3, 0, 0]
    ∧ win0_12.index t = ![0, 0] ∧ win0_13.index t = ![0, 0] :=
  (by decide +kernel : ∀ t : Fin grid0.N, _)

theorem idxE : ∀ t : Fin cfg0.N, win0_14.index t = ![t.val, 0] ∧ win0_15.index t = ![t.val, 0] ∧ win0_16.index t = ![t.val, 0] :=
  (by decide +kernel : ∀ t : Fin grid0.N, _)

theorem coord : ∀ t : Fin cfg0.N, (grid0.coords t 0).val = t.val := (by decide +kernel : ∀ t : Fin grid0.N, _)

/-- A row of the prompts' or of the samples' array. -/
def side {α : Type} (P : S8192x1024.Idx → α) (S : S16384x1024.Idx → α) (q : Fin 24576) (k : Fin 1024) : α :=
  if h : q.val < 8192 then P (ix2 ⟨q.val, h⟩ k) else S (ix2 ⟨q.val - 8192, by omega⟩ k)

/-- A row's product with the output weights, its two sides apart. -/
def projected (oP : FVec Ideal S8192x1024 .bf16) (oS : FVec Ideal S16384x1024 .bf16) (yP : FVec Ideal S8192x1024 .f32) (yS : FVec Ideal S16384x1024 .f32)
    (W : FVec Ideal S2048x2048 .bf16) (q : Fin 24576) (j : Fin 2048) : EReal :=
  (∑ k : Fin 1024, side oP oS q k * W (ix2 ⟨k.val, by omega⟩ j)) + ∑ k : Fin 1024, side yP yS q k * W (ix2 ⟨1024 + k.val, by omega⟩ j)

/-- The layer's rows after the first sublayer. -/
def stateRow (p : Fin 24576 → Fin 2048 → EReal) (X : FVec Ideal S24576x2048 .f32) (M : FVec Ideal S48x1x2048 .f32) (g b : FVec Ideal S1x2048 .f32)
    (q : Fin 24576) (j : Fin 2048) : EReal :=
  LayerNorm.layerNorm (fun j => LayerNorm.residual (X (ix2 q j)) (M (ix3 ⟨(q.val / 4096 - 1) * 6 + 2, by omega⟩ 0 j)) (p q j)) (fun j => g (ix2 0 j)) (fun j => b (ix2 0 j)) j

/-- The second sublayer's input rows. -/
def nextRow (n : Fin 24576 → Fin 2048 → EReal) (M : FVec Ideal S48x1x2048 .f32) (q : Fin 24576) (j : Fin 2048) : EReal :=
  Router.shifted (n q j) (M (ix3 ⟨(q.val / 4096 - 1) * 6 + 4, by omega⟩ 0 j)) (M (ix3 ⟨(q.val / 4096 - 1) * 6 + 3, by omega⟩ 0 j))

/-- The rows' scores. -/
def scoreRow (h : Fin 24576 → Fin 2048 → EReal) (W : FVec Ideal S4096x128 .bf16) (b : FVec Ideal S1x128 .f32) (q : Fin 24576) (j : Fin 128) : EReal :=
  (∑ k : Fin 2048, h q k * W (ix2 ⟨k.val, by omega⟩ j)) + (∑ k : Fin 2048, h q k * W (ix2 ⟨2048 + k.val, by omega⟩ j))
    + (∑ k : Fin 2048, (h q k - h q k) * W (ix2 ⟨k.val, by omega⟩ j)) + b (ix2 0 j)

/-- Rows read off the arrays the kernel is given. -/
def projectedOf (c : Dev nD) : Fin 24576 → Fin 2048 → EReal :=
  projected (V m c main_v20) (V m c main_v21) (V m c main_arg2) (V m c main_arg3) (V m c main_v22)

def stateOf (c : Dev nD) : Fin 24576 → Fin 2048 → EReal := stateRow (projectedOf m c) (V m c main_arg5) (V m c main_v19) (V m c main_v23) (V m c main_v24)

def nextOf (c : Dev nD) : Fin 24576 → Fin 2048 → EReal := nextRow (stateOf m c) (V m c main_v19)

def scoreOf (c : Dev nD) : Fin 24576 → Fin 128 → EReal := scoreRow (nextOf m c) (V m c main_v9) (V m c main_v18)

/-- A point's rows of the two sides. -/
theorem side_o (c : Dev nD) (t : Fin cfg0.N) (r : Fin 512) (k : Fin 1024) (q : Fin 24576) (hq : q.val = t.val * 512 + r) :
    (show FVec Ideal S512x1024 .bf16 from pick t.val (iblk m c 0 t) (iblk m c 1 t)) (ix2 r k) = side (α := EReal) (V m c main_v20) (V m c main_v21) q k := by
  have ht : t.val < 48 := t.isLt
  unfold side
  by_cases h : t.val < 16
  · rw [pick_lt h, dif_pos (by omega)]
    blk_ext [iblk, idxA t]
  · rw [pick_ge (by omega) ht, dif_neg (by omega)]
    blk_ext [iblk, idxA t]

theorem side_y (c : Dev nD) (t : Fin cfg0.N) (r : Fin 512) (k : Fin 1024) (q : Fin 24576) (hq : q.val = t.val * 512 + r) :
    (show FVec Ideal S512x1024 .f32 from pick t.val (iblk m c 2 t) (iblk m c 3 t)) (ix2 r k) = side (α := EReal) (V m c main_arg2) (V m c main_arg3) q k := by
  have ht : t.val < 48 := t.isLt
  unfold side
  by_cases h : t.val < 16
  · rw [pick_lt h, dif_pos (by omega)]
    blk_ext [iblk, idxA t]
  · rw [pick_ge (by omega) ht, dif_neg (by omega)]
    blk_ext [iblk, idxA t]

/-- A point's product. -/
theorem product_block (c : Dev nD) (t : Fin cfg0.N) (r : Fin 512) (j : Fin 2048) (q : Fin 24576) (hq : q.val = t.val * 512 + r) :
    product (pick (grid0.coords t 0).val (iblk m c 0 t) (iblk m c 1 t)) (pick (grid0.coords t 0).val (iblk m c 2 t) (iblk m c 3 t)) (iblk m c 4 t) (iblk m c 5 t) (ix2 r j)
      = projectedOf m c q j := by
  refine (product_at _ _ _ _ r j).trans ?_
  unfold projectedOf projected
  rw [coord t]
  refine congrArg₂ (· + ·) (Finset.sum_congr rfl fun k _ => congrArg₂ (· * ·) (side_o m c t r k q hq) ?_)
    (Finset.sum_congr rfl fun k _ => congrArg₂ (· * ·) (side_y m c t r k q hq) ?_)
  all_goals blk_ext [iblk, idxB t]

/-- A point's normed rows. -/
def blockState (c : Dev nD) (t : Fin cfg0.N) : FVec Ideal S512x2048 .f32 :=
  states (grid0.coords t) (iblk m c 0 t) (iblk m c 1 t) (iblk m c 2 t) (iblk m c 3 t) (iblk m c 4 t) (iblk m c 5 t) (iblk m c 6 t) (iblk m c 7 t) (iblk m c 8 t) (iblk m c 9 t)

theorem point_state (c : Dev nD) (t : Fin cfg0.N) (r : Fin 512) (j : Fin 2048) (q : Fin 24576) (hq : q.val = t.val * 512 + r) :
    blockState m c t (ix2 r j) = stateOf m c q j := by
  have ht : t.val < 48 := t.isLt
  refine (state_at _ _ _ r j).trans ?_
  unfold stateOf stateRow
  refine congr (congr (congr (congrArg LayerNorm.layerNorm (funext fun k => ?_)) (funext fun k => ?_)) (funext fun k => ?_)) rfl
  · refine (mixed_at _ _ _ r k).trans (congr (congr (congrArg LayerNorm.residual ?_) ?_) (product_block m c t r k q hq))
    all_goals blk_ext [iblk, idxC t]
  all_goals blk_ext [iblk, idxC t]

/-- A point's next input. -/
def blockNext (c : Dev nD) (t : Fin cfg0.N) : FVec Ideal S512x2048 .f32 := next (blockState m c t) (iblk m c 10 t) (iblk m c 11 t)

theorem point_next (c : Dev nD) (t : Fin cfg0.N) (r : Fin 512) (j : Fin 2048) (q : Fin 24576) (hq : q.val = t.val * 512 + r) :
    blockNext m c t (ix2 r j) = nextOf m c q j := by
  have ht : t.val < 48 := t.isLt
  refine (next_at _ _ _ r j).trans ?_
  unfold nextOf nextRow
  refine congr (congr (congrArg Router.shifted (point_state m c t r j q hq)) ?_) ?_
  all_goals blk_ext [iblk, idxD t]

/-- A point's scores. -/
theorem point_score (c : Dev nD) (t : Fin cfg0.N) (r : Fin 512) (j : Fin 128) (q : Fin 24576) (hq : q.val = t.val * 512 + r) :
    scores (blockNext m c t) (upper (iblk m c 12 t)) (lower (iblk m c 12 t)) (iblk m c 13 t) (ix2 r j) = scoreOf m c q j := by
  have ht : t.val < 48 := t.isLt
  have hn : ∀ k, blockNext m c t (ix2 r k) = nextOf m c q k := fun k => point_next m c t r k q hq
  refine (scores_at _ _ _ _ r j).trans ?_
  unfold scoreOf scoreRow
  refine congrArg₂ (· + ·) (congrArg₂ (· + ·) (congrArg₂ (· + ·) (Finset.sum_congr rfl fun k _ => congrArg₂ (· * ·) (hn k) ((upper_at _ k j).trans ?_))
    (Finset.sum_congr rfl fun k _ => congrArg₂ (· * ·) (hn k) ((lower_at _ k j).trans ?_)))
    (Finset.sum_congr rfl fun k _ => congrArg₂ (· * ·) (congrArg₂ (· - ·) (hn k) (hn k)) ((upper_at _ k j).trans ?_))) ?_
  all_goals blk_ext [iblk, idxD t]

/-- Rows as an array. -/
def rowsArray (f : Fin 24576 → Fin 2048 → EReal) : FVec Ideal S24576x2048 .f32 := fun i => f (i 0) (i 1)

def scoresArray (f : Fin 24576 → Fin 128 → EReal) : FVec Ideal S24576x128 .f32 := fun i => f (i 0) (i 1)

/-- The layer's rows after the run. -/
theorem final_state (c : Dev nD) : (dats m 0 c).arrAt 14 (cfgs 0).N = rowsArray (stateOf m c) := by
  refine (dats m 0 c).arrAt_eq_of_covers 14 _ (by decide +kernel) fun t _ y => ?_
  blk_simp
  rw [after0_14, out14]
  obtain ⟨r, k, rfl⟩ : ∃ (r : Fin 512) (k : Fin 2048), y = ix2 r k := ⟨y 0, y 1, eq_ix2 y⟩
  have hN : t.val < 48 := t.isLt
  refine (point_state m c t r k ⟨t.val * 512 + r, by omega⟩ rfl).trans ?_
  unfold rowsArray
  refine congrArg₂ (stateOf m c) (Fin.ext ?_) (Fin.ext ?_)
  · blk_simp [idxE t]
  · blk_simp [idxE t]

/-- The next input after the run. -/
theorem final_next (c : Dev nD) : (dats m 0 c).arrAt 15 (cfgs 0).N = rowsArray (nextOf m c) := by
  refine (dats m 0 c).arrAt_eq_of_covers 15 _ (by decide +kernel) fun t _ y => ?_
  blk_simp
  rw [after0_15, out15]
  obtain ⟨r, k, rfl⟩ : ∃ (r : Fin 512) (k : Fin 2048), y = ix2 r k := ⟨y 0, y 1, eq_ix2 y⟩
  have hN : t.val < 48 := t.isLt
  refine (point_next m c t r k ⟨t.val * 512 + r, by omega⟩ rfl).trans ?_
  unfold rowsArray
  refine congrArg₂ (nextOf m c) (Fin.ext ?_) (Fin.ext ?_)
  · blk_simp [idxE t]
  · blk_simp [idxE t]

/-- The scores after the run. -/
theorem final_scores (c : Dev nD) : (dats m 0 c).arrAt 16 (cfgs 0).N = scoresArray (scoreOf m c) := by
  refine (dats m 0 c).arrAt_eq_of_covers 16 _ (by decide +kernel) fun t _ y => ?_
  blk_simp
  rw [after0_16, out16]
  obtain ⟨r, k, rfl⟩ : ∃ (r : Fin 512) (k : Fin 128), y = ix2 r k := ⟨y 0, y 1, eq_ix2 y⟩
  have hN : t.val < 48 := t.isLt
  refine (point_score m c t r k ⟨t.val * 512 + r, by omega⟩ rfl).trans ?_
  unfold scoresArray
  refine congrArg₂ (scoreOf m c) (Fin.ext ?_) (Fin.ext ?_)
  · blk_simp [idxE t]
  · blk_simp [idxE t]

end Cert.OutKernelIdeal.Output

end
-- ==== Proof.Combine.Reference.lean ====
/- The combine's reference, place by place. -/
module

public import proofs.«01_k».proof.Proof.Gen.CombineReferenceIdeal.Run
public import proofs.«01_k».proof.Proof.LayerNorm
public import Idealize.ShloMosaic.Lib.Pointwise
public import Idealize.ShloMosaic.Lib.Tactic
public import Idealize.ShloMosaic.Lib.IdealHost

@[expose] public section

set_option maxRecDepth 16384

noncomputable section

namespace Cert.CombineReferenceIdeal.Combine

open Cert.CombineReferenceIdeal Cert.CombineReferenceIdeal.Gen Idealize.ShloMosaic Idealize.ShloMosaic.TcCoe

/-- The two experts' rows, gated. -/
def combined (Y : FVec Ideal S49408x2048 .f32) (G : FVec Ideal S24576x128 .f32) : FVec Ideal S24576x2048 .f32 :=
  addf (mulf (broadcastInDim S24576x2048 ![0, 1] bcast_S24576x1_S24576x2048_0_1 (extractStridedSlice S24576x1 ![0, 0] G slices_S24576x128_S24576x1_0_0)) (extractStridedSlice S24576x2048 ![0, 0] Y slices_S49408x2048_S24576x2048_0_0))
    (mulf (broadcastInDim S24576x2048 ![0, 1] bcast_S24576x1_S24576x2048_0_1 (extractStridedSlice S24576x1 ![0, 1] G slices_S24576x128_S24576x1_0_1)) (extractStridedSlice S24576x2048 ![24576, 0] Y slices_S49408x2048_S24576x2048_24576_0))

theorem combined_at (Y : FVec Ideal S49408x2048 .f32) (G : FVec Ideal S24576x128 .f32) (q : Fin 24576) (k : Fin 2048) :
    combined Y G (ix2 q k) = G (ix2 q 0) * Y (ix2 ⟨q.val, by omega⟩ k) + G (ix2 q 1) * Y (ix2 ⟨24576 + q.val, by omega⟩ k) := by
  pointwise [combined]

/-- The prompts' residual plus the gated rows. -/
def mixed32 (X y : FVec Ideal S24576x2048 .f32) (M : FVec Ideal S8x12288 .f32) : FVec Ideal S32x256x2048 .f32 :=
  addf (mulf (broadcastInDim S32x256x2048 ![] bcast_S_S32x256x2048 (constant S_ .f32 0x3FB504F3#32))
      (shapeCast _ (extractStridedSlice S8192x2048 ![0, 0] X slices_S24576x2048_S8192x2048_0_0) shapeCasts_S8192x2048_S32x256x2048))
    (mulf (broadcastInDim S32x256x2048 ![0, 1, 2] bcast_S1x1x2048_S32x256x2048_0_1_2 (extractStridedSlice S1x1x2048 ![0, 0, 10240] (broadcastInDim S1x1x12288 ![0, 2] bcast_S1x12288_S1x1x12288_0_2 (extractStridedSlice S1x12288 ![0, 0] M slices_S8x12288_S1x12288_0_0)) slices_S1x1x12288_S1x1x2048_0_0_10240))
      (shapeCast _ (extractStridedSlice S8192x2048 ![0, 0] y slices_S24576x2048_S8192x2048_0_0) shapeCasts_S8192x2048_S32x256x2048))

theorem mixed32_at (X y : FVec Ideal S24576x2048 .f32) (M : FVec Ideal S8x12288 .f32) (b : Fin 32) (l : Fin 256) (k : Fin 2048) :
    mixed32 X y M (ix3 b l k) = LayerNorm.residual (X (ix2 ⟨b * 256 + l, by omega⟩ k)) (M (ix2 0 ⟨10240 + k, by omega⟩)) (y (ix2 ⟨b * 256 + l, by omega⟩ k)) := by
  unfold LayerNorm.residual
  pointwise [mixed32]

/-- The samples' residual plus the gated rows. -/
def mixed4 (X y : FVec Ideal S24576x2048 .f32) (M : FVec Ideal S8x12288 .f32) : FVec Ideal S4x4096x2048 .f32 :=
  addf (mulf (broadcastInDim S4x4096x2048 ![] bcast_S_S4x4096x2048 (constant S_ .f32 0x3FB504F3#32))
      (shapeCast _ (extractStridedSlice S16384x2048 ![8192, 0] X slices_S24576x2048_S16384x2048_8192_0) shapeCasts_S16384x2048_S4x4096x2048))
    (mulf (broadcastInDim S4x4096x2048 ![0, 1, 2] bcast_S4x1x2048_S4x4096x2048_0_1_2 (extractStridedSlice S4x1x2048 ![0, 0, 10240] (broadcastInDim S4x1x12288 ![0, 2] bcast_S4x12288_S4x1x12288_0_2 (extractStridedSlice S4x12288 ![1, 0] M slices_S8x12288_S4x12288_1_0)) slices_S4x1x12288_S4x1x2048_0_0_10240))
      (shapeCast _ (extractStridedSlice S16384x2048 ![8192, 0] y slices_S24576x2048_S16384x2048_8192_0) shapeCasts_S16384x2048_S4x4096x2048))

theorem mixed4_at (X y : FVec Ideal S24576x2048 .f32) (M : FVec Ideal S8x12288 .f32) (b : Fin 4) (l : Fin 4096) (k : Fin 2048) :
    mixed4 X y M (ix3 b l k) = LayerNorm.residual (X (ix2 ⟨8192 + b * 4096 + l, by omega⟩ k)) (M (ix2 ⟨1 + b, by omega⟩ ⟨10240 + k, by omega⟩)) (y (ix2 ⟨8192 + b * 4096 + l, by omega⟩ k)) := by
  unfold LayerNorm.residual
  pointwise [mixed4]
  refine congrArg₂ (· + ·) (congrArg (_ * ·) ?_) (congrArg₂ (· * ·) ?_ ?_)
  all_goals blk_ext

/-- The prompts' rows less their means. -/
def centred32 (z : FVec Ideal S32x256x2048 .f32) : FVec Ideal S32x256x2048 .f32 :=
  subf z (broadcastInDim S32x256x2048 ![0, 1, 2] bcast_S32x256x1_S32x256x2048_0_1_2 (Host.divf (broadcastInDim S32x256x1 ![0, 1] bcast_S32x256_S32x256x1_0_1 (Host.reduceAdd z (constant S_ .f32 0x00000000#32) reducesTo_S32x256x2048_S32x256_d2 h_S_)) (broadcastInDim S32x256x1 ![] bcast_S_S32x256x1 (constant S_ .f32 0x45000000#32))))

theorem centred32_at (z : FVec Ideal S32x256x2048 .f32) (b : Fin 32) (l : Fin 256) (k : Fin 2048) :
    centred32 z (ix3 b l k) = LayerNorm.centred (fun k => z (ix3 b l k)) k := by
  pointwise [centred32]
  rfl

/-- The prompts' rows over the roots of their variances, scaled and shifted. -/
def scaled32 (d : FVec Ideal S32x256x2048 .f32) (g b : FVec Ideal S2048 .f32) : FVec Ideal S32x256x2048 .f32 :=
  addf (mulf (mulf d (broadcastInDim S32x256x2048 ![0, 1, 2] bcast_S32x256x1_S32x256x2048_0_1_2 (Host.rsqrt (addf (Host.divf (broadcastInDim S32x256x1 ![0, 1] bcast_S32x256_S32x256x1_0_1 (Host.reduceAdd (mulf d d) (constant S_ .f32 0x00000000#32) reducesTo_S32x256x2048_S32x256_d2 h_S_)) (broadcastInDim S32x256x1 ![] bcast_S_S32x256x1 (constant S_ .f32 0x45000000#32))) (broadcastInDim S32x256x1 ![] bcast_S_S32x256x1 (constant S_ .f32 0x358637BD#32))))))
      (broadcastInDim S32x256x2048 ![0, 1, 2] bcast_S1x1x2048_S32x256x2048_0_1_2 (broadcastInDim S1x1x2048 ![2] bcast_S2048_S1x1x2048_2 g)))
    (broadcastInDim S32x256x2048 ![0, 1, 2] bcast_S1x1x2048_S32x256x2048_0_1_2 (broadcastInDim S1x1x2048 ![2] bcast_S2048_S1x1x2048_2 b))

theorem scaled32_at (d : FVec Ideal S32x256x2048 .f32) (g b : FVec Ideal S2048 .f32) (i : Fin 32) (l : Fin 256) (k : Fin 2048) :
    scaled32 d g b (ix3 i l k)
      = d (ix3 i l k) * Ideal.rsqrt (LayerNorm.mean (fun k => d (ix3 i l k) * d (ix3 i l k)) + Ideal.ofBits .f32 0x358637BD#32) * g (ix1 k) + b (ix1 k) := by
  pointwise [scaled32]
  rfl

/-- The samples' rows less their means. -/
def centred4 (z : FVec Ideal S4x4096x2048 .f32) : FVec Ideal S4x4096x2048 .f32 :=
  subf z (broadcastInDim S4x4096x2048 ![0, 1, 2] bcast_S4x4096x1_S4x4096x2048_0_1_2 (Host.divf (broadcastInDim S4x4096x1 ![0, 1] bcast_S4x4096_S4x4096x1_0_1 (Host.reduceAdd z (constant S_ .f32 0x00000000#32) reducesTo_S4x4096x2048_S4x4096_d2 h_S_)) (broadcastInDim S4x4096x1 ![] bcast_S_S4x4096x1 (constant S_ .f32 0x45000000#32))))

theorem centred4_at (z : FVec Ideal S4x4096x2048 .f32) (b : Fin 4) (l : Fin 4096) (k : Fin 2048) :
    centred4 z (ix3 b l k) = LayerNorm.centred (fun k => z (ix3 b l k)) k := by
  pointwise [centred4]
  rfl

/-- The samples' rows over the roots of their variances, scaled and shifted. -/
def scaled4 (d : FVec Ideal S4x4096x2048 .f32) (g b : FVec Ideal S2048 .f32) : FVec Ideal S4x4096x2048 .f32 :=
  addf (mulf (mulf d (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf d d) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32))))))
      (broadcastInDim S4x4096x2048 ![0, 1, 2] bcast_S1x1x2048_S4x4096x2048_0_1_2 (broadcastInDim S1x1x2048 ![2] bcast_S2048_S1x1x2048_2 g)))
    (broadcastInDim S4x4096x2048 ![0, 1, 2] bcast_S1x1x2048_S4x4096x2048_0_1_2 (broadcastInDim S1x1x2048 ![2] bcast_S2048_S1x1x2048_2 b))

theorem scaled4_at (d : FVec Ideal S4x4096x2048 .f32) (g b : FVec Ideal S2048 .f32) (i : Fin 4) (l : Fin 4096) (k : Fin 2048) :
    scaled4 d g b (ix3 i l k)
      = d (ix3 i l k) * Ideal.rsqrt (LayerNorm.mean (fun k => d (ix3 i l k) * d (ix3 i l k)) + Ideal.ofBits .f32 0x358637BD#32) * g (ix1 k) + b (ix1 k) := by
  pointwise [scaled4]
  rfl

/-- A normed row, given the row less its mean. -/
theorem normed_of (z d g b : Fin 2048 → EReal) (h : ∀ k, d k = LayerNorm.centred z k) (k : Fin 2048) :
    d k * Ideal.rsqrt (LayerNorm.mean (fun k => d k * d k) + Ideal.ofBits .f32 0x358637BD#32) * g k + b k = LayerNorm.layerNorm z g b k := by
  obtain rfl : d = LayerNorm.centred z := funext h
  rfl

/-- The layer's last row `q`, from the reference's arguments. -/
def last (Y : FVec Ideal S49408x2048 .f32) (X : FVec Ideal S24576x2048 .f32) (G : FVec Ideal S24576x128 .f32) (M : FVec Ideal S8x12288 .f32)
    (g b : FVec Ideal S2048 .f32) (q : Fin 24576) (k : Fin 2048) : EReal :=
  LayerNorm.layerNorm (fun j => LayerNorm.residual (X (ix2 q j)) (M (ix2 ⟨q.val / 4096 - 1, by omega⟩ ⟨10240 + j, by omega⟩))
      (G (ix2 q 0) * Y (ix2 ⟨q.val, by omega⟩ j) + G (ix2 q 1) * Y (ix2 ⟨24576 + q.val, by omega⟩ j)))
    (fun j => g (ix1 j)) (fun j => b (ix1 j)) k

variable (Y : FVec Ideal S49408x2048 .f32) (X : FVec Ideal S24576x2048 .f32) (G : FVec Ideal S24576x128 .f32) (M : FVec Ideal S8x12288 .f32) (g b : FVec Ideal S2048 .f32)

/-- The prompts' result. -/
def result32 : FVec Ideal S32x256x2048 .f32 := scaled32 (centred32 (mixed32 X (combined Y G) M)) g b

/-- The samples' result. -/
def result4 : FVec Ideal S4x4096x2048 .f32 := scaled4 (centred4 (mixed4 X (combined Y G) M)) g b

theorem result32_at (i : Fin 32) (l : Fin 256) (k : Fin 2048) :
    result32 Y X G M g b (ix3 i l k) = last Y X G M g b ⟨i * 256 + l, by omega⟩ k := by
  unfold result32 last
  refine (scaled32_at _ g b i l k).trans ((normed_of _ _ (fun k => g (ix1 k)) (fun k => b (ix1 k)) (fun k => centred32_at _ i l k) k).trans ?_)
  refine congrArg (fun z => LayerNorm.layerNorm z _ _ k) (funext fun j => (mixed32_at _ _ M i l j).trans ?_)
  refine congr (congr (congrArg LayerNorm.residual rfl) (congrArg M ?_)) (combined_at Y G _ j)
  exact congrArg (fun q => ix2 q _) (Fin.ext (by simp only [Fin.val_zero]; omega))

theorem result4_at (i : Fin 4) (l : Fin 4096) (k : Fin 2048) :
    result4 Y X G M g b (ix3 i l k) = last Y X G M g b ⟨8192 + i * 4096 + l, by omega⟩ k := by
  unfold result4 last
  refine (scaled4_at _ g b i l k).trans ((normed_of _ _ (fun k => g (ix1 k)) (fun k => b (ix1 k)) (fun k => centred4_at _ i l k) k).trans ?_)
  refine congrArg (fun z => LayerNorm.layerNorm z _ _ k) (funext fun j => (mixed4_at _ _ M i l j).trans ?_)
  refine congr (congr (congrArg LayerNorm.residual rfl) (congrArg M ?_)) (combined_at Y G _ j)
  exact congrArg (fun q => ix2 q _) (Fin.ext (by simp only; omega))

variable (m : (ℓ : Loc nD τ sig) → Buf (Elt Ideal) ℓ)

theorem res32 (c : Dev nD) : Value.res_main_v49 (F := Ideal) m c
    = result32 (m (c.tc.loc main_arg0)) (m (c.tc.loc main_arg1)) (m (c.tc.loc main_arg2)) (m (c.tc.loc main_arg3)) (m (c.tc.loc main_arg4)) (m (c.tc.loc main_arg5)) := rfl

theorem res4 (c : Dev nD) : Value.res_main_v90 (F := Ideal) m c
    = result4 (m (c.tc.loc main_arg0)) (m (c.tc.loc main_arg1)) (m (c.tc.loc main_arg2)) (m (c.tc.loc main_arg3)) (m (c.tc.loc main_arg4)) (m (c.tc.loc main_arg5)) := rfl

end Cert.CombineReferenceIdeal.Combine

end
-- ==== Proof.Output.Reference.lean ====
/- The output projection's reference, place by place: the product, the residual's layer norm, the next input and the router's scores. -/
module

public import proofs.«01_k».proof.Proof.Gen.OutReferenceIdeal.Run
public import proofs.«01_k».proof.Proof.Output.Block
public import proofs.«01_k».proof.Proof.Combine.Reference

@[expose] public section

set_option maxRecDepth 16384

noncomputable section

namespace Cert.OutReferenceIdeal.Output

open Cert.OutReferenceIdeal Cert.OutReferenceIdeal.Gen Idealize.ShloMosaic Idealize.ShloMosaic.TcCoe
open Cert.OutKernelIdeal.Output (side projected)
open Cert.CombineReferenceIdeal.Combine (centred32 centred4 scaled32 scaled4 centred32_at centred4_at scaled32_at scaled4_at normed_of)

/-- The prompts' two sides, one beside the other. -/
def beside32 (A B : FVec Ideal S8192x1024 .f32) : FVec Ideal S32x256x2048 .f32 :=
  concatenate S32x256x2048 2 [⟨S32x256x1024, shapeCast _ A shapeCasts_S8192x1024_S32x256x1024⟩, ⟨S32x256x1024, shapeCast _ B shapeCasts_S8192x1024_S32x256x1024⟩] concatenates_S32x256x1024_S32x256x1024_S32x256x2048_d2

theorem beside32_left (A B : FVec Ideal S8192x1024 .f32) (b : Fin 32) (l : Fin 256) (k : Fin 1024) :
    beside32 A B (ix3 b l ⟨k.val, by omega⟩) = A (ix2 ⟨b * 256 + l, by omega⟩ k) := by
  pointwise [beside32]

theorem beside32_right (A B : FVec Ideal S8192x1024 .f32) (b : Fin 32) (l : Fin 256) (k : Fin 1024) :
    beside32 A B (ix3 b l ⟨1024 + k.val, by omega⟩) = B (ix2 ⟨b * 256 + l, by omega⟩ k) := by
  pointwise [beside32]

/-- The samples' two sides, one beside the other. -/
def beside4 (A B : FVec Ideal S16384x1024 .f32) : FVec Ideal S4x4096x2048 .f32 :=
  concatenate S4x4096x2048 2 [⟨S4x4096x1024, shapeCast _ A shapeCasts_S16384x1024_S4x4096x1024⟩, ⟨S4x4096x1024, shapeCast _ B shapeCasts_S16384x1024_S4x4096x1024⟩] concatenates_S4x4096x1024_S4x4096x1024_S4x4096x2048_d2

theorem beside4_left (A B : FVec Ideal S16384x1024 .f32) (b : Fin 4) (l : Fin 4096) (k : Fin 1024) :
    beside4 A B (ix3 b l ⟨k.val, by omega⟩) = A (ix2 ⟨b * 4096 + l, by omega⟩ k) := by
  pointwise [beside4]

theorem beside4_right (A B : FVec Ideal S16384x1024 .f32) (b : Fin 4) (l : Fin 4096) (k : Fin 1024) :
    beside4 A B (ix3 b l ⟨1024 + k.val, by omega⟩) = B (ix2 ⟨b * 4096 + l, by omega⟩ k) := by
  pointwise [beside4]

/-- Rows times the output weights. -/
def times32 (A : FVec Ideal S32x256x2048 .f32) (W : FVec Ideal S2048x2048 .f32) : FVec Ideal S32x256x2048 .f32 :=
  Host.dotGeneral dot_S32x256x2048_S2048x2048_S32x256x2048_2_0_01_1_n_n none A W

theorem times32_at (A : FVec Ideal S32x256x2048 .f32) (W : FVec Ideal S2048x2048 .f32) (b : Fin 32) (l : Fin 256) (j : Fin 2048) :
    times32 A W (ix3 b l j) = ∑ k : Fin 2048, A (ix3 b l k) * W (ix2 k j) := by
  pointwise [times32]

def times4 (A : FVec Ideal S4x4096x2048 .f32) (W : FVec Ideal S2048x2048 .f32) : FVec Ideal S4x4096x2048 .f32 :=
  Host.dotGeneral dot_S4x4096x2048_S2048x2048_S4x4096x2048_2_0_01_1_n_n none A W

theorem times4_at (A : FVec Ideal S4x4096x2048 .f32) (W : FVec Ideal S2048x2048 .f32) (b : Fin 4) (l : Fin 4096) (j : Fin 2048) :
    times4 A W (ix3 b l j) = ∑ k : Fin 2048, A (ix3 b l k) * W (ix2 k j) := by
  pointwise [times4]

/-- A prompt's product row. -/
theorem product32_at (oP : FVec Ideal S8192x1024 .f32) (oS : FVec Ideal S16384x1024 .f32) (yP : FVec Ideal S8192x1024 .f32) (yS : FVec Ideal S16384x1024 .f32)
    (W : FVec Ideal S2048x2048 .f32) (b : Fin 32) (l : Fin 256) (j : Fin 2048) :
    times32 (beside32 oP yP) W (ix3 b l j) = projected oP oS yP yS W ⟨b * 256 + l, by omega⟩ j := by
  have hs : ∀ (P : FVec Ideal S8192x1024 .f32) (S : FVec Ideal S16384x1024 .f32) (k : Fin 1024),
      side (α := EReal) P S ⟨b * 256 + l, by omega⟩ k = P (ix2 ⟨b * 256 + l, by omega⟩ k) := fun P S k => dif_pos (by simp only; omega)
  refine (times32_at _ W b l j).trans ((Router.sum_halves _).trans ?_)
  unfold projected
  refine congrArg₂ (· + ·) (Finset.sum_congr rfl fun k _ => ?_) (Finset.sum_congr rfl fun k _ => ?_)
  · exact congrArg (· * _) ((beside32_left oP yP b l k).trans (hs oP oS k).symm)
  · exact congrArg (· * _) ((beside32_right oP yP b l k).trans (hs yP yS k).symm)

/-- A sample's product row. -/
theorem product4_at (oP : FVec Ideal S8192x1024 .f32) (oS : FVec Ideal S16384x1024 .f32) (yP : FVec Ideal S8192x1024 .f32) (yS : FVec Ideal S16384x1024 .f32)
    (W : FVec Ideal S2048x2048 .f32) (b : Fin 4) (l : Fin 4096) (j : Fin 2048) :
    times4 (beside4 oS yS) W (ix3 b l j) = projected oP oS yP yS W ⟨8192 + b * 4096 + l, by omega⟩ j := by
  have hs : ∀ (P : FVec Ideal S8192x1024 .f32) (S : FVec Ideal S16384x1024 .f32) (k : Fin 1024),
      side (α := EReal) P S ⟨8192 + b * 4096 + l, by omega⟩ k = S (ix2 ⟨b * 4096 + l, by omega⟩ k) := fun P S k =>
    (dif_neg (by simp only; omega)).trans (congrArg (fun q => S (ix2 q k)) (Fin.ext (by simp only; omega)))
  refine (times4_at _ W b l j).trans ((Router.sum_halves _).trans ?_)
  unfold projected
  refine congrArg₂ (· + ·) (Finset.sum_congr rfl fun k _ => ?_) (Finset.sum_congr rfl fun k _ => ?_)
  · exact congrArg (· * _) ((beside4_left oS yS b l k).trans (hs oP oS k).symm)
  · exact congrArg (· * _) ((beside4_right oS yS b l k).trans (hs yP yS k).symm)

/-- The prompts' modulation, its six parts side by side. -/
def modulation32 (M : FVec Ideal S8x12288 .f32) : FVec Ideal S1x1x12288 .f32 :=
  broadcastInDim S1x1x12288 ![0, 2] bcast_S1x12288_S1x1x12288_0_2 (extractStridedSlice S1x12288 ![0, 0] M slices_S8x12288_S1x12288_0_0)

/-- The samples' modulation. -/
def modulation4 (M : FVec Ideal S8x12288 .f32) : FVec Ideal S4x1x12288 .f32 :=
  broadcastInDim S4x1x12288 ![0, 2] bcast_S4x12288_S4x1x12288_0_2 (extractStridedSlice S4x12288 ![1, 0] M slices_S8x12288_S4x12288_1_0)

/-- The prompts' residual plus the gated product. -/
def mixed32 (X : FVec Ideal S24576x2048 .f32) (Y : FVec Ideal S32x256x2048 .f32) (M : FVec Ideal S8x12288 .f32) : FVec Ideal S32x256x2048 .f32 :=
  addf (mulf (broadcastInDim S32x256x2048 ![] bcast_S_S32x256x2048 (constant S_ .f32 0x3FB504F3#32))
      (shapeCast _ (extractStridedSlice S8192x2048 ![0, 0] X slices_S24576x2048_S8192x2048_0_0) shapeCasts_S8192x2048_S32x256x2048))
    (mulf (broadcastInDim S32x256x2048 ![0, 1, 2] bcast_S1x1x2048_S32x256x2048_0_1_2 (extractStridedSlice S1x1x2048 ![0, 0, 4096] (modulation32 M) slices_S1x1x12288_S1x1x2048_0_0_4096)) Y)

theorem mixed32_at (X : FVec Ideal S24576x2048 .f32) (Y : FVec Ideal S32x256x2048 .f32) (M : FVec Ideal S8x12288 .f32) (b : Fin 32) (l : Fin 256) (k : Fin 2048) :
    mixed32 X Y M (ix3 b l k) = LayerNorm.residual (X (ix2 ⟨b * 256 + l, by omega⟩ k)) (M (ix2 0 ⟨4096 + k, by omega⟩)) (Y (ix3 b l k)) := by
  unfold LayerNorm.residual
  pointwise [mixed32, modulation32]

/-- The samples' residual plus the gated product. -/
def mixed4 (X : FVec Ideal S24576x2048 .f32) (Y : FVec Ideal S4x4096x2048 .f32) (M : FVec Ideal S8x12288 .f32) : FVec Ideal S4x4096x2048 .f32 :=
  addf (mulf (broadcastInDim S4x4096x2048 ![] bcast_S_S4x4096x2048 (constant S_ .f32 0x3FB504F3#32))
      (shapeCast _ (extractStridedSlice S16384x2048 ![8192, 0] X slices_S24576x2048_S16384x2048_8192_0) shapeCasts_S16384x2048_S4x4096x2048))
    (mulf (broadcastInDim S4x4096x2048 ![0, 1, 2] bcast_S4x1x2048_S4x4096x2048_0_1_2 (extractStridedSlice S4x1x2048 ![0, 0, 4096] (modulation4 M) slices_S4x1x12288_S4x1x2048_0_0_4096)) Y)

theorem mixed4_at (X : FVec Ideal S24576x2048 .f32) (Y : FVec Ideal S4x4096x2048 .f32) (M : FVec Ideal S8x12288 .f32) (b : Fin 4) (l : Fin 4096) (k : Fin 2048) :
    mixed4 X Y M (ix3 b l k) = LayerNorm.residual (X (ix2 ⟨8192 + b * 4096 + l, by omega⟩ k)) (M (ix2 ⟨1 + b, by omega⟩ ⟨4096 + k, by omega⟩)) (Y (ix3 b l k)) := by
  unfold LayerNorm.residual
  pointwise [mixed4, modulation4]
  refine congrArg₂ (· + ·) (congrArg (_ * ·) ?_) (congrArg (· * _) ?_)
  all_goals blk_ext

/-- The prompts' next input. -/
def next32 (n : FVec Ideal S32x256x2048 .f32) (M : FVec Ideal S8x12288 .f32) : FVec Ideal S32x256x2048 .f32 :=
  addf (mulf n (broadcastInDim S32x256x2048 ![0, 1, 2] bcast_S1x1x2048_S32x256x2048_0_1_2
      (addf (broadcastInDim S1x1x2048 ![] bcast_S_S1x1x2048 (constant S_ .f32 0x3F800000#32)) (extractStridedSlice S1x1x2048 ![0, 0, 8192] (modulation32 M) slices_S1x1x12288_S1x1x2048_0_0_8192))))
    (broadcastInDim S32x256x2048 ![0, 1, 2] bcast_S1x1x2048_S32x256x2048_0_1_2 (extractStridedSlice S1x1x2048 ![0, 0, 6144] (modulation32 M) slices_S1x1x12288_S1x1x2048_0_0_6144))

theorem next32_at (n : FVec Ideal S32x256x2048 .f32) (M : FVec Ideal S8x12288 .f32) (b : Fin 32) (l : Fin 256) (k : Fin 2048) :
    next32 n M (ix3 b l k) = Router.shifted (n (ix3 b l k)) (M (ix2 0 ⟨8192 + k, by omega⟩)) (M (ix2 0 ⟨6144 + k, by omega⟩)) := by
  unfold Router.shifted
  pointwise [next32, modulation32]

/-- The samples' next input. -/
def next4 (n : FVec Ideal S4x4096x2048 .f32) (M : FVec Ideal S8x12288 .f32) : FVec Ideal S4x4096x2048 .f32 :=
  addf (mulf n (broadcastInDim S4x4096x2048 ![0, 1, 2] bcast_S4x1x2048_S4x4096x2048_0_1_2
      (addf (broadcastInDim S4x1x2048 ![] bcast_S_S4x1x2048 (constant S_ .f32 0x3F800000#32)) (extractStridedSlice S4x1x2048 ![0, 0, 8192] (modulation4 M) slices_S4x1x12288_S4x1x2048_0_0_8192))))
    (broadcastInDim S4x4096x2048 ![0, 1, 2] bcast_S4x1x2048_S4x4096x2048_0_1_2 (extractStridedSlice S4x1x2048 ![0, 0, 6144] (modulation4 M) slices_S4x1x12288_S4x1x2048_0_0_6144))

theorem next4_at (n : FVec Ideal S4x4096x2048 .f32) (M : FVec Ideal S8x12288 .f32) (b : Fin 4) (l : Fin 4096) (k : Fin 2048) :
    next4 n M (ix3 b l k) = Router.shifted (n (ix3 b l k)) (M (ix2 ⟨1 + b, by omega⟩ ⟨8192 + k, by omega⟩)) (M (ix2 ⟨1 + b, by omega⟩ ⟨6144 + k, by omega⟩)) := by
  unfold Router.shifted
  pointwise [next4, modulation4]

/-- The prompts' rows and the samples', as matrices. -/
def flat32 (A : FVec Ideal S32x256x2048 .f32) : FVec Ideal S8192x2048 .f32 := shapeCast _ A shapeCasts_S32x256x2048_S8192x2048

def flat4 (A : FVec Ideal S4x4096x2048 .f32) : FVec Ideal S16384x2048 .f32 := shapeCast _ A shapeCasts_S4x4096x2048_S16384x2048

theorem flat32_at (A : FVec Ideal S32x256x2048 .f32) (b : Fin 32) (l : Fin 256) (k : Fin 2048) :
    flat32 A (ix2 ⟨b * 256 + l, by omega⟩ k) = A (ix3 b l k) := by
  pointwise [flat32]
  blk_ext

theorem flat4_at (A : FVec Ideal S4x4096x2048 .f32) (b : Fin 4) (l : Fin 4096) (k : Fin 2048) :
    flat4 A (ix2 ⟨b * 4096 + l, by omega⟩ k) = A (ix3 b l k) := by
  pointwise [flat4]
  blk_ext

/-- The prompts' rows above the samples'. -/
def above (P : FVec Ideal S8192x2048 .f32) (S : FVec Ideal S16384x2048 .f32) : FVec Ideal S24576x2048 .f32 :=
  concatenate S24576x2048 0 [⟨S8192x2048, P⟩, ⟨S16384x2048, S⟩] concatenates_S8192x2048_S16384x2048_S24576x2048_d0

theorem above_prompt (P : FVec Ideal S8192x2048 .f32) (S : FVec Ideal S16384x2048 .f32) (q : Fin 8192) (k : Fin 2048) :
    above P S (ix2 ⟨q.val, by omega⟩ k) = P (ix2 q k) := by
  pointwise [above]

theorem above_sample (P : FVec Ideal S8192x2048 .f32) (S : FVec Ideal S16384x2048 .f32) (q : Fin 16384) (k : Fin 2048) :
    above P S (ix2 ⟨8192 + q.val, by omega⟩ k) = S (ix2 q k) := by
  pointwise [above]

/-- The prompts' scores: the groups' columns, then the experts'. -/
def scores32 (H : FVec Ideal S8192x2048 .f32) (Wg : FVec Ideal S2048x4 .f32) (bg : FVec Ideal S4 .f32) (We : FVec Ideal S2048x32 .f32) (be : FVec Ideal S32 .f32) : FVec Ideal S8192x36 .f32 :=
  concatenate S8192x36 1 [⟨S8192x4, addf (Host.dotGeneral dot_S8192x2048_S2048x4_S8192x4_1_0_0_1_n_n none H Wg) (broadcastInDim S8192x4 ![0, 1] bcast_S1x4_S8192x4_0_1 (broadcastInDim S1x4 ![1] bcast_S4_S1x4_1 bg))⟩,
    ⟨S8192x32, addf (Host.dotGeneral dot_S8192x2048_S2048x32_S8192x32_1_0_0_1_n_n none H We) (broadcastInDim S8192x32 ![0, 1] bcast_S1x32_S8192x32_0_1 (broadcastInDim S1x32 ![1] bcast_S32_S1x32_1 be))⟩] concatenates_S8192x4_S8192x32_S8192x36_d1

/-- The samples' scores. -/
def scores4 (H : FVec Ideal S16384x2048 .f32) (Wg : FVec Ideal S2048x4 .f32) (bg : FVec Ideal S4 .f32) (We : FVec Ideal S2048x32 .f32) (be : FVec Ideal S32 .f32) : FVec Ideal S16384x36 .f32 :=
  concatenate S16384x36 1 [⟨S16384x4, addf (Host.dotGeneral dot_S16384x2048_S2048x4_S16384x4_1_0_0_1_n_n none H Wg) (broadcastInDim S16384x4 ![0, 1] bcast_S1x4_S16384x4_0_1 (broadcastInDim S1x4 ![1] bcast_S4_S1x4_1 bg))⟩,
    ⟨S16384x32, addf (Host.dotGeneral dot_S16384x2048_S2048x32_S16384x32_1_0_0_1_n_n none H We) (broadcastInDim S16384x32 ![0, 1] bcast_S1x32_S16384x32_0_1 (broadcastInDim S1x32 ![1] bcast_S32_S1x32_1 be))⟩] concatenates_S16384x4_S16384x32_S16384x36_d1

/-- The router's weights of column `j`: the groups' first, then the experts'. -/
def weight (Wg : FVec Ideal S2048x4 .f32) (We : FVec Ideal S2048x32 .f32) (j : Fin 36) (k : Fin 2048) : EReal :=
  if h : j.val < 4 then Wg (ix2 k ⟨j.val, h⟩) else We (ix2 k ⟨j.val - 4, by omega⟩)

/-- The router's bias of column `j`. -/
def bias (bg : FVec Ideal S4 .f32) (be : FVec Ideal S32 .f32) (j : Fin 36) : EReal :=
  if h : j.val < 4 then bg (ix1 ⟨j.val, h⟩) else be (ix1 ⟨j.val - 4, by omega⟩)

theorem scores32_at (H : FVec Ideal S8192x2048 .f32) (Wg : FVec Ideal S2048x4 .f32) (bg : FVec Ideal S4 .f32) (We : FVec Ideal S2048x32 .f32) (be : FVec Ideal S32 .f32)
    (q : Fin 8192) (j : Fin 36) : scores32 H Wg bg We be (ix2 q j) = Router.score (fun k => H (ix2 q k)) (weight Wg We j) (bias bg be j) := by
  unfold Router.score weight bias
  by_cases h : j.val < 4
  · simp only [dif_pos h]
    pointwise [scores32]
    rw [dif_pos h]
  · simp only [dif_neg h]
    pointwise [scores32]
    rw [dif_neg h]

theorem scores4_at (H : FVec Ideal S16384x2048 .f32) (Wg : FVec Ideal S2048x4 .f32) (bg : FVec Ideal S4 .f32) (We : FVec Ideal S2048x32 .f32) (be : FVec Ideal S32 .f32)
    (q : Fin 16384) (j : Fin 36) : scores4 H Wg bg We be (ix2 q j) = Router.score (fun k => H (ix2 q k)) (weight Wg We j) (bias bg be j) := by
  unfold Router.score weight bias
  by_cases h : j.val < 4
  · simp only [dif_pos h]
    pointwise [scores4]
    rw [dif_pos h]
  · simp only [dif_neg h]
    pointwise [scores4]
    rw [dif_neg h]

/-- The prompts' scores above the samples'. -/
def aboveScores (P : FVec Ideal S8192x36 .f32) (S : FVec Ideal S16384x36 .f32) : FVec Ideal S24576x36 .f32 :=
  concatenate S24576x36 0 [⟨S8192x36, P⟩, ⟨S16384x36, S⟩] concatenates_S8192x36_S16384x36_S24576x36_d0

theorem aboveScores_prompt (P : FVec Ideal S8192x36 .f32) (S : FVec Ideal S16384x36 .f32) (q : Fin 8192) (k : Fin 36) :
    aboveScores P S (ix2 ⟨q.val, by omega⟩ k) = P (ix2 q k) := by
  pointwise [aboveScores]

theorem aboveScores_sample (P : FVec Ideal S8192x36 .f32) (S : FVec Ideal S16384x36 .f32) (q : Fin 16384) (k : Fin 36) :
    aboveScores P S (ix2 ⟨8192 + q.val, by omega⟩ k) = S (ix2 q k) := by
  pointwise [aboveScores]

/-- The layer's row after a sublayer whose output's rows are `p`. -/
def state (p : Fin 24576 → Fin 2048 → EReal) (X : FVec Ideal S24576x2048 .f32) (M : FVec Ideal S8x12288 .f32) (g b : FVec Ideal S2048 .f32) (q : Fin 24576) (j : Fin 2048) : EReal :=
  LayerNorm.layerNorm (fun j => LayerNorm.residual (X (ix2 q j)) (M (ix2 ⟨q.val / 4096 - 1, by omega⟩ ⟨4096 + j, by omega⟩)) (p q j)) (fun j => g (ix1 j)) (fun j => b (ix1 j)) j

/-- The next sublayer's input row. -/
def next (n : Fin 24576 → Fin 2048 → EReal) (M : FVec Ideal S8x12288 .f32) (q : Fin 24576) (j : Fin 2048) : EReal :=
  Router.shifted (n q j) (M (ix2 ⟨q.val / 4096 - 1, by omega⟩ ⟨8192 + j, by omega⟩)) (M (ix2 ⟨q.val / 4096 - 1, by omega⟩ ⟨6144 + j, by omega⟩))

variable (X : FVec Ideal S24576x2048 .f32) (Y32 : FVec Ideal S32x256x2048 .f32) (Y4 : FVec Ideal S4x4096x2048 .f32) (M : FVec Ideal S8x12288 .f32) (g b : FVec Ideal S2048 .f32)
  (Wg : FVec Ideal S2048x4 .f32) (bg : FVec Ideal S4 .f32) (We : FVec Ideal S2048x32 .f32) (be : FVec Ideal S32 .f32) (p : Fin 24576 → Fin 2048 → EReal)

def state32 : FVec Ideal S32x256x2048 .f32 := scaled32 (centred32 (mixed32 X Y32 M)) g b

def state4 : FVec Ideal S4x4096x2048 .f32 := scaled4 (centred4 (mixed4 X Y4 M)) g b

/-- The first result. -/
def states : FVec Ideal S24576x2048 .f32 := above (flat32 (state32 X Y32 M g b)) (flat4 (state4 X Y4 M g b))

/-- The second. -/
def nexts : FVec Ideal S24576x2048 .f32 := above (flat32 (next32 (state32 X Y32 M g b) M)) (flat4 (next4 (state4 X Y4 M g b) M))

/-- The third. -/
def logits : FVec Ideal S24576x36 .f32 :=
  aboveScores (scores32 (flat32 (next32 (state32 X Y32 M g b) M)) Wg bg We be) (scores4 (flat4 (next4 (state4 X Y4 M g b) M)) Wg bg We be)

section
variable (h32 : ∀ (i : Fin 32) (l : Fin 256) (j : Fin 2048), Y32 (ix3 i l j) = p ⟨i * 256 + l, by omega⟩ j)
  (h4 : ∀ (i : Fin 4) (l : Fin 4096) (j : Fin 2048), Y4 (ix3 i l j) = p ⟨8192 + i * 4096 + l, by omega⟩ j)

include h32 in
theorem state32_at (i : Fin 32) (l : Fin 256) (k : Fin 2048) : state32 X Y32 M g b (ix3 i l k) = state p X M g b ⟨i * 256 + l, by omega⟩ k := by
  unfold state32 state
  refine (scaled32_at _ g b i l k).trans ((normed_of _ _ (fun k => g (ix1 k)) (fun k => b (ix1 k)) (fun k => centred32_at _ i l k) k).trans ?_)
  refine congrArg (fun z => LayerNorm.layerNorm z _ _ k) (funext fun j => (mixed32_at _ _ M i l j).trans ?_)
  refine congr (congr (congrArg LayerNorm.residual rfl) (congrArg M ?_)) (h32 i l j)
  exact congrArg (fun q => ix2 q _) (Fin.ext (by simp only [Fin.val_zero]; omega))

include h4 in
theorem state4_at (i : Fin 4) (l : Fin 4096) (k : Fin 2048) : state4 X Y4 M g b (ix3 i l k) = state p X M g b ⟨8192 + i * 4096 + l, by omega⟩ k := by
  unfold state4 state
  refine (scaled4_at _ g b i l k).trans ((normed_of _ _ (fun k => g (ix1 k)) (fun k => b (ix1 k)) (fun k => centred4_at _ i l k) k).trans ?_)
  refine congrArg (fun z => LayerNorm.layerNorm z _ _ k) (funext fun j => (mixed4_at _ _ M i l j).trans ?_)
  refine congr (congr (congrArg LayerNorm.residual rfl) (congrArg M ?_)) (h4 i l j)
  exact congrArg (fun q => ix2 q _) (Fin.ext (by simp only; omega))

include h32 in
theorem next32_row (i : Fin 32) (l : Fin 256) (k : Fin 2048) :
    next32 (state32 X Y32 M g b) M (ix3 i l k) = next (state p X M g b) M ⟨i * 256 + l, by omega⟩ k := by
  refine (next32_at _ M i l k).trans ?_
  unfold next
  refine congr (congr (congrArg Router.shifted (state32_at X Y32 M g b p h32 i l k)) (congrArg M ?_)) (congrArg M ?_)
  all_goals exact congrArg (fun q => ix2 q _) (Fin.ext (by simp only [Fin.val_zero]; omega))

include h4 in
theorem next4_row (i : Fin 4) (l : Fin 4096) (k : Fin 2048) :
    next4 (state4 X Y4 M g b) M (ix3 i l k) = next (state p X M g b) M ⟨8192 + i * 4096 + l, by omega⟩ k := by
  refine (next4_at _ M i l k).trans ?_
  unfold next
  refine congr (congr (congrArg Router.shifted (state4_at X Y4 M g b p h4 i l k)) (congrArg M ?_)) (congrArg M ?_)
  all_goals exact congrArg (fun q => ix2 q _) (Fin.ext (by simp only; omega))
end

/-- Two stacks of rows given row by row are the rows, one above the other. -/
theorem above_rows (A : FVec Ideal S32x256x2048 .f32) (B : FVec Ideal S4x4096x2048 .f32) (f : Fin 24576 → Fin 2048 → EReal)
    (hA : ∀ (i : Fin 32) (l : Fin 256) (j : Fin 2048), A (ix3 i l j) = f ⟨i * 256 + l, by omega⟩ j)
    (hB : ∀ (i : Fin 4) (l : Fin 4096) (j : Fin 2048), B (ix3 i l j) = f ⟨8192 + i * 4096 + l, by omega⟩ j) (q : Fin 24576) (k : Fin 2048) :
    above (flat32 A) (flat4 B) (ix2 q k) = f q k := by
  rcases LayerNorm.split_rows q with ⟨i, l, rfl⟩ | ⟨i, l, rfl⟩
  · exact (above_prompt _ _ ⟨i * 256 + l, by omega⟩ k).trans ((flat32_at A i l k).trans (hA i l k))
  · refine Eq.trans (congrArg (fun q => above (flat32 A) (flat4 B) (ix2 q k)) (Fin.ext (by simp only; omega)))
      ((above_sample _ _ ⟨i * 4096 + l, by omega⟩ k).trans ((flat4_at B i l k).trans (hB i l k)))

/-- And their scores are the rows' scores. -/
theorem above_scores (A : FVec Ideal S32x256x2048 .f32) (B : FVec Ideal S4x4096x2048 .f32) (f : Fin 24576 → Fin 2048 → EReal)
    (hA : ∀ (i : Fin 32) (l : Fin 256) (j : Fin 2048), A (ix3 i l j) = f ⟨i * 256 + l, by omega⟩ j)
    (hB : ∀ (i : Fin 4) (l : Fin 4096) (j : Fin 2048), B (ix3 i l j) = f ⟨8192 + i * 4096 + l, by omega⟩ j) (q : Fin 24576) (k : Fin 36) :
    aboveScores (scores32 (flat32 A) Wg bg We be) (scores4 (flat4 B) Wg bg We be) (ix2 q k) = Router.score (f q) (weight Wg We k) (bias bg be k) := by
  rcases LayerNorm.split_rows q with ⟨i, l, rfl⟩ | ⟨i, l, rfl⟩
  · exact (aboveScores_prompt _ _ ⟨i * 256 + l, by omega⟩ k).trans ((scores32_at _ Wg bg We be _ k).trans
      (congrArg (fun h => Router.score h _ _) (funext fun j => (flat32_at A i l j).trans (hA i l j))))
  · refine Eq.trans (congrArg (fun q => aboveScores (scores32 (flat32 A) Wg bg We be) (scores4 (flat4 B) Wg bg We be) (ix2 q k)) (Fin.ext (by simp only; omega)))
      ((aboveScores_sample _ _ ⟨i * 4096 + l, by omega⟩ k).trans ((scores4_at _ Wg bg We be _ k).trans
      (congrArg (fun h => Router.score h _ _) (funext fun j => (flat4_at B i l j).trans (hB i l j)))))

variable (m : (ℓ : Loc nD τ sig) → Buf (Elt Ideal) ℓ)

theorem res_states (c : Dev nD) : Value.res_main_v120 (F := Ideal) m c
    = states (m (c.tc.loc main_arg5)) (times32 (beside32 (m (c.tc.loc main_arg0)) (m (c.tc.loc main_arg2))) (m (c.tc.loc main_arg4)))
      (times4 (beside4 (m (c.tc.loc main_arg1)) (m (c.tc.loc main_arg3))) (m (c.tc.loc main_arg4))) (m (c.tc.loc main_arg6)) (m (c.tc.loc main_arg7)) (m (c.tc.loc main_arg8)) := rfl

theorem res_nexts (c : Dev nD) : Value.res_main_v121 (F := Ideal) m c
    = nexts (m (c.tc.loc main_arg5)) (times32 (beside32 (m (c.tc.loc main_arg0)) (m (c.tc.loc main_arg2))) (m (c.tc.loc main_arg4)))
      (times4 (beside4 (m (c.tc.loc main_arg1)) (m (c.tc.loc main_arg3))) (m (c.tc.loc main_arg4))) (m (c.tc.loc main_arg6)) (m (c.tc.loc main_arg7)) (m (c.tc.loc main_arg8)) := rfl

theorem res_logits (c : Dev nD) : Value.res_main_v122 (F := Ideal) m c
    = logits (m (c.tc.loc main_arg5)) (times32 (beside32 (m (c.tc.loc main_arg0)) (m (c.tc.loc main_arg2))) (m (c.tc.loc main_arg4)))
      (times4 (beside4 (m (c.tc.loc main_arg1)) (m (c.tc.loc main_arg3))) (m (c.tc.loc main_arg4))) (m (c.tc.loc main_arg6)) (m (c.tc.loc main_arg7)) (m (c.tc.loc main_arg8))
      (m (c.tc.loc main_arg9)) (m (c.tc.loc main_arg10)) (m (c.tc.loc main_arg11)) (m (c.tc.loc main_arg12)) := rfl

end Cert.OutReferenceIdeal.Output

end
-- ==== Proof.Output.Weights.lean ====
/- The router's weights as the kernel is given them, and its scores where every number is real. -/
module

public import proofs.«01_k».proof.Proof.Output.Reference
public import proofs.«01_k».proof.Proof.Router

@[expose] public section

set_option maxRecDepth 16384

noncomputable section

namespace Cert.OutKernelIdeal.Output

open Cert.OutKernelIdeal Cert.OutKernelIdeal.Gen Idealize.ShloMosaic Idealize.ShloMosaic.TcCoe
open Cert.OutReferenceIdeal.Output (weight bias)

/-- One index word. -/
def word (n : BitVec 32) : IVec S1 32 := broadcastInDim S1 ![] bcast_S_S1 (constantI S_ 32 n)

/-- Two. -/
def words (n k : BitVec 32) : IVec S2 32 := concatenate S2 0 [⟨S1, word n⟩, ⟨S1, word k⟩] concatenates_S1_S1_S2_d0

/-- The groups' weights and the experts', side by side in 128 columns. -/
def laid (Wg : FVec Ideal S2048x4 .f32) (We : FVec Ideal S2048x32 .f32) : FVec Ideal S2048x128 .f32 :=
  Host.scatter scatter_S2048x128_S1_S2048x32_01_n_1_0 (fun _ b => b)
    (Host.scatter scatter_S2048x128_S1_S2048x4_01_n_1_0 (fun _ b => b) (broadcastInDim S2048x128 ![] bcast_S_S2048x128 (constant S_ .f32 0x00000000#32)) (word 0#32) Wg) (word 4#32) We

theorem word_at (n : BitVec 32) (i : S1.Idx) : word n i = n := rfl

theorem laid_at (Wg : FVec Ideal S2048x4 .f32) (We : FVec Ideal S2048x32 .f32) (k : Fin 2048) (j : Fin 36) :
    laid Wg We (ix2 k ⟨j.val, by omega⟩) = weight Wg We j k := by
  unfold laid weight
  by_cases h : j.val < 4
  · rw [dif_pos h]
    refine (Router.columns_before _ rfl rfl rfl _ _ _ 4 rfl k (⟨j.val, by omega⟩ : Fin 128) h).trans ?_
    exact Router.columns_in _ rfl rfl rfl _ _ _ 0 rfl k (⟨j.val, by omega⟩ : Fin 128) (⟨j.val, h⟩ : Fin 4) (Nat.zero_add _).symm
  · rw [dif_neg h]
    exact Router.columns_in _ rfl rfl rfl _ _ _ 4 rfl k (⟨j.val, by omega⟩ : Fin 128) (⟨j.val - 4, by omega⟩ : Fin 32) (by simp only; omega)

/-- The biases in one row of 128. -/
def laidBias (bg : FVec Ideal S4 .f32) (be : FVec Ideal S32 .f32) : FVec Ideal S1x128 .f32 :=
  Host.scatter scatter_S1x128_S2_S32_0_0_01_0 (fun _ b => b)
    (Host.scatter scatter_S1x128_S2_S4_0_0_01_0 (fun _ b => b) (broadcastInDim S1x128 ![] bcast_S_S1x128 (constant S_ .f32 0x00000000#32)) (words 0#32 0#32) bg) (words 0#32 4#32) be

theorem laidBias_at (bg : FVec Ideal S4 .f32) (be : FVec Ideal S32 .f32) (j : Fin 36) :
    laidBias bg be (ix2 0 ⟨j.val, by omega⟩) = bias bg be j := by
  unfold laidBias bias
  by_cases h : j.val < 4
  · rw [dif_pos h]
    refine (Router.entries_before _ rfl rfl rfl rfl _ _ _ rfl 4 rfl (⟨j.val, by omega⟩ : Fin 128) h).trans ?_
    exact Router.entries_in _ rfl rfl rfl rfl _ _ _ rfl 0 rfl (⟨j.val, by omega⟩ : Fin 128) (⟨j.val, h⟩ : Fin 4) (Nat.zero_add _).symm
  · rw [dif_neg h]
    exact Router.entries_in _ rfl rfl rfl rfl _ _ _ rfl 4 rfl (⟨j.val, by omega⟩ : Fin 128) (⟨j.val - 4, by omega⟩ : Fin 32) (by simp only; omega)

/-- Weights rounded, above what the rounding left. -/
def halved (L : FVec Ideal S2048x128 .f32) : FVec Ideal S4096x128 .bf16 :=
  concatenate S4096x128 0 [⟨S2048x128, truncf .bf16 L bitsLt_bf16_f32⟩,
    ⟨S2048x128, truncf .bf16 (subf L (extf .f32 (truncf .bf16 L bitsLt_bf16_f32) bitsLt_bf16_f32)) bitsLt_bf16_f32⟩] concatenates_S2048x128_S2048x128_S4096x128_d0

theorem halved_upper (L : FVec Ideal S2048x128 .f32) (k : Fin 2048) (j : Fin 128) : halved L (ix2 ⟨k.val, by omega⟩ j) = L (ix2 k j) := by
  pointwise [halved]

theorem halved_lower (L : FVec Ideal S2048x128 .f32) (k : Fin 2048) (j : Fin 128) :
    halved L (ix2 ⟨2048 + k.val, by omega⟩ j) = L (ix2 k j) - L (ix2 k j) := by
  pointwise [halved]

/-- The kernel's scores of a real row are the plain ones. -/
theorem scoreRow_eq (h : Fin 24576 → Fin 2048 → EReal) (Wg : FVec Ideal S2048x4 .f32) (bg : FVec Ideal S4 .f32) (We : FVec Ideal S2048x32 .f32) (be : FVec Ideal S32 .f32)
    (q : Fin 24576) (j : Fin 36) (hh : ∀ k, Attention.Finite (h q k)) (hg : ∀ i, Attention.Finite (Wg i)) (he : ∀ i, Attention.Finite (We i)) :
    scoreRow h (halved (laid Wg We)) (laidBias bg be) q ⟨j.val, by omega⟩ = Router.score (h q) (weight Wg We j) (bias bg be j) := by
  have hw : ∀ k, Attention.Finite (weight Wg We j k) := fun k => by
    unfold weight
    split
    · exact hg _
    · exact he _
  refine Eq.trans ?_ (Router.halves_eq (h q) (weight Wg We j) (bias bg be j) hh hw)
  unfold scoreRow Router.halves
  refine congrArg₂ (· + ·) (congrArg₂ (· + ·) (congrArg₂ (· + ·) ?_ ?_) ?_) (laidBias_at bg be j)
  · exact Finset.sum_congr rfl fun k _ => congrArg (_ * ·) ((halved_upper _ k _).trans (laid_at Wg We k j))
  · exact Finset.sum_congr rfl fun k _ => congrArg (_ * ·) ((halved_lower _ k _).trans (congrArg₂ (· - ·) (laid_at Wg We k j) (laid_at Wg We k j)))
  · exact Finset.sum_congr rfl fun k _ => congrArg (_ * ·) ((halved_upper _ k _).trans (laid_at Wg We k j))

/-- The modulation's rows as the kernel is given them. -/
def parts (M : FVec Ideal S8x12288 .f32) : FVec Ideal S48x1x2048 .f32 := shapeCast S48x1x2048 M shapeCasts_S8x12288_S48x1x2048

/-- A vector as a row. -/
def rowOf (g : FVec Ideal S2048 .f32) : FVec Ideal S1x2048 .f32 := shapeCast S1x2048 g shapeCasts_S2048_S1x2048

theorem parts_at (M : FVec Ideal S8x12288 .f32) (g : Fin 8) (w : Fin 6) (k : Fin 2048) :
    parts M (ix3 ⟨g * 6 + w, by omega⟩ 0 k) = M (ix2 g ⟨w * 2048 + k, by omega⟩) := by
  pointwise [parts]
  blk_ext

theorem rowOf_at (g : FVec Ideal S2048 .f32) (k : Fin 2048) : rowOf g (ix2 0 k) = g (ix1 k) := by
  pointwise [rowOf]

/-- The rows from the arrays the kernel is given are those from the arguments. -/
theorem stateRow_eq (p : Fin 24576 → Fin 2048 → EReal) (X : FVec Ideal S24576x2048 .f32) (M : FVec Ideal S8x12288 .f32) (g b : FVec Ideal S2048 .f32) :
    stateRow p X (parts M) (rowOf g) (rowOf b) = OutReferenceIdeal.Output.state p X M g b := by
  funext q k
  unfold stateRow OutReferenceIdeal.Output.state
  refine congr (congr (congr (congrArg LayerNorm.layerNorm (funext fun j => ?_)) (funext fun j => rowOf_at g j)) (funext fun j => rowOf_at b j)) rfl
  refine congr (congr (congrArg LayerNorm.residual rfl) ?_) rfl
  exact (parts_at M ⟨q.val / 4096 - 1, by omega⟩ 2 j).trans (congrArg M (congrArg (ix2 _ ·) (Fin.ext rfl)))

theorem nextRow_eq (n : Fin 24576 → Fin 2048 → EReal) (M : FVec Ideal S8x12288 .f32) : nextRow n (parts M) = OutReferenceIdeal.Output.next n M := by
  funext q k
  unfold nextRow OutReferenceIdeal.Output.next
  refine congr (congr rfl ?_) ?_
  · exact (parts_at M ⟨q.val / 4096 - 1, by omega⟩ 4 k).trans (congrArg M (congrArg (ix2 _ ·) (Fin.ext rfl)))
  · exact (parts_at M ⟨q.val / 4096 - 1, by omega⟩ 3 k).trans (congrArg M (congrArg (ix2 _ ·) (Fin.ext rfl)))

open Attention in
/-- Real arguments give a real next input. -/
theorem next_real (p : Fin 24576 → Fin 2048 → EReal) (X : FVec Ideal S24576x2048 .f32) (M : FVec Ideal S8x12288 .f32) (g b : FVec Ideal S2048 .f32)
    (hp : ∀ q k, Finite (p q k)) (hX : ∀ i, Finite (X i)) (hM : ∀ i, Finite (M i)) (hg : ∀ i, Finite (g i)) (hb : ∀ i, Finite (b i)) (q : Fin 24576) (k : Fin 2048) :
    Finite (OutReferenceIdeal.Output.next (OutReferenceIdeal.Output.state p X M g b) M q k) :=
  Router.shifted_real (Router.layerNorm_real _ _ _ (fun j => Router.residual_real (hX _) (hM _) (hp q j)) (fun j => hg _) (fun j => hb _) k) (hM _) (hM _)

open Attention in
theorem projected_real (oP : FVec Ideal S8192x1024 .f32) (oS : FVec Ideal S16384x1024 .f32) (yP : FVec Ideal S8192x1024 .f32) (yS : FVec Ideal S16384x1024 .f32)
    (W : FVec Ideal S2048x2048 .f32) (h1 : ∀ i, Finite (oP i)) (h2 : ∀ i, Finite (oS i)) (h3 : ∀ i, Finite (yP i)) (h4 : ∀ i, Finite (yS i)) (h5 : ∀ i, Finite (W i))
    (q : Fin 24576) (j : Fin 2048) : Finite (projected oP oS yP yS W q j) := by
  have hs : ∀ (P : FVec Ideal S8192x1024 .f32) (S : FVec Ideal S16384x1024 .f32), (∀ i, Finite (P i)) → (∀ i, Finite (S i)) → ∀ k, Finite (side (α := EReal) P S q k) := by
    intro P S hP hS k
    unfold side
    split
    · exact hP _
    · exact hS _
  exact (Finite.sum _ _ fun k => (hs oP oS h1 h2 k).mul (h5 _)).add (Finite.sum _ _ fun k => (hs yP yS h3 h4 k).mul (h5 _))

end Cert.OutKernelIdeal.Output

end
-- ==== Proof.Output.Finite.lean ====
/- The precondition read off: every argument the router's scores come from is a real number. -/
module

public import proofs.«01_k».proof.Pre_out_finite
public import proofs.«01_k».proof.Proof.Gen.Pre_out_finite
public import proofs.«01_k».proof.Proof.Attention.Finite

@[expose] public section

noncomputable section

namespace Cert.Proof.Output

open Idealize.ShloMosaic Cert.Pre_out_finite Cert.Attention

theorem finite_inputs [Facts] (oP : FVec Ideal S8192x1024 .f32) (oS : FVec Ideal S16384x1024 .f32) (yP : FVec Ideal S8192x1024 .f32) (yS : FVec Ideal S16384x1024 .f32)
    (W : FVec Ideal S2048x2048 .f32) (X : FVec Ideal S24576x2048 .f32) (M : FVec Ideal S8x12288 .f32) (g b : FVec Ideal S2048 .f32) (Wg : FVec Ideal S2048x4 .f32)
    (bg : FVec Ideal S4 .f32) (We : FVec Ideal S2048x32 .f32) (be : FVec Ideal S32 .f32) (h : fn (F := Ideal) oP oS yP yS W X M g b Wg bg We be = fun _ => 1#1) :
    ((∀ i, Finite (oP i)) ∧ (∀ i, Finite (oS i)) ∧ (∀ i, Finite (yP i)) ∧ (∀ i, Finite (yS i)) ∧ ∀ i, Finite (W i))
      ∧ ((∀ i, Finite (X i)) ∧ (∀ i, Finite (M i)) ∧ (∀ i, Finite (g i)) ∧ ∀ i, Finite (b i)) ∧ (∀ i, Finite (Wg i)) ∧ ∀ i, Finite (We i) := by
  have e := congrFun h ix0
  obtain ⟨e, e11⟩ := andi_one e
  obtain ⟨e, e9⟩ := andi_one e
  obtain ⟨e, e8⟩ := andi_one e
  obtain ⟨e, e7⟩ := andi_one e
  obtain ⟨e, e6⟩ := andi_one e
  obtain ⟨e, e5⟩ := andi_one e
  obtain ⟨e, e4⟩ := andi_one e
  obtain ⟨e, e3⟩ := andi_one e
  obtain ⟨e, e2⟩ := andi_one e
  obtain ⟨e0, e1⟩ := andi_one e
  haveI : Subsingleton S_.Idx := ⟨fun a b => funext fun k => k.elim0⟩
  exact ⟨⟨fun i => finite_of_cmp (Host.reduce_andi_all _ _ _ _ _ e0 i), fun i => finite_of_cmp (Host.reduce_andi_all _ _ _ _ _ e1 i),
      fun i => finite_of_cmp (Host.reduce_andi_all _ _ _ _ _ e2 i), fun i => finite_of_cmp (Host.reduce_andi_all _ _ _ _ _ e3 i),
      fun i => finite_of_cmp (Host.reduce_andi_all _ _ _ _ _ e4 i)⟩,
    ⟨fun i => finite_of_cmp (Host.reduce_andi_all _ _ _ _ _ e5 i), fun i => finite_of_cmp (Host.reduce_andi_all _ _ _ _ _ e6 i),
      fun i => finite_of_cmp (Host.reduce_andi_all _ _ _ _ _ e7 i), fun i => finite_of_cmp (Host.reduce_andi_all _ _ _ _ _ e8 i)⟩,
    fun i => finite_of_cmp (Host.reduce_andi_all _ _ _ _ _ e9 i), fun i => finite_of_cmp (Host.reduce_andi_all _ _ _ _ _ e11 i)⟩

end Cert.Proof.Output

end
-- ==== Proof.Output.Claims.lean ====
/- The output projection's claims: the kernel's three results are the reference's. -/
module

public import proofs.«01_k».proof.Defs
public import proofs.«01_k».proof.Proof.Output.Weights
public import proofs.«01_k».proof.Proof.Output.Finite
public import Idealize.ShloMosaic.Adequacy
public import Idealize.ShloMosaic.Lib.Claim

@[expose] public section

set_option maxRecDepth 16384

noncomputable section

namespace Cert.OutKernelIdeal.Output

open Cert.OutKernelIdeal Cert.OutKernelIdeal.Gen Idealize.ShloMosaic Idealize.ShloMosaic.TcCoe

variable (m : (ℓ : Loc nD τ sig) → Buf (Elt Ideal) ℓ) (c : Dev nD)

theorem given_modulation : V m c main_v19 = parts (m ((c.tc : Thread _ _).loc main_arg6)) := by
  simp only [V, V0, List.flatten_cons, List.flatten_nil, List.append_nil]
  after_results
  rfl

theorem given_scale : V m c main_v23 = rowOf (m ((c.tc : Thread _ _).loc main_arg7)) := by
  simp only [V, V0, List.flatten_cons, List.flatten_nil, List.append_nil]
  after_results
  rfl

theorem given_shift : V m c main_v24 = rowOf (m ((c.tc : Thread _ _).loc main_arg8)) := by
  simp only [V, V0, List.flatten_cons, List.flatten_nil, List.append_nil]
  after_results
  rfl

theorem given_prompts : V m c main_v20 = m ((c.tc : Thread _ _).loc main_arg0) := by
  simp only [V, V0, List.flatten_cons, List.flatten_nil, List.append_nil]
  after_results
  rfl

theorem given_samples : V m c main_v21 = m ((c.tc : Thread _ _).loc main_arg1) := by
  simp only [V, V0, List.flatten_cons, List.flatten_nil, List.append_nil]
  after_results
  rfl

theorem given_product : V m c main_v22 = m ((c.tc : Thread _ _).loc main_arg4) := by
  simp only [V, V0, List.flatten_cons, List.flatten_nil, List.append_nil]
  after_results
  rfl

theorem given_weights : V m c main_v9 = halved (laid (m ((c.tc : Thread _ _).loc main_arg9)) (m ((c.tc : Thread _ _).loc main_arg11))) := by
  simp only [V, V0, List.flatten_cons, List.flatten_nil, List.append_nil]
  after_results
  rfl

theorem given_bias : V m c main_v18 = laidBias (m ((c.tc : Thread _ _).loc main_arg10)) (m ((c.tc : Thread _ _).loc main_arg12)) := by
  simp only [V, V0, List.flatten_cons, List.flatten_nil, List.append_nil]
  after_results
  rfl

/-- The first 36 columns. -/
def kept (S : FVec Ideal S24576x128 .f32) : FVec Ideal S24576x36 .f32 := extractStridedSlice S24576x36 ![0, 0] S slices_S24576x128_S24576x36_0_0

theorem kept_at (f : Fin 24576 → Fin 128 → EReal) (q : Fin 24576) (j : Fin 36) : kept (scoresArray f) (ix2 q j) = f q ⟨j.val, by omega⟩ := by
  pointwise [kept]
  rfl

theorem tail_scores : Pipeline.afterTail₀ cfgs (dats m) 0 (V0 m) [hostOps1] c main_v26 = kept ((dats m 0 c).arrAt 16 (cfgs 0).N) := by
  unfold Pipeline.afterTail₀
  simp only [List.flatten_cons, List.flatten_nil, List.append_nil]
  after_results
  exact congrArg kept (Pipeline.Dat.withArrays_arrAt (dats m 0 c) sharedIn0 (V0 m c) (A_eq m c) 16)

/-- What the kernel leaves in its three results. -/
theorem run (ρ : Dev nD → PrngReg) :
    θ_run defs (onTc (τ := τ) (main (F := Ideal))) ⟨m, fun _ => 0, ρ⟩ fun r => ∀ c : Dev nD,
      r.2.mem ((c.tc : Thread nD τ).loc main_v25_0) = rowsArray (stateOf m c)
      ∧ r.2.mem ((c.tc : Thread nD τ).loc main_v25_1) = rowsArray (nextOf m c)
      ∧ r.2.mem ((c.tc : Thread nD τ).loc main_v26) = kept (scoresArray (scoreOf m c)) :=
  (θ_run defs _ _).mono (fun r h c => ⟨((h c).1 14).trans (final_state m c), ((h c).1 15).trans (final_next m c),
    ((h c).2 main_v26 (Pipeline.mem_restRefs_of main_v26 (by decide) (by decide))).trans ((tail_scores m c).trans (congrArg _ (final_scores m c)))⟩) (run_main m ρ)

/-- The product's rows, from the arguments. -/
def productOf : Fin 24576 → Fin 2048 → EReal :=
  projected (m ((c.tc : Thread _ _).loc main_arg0)) (m ((c.tc : Thread _ _).loc main_arg1)) (m ((c.tc : Thread _ _).loc main_arg2)) (m ((c.tc : Thread _ _).loc main_arg3))
    (m ((c.tc : Thread _ _).loc main_arg4))

/-- The layer's rows, from the arguments. -/
def rowsOf : Fin 24576 → Fin 2048 → EReal :=
  OutReferenceIdeal.Output.state (productOf m c) (m ((c.tc : Thread _ _).loc main_arg5)) (m ((c.tc : Thread _ _).loc main_arg6)) (m ((c.tc : Thread _ _).loc main_arg7))
    (m ((c.tc : Thread _ _).loc main_arg8))

theorem projectedOf_eq : projectedOf m c = productOf m c := by
  unfold projectedOf productOf
  rw [given_prompts, given_samples, given_product, V_main_arg2, V_main_arg3]

theorem stateOf_eq : stateOf m c = rowsOf m c := by
  unfold stateOf rowsOf
  rw [given_modulation, given_scale, given_shift, V_main_arg5, projectedOf_eq]
  exact stateRow_eq _ _ _ _ _

theorem nextOf_eq : nextOf m c = OutReferenceIdeal.Output.next (rowsOf m c) (m ((c.tc : Thread _ _).loc main_arg6)) := by
  unfold nextOf
  rw [given_modulation, stateOf_eq]
  exact nextRow_eq _ _

/-- The scores, from the arguments, where these are real. -/
theorem scoreOf_eq (hpre : Cert.Pre_OutKernelIdeal_out_finite m) (q : Fin 24576) (j : Fin 36) :
    scoreOf m c q ⟨j.val, by omega⟩ = Router.score (nextOf m c q)
      (OutReferenceIdeal.Output.weight (m ((c.tc : Thread _ _).loc main_arg9)) (m ((c.tc : Thread _ _).loc main_arg11)) j)
      (OutReferenceIdeal.Output.bias (m ((c.tc : Thread _ _).loc main_arg10)) (m ((c.tc : Thread _ _).loc main_arg12)) j) := by
  obtain ⟨⟨h1, h2, h3, h4, h5⟩, ⟨hX, hM, hg, hb⟩, hWg, hWe⟩ := Cert.Proof.Output.finite_inputs _ _ _ _ _ _ _ _ _ _ _ _ _ (hpre c)
  unfold scoreOf
  rw [given_weights, given_bias]
  refine scoreRow_eq _ _ _ _ _ q j (fun k => ?_) hWg hWe
  rw [nextOf_eq]
  exact next_real _ _ _ _ _ (fun q k => projected_real _ _ _ _ _ h1 h2 h3 h4 h5 q k) hX hM hg hb q k

end Cert.OutKernelIdeal.Output

namespace Cert.OutReferenceIdeal.Output

open Cert.OutReferenceIdeal Cert.OutReferenceIdeal.Gen Idealize.ShloMosaic Idealize.ShloMosaic.TcCoe
open Cert.OutKernelIdeal.Output (projected rowsArray scoresArray kept kept_at)

variable (X : FVec Ideal S24576x2048 .f32) (Y32 : FVec Ideal S32x256x2048 .f32) (Y4 : FVec Ideal S4x4096x2048 .f32) (M : FVec Ideal S8x12288 .f32) (g b : FVec Ideal S2048 .f32)
  (Wg : FVec Ideal S2048x4 .f32) (bg : FVec Ideal S4 .f32) (We : FVec Ideal S2048x32 .f32) (be : FVec Ideal S32 .f32) (p : Fin 24576 → Fin 2048 → EReal)

theorem states_eq
    (h32 : ∀ (i : Fin 32) (l : Fin 256) (j : Fin 2048), Y32 (ix3 i l j) = p ⟨i * 256 + l, by omega⟩ j)
    (h4 : ∀ (i : Fin 4) (l : Fin 4096) (j : Fin 2048), Y4 (ix3 i l j) = p ⟨8192 + i * 4096 + l, by omega⟩ j) : rowsArray (state p X M g b) = states X Y32 Y4 M g b := by
  funext i
  obtain ⟨q, k, rfl⟩ : ∃ (q : Fin 24576) (k : Fin 2048), i = ix2 q k := ⟨i 0, i 1, eq_ix2 i⟩
  exact (above_rows _ _ (state p X M g b) (state32_at X Y32 M g b p h32) (state4_at X Y4 M g b p h4) q k).symm

theorem nexts_eq
    (h32 : ∀ (i : Fin 32) (l : Fin 256) (j : Fin 2048), Y32 (ix3 i l j) = p ⟨i * 256 + l, by omega⟩ j)
    (h4 : ∀ (i : Fin 4) (l : Fin 4096) (j : Fin 2048), Y4 (ix3 i l j) = p ⟨8192 + i * 4096 + l, by omega⟩ j) : rowsArray (next (state p X M g b) M) = nexts X Y32 Y4 M g b := by
  funext i
  obtain ⟨q, k, rfl⟩ : ∃ (q : Fin 24576) (k : Fin 2048), i = ix2 q k := ⟨i 0, i 1, eq_ix2 i⟩
  exact (above_rows _ _ (next (state p X M g b) M) (next32_row X Y32 M g b p h32) (next4_row X Y4 M g b p h4) q k).symm

theorem logits_eq
    (h32 : ∀ (i : Fin 32) (l : Fin 256) (j : Fin 2048), Y32 (ix3 i l j) = p ⟨i * 256 + l, by omega⟩ j)
    (h4 : ∀ (i : Fin 4) (l : Fin 4096) (j : Fin 2048), Y4 (ix3 i l j) = p ⟨8192 + i * 4096 + l, by omega⟩ j)
    (s : Fin 24576 → Fin 128 → EReal)
    (hs : ∀ (q : Fin 24576) (j : Fin 36), s q ⟨j.val, by omega⟩ = Router.score (next (state p X M g b) M q) (weight Wg We j) (bias bg be j)) :
    kept (scoresArray s) = logits X Y32 Y4 M g b Wg bg We be := by
  funext i
  obtain ⟨q, k, rfl⟩ : ∃ (q : Fin 24576) (k : Fin 36), i = ix2 q k := ⟨i 0, i 1, eq_ix2 i⟩
  exact ((kept_at s q k).trans (hs q k)).trans
    (above_scores Wg bg We be _ _ (next (state p X M g b) M) (next32_row X Y32 M g b p h32) (next4_row X Y4 M g b p h4) q k).symm

end Cert.OutReferenceIdeal.Output

namespace Cert.OutKernelIdeal.Output

open Cert.OutKernelIdeal Cert.OutKernelIdeal.Gen Idealize.ShloMosaic Idealize.ShloMosaic.TcCoe
open Cert.OutReferenceIdeal.Output (times32 beside32 times4 beside4 product32_at product4_at logits logits_eq)

/-- The kernel's scores are the reference's, where the arguments are real. -/
theorem kept_eq (m : (ℓ : Loc nD τ sig) → Buf (Elt Ideal) ℓ) (c : Dev nD) (hpre : Cert.Pre_OutKernelIdeal_out_finite m) : kept (scoresArray (scoreOf m c))
    = logits (m ((c.tc : Thread _ _).loc main_arg5)) (times32 (beside32 (m ((c.tc : Thread _ _).loc main_arg0)) (m ((c.tc : Thread _ _).loc main_arg2))) (m ((c.tc : Thread _ _).loc main_arg4)))
      (times4 (beside4 (m ((c.tc : Thread _ _).loc main_arg1)) (m ((c.tc : Thread _ _).loc main_arg3))) (m ((c.tc : Thread _ _).loc main_arg4)))
      (m ((c.tc : Thread _ _).loc main_arg6)) (m ((c.tc : Thread _ _).loc main_arg7)) (m ((c.tc : Thread _ _).loc main_arg8)) (m ((c.tc : Thread _ _).loc main_arg9))
      (m ((c.tc : Thread _ _).loc main_arg10)) (m ((c.tc : Thread _ _).loc main_arg11)) (m ((c.tc : Thread _ _).loc main_arg12)) := by
  refine logits_eq _ _ _ _ _ _ _ _ _ _ (productOf m c) (product32_at _ _ _ _ _) (product4_at _ _ _ _ _) (scoreOf m c) fun q j => ?_
  refine (scoreOf_eq m c hpre q j).trans ?_
  rw [nextOf_eq]
  rfl

end Cert.OutKernelIdeal.Output

namespace Cert.Proof.Output

open Idealize.ShloMosaic Idealize.SL.Sem Idealize.ShloMosaic.TcCoe

theorem frame_reference : Cert.quiescent_OutReferenceIdeal := fun m ρ _ =>
  (θ_run Cert.OutReferenceIdeal.defs _ _).mono (fun r h => ⟨fun c => (h c).2.2.2, sem_eq_zero_of_no_sems (by decide) r.2⟩)
    (Cert.OutReferenceIdeal.Value.run (F := Ideal) m ρ)

open Cert.OutKernelIdeal.Output Cert.OutReferenceIdeal.Output in
theorem algebraic : Cert.algebraic_OutKernelIdeal_OutReferenceIdeal_pre_out_finite := fun m g m' g' hpre hm =>
  ⟨_, _, _, (θ_run Cert.OutKernelIdeal.defs _ _).mono (fun r h c => ⟨(h.1 c).1, (h.1 c).2.1, (h.1 c).2.2, h.2 c⟩)
      (θ_run_and (run m g) (Cert.OutKernelIdeal.Gen.unchanged m g)),
    (θ_run Cert.OutReferenceIdeal.defs _ _).mono (fun r h c =>
      ⟨(h c).1.trans (by
        rw [res_states, (hm c).1, (hm c).2.1, (hm c).2.2.1, (hm c).2.2.2.1, (hm c).2.2.2.2.1, (hm c).2.2.2.2.2.1, (hm c).2.2.2.2.2.2.1, (hm c).2.2.2.2.2.2.2.1,
          (hm c).2.2.2.2.2.2.2.2.1, stateOf_eq]
        exact (states_eq _ _ _ _ _ _ (productOf m c) (product32_at _ _ _ _ _) (product4_at _ _ _ _ _)).symm),
      (h c).2.1.trans (by
        rw [res_nexts, (hm c).1, (hm c).2.1, (hm c).2.2.1, (hm c).2.2.2.1, (hm c).2.2.2.2.1, (hm c).2.2.2.2.2.1, (hm c).2.2.2.2.2.2.1, (hm c).2.2.2.2.2.2.2.1,
          (hm c).2.2.2.2.2.2.2.2.1, nextOf_eq]
        exact (nexts_eq _ _ _ _ _ _ (productOf m c) (product32_at _ _ _ _ _) (product4_at _ _ _ _ _)).symm),
      (h c).2.2.1.trans (by
        rw [res_logits, (hm c).1, (hm c).2.1, (hm c).2.2.1, (hm c).2.2.2.1, (hm c).2.2.2.2.1, (hm c).2.2.2.2.2.1, (hm c).2.2.2.2.2.2.1, (hm c).2.2.2.2.2.2.2.1,
          (hm c).2.2.2.2.2.2.2.2.1, (hm c).2.2.2.2.2.2.2.2.2.1, (hm c).2.2.2.2.2.2.2.2.2.2.1, (hm c).2.2.2.2.2.2.2.2.2.2.2.1, (hm c).2.2.2.2.2.2.2.2.2.2.2.2]
        exact (kept_eq m c hpre).symm),
      (h c).2.2.2⟩)
      (Cert.OutReferenceIdeal.Value.run (F := Ideal) m' g')⟩

end Cert.Proof.Output

end
-- ==== Proof.Pointwise.Block.lean ====
/- The convolution module's second product: what one grid point computes. -/
module

public import proofs.«01_k».proof.Proof.Gen.PwKernelIdeal.Frame
public import proofs.«01_k».proof.Proof.Output.Block

@[expose] public section

set_option maxRecDepth 16384

noncomputable section

namespace Cert.PwKernelIdeal.Pointwise

open Cert.PwKernelIdeal Cert.PwKernelIdeal.Gen Idealize.ShloMosaic Idealize.ShloMosaic.TcCoe
open Cert.OutKernelIdeal.Output (pick pick_lt pick_ge mixed mixed_at state state_at next next_at scores scores_at upper upper_at lower lower_at stateRow nextRow scoreRow rowsArray scoresArray)

/-- Rows times their logistic, times the weights. -/
def product (n : FVec Ideal S512x2048 .f32) (w : FVec Ideal S2048x2048 .bf16) : FVec Ideal S512x2048 .f32 :=
  matmul dot_S512x2048_S2048x2048_S512x2048_1_0_0_1_n_n none (truncf .bf16 (mulf n (logistic n)) bitsLt_bf16_f32)
    (shapeCast S2048x2048 w shapeCasts_S2048x2048_S2048x2048) (constant S512x2048 .f32 0x00000000#32)

theorem product_at (n : FVec Ideal S512x2048 .f32) (w : FVec Ideal S2048x2048 .bf16) (r : Fin 512) (j : Fin 2048) :
    product n w (ix2 r j) = ∑ k : Fin 2048, n (ix2 r k) * Ideal.logistic (n (ix2 r k)) * w (ix2 k j) := by
  pointwise [product]

theorem pay2_eq (i : grid0.Coords) (a b : FVec Ideal S512x2048 .f32) (g s : FVec Ideal S1x2048 .f32) (w : FVec Ideal S2048x2048 .bf16) :
    k0_pay2 (F := Ideal) i a b g s w = product (state (pick (i 0).val a b) g s) w := rfl

theorem pay4_eq (p x : FVec Ideal S512x2048 .f32) (g : FVec Ideal S1x1x2048 .f32) (s b : FVec Ideal S1x2048 .f32) :
    k0_pay4 (F := Ideal) p (k0_pay3 x) g s b = state (mixed x g p) s b := rfl

theorem pay5_eq (p x : FVec Ideal S512x2048 .f32) (g : FVec Ideal S1x1x2048 .f32) (s b : FVec Ideal S1x2048 .f32) (sc sh : FVec Ideal S1x1x2048 .f32) :
    k0_pay5 (F := Ideal) p (k0_pay3 x) g s b sc sh = next (state (mixed x g p) s b) sc sh := rfl

theorem pay1_eq (n : FVec Ideal S512x2048 .f32) (hi lo : FVec Ideal S2048x128 .bf16) (br : FVec Ideal S1x128 .f32) :
    k0_pay1 (F := Ideal) n hi lo hi br = scores n hi lo br := rfl

/-- The router's weights' two halves are the output projection's. -/
theorem upper_eq (w : FVec Ideal S4096x128 .bf16) : View.ld (Val := Elt Ideal) (e' := .bf16) w r0_4 = upper w := rfl

theorem lower_eq (w : FVec Ideal S4096x128 .bf16) : View.ld (Val := Elt Ideal) (e' := .bf16) w r0_5 = lower w := rfl

section Outs

variable (i : grid0.Coords) (x0 x1 : FVec Ideal S512x2048 .f32) (x2 x3 : FVec Ideal S1x2048 .f32) (x4 : FVec Ideal S2048x2048 .bf16) (x5 : FVec Ideal S512x2048 .f32)
  (x6 : FVec Ideal S1x1x2048 .f32) (x7 x8 : FVec Ideal S1x2048 .f32) (x9 x10 : FVec Ideal S1x1x2048 .f32) (x11 : FVec Ideal S4096x128 .bf16) (x12 : FVec Ideal S1x128 .f32)

/-- A point's gated product and its normed rows. -/
def products : FVec Ideal S512x2048 .f32 := product (state (pick (i 0).val x0 x1) x2 x3) x4

def states : FVec Ideal S512x2048 .f32 := state (mixed x5 x6 (products i x0 x1 x2 x3 x4)) x7 x8

theorem ld_a (x : FVec Ideal S512x2048 .f32) : View.ld (Val := Elt Ideal) (e' := .f32) x r0_0 = x := View.ld_unit_lit (Val := Elt Ideal) (e := .f32) (S := S512x2048) (off := ![0, 0]) (by decide) x (by decide)
theorem ld_r (x : FVec Ideal S1x2048 .f32) : View.ld (Val := Elt Ideal) (e' := .f32) x r0_1 = x := View.ld_unit_lit (Val := Elt Ideal) (e := .f32) (S := S1x2048) (off := ![0, 0]) (by decide) x (by decide)
theorem ld_w (x : FVec Ideal S2048x2048 .bf16) : View.ld (Val := Elt Ideal) (e' := .bf16) x r0_2 = x := View.ld_unit_lit (Val := Elt Ideal) (e := .bf16) (S := S2048x2048) (off := ![0, 0]) (by decide) x (by decide)
theorem ld_m (x : FVec Ideal S1x1x2048 .f32) : View.ld (Val := Elt Ideal) (e' := .f32) x r0_3 = x := View.ld_unit_lit (Val := Elt Ideal) (e := .f32) (S := S1x1x2048) (off := ![0, 0, 0]) (by decide) x (by decide)

theorem pay6_eq : k0_pay6 (F := Ideal) i x0 x1 x2 x3 x4 x5 x6 x7 x8 x9 x10 x11 x12 = products i x0 x1 x2 x3 x4 := by
  unfold k0_pay6
  rw [ld_a, ld_a, ld_r, ld_r, ld_w]
  exact pay2_eq i x0 x1 x2 x3 x4

theorem pay7_eq : k0_pay7 (F := Ideal) i x0 x1 x2 x3 x4 x5 x6 x7 x8 x9 x10 x11 x12 = k0_pay3 x5 := by
  unfold k0_pay7
  rw [ld_a]

theorem pay8_eq : k0_pay8 (F := Ideal) i x0 x1 x2 x3 x4 x5 x6 x7 x8 x9 x10 x11 x12 = next (states i x0 x1 x2 x3 x4 x5 x6 x7 x8) x9 x10 := by
  unfold k0_pay8
  rw [pay6_eq, pay7_eq, ld_m, ld_m, ld_m, ld_r, ld_r]
  exact pay5_eq _ x5 x6 x7 x8 x9 x10

theorem out13 : out0_13 (F := Ideal) i x0 x1 x2 x3 x4 x5 x6 x7 x8 x9 x10 x11 x12 = states i x0 x1 x2 x3 x4 x5 x6 x7 x8 := by
  frame_out
  rw [pay6_eq, pay7_eq]
  exact pay4_eq _ x5 x6 x7 x8

/-- A point's next input. -/
theorem out14 : out0_14 (F := Ideal) i x0 x1 x2 x3 x4 x5 x6 x7 x8 x9 x10 x11 x12 = next (states i x0 x1 x2 x3 x4 x5 x6 x7 x8) x9 x10 := by
  frame_out
  exact pay8_eq i x0 x1 x2 x3 x4 x5 x6 x7 x8 x9 x10 x11 x12

/-- A point's scores. -/
theorem out15 : out0_15 (F := Ideal) i x0 x1 x2 x3 x4 x5 x6 x7 x8 x9 x10 x11 x12
    = scores (next (states i x0 x1 x2 x3 x4 x5 x6 x7 x8) x9 x10) (upper x11) (lower x11) x12 := by
  frame_out
  rw [pay8_eq]
  exact pay1_eq _ (upper x11) (lower x11) x12

end Outs

variable (m : (ℓ : Loc nD τ sig) → Buf (Elt Ideal) ℓ)

/-- The blocks' places in the arrays. -/
theorem idxA : ∀ t : Fin cfg0.N, win0_0.index t = ![min t.val 15, 0] ∧ win0_1.index t = ![t.val - 16, 0] := (by decide +kernel : ∀ t : Fin grid0.N, _)

theorem idxB : ∀ t : Fin cfg0.N, win0_2.index t = ![0, 0] ∧ win0_3.index t = ![0, 0] ∧ win0_4.index t = ![0, 0] := (by decide +kernel : ∀ t : Fin grid0.N, _)

theorem idxC : ∀ t : Fin cfg0.N, win0_5.index t = ![t.val, 0] ∧ win0_6.index t = ![(t.val / 8 - 1) * 6 + 2, 0, 0]
    ∧ win0_7.index t = ![0, 0] ∧ win0_8.index t = ![0, 0] :=
  (by decide +kernel : ∀ t : Fin grid0.N, _)

theorem idxD : ∀ t : Fin cfg0.N, win0_9.index t = ![(t.val / 8 - 1) * 6 + 4, 0, 0] ∧ win0_10.index t = ![(t.val / 8 - 1) * 6 + 3, 0, 0]
    ∧ win0_11.index t = ![0, 0] ∧ win0_12.index t = ![0, 0] :=
  (by decide +kernel : ∀ t : Fin grid0.N, _)

theorem idxE : ∀ t : Fin cfg0.N, win0_13.index t = ![t.val, 0] ∧ win0_14.index t = ![t.val, 0] ∧ win0_15.index t = ![t.val, 0] :=
  (by decide +kernel : ∀ t : Fin grid0.N, _)

theorem coord : ∀ t : Fin cfg0.N, (grid0.coords t 0).val = t.val := (by decide +kernel : ∀ t : Fin grid0.N, _)

/-- A row of the prompts' or of the samples' array. -/
def side {α : Type} (P : S8192x2048.Idx → α) (S : S16384x2048.Idx → α) (q : Fin 24576) (k : Fin 2048) : α :=
  if h : q.val < 8192 then P (ix2 ⟨q.val, h⟩ k) else S (ix2 ⟨q.val - 8192, by omega⟩ k)

/-- A row, normed. -/
def normedRow (aP : FVec Ideal S8192x2048 .f32) (aS : FVec Ideal S16384x2048 .f32) (g b : FVec Ideal S1x2048 .f32) (q : Fin 24576) (k : Fin 2048) : EReal :=
  LayerNorm.layerNorm (side aP aS q) (fun j => g (ix2 0 j)) (fun j => b (ix2 0 j)) k

/-- A row's gated product with the weights. -/
def projected (aP : FVec Ideal S8192x2048 .f32) (aS : FVec Ideal S16384x2048 .f32) (g b : FVec Ideal S1x2048 .f32) (W : FVec Ideal S2048x2048 .bf16)
    (q : Fin 24576) (j : Fin 2048) : EReal :=
  ∑ k : Fin 2048, normedRow aP aS g b q k * Ideal.logistic (normedRow aP aS g b q k) * W (ix2 k j)

/-- Rows read off the arrays the kernel is given. -/
def projectedOf (c : Dev nD) : Fin 24576 → Fin 2048 → EReal :=
  projected (V m c main_arg0) (V m c main_arg1) (V m c main_v21) (V m c main_v22) (V m c main_v20)

def stateOf (c : Dev nD) : Fin 24576 → Fin 2048 → EReal := stateRow (projectedOf m c) (V m c main_arg5) (V m c main_v19) (V m c main_v23) (V m c main_v24)

def nextOf (c : Dev nD) : Fin 24576 → Fin 2048 → EReal := nextRow (stateOf m c) (V m c main_v19)

def scoreOf (c : Dev nD) : Fin 24576 → Fin 128 → EReal := scoreRow (nextOf m c) (V m c main_v9) (V m c main_v18)

/-- A point's rows of the two sides. -/
theorem side_a (c : Dev nD) (t : Fin cfg0.N) (r : Fin 512) (k : Fin 2048) (q : Fin 24576) (hq : q.val = t.val * 512 + r) :
    (show FVec Ideal S512x2048 .f32 from pick t.val (iblk m c 0 t) (iblk m c 1 t)) (ix2 r k) = side (α := EReal) (V m c main_arg0) (V m c main_arg1) q k := by
  have ht : t.val < 48 := t.isLt
  unfold side
  by_cases h : t.val < 16
  · rw [pick_lt h, dif_pos (by omega)]
    blk_ext [iblk, idxA t]
  · rw [pick_ge (by omega) ht, dif_neg (by omega)]
    blk_ext [iblk, idxA t]

/-- A point's normed rows of the two sides. -/
theorem normed_block (c : Dev nD) (t : Fin cfg0.N) (r : Fin 512) (k : Fin 2048) (q : Fin 24576) (hq : q.val = t.val * 512 + r) :
    state (pick t.val (iblk m c 0 t) (iblk m c 1 t)) (iblk m c 2 t) (iblk m c 3 t) (ix2 r k)
      = normedRow (V m c main_arg0) (V m c main_arg1) (V m c main_v21) (V m c main_v22) q k := by
  refine (state_at _ _ _ r k).trans ?_
  unfold normedRow
  refine congr (congr (congr (congrArg LayerNorm.layerNorm (funext fun k => side_a m c t r k q hq)) (funext fun k => ?_)) (funext fun k => ?_)) rfl
  all_goals blk_ext [iblk, idxB t]

/-- A point's product. -/
theorem product_block (c : Dev nD) (t : Fin cfg0.N) (r : Fin 512) (j : Fin 2048) (q : Fin 24576) (hq : q.val = t.val * 512 + r) :
    products (grid0.coords t) (iblk m c 0 t) (iblk m c 1 t) (iblk m c 2 t) (iblk m c 3 t) (iblk m c 4 t) (ix2 r j) = projectedOf m c q j := by
  unfold products
  refine (product_at _ _ r j).trans ?_
  unfold projectedOf projected
  rw [coord t]
  refine Finset.sum_congr rfl fun k _ => congrArg₂ (· * ·) (congrArg (fun x => x * Ideal.logistic x) (normed_block m c t r k q hq)) ?_
  blk_ext [iblk, idxB t]

/-- A point's rows of the layer. -/
def blockState (c : Dev nD) (t : Fin cfg0.N) : FVec Ideal S512x2048 .f32 :=
  states (grid0.coords t) (iblk m c 0 t) (iblk m c 1 t) (iblk m c 2 t) (iblk m c 3 t) (iblk m c 4 t) (iblk m c 5 t) (iblk m c 6 t) (iblk m c 7 t) (iblk m c 8 t)

theorem point_state (c : Dev nD) (t : Fin cfg0.N) (r : Fin 512) (j : Fin 2048) (q : Fin 24576) (hq : q.val = t.val * 512 + r) :
    blockState m c t (ix2 r j) = stateOf m c q j := by
  have ht : t.val < 48 := t.isLt
  refine (state_at _ _ _ r j).trans ?_
  unfold stateOf stateRow
  refine congr (congr (congr (congrArg LayerNorm.layerNorm (funext fun k => ?_)) (funext fun k => ?_)) (funext fun k => ?_)) rfl
  · refine (mixed_at _ _ _ r k).trans (congr (congr (congrArg LayerNorm.residual ?_) ?_) (product_block m c t r k q hq))
    all_goals blk_ext [iblk, idxC t]
  all_goals blk_ext [iblk, idxC t]

/-- A point's next input. -/
def blockNext (c : Dev nD) (t : Fin cfg0.N) : FVec Ideal S512x2048 .f32 := next (blockState m c t) (iblk m c 9 t) (iblk m c 10 t)

theorem point_next (c : Dev nD) (t : Fin cfg0.N) (r : Fin 512) (j : Fin 2048) (q : Fin 24576) (hq : q.val = t.val * 512 + r) :
    blockNext m c t (ix2 r j) = nextOf m c q j := by
  have ht : t.val < 48 := t.isLt
  refine (next_at _ _ _ r j).trans ?_
  unfold nextOf nextRow
  refine congr (congr (congrArg Router.shifted (point_state m c t r j q hq)) ?_) ?_
  all_goals blk_ext [iblk, idxD t]

/-- A point's scores. -/
theorem point_score (c : Dev nD) (t : Fin cfg0.N) (r : Fin 512) (j : Fin 128) (q : Fin 24576) (hq : q.val = t.val * 512 + r) :
    scores (blockNext m c t) (upper (iblk m c 11 t)) (lower (iblk m c 11 t)) (iblk m c 12 t) (ix2 r j) = scoreOf m c q j := by
  have ht : t.val < 48 := t.isLt
  have hn : ∀ k, blockNext m c t (ix2 r k) = nextOf m c q k := fun k => point_next m c t r k q hq
  refine (scores_at _ _ _ _ r j).trans ?_
  unfold scoreOf scoreRow
  refine congrArg₂ (· + ·) (congrArg₂ (· + ·) (congrArg₂ (· + ·) (Finset.sum_congr rfl fun k _ => congrArg₂ (· * ·) (hn k) ((upper_at _ k j).trans ?_))
    (Finset.sum_congr rfl fun k _ => congrArg₂ (· * ·) (hn k) ((lower_at _ k j).trans ?_)))
    (Finset.sum_congr rfl fun k _ => congrArg₂ (· * ·) (congrArg₂ (· - ·) (hn k) (hn k)) ((upper_at _ k j).trans ?_))) ?_
  all_goals blk_ext [iblk, idxD t]

/-- The layer's rows after the run. -/
theorem final_state (c : Dev nD) : (dats m 0 c).arrAt 13 (cfgs 0).N = rowsArray (stateOf m c) := by
  refine (dats m 0 c).arrAt_eq_of_covers 13 _ (by decide +kernel) fun t _ y => ?_
  blk_simp
  rw [after0_13, out13]
  obtain ⟨r, k, rfl⟩ : ∃ (r : Fin 512) (k : Fin 2048), y = ix2 r k := ⟨y 0, y 1, eq_ix2 y⟩
  have hN : t.val < 48 := t.isLt
  refine (point_state m c t r k ⟨t.val * 512 + r, by omega⟩ rfl).trans ?_
  unfold rowsArray
  refine congrArg₂ (stateOf m c) (Fin.ext ?_) (Fin.ext ?_)
  · blk_simp [idxE t]
  · blk_simp [idxE t]

/-- The next input after the run. -/
theorem final_next (c : Dev nD) : (dats m 0 c).arrAt 14 (cfgs 0).N = rowsArray (nextOf m c) := by
  refine (dats m 0 c).arrAt_eq_of_covers 14 _ (by decide +kernel) fun t _ y => ?_
  blk_simp
  rw [after0_14, out14]
  obtain ⟨r, k, rfl⟩ : ∃ (r : Fin 512) (k : Fin 2048), y = ix2 r k := ⟨y 0, y 1, eq_ix2 y⟩
  have hN : t.val < 48 := t.isLt
  refine (point_next m c t r k ⟨t.val * 512 + r, by omega⟩ rfl).trans ?_
  unfold rowsArray
  refine congrArg₂ (nextOf m c) (Fin.ext ?_) (Fin.ext ?_)
  · blk_simp [idxE t]
  · blk_simp [idxE t]

/-- The scores after the run. -/
theorem final_scores (c : Dev nD) : (dats m 0 c).arrAt 15 (cfgs 0).N = scoresArray (scoreOf m c) := by
  refine (dats m 0 c).arrAt_eq_of_covers 15 _ (by decide +kernel) fun t _ y => ?_
  blk_simp
  rw [after0_15, out15]
  obtain ⟨r, k, rfl⟩ : ∃ (r : Fin 512) (k : Fin 128), y = ix2 r k := ⟨y 0, y 1, eq_ix2 y⟩
  have hN : t.val < 48 := t.isLt
  refine (point_score m c t r k ⟨t.val * 512 + r, by omega⟩ rfl).trans ?_
  unfold scoresArray
  refine congrArg₂ (scoreOf m c) (Fin.ext ?_) (Fin.ext ?_)
  · blk_simp [idxE t]
  · blk_simp [idxE t]

end Cert.PwKernelIdeal.Pointwise

end
-- ==== Proof.Pointwise.Reference.lean ====
/- The second pointwise product's reference, place by place: the norm, the gate and the product; the rest is as for the output projection. -/
module

public import proofs.«01_k».proof.Proof.Gen.PwReferenceIdeal.Run
public import proofs.«01_k».proof.Proof.Pointwise.Block
public import proofs.«01_k».proof.Proof.Output.Reference

@[expose] public section

set_option maxRecDepth 16384

noncomputable section

namespace Cert.PwReferenceIdeal.Pointwise

open Cert.PwReferenceIdeal Cert.PwReferenceIdeal.Gen Idealize.ShloMosaic Idealize.ShloMosaic.TcCoe
open Cert.PwKernelIdeal.Pointwise (side)
open Cert.CombineReferenceIdeal.Combine (centred32 centred4 scaled32 scaled4 centred32_at centred4_at scaled32_at scaled4_at normed_of)
open Cert.OutReferenceIdeal.Output (times32 times4 times32_at times4_at states nexts logits)

/-- The prompts' rows. -/
def rows32 (A : FVec Ideal S8192x2048 .f32) : FVec Ideal S32x256x2048 .f32 := shapeCast _ A shapeCasts_S8192x2048_S32x256x2048

theorem rows32_at (A : FVec Ideal S8192x2048 .f32) (b : Fin 32) (l : Fin 256) (k : Fin 2048) : rows32 A (ix3 b l k) = A (ix2 ⟨b * 256 + l, by omega⟩ k) := by
  pointwise [rows32]
  blk_ext

/-- The samples' rows. -/
def rows4 (A : FVec Ideal S16384x2048 .f32) : FVec Ideal S4x4096x2048 .f32 := shapeCast _ A shapeCasts_S16384x2048_S4x4096x2048

theorem rows4_at (A : FVec Ideal S16384x2048 .f32) (b : Fin 4) (l : Fin 4096) (k : Fin 2048) : rows4 A (ix3 b l k) = A (ix2 ⟨b * 4096 + l, by omega⟩ k) := by
  pointwise [rows4]
  blk_ext

/-- Every entry times its logistic. -/
def gated32 (n : FVec Ideal S32x256x2048 .f32) : FVec Ideal S32x256x2048 .f32 :=
  mulf n (Host.divf (broadcastInDim S32x256x2048 ![] bcast_S_S32x256x2048 (constant S_ .f32 0x3F800000#32))
    (addf (broadcastInDim S32x256x2048 ![] bcast_S_S32x256x2048 (constant S_ .f32 0x3F800000#32)) (Host.exp (Host.negf n))))

theorem gated32_at (n : FVec Ideal S32x256x2048 .f32) (b : Fin 32) (l : Fin 256) (k : Fin 2048) : gated32 n (ix3 b l k) = n (ix3 b l k) * Ideal.logistic (n (ix3 b l k)) := by
  pointwise [gated32]
  rfl

def gated4 (n : FVec Ideal S4x4096x2048 .f32) : FVec Ideal S4x4096x2048 .f32 :=
  mulf n (Host.divf (broadcastInDim S4x4096x2048 ![] bcast_S_S4x4096x2048 (constant S_ .f32 0x3F800000#32))
    (addf (broadcastInDim S4x4096x2048 ![] bcast_S_S4x4096x2048 (constant S_ .f32 0x3F800000#32)) (Host.exp (Host.negf n))))

theorem gated4_at (n : FVec Ideal S4x4096x2048 .f32) (b : Fin 4) (l : Fin 4096) (k : Fin 2048) : gated4 n (ix3 b l k) = n (ix3 b l k) * Ideal.logistic (n (ix3 b l k)) := by
  pointwise [gated4]
  rfl

/-- A row's layer norm, gated. -/
def gate (aP : FVec Ideal S8192x2048 .f32) (aS : FVec Ideal S16384x2048 .f32) (g b : FVec Ideal S2048 .f32) (q : Fin 24576) (k : Fin 2048) : EReal :=
  LayerNorm.layerNorm (side aP aS q) (fun j => g (ix1 j)) (fun j => b (ix1 j)) k * Ideal.logistic (LayerNorm.layerNorm (side aP aS q) (fun j => g (ix1 j)) (fun j => b (ix1 j)) k)

/-- Its product with the weights. -/
def product (aP : FVec Ideal S8192x2048 .f32) (aS : FVec Ideal S16384x2048 .f32) (g b : FVec Ideal S2048 .f32) (W : FVec Ideal S2048x2048 .f32) (q : Fin 24576) (j : Fin 2048) : EReal :=
  ∑ k : Fin 2048, gate aP aS g b q k * W (ix2 k j)

variable (aP : FVec Ideal S8192x2048 .f32) (aS : FVec Ideal S16384x2048 .f32) (g b : FVec Ideal S2048 .f32) (W : FVec Ideal S2048x2048 .f32)

def product32 : FVec Ideal S32x256x2048 .f32 := times32 (gated32 (scaled32 (centred32 (rows32 aP)) g b)) W

def product4 : FVec Ideal S4x4096x2048 .f32 := times4 (gated4 (scaled4 (centred4 (rows4 aS)) g b)) W

theorem side_prompt (i : Fin 32) (l : Fin 256) (j : Fin 2048) : side (α := EReal) aP aS ⟨i * 256 + l, by omega⟩ j = aP (ix2 ⟨i * 256 + l, by omega⟩ j) := by
  unfold side
  rw [dif_pos]

theorem side_sample (i : Fin 4) (l : Fin 4096) (j : Fin 2048) :
    side (α := EReal) aP aS ⟨8192 + i * 4096 + l, by omega⟩ j = aS (ix2 ⟨i * 4096 + l, by omega⟩ j) := by
  unfold side
  rw [dif_neg (show ¬ 8192 + i.val * 4096 + l.val < 8192 by omega)]
  exact congrArg (fun q => aS (ix2 q j)) (Fin.ext (show 8192 + i.val * 4096 + l.val - 8192 = i.val * 4096 + l.val by omega))

theorem norm32_at (i : Fin 32) (l : Fin 256) (k : Fin 2048) : scaled32 (centred32 (rows32 aP)) g b (ix3 i l k)
    = LayerNorm.layerNorm (side aP aS ⟨i * 256 + l, by omega⟩) (fun j => g (ix1 j)) (fun j => b (ix1 j)) k := by
  refine (scaled32_at _ g b i l k).trans ((normed_of _ _ (fun k => g (ix1 k)) (fun k => b (ix1 k)) (fun k => centred32_at _ i l k) k).trans ?_)
  refine congrArg (fun z => LayerNorm.layerNorm z _ _ k) (funext fun j => (rows32_at aP i l j).trans ?_)
  exact (side_prompt aP aS i l j).symm

theorem norm4_at (i : Fin 4) (l : Fin 4096) (k : Fin 2048) : scaled4 (centred4 (rows4 aS)) g b (ix3 i l k)
    = LayerNorm.layerNorm (side aP aS ⟨8192 + i * 4096 + l, by omega⟩) (fun j => g (ix1 j)) (fun j => b (ix1 j)) k := by
  refine (scaled4_at _ g b i l k).trans ((normed_of _ _ (fun k => g (ix1 k)) (fun k => b (ix1 k)) (fun k => centred4_at _ i l k) k).trans ?_)
  refine congrArg (fun z => LayerNorm.layerNorm z _ _ k) (funext fun j => (rows4_at aS i l j).trans ?_)
  exact (side_sample aP aS i l j).symm

theorem product32_at (i : Fin 32) (l : Fin 256) (j : Fin 2048) : product32 aP g b W (ix3 i l j) = product aP aS g b W ⟨i * 256 + l, by omega⟩ j := by
  refine (times32_at _ W i l j).trans (Finset.sum_congr rfl fun k _ => congrArg (· * _) ((gated32_at _ i l k).trans ?_))
  exact congrArg (fun x => x * Ideal.logistic x) (norm32_at aP aS g b i l k)

theorem product4_at (i : Fin 4) (l : Fin 4096) (j : Fin 2048) : product4 aS g b W (ix3 i l j) = product aP aS g b W ⟨8192 + i * 4096 + l, by omega⟩ j := by
  refine (times4_at _ W i l j).trans (Finset.sum_congr rfl fun k _ => congrArg (· * _) ((gated4_at _ i l k).trans ?_))
  exact congrArg (fun x => x * Ideal.logistic x) (norm4_at aP aS g b i l k)

variable (m : (ℓ : Loc nD τ sig) → Buf (Elt Ideal) ℓ)

/-- What the reference leaves in its three results. -/
theorem results (ρ : Dev nD → PrngReg) :
    θ_run defs (onTc (τ := τ) (main (F := Ideal))) ⟨m, fun _ => 0, ρ⟩ fun r => ∀ c : Dev nD,
      r.2.mem ((c.tc : Thread nD τ).loc main_v166)
          = states (m ((c.tc : Thread _ _).loc main_arg5)) (product32 (m ((c.tc : Thread _ _).loc main_arg0)) (m ((c.tc : Thread _ _).loc main_arg2)) (m ((c.tc : Thread _ _).loc main_arg3)) (m ((c.tc : Thread _ _).loc main_arg4))) (product4 (m ((c.tc : Thread _ _).loc main_arg1)) (m ((c.tc : Thread _ _).loc main_arg2)) (m ((c.tc : Thread _ _).loc main_arg3)) (m ((c.tc : Thread _ _).loc main_arg4))) (m ((c.tc : Thread _ _).loc main_arg6)) (m ((c.tc : Thread _ _).loc main_arg7)) (m ((c.tc : Thread _ _).loc main_arg8))
      ∧ r.2.mem ((c.tc : Thread nD τ).loc main_v167)
          = nexts (m ((c.tc : Thread _ _).loc main_arg5)) (product32 (m ((c.tc : Thread _ _).loc main_arg0)) (m ((c.tc : Thread _ _).loc main_arg2)) (m ((c.tc : Thread _ _).loc main_arg3)) (m ((c.tc : Thread _ _).loc main_arg4))) (product4 (m ((c.tc : Thread _ _).loc main_arg1)) (m ((c.tc : Thread _ _).loc main_arg2)) (m ((c.tc : Thread _ _).loc main_arg3)) (m ((c.tc : Thread _ _).loc main_arg4))) (m ((c.tc : Thread _ _).loc main_arg6)) (m ((c.tc : Thread _ _).loc main_arg7)) (m ((c.tc : Thread _ _).loc main_arg8))
      ∧ r.2.mem ((c.tc : Thread nD τ).loc main_v168)
          = logits (m ((c.tc : Thread _ _).loc main_arg5)) (product32 (m ((c.tc : Thread _ _).loc main_arg0)) (m ((c.tc : Thread _ _).loc main_arg2)) (m ((c.tc : Thread _ _).loc main_arg3)) (m ((c.tc : Thread _ _).loc main_arg4))) (product4 (m ((c.tc : Thread _ _).loc main_arg1)) (m ((c.tc : Thread _ _).loc main_arg2)) (m ((c.tc : Thread _ _).loc main_arg3)) (m ((c.tc : Thread _ _).loc main_arg4))) (m ((c.tc : Thread _ _).loc main_arg6)) (m ((c.tc : Thread _ _).loc main_arg7)) (m ((c.tc : Thread _ _).loc main_arg8)) (m ((c.tc : Thread _ _).loc main_arg9)) (m ((c.tc : Thread _ _).loc main_arg10)) (m ((c.tc : Thread _ _).loc main_arg11)) (m ((c.tc : Thread _ _).loc main_arg12)) :=
  (θ_run defs _ _).mono (fun r h c => ⟨(h c).1, (h c).2.1, (h c).2.2.1⟩) (Value.run (F := Ideal) m ρ)

end Cert.PwReferenceIdeal.Pointwise

end
-- ==== Proof.Pointwise.Finite.lean ====
/- The precondition read off: every argument the router's scores come from is a real number. -/
module

public import proofs.«01_k».proof.Pre_pw2_finite
public import proofs.«01_k».proof.Proof.Gen.Pre_pw2_finite
public import proofs.«01_k».proof.Proof.Attention.Finite

@[expose] public section

noncomputable section

namespace Cert.Proof.Pointwise

open Idealize.ShloMosaic Cert.Pre_pw2_finite Cert.Attention

theorem finite_inputs [Facts] (aP : FVec Ideal S8192x2048 .f32) (aS : FVec Ideal S16384x2048 .f32) (u v : FVec Ideal S2048 .f32)
    (W : FVec Ideal S2048x2048 .f32) (X : FVec Ideal S24576x2048 .f32) (M : FVec Ideal S8x12288 .f32) (g b : FVec Ideal S2048 .f32) (Wg : FVec Ideal S2048x4 .f32)
    (bg : FVec Ideal S4 .f32) (We : FVec Ideal S2048x32 .f32) (be : FVec Ideal S32 .f32) (h : fn (F := Ideal) aP aS u v W X M g b Wg bg We be = fun _ => 1#1) :
    ((∀ i, Finite (aP i)) ∧ (∀ i, Finite (aS i)) ∧ (∀ i, Finite (u i)) ∧ (∀ i, Finite (v i)) ∧ ∀ i, Finite (W i))
      ∧ ((∀ i, Finite (X i)) ∧ (∀ i, Finite (M i)) ∧ (∀ i, Finite (g i)) ∧ ∀ i, Finite (b i)) ∧ (∀ i, Finite (Wg i)) ∧ ∀ i, Finite (We i) := by
  have e := congrFun h ix0
  obtain ⟨e, e11⟩ := andi_one e
  obtain ⟨e, e9⟩ := andi_one e
  obtain ⟨e, e8⟩ := andi_one e
  obtain ⟨e, e7⟩ := andi_one e
  obtain ⟨e, e6⟩ := andi_one e
  obtain ⟨e, e5⟩ := andi_one e
  obtain ⟨e, e4⟩ := andi_one e
  obtain ⟨e, e3⟩ := andi_one e
  obtain ⟨e, e2⟩ := andi_one e
  obtain ⟨e0, e1⟩ := andi_one e
  haveI : Subsingleton S_.Idx := ⟨fun a b => funext fun k => k.elim0⟩
  exact ⟨⟨fun i => finite_of_cmp (Host.reduce_andi_all _ _ _ _ _ e0 i), fun i => finite_of_cmp (Host.reduce_andi_all _ _ _ _ _ e1 i),
      fun i => finite_of_cmp (Host.reduce_andi_all _ _ _ _ _ e2 i), fun i => finite_of_cmp (Host.reduce_andi_all _ _ _ _ _ e3 i),
      fun i => finite_of_cmp (Host.reduce_andi_all _ _ _ _ _ e4 i)⟩,
    ⟨fun i => finite_of_cmp (Host.reduce_andi_all _ _ _ _ _ e5 i), fun i => finite_of_cmp (Host.reduce_andi_all _ _ _ _ _ e6 i),
      fun i => finite_of_cmp (Host.reduce_andi_all _ _ _ _ _ e7 i), fun i => finite_of_cmp (Host.reduce_andi_all _ _ _ _ _ e8 i)⟩,
    fun i => finite_of_cmp (Host.reduce_andi_all _ _ _ _ _ e9 i), fun i => finite_of_cmp (Host.reduce_andi_all _ _ _ _ _ e11 i)⟩

end Cert.Proof.Pointwise

end
-- ==== Proof.Pointwise.Claims.lean ====
/- The second pointwise product's claims: the kernel's three results are the reference's. -/
module

public import proofs.«01_k».proof.Defs
public import proofs.«01_k».proof.Proof.Output.Claims
public import proofs.«01_k».proof.Proof.Pointwise.Reference
public import proofs.«01_k».proof.Proof.Pointwise.Finite
public import Idealize.ShloMosaic.Adequacy
public import Idealize.ShloMosaic.Lib.Claim

@[expose] public section

set_option maxRecDepth 16384

noncomputable section

namespace Cert.PwKernelIdeal.Pointwise

open Cert.PwKernelIdeal Cert.PwKernelIdeal.Gen Idealize.ShloMosaic Idealize.ShloMosaic.TcCoe
open Cert.OutKernelIdeal.Output (rowsArray scoresArray parts rowOf halved laid laidBias kept stateRow_eq nextRow_eq scoreRow_eq next_real rowOf_at)

variable (m : (ℓ : Loc nD τ sig) → Buf (Elt Ideal) ℓ) (c : Dev nD)

theorem given_modulation : V m c main_v19 = parts (m ((c.tc : Thread _ _).loc main_arg6)) := by
  simp only [V, V0, List.flatten_cons, List.flatten_nil, List.append_nil]
  after_results
  rfl

theorem given_norm_scale : V m c main_v21 = rowOf (m ((c.tc : Thread _ _).loc main_arg2)) := by
  simp only [V, V0, List.flatten_cons, List.flatten_nil, List.append_nil]
  after_results
  rfl

theorem given_norm_shift : V m c main_v22 = rowOf (m ((c.tc : Thread _ _).loc main_arg3)) := by
  simp only [V, V0, List.flatten_cons, List.flatten_nil, List.append_nil]
  after_results
  rfl

theorem given_scale : V m c main_v23 = rowOf (m ((c.tc : Thread _ _).loc main_arg7)) := by
  simp only [V, V0, List.flatten_cons, List.flatten_nil, List.append_nil]
  after_results
  rfl

theorem given_shift : V m c main_v24 = rowOf (m ((c.tc : Thread _ _).loc main_arg8)) := by
  simp only [V, V0, List.flatten_cons, List.flatten_nil, List.append_nil]
  after_results
  rfl

theorem given_product : V m c main_v20 = m ((c.tc : Thread _ _).loc main_arg4) := by
  simp only [V, V0, List.flatten_cons, List.flatten_nil, List.append_nil]
  after_results
  rfl

theorem given_weights : V m c main_v9 = halved (laid (m ((c.tc : Thread _ _).loc main_arg9)) (m ((c.tc : Thread _ _).loc main_arg11))) := by
  simp only [V, V0, List.flatten_cons, List.flatten_nil, List.append_nil]
  after_results
  rfl

theorem given_bias : V m c main_v18 = laidBias (m ((c.tc : Thread _ _).loc main_arg10)) (m ((c.tc : Thread _ _).loc main_arg12)) := by
  simp only [V, V0, List.flatten_cons, List.flatten_nil, List.append_nil]
  after_results
  rfl

theorem tail_scores : Pipeline.afterTail₀ cfgs (dats m) 0 (V0 m) [hostOps1] c main_v26 = kept ((dats m 0 c).arrAt 15 (cfgs 0).N) := by
  unfold Pipeline.afterTail₀
  simp only [List.flatten_cons, List.flatten_nil, List.append_nil]
  after_results
  exact congrArg kept (Pipeline.Dat.withArrays_arrAt (dats m 0 c) sharedIn0 (V0 m c) (A_eq m c) 15)

/-- What the kernel leaves in its three results. -/
theorem run (ρ : Dev nD → PrngReg) :
    θ_run defs (onTc (τ := τ) (main (F := Ideal))) ⟨m, fun _ => 0, ρ⟩ fun r => ∀ c : Dev nD,
      r.2.mem ((c.tc : Thread nD τ).loc main_v25_0) = rowsArray (stateOf m c)
      ∧ r.2.mem ((c.tc : Thread nD τ).loc main_v25_1) = rowsArray (nextOf m c)
      ∧ r.2.mem ((c.tc : Thread nD τ).loc main_v26) = kept (scoresArray (scoreOf m c)) :=
  (θ_run defs _ _).mono (fun r h c => ⟨((h c).1 13).trans (final_state m c), ((h c).1 14).trans (final_next m c),
    ((h c).2 main_v26 (Pipeline.mem_restRefs_of main_v26 (by decide) (by decide))).trans ((tail_scores m c).trans (congrArg _ (final_scores m c)))⟩) (run_main m ρ)

/-- The gated product's rows, from the arguments. -/
def productOf : Fin 24576 → Fin 2048 → EReal :=
  PwReferenceIdeal.Pointwise.product (m ((c.tc : Thread _ _).loc main_arg0)) (m ((c.tc : Thread _ _).loc main_arg1)) (m ((c.tc : Thread _ _).loc main_arg2)) (m ((c.tc : Thread _ _).loc main_arg3)) (m ((c.tc : Thread _ _).loc main_arg4))

/-- The layer's rows, from the arguments. -/
def rowsOf : Fin 24576 → Fin 2048 → EReal := OutReferenceIdeal.Output.state (productOf m c) (m ((c.tc : Thread _ _).loc main_arg5)) (m ((c.tc : Thread _ _).loc main_arg6)) (m ((c.tc : Thread _ _).loc main_arg7)) (m ((c.tc : Thread _ _).loc main_arg8))

theorem projectedOf_eq : projectedOf m c = productOf m c := by
  unfold projectedOf productOf
  rw [given_norm_scale, given_norm_shift, given_product, V_main_arg0, V_main_arg1]
  funext q j
  unfold projected PwReferenceIdeal.Pointwise.product PwReferenceIdeal.Pointwise.gate normedRow
  refine Finset.sum_congr rfl fun k _ => congrArg (· * _) (congrArg (fun x => x * Ideal.logistic x) ?_)
  exact congr (congr (congr (congrArg LayerNorm.layerNorm rfl) (funext fun j => rowOf_at _ j)) (funext fun j => rowOf_at _ j)) rfl

theorem stateOf_eq : stateOf m c = rowsOf m c := by
  unfold stateOf rowsOf
  rw [given_modulation, given_scale, given_shift, V_main_arg5, projectedOf_eq]
  exact stateRow_eq _ _ _ _ _

theorem nextOf_eq : nextOf m c = OutReferenceIdeal.Output.next (rowsOf m c) (m ((c.tc : Thread _ _).loc main_arg6)) := by
  unfold nextOf
  rw [given_modulation, stateOf_eq]
  exact nextRow_eq _ _

open Attention in
/-- Real arguments give a real product. -/
theorem product_real (aP : FVec Ideal S8192x2048 .f32) (aS : FVec Ideal S16384x2048 .f32) (g b : FVec Ideal S2048 .f32) (W : FVec Ideal S2048x2048 .f32)
    (h0 : ∀ i, Finite (aP i)) (h1 : ∀ i, Finite (aS i)) (h2 : ∀ i, Finite (g i)) (h3 : ∀ i, Finite (b i)) (h4 : ∀ i, Finite (W i))
    (q : Fin 24576) (j : Fin 2048) : Finite (PwReferenceIdeal.Pointwise.product aP aS g b W q j) := by
  have hs : ∀ k, Finite (side (α := EReal) aP aS q k) := by
    intro k
    unfold side
    split
    · exact h0 _
    · exact h1 _
  exact Finite.sum _ _ fun k => (Router.silu_real (Router.layerNorm_real _ _ _ hs (fun j => h2 _) (fun j => h3 _) k)).mul (h4 _)

/-- The scores, from the arguments, where these are real. -/
theorem scoreOf_eq (hpre : Cert.Pre_PwKernelIdeal_pw2_finite m) (q : Fin 24576) (j : Fin 36) :
    scoreOf m c q ⟨j.val, by omega⟩ = Router.score (nextOf m c q)
      (OutReferenceIdeal.Output.weight (m ((c.tc : Thread _ _).loc main_arg9)) (m ((c.tc : Thread _ _).loc main_arg11)) j) (OutReferenceIdeal.Output.bias (m ((c.tc : Thread _ _).loc main_arg10)) (m ((c.tc : Thread _ _).loc main_arg12)) j) := by
  obtain ⟨⟨h0, h1, h2, h3, h4⟩, ⟨hX, hM, hg, hb⟩, hWg, hWe⟩ := Cert.Proof.Pointwise.finite_inputs _ _ _ _ _ _ _ _ _ _ _ _ _ (hpre c)
  unfold scoreOf
  rw [given_weights, given_bias]
  refine scoreRow_eq _ _ _ _ _ q j (fun k => ?_) hWg hWe
  rw [nextOf_eq]
  exact next_real _ _ _ _ _ (fun q k => product_real _ _ _ _ _ h0 h1 h2 h3 h4 q k) hX hM hg hb q k

open Cert.OutReferenceIdeal.Output (logits logits_eq) in
open Cert.PwReferenceIdeal.Pointwise (product32 product4 product32_at product4_at) in
/-- The kernel's scores are the reference's, where the arguments are real. -/
theorem kept_eq (hpre : Cert.Pre_PwKernelIdeal_pw2_finite m) : kept (scoresArray (scoreOf m c))
    = logits (m ((c.tc : Thread _ _).loc main_arg5)) (product32 (m ((c.tc : Thread _ _).loc main_arg0)) (m ((c.tc : Thread _ _).loc main_arg2)) (m ((c.tc : Thread _ _).loc main_arg3)) (m ((c.tc : Thread _ _).loc main_arg4))) (product4 (m ((c.tc : Thread _ _).loc main_arg1)) (m ((c.tc : Thread _ _).loc main_arg2)) (m ((c.tc : Thread _ _).loc main_arg3)) (m ((c.tc : Thread _ _).loc main_arg4))) (m ((c.tc : Thread _ _).loc main_arg6)) (m ((c.tc : Thread _ _).loc main_arg7)) (m ((c.tc : Thread _ _).loc main_arg8)) (m ((c.tc : Thread _ _).loc main_arg9)) (m ((c.tc : Thread _ _).loc main_arg10)) (m ((c.tc : Thread _ _).loc main_arg11)) (m ((c.tc : Thread _ _).loc main_arg12)) := by
  refine logits_eq _ _ _ _ _ _ _ _ _ _ (productOf m c) (product32_at _ _ _ _ _) (product4_at _ _ _ _ _) (scoreOf m c) fun q j => ?_
  refine (scoreOf_eq m c hpre q j).trans ?_
  rw [nextOf_eq]
  rfl

end Cert.PwKernelIdeal.Pointwise

namespace Cert.Proof.Pointwise

open Idealize.ShloMosaic Idealize.SL.Sem Idealize.ShloMosaic.TcCoe

theorem frame_reference : Cert.quiescent_PwReferenceIdeal := fun m ρ _ =>
  (θ_run Cert.PwReferenceIdeal.defs _ _).mono (fun r h => ⟨fun c => (h c).2.2.2, sem_eq_zero_of_no_sems (by decide) r.2⟩)
    (Cert.PwReferenceIdeal.Value.run (F := Ideal) m ρ)

open Cert.PwKernelIdeal.Pointwise Cert.PwReferenceIdeal.Pointwise in
open Cert.OutReferenceIdeal.Output (states_eq nexts_eq) in
theorem algebraic : Cert.algebraic_PwKernelIdeal_PwReferenceIdeal_pre_pw2_finite := fun m g m' g' hpre hm =>
  ⟨_, _, _, (θ_run Cert.PwKernelIdeal.defs _ _).mono (fun r h c => ⟨(h.1 c).1, (h.1 c).2.1, (h.1 c).2.2, h.2 c⟩)
      (θ_run_and (run m g) (Cert.PwKernelIdeal.Gen.unchanged m g)),
    (θ_run Cert.PwReferenceIdeal.defs _ _).mono (fun r h c =>
      ⟨(h.1 c).1.trans (by
        rw [(hm c).1, (hm c).2.1, (hm c).2.2.1, (hm c).2.2.2.1, (hm c).2.2.2.2.1, (hm c).2.2.2.2.2.1, (hm c).2.2.2.2.2.2.1, (hm c).2.2.2.2.2.2.2.1,
          (hm c).2.2.2.2.2.2.2.2.1, stateOf_eq]
        exact (states_eq _ _ _ _ _ _ (productOf m c) (product32_at _ _ _ _ _) (product4_at _ _ _ _ _)).symm),
      (h.1 c).2.1.trans (by
        rw [(hm c).1, (hm c).2.1, (hm c).2.2.1, (hm c).2.2.2.1, (hm c).2.2.2.2.1, (hm c).2.2.2.2.2.1, (hm c).2.2.2.2.2.2.1, (hm c).2.2.2.2.2.2.2.1,
          (hm c).2.2.2.2.2.2.2.2.1, nextOf_eq]
        exact (nexts_eq _ _ _ _ _ _ (productOf m c) (product32_at _ _ _ _ _) (product4_at _ _ _ _ _)).symm),
      (h.1 c).2.2.trans (by
        rw [(hm c).1, (hm c).2.1, (hm c).2.2.1, (hm c).2.2.2.1, (hm c).2.2.2.2.1, (hm c).2.2.2.2.2.1, (hm c).2.2.2.2.2.2.1, (hm c).2.2.2.2.2.2.2.1,
          (hm c).2.2.2.2.2.2.2.2.1, (hm c).2.2.2.2.2.2.2.2.2.1, (hm c).2.2.2.2.2.2.2.2.2.2.1, (hm c).2.2.2.2.2.2.2.2.2.2.2.1, (hm c).2.2.2.2.2.2.2.2.2.2.2.2]
        exact (kept_eq m c hpre).symm),
      (h.2 c).2.2.2⟩)
      (θ_run_and (results m' g') (Cert.PwReferenceIdeal.Value.run (F := Ideal) m' g'))⟩

end Cert.Proof.Pointwise

end
-- ==== Proof.Rotary.Block.lean ====
/- The queries' and keys' norm and rotary: what one grid point computes for one head. -/
module

public import proofs.«01_k».proof.Proof.Gen.QkKernelIdeal.Frame
public import Idealize.ShloMosaic.Lib.Pipeline.ValueKit
public import Idealize.ShloMosaic.Lib.Pointwise
public import Idealize.ShloMosaic.Lib.Tactic

@[expose] public section

set_option maxRecDepth 16384

noncomputable section

namespace Cert.Rotary

open Idealize.ShloMosaic

/-- A row over the root of its mean square, scaled lane by lane. -/
def normed (x g : Fin 128 → EReal) (j : Fin 128) : EReal :=
  x j * Ideal.rsqrt (Ideal.div (∑ k, x k * x k) (Ideal.ofBits .f32 0x43000000#32) + Ideal.ofBits .f32 0x358637BD#32) * g j

/-- The lane a lane is paired with: the other one of its half's two quarters. -/
def partner (j : Fin 128) : Fin 128 := if j.val % 64 < 32 then ⟨(j.val + 32) % 128, by omega⟩ else ⟨j.val - 32, by omega⟩

/-- A row normed, then turned: each lane by its cosine, its partner by its signed sine. -/
def turned (x g c s : Fin 128 → EReal) (j : Fin 128) : EReal := normed x g j * c j + normed x g (partner j) * s j

end Cert.Rotary

namespace Cert.QkKernelIdeal.Rotary

open Cert.QkKernelIdeal Cert.QkKernelIdeal.Gen Idealize.ShloMosaic Idealize.ShloMosaic.TcCoe

/-- One head's rows, normed. -/
def rows (x : FVec Ideal S512x128 .f32) (g : FVec Ideal S1x128 .f32) : FVec Ideal S512x128 .f32 := k0_pay4 (F := Ideal) x g

theorem rows_at (x : FVec Ideal S512x128 .f32) (g : FVec Ideal S1x128 .f32) (r : Fin 512) (j : Fin 128) :
    rows x g (ix2 r j) = Rotary.normed (fun k => x (ix2 r k)) (fun k => g (ix2 0 k)) j := by
  pointwise [rows, k0_pay4]
  rfl

/-- Normed rows, turned. -/
def turn (c s n : FVec Ideal S512x128 .f32) : FVec Ideal S512x128 .f32 :=
  addf (mulf n c) (mulf (select k0_pay3 (dynamicRotate 1 96#32 none n rotates_S512x128_d1) (dynamicRotate 1 32#32 none n rotates_S512x128_d1)) s)

theorem mask_at (r : Fin 512) (j : Fin 128) : k0_pay3 (ix2 r j) = if j.val % 64 < 32 then 1#1 else 0#1 := by
  pointwise [k0_pay3]
  revert j
  decide +kernel

theorem turn_at (c s n : FVec Ideal S512x128 .f32) (r : Fin 512) (j : Fin 128) :
    turn c s n (ix2 r j) = n (ix2 r j) * c (ix2 r j) + n (ix2 r (Rotary.partner j)) * s (ix2 r j) := by
  pointwise [turn]
  rw [mask_at]
  unfold Rotary.partner
  by_cases h : j.val % 64 < 32
  · rw [if_pos h, if_pos h]
    refine congrArg₂ (· + ·) rfl (congrArg₂ (· * ·) (congrArg n (congrArg (ix2 r ·) (Fin.ext ?_))) rfl)
    simp only; omega
  · rw [if_neg h, if_neg h]
    refine congrArg₂ (· + ·) rfl (congrArg₂ (· * ·) (congrArg n (congrArg (ix2 r ·) (Fin.ext ?_))) rfl)
    simp only; omega

/-- One head's rows, normed and turned by the tables' rows. -/
def kept (c s x : FVec Ideal S512x128 .f32) (g : FVec Ideal S1x128 .f32) : FVec Ideal S512x128 .f32 :=
  turn (k0_pay1 (F := Ideal) c) (k0_pay2 (F := Ideal) s) (rows x g)

theorem kept_at (c s x : FVec Ideal S512x128 .f32) (g : FVec Ideal S1x128 .f32) (r : Fin 512) (j : Fin 128) :
    kept c s x g (ix2 r j) = Rotary.turned (fun k => x (ix2 r k)) (fun k => g (ix2 0 k)) (fun k => c (ix2 r k)) (fun k => s (ix2 r k)) j := by
  refine (turn_at _ _ _ r j).trans (congrArg₂ (· + ·) (congrArg₂ (· * ·) (rows_at x g r j) ?_) (congrArg₂ (· * ·) (rows_at x g r _) ?_))
  · pointwise [k0_pay1]
  · pointwise [k0_pay2]

/-- The same over the root of the head's length, rounded: a head of the queries. -/
def scaled (c s x : FVec Ideal S512x128 .f32) (g : FVec Ideal S1x128 .f32) : FVec Ideal S512x128 .bf16 :=
  truncf .bf16 (mulf (kept c s x g) (broadcast S512x128 (Scalar.ofBits .f32 0x3DB504F3#32))) bitsLt_bf16_f32

theorem scaled_at (c s x : FVec Ideal S512x128 .f32) (g : FVec Ideal S1x128 .f32) (r : Fin 512) (j : Fin 128) :
    scaled c s x g (ix2 r j) = Rotary.turned (fun k => x (ix2 r k)) (fun k => g (ix2 0 k)) (fun k => c (ix2 r k)) (fun k => s (ix2 r k)) j
      * Ideal.ofBits .f32 0x3DB504F3#32 := by
  refine Eq.trans ?_ (congrArg (· * _) (kept_at c s x g r j))
  pointwise [scaled]

variable (m : (ℓ : Loc nD τ sig) → Buf (Elt Ideal) ℓ)

/-- The blocks' places in the arrays. -/
theorem idx : ∀ t : Fin cfg0.N,
    win0_0.index t = ![t.val, 0] ∧ win0_1.index t = ![t.val, 4] ∧ win0_2.index t = ![t.val, 0] ∧ win0_3.index t = ![t.val, 0]
      ∧ win0_4.index t = ![0, 0] ∧ win0_5.index t = ![0, 0] ∧ win0_6.index t = ![t.val, 0] ∧ win0_7.index t = ![t.val, 0] ∧ win0_8.index t = ![t.val, 0] :=
  (by decide +kernel : ∀ t : Fin grid0.N, _)

/-- The queries, from the arrays the kernel is given. -/
def queries (Z : FVec Ideal S24576x4608 .f32) (C S : FVec Ideal S24576x128 .f32) (G : FVec Ideal S1x128 .f32) : FVec Ideal S24576x1024 .bf16 := fun i =>
  Rotary.turned (fun k => Z (ix2 (i 0) ⟨(i 1 : ℕ) / 128 * 128 + k, by idx_bounds; omega⟩)) (fun k => G (ix2 0 k)) (fun k => C (ix2 (i 0) k)) (fun k => S (ix2 (i 0) k))
    ⟨(i 1 : ℕ) % 128, by omega⟩ * Ideal.ofBits .f32 0x3DB504F3#32

/-- The keys, from the arrays the kernel is given. -/
def keys (Z : FVec Ideal S24576x4608 .f32) (C S : FVec Ideal S24576x128 .f32) (G : FVec Ideal S1x128 .f32) : FVec Ideal S24576x256 .f32 := fun i =>
  Rotary.turned (fun k => Z (ix2 (i 0) ⟨1024 + ((i 1 : ℕ) / 128 * 128 + k), by idx_bounds; omega⟩)) (fun k => G (ix2 0 k)) (fun k => C (ix2 (i 0) k)) (fun k => S (ix2 (i 0) k))
    ⟨(i 1 : ℕ) % 128, by omega⟩

/-- The queries' input block at a place, from the array. -/
theorem block_at (c : Dev nD) (t : Fin cfg0.N) (r : Fin 512) (k : Fin 1024) (q : Fin 24576) (hq : q.val = t.val * 512 + r) :
    (show FVec Ideal S512x1024 .f32 from X0_0 m c t) (ix2 r k) = (show FVec Ideal S24576x4608 .f32 from V m c main_arg0) (ix2 q ⟨k, by omega⟩) := by
  show X0_0 m c t (ix2 r k) = _
  unfold X0_0 Pipeline.Window.fill
  rw [dif_pos (moved0_0 t (ix2 r k))]
  blk_ext [iblk, idx t]

/-- A head of a point's queries. -/
theorem query_at (c : Dev nD) (t : Fin cfg0.N) (x : FVec Ideal S512x128 .f32) (h : Fin 8) (r : Fin 512) (d : Fin 128) (i : S24576x1024.Idx)
    (hx : ∀ k : Fin 128, x (ix2 r k) = (show FVec Ideal S512x1024 .f32 from X0_0 m c t) (ix2 r ⟨h * 128 + k, by omega⟩))
    (h0 : (i 0 : ℕ) = t.val * 512 + r) (h1 : (i 1 : ℕ) = h * 128 + d) :
    scaled (iblk m c 2 t) (iblk m c 3 t) x (iblk m c 4 t) (ix2 r d)
      = queries (V m c main_arg0) (V m c main_v8) (V m c main_v17) (V m c main_v18) i := by
  refine (scaled_at _ _ _ _ r d).trans ?_
  unfold queries
  have hd : d.val < 128 := d.isLt
  rw [show (⟨(i 1 : ℕ) % 128, by omega⟩ : Fin 128) = d from Fin.ext (by simp only; omega)]
  refine congrArg (· * _) ?_
  refine congr (congr (congr (congrArg Rotary.turned (funext fun k => ?_)) (funext fun k => ?_)) (funext fun k => ?_)) (funext fun k => ?_) |> fun e => congrFun e d
  · refine (hx k).trans ((block_at m c t r _ (i 0) h0).trans (congrArg (V m c main_arg0) (congrArg (ix2 _ ·) (Fin.ext ?_))))
    simp only; omega
  all_goals blk_ext [iblk, idx t]

/-- One store of a point's queries: a head's rows at their columns. -/
theorem query_piece (c : Dev nD) (t : Fin cfg0.N) (h : Fin 8) (off : ℕ) (x : S512x128.Idx) (y : S512x1024.Idx)
    (inb : ∀ a, (![0, off] : Fin 2 → ℕ) a + (![512, 128] : Fin 2 → ℕ) a ≤ S512x1024.size a) (hoff : off = h * 128)
    (h0 : (y 0 : ℕ) = x 0) (h1 : (y 1 : ℕ) = off + x 1) :
    scaled (iblk m c 2 t) (iblk m c 3 t) (View.ld (Val := Elt Ideal) (e' := .f32) (X0_0 m c t) (Rect.unit (s := S512x1024) ![0, off] ![512, 128] inb)) (iblk m c 4 t) x
      = queries (V m c main_arg0) (V m c main_v8) (V m c main_v17) (V m c main_v18) (((cfg0.win 6).blk t).view.emb y) := by
  subst hoff
  obtain ⟨r, d, rfl⟩ : ∃ (r : Fin 512) (d : Fin 128), x = ix2 r d := ⟨x 0, x 1, eq_ix2 x⟩
  refine query_at m c t _ h r d _ (fun k => ?_) ?_ ?_
  · pointwise
    blk_ext
  · blk_simp [idx t]; simp only [ix2_0] at h0; omega
  · blk_simp [idx t]; simp only [ix2_1] at h1; omega

theorem point_queries (c : Dev nD) (t : Fin cfg0.N) (y : S512x1024.Idx) :
    (outsAt0 m c t).1 y = queries (V m c main_arg0) (V m c main_v8) (V m c main_v17) (V m c main_v18) (((cfg0.win 6).blk t).view.emb y) := by
  unfold outsAt0
  frame_out
  canon_tiles x h
  case piece0 => exact query_piece m c t 7 896 x y _ rfl h0 h1
  case piece1 => exact query_piece m c t 6 768 x y _ rfl h0 h1
  case piece2 => exact query_piece m c t 5 640 x y _ rfl h0 h1
  case piece3 => exact query_piece m c t 4 512 x y _ rfl h0 h1
  case piece4 => exact query_piece m c t 3 384 x y _ rfl h0 h1
  case piece5 => exact query_piece m c t 2 256 x y _ rfl h0 h1
  case piece6 => exact query_piece m c t 1 128 x y _ rfl h0 h1
  case piece7 => exact query_piece m c t 0 0 x y _ rfl h0 (by omega)

/-- One store of a point's keys: a head's rows at their columns. -/
theorem key_piece (c : Dev nD) (t : Fin cfg0.N) (h : Fin 2) (off : ℕ) (x : S512x128.Idx) (y : S512x256.Idx) (i : S24576x256.Idx)
    (inb : ∀ a, (![0, off] : Fin 2 → ℕ) a + (![512, 128] : Fin 2 → ℕ) a ≤ S512x256.size a) (hoff : off = h * 128)
    (h0 : (y 0 : ℕ) = x 0) (h1 : (y 1 : ℕ) = off + x 1) (i0 : (i 0 : ℕ) = t.val * 512 + y 0) (i1 : (i 1 : ℕ) = y 1) :
    kept (iblk m c 2 t) (iblk m c 3 t) (View.ld (Val := Elt Ideal) (e' := .f32) (iblk m c 1 t) (Rect.unit (s := S512x256) ![0, off] ![512, 128] inb)) (iblk m c 5 t) x
      = keys (V m c main_arg0) (V m c main_v8) (V m c main_v17) (V m c main_v19) i := by
  subst hoff
  obtain ⟨r, d, rfl⟩ : ∃ (r : Fin 512) (d : Fin 128), x = ix2 r d := ⟨x 0, x 1, eq_ix2 x⟩
  simp only [ix2_0, ix2_1] at h0 h1
  refine (kept_at _ _ _ _ r d).trans ?_
  unfold keys
  have hd : d.val < 128 := d.isLt
  rw [show (⟨(i 1 : ℕ) % 128, by omega⟩ : Fin 128) = d from Fin.ext (by simp only; omega)]
  refine congr (congr (congr (congrArg Rotary.turned (funext fun k => ?_)) (funext fun k => ?_)) (funext fun k => ?_)) (funext fun k => ?_) |> fun e => congrFun e d
  · pointwise
    blk_ext [iblk, idx t]
  all_goals blk_ext [iblk, idx t]

theorem point_keys (c : Dev nD) (t : Fin cfg0.N) (y : S512x256.Idx) :
    (outsAt0 m c t).2.1 y = keys (V m c main_arg0) (V m c main_v8) (V m c main_v17) (V m c main_v19) (((cfg0.win 7).blk t).view.emb y) := by
  unfold outsAt0
  frame_out
  canon_tiles x h
  case piece0 => exact key_piece m c t 1 128 x y _ _ rfl h0 h1 (by blk_simp [idx t]) (by blk_simp [idx t])
  case piece1 => exact key_piece m c t 0 0 x y _ _ rfl h0 (by omega) (by blk_simp [idx t]) (by blk_simp [idx t])

theorem point_rounded (c : Dev nD) (t : Fin cfg0.N) (y : S512x256.Idx) :
    (outsAt0 m c t).2.2 y = keys (V m c main_arg0) (V m c main_v8) (V m c main_v17) (V m c main_v19) (((cfg0.win 8).blk t).view.emb y) := by
  unfold outsAt0
  frame_out
  canon_tiles x h
  case piece0 => exact key_piece m c t 1 128 x y _ _ rfl h0 h1 (by blk_simp [idx t]) (by blk_simp [idx t])
  case piece1 => exact key_piece m c t 0 0 x y _ _ rfl h0 (by omega) (by blk_simp [idx t]) (by blk_simp [idx t])

/-- The queries after the run. -/
theorem final_queries (c : Dev nD) : (dats m 0 c).arrAt 6 (cfgs 0).N = queries (V m c main_arg0) (V m c main_v8) (V m c main_v17) (V m c main_v18) := by
  refine (dats m 0 c).arrAt_eq_of_covers 6 _ (by decide +kernel) fun t _ y => ?_
  blk_simp
  rw [after0_6]
  exact point_queries m c t y

/-- The keys after the run. -/
theorem final_keys (c : Dev nD) : (dats m 0 c).arrAt 7 (cfgs 0).N = keys (V m c main_arg0) (V m c main_v8) (V m c main_v17) (V m c main_v19) := by
  refine (dats m 0 c).arrAt_eq_of_covers 7 _ (by decide +kernel) fun t _ y => ?_
  blk_simp
  rw [after0_7]
  exact point_keys m c t y

/-- The keys again, rounded for the attention. -/
theorem final_rounded (c : Dev nD) : (dats m 0 c).arrAt 8 (cfgs 0).N
    = (show FVec Ideal S24576x256 .bf16 from keys (V m c main_arg0) (V m c main_v8) (V m c main_v17) (V m c main_v19)) := by
  refine (dats m 0 c).arrAt_eq_of_covers 8 _ (by decide +kernel) fun t _ y => ?_
  blk_simp
  rw [after0_8]
  exact point_rounded m c t y

end Cert.QkKernelIdeal.Rotary

end
-- ==== Proof.Rotary.Reference.lean ====
/- The queries' and keys' norm and rotary: the reference, at an index. -/
module

public import proofs.«01_k».proof.Proof.Rotary.Block
public import proofs.«01_k».proof.Proof.Gen.QkReferenceIdeal.Run
public import Idealize.ShloMosaic.Lib.ValueIdxRank6

@[expose] public section

set_option maxRecDepth 16384

noncomputable section

namespace Cert.QkReferenceIdeal.Rotary

open Cert.QkReferenceIdeal Cert.QkReferenceIdeal.Gen Idealize.ShloMosaic Idealize.ShloMosaic.TcCoe

/-- The prompt's queries, by head. -/
def prompt8 (Z : FVec Ideal S24576x4608 .f32) : FVec Ideal S32x256x8x128 .f32 :=
  shapeCast _ (extractStridedSlice S32x256x1024 ![0, 0, 0] (shapeCast _ (extractStridedSlice S8192x4608 ![0, 0] Z slices_S24576x4608_S8192x4608_0_0) shapeCasts_S8192x4608_S32x256x4608) slices_S32x256x4608_S32x256x1024_0_0_0) shapeCasts_S32x256x1024_S32x256x8x128

theorem prompt8_at (Z : FVec Ideal S24576x4608 .f32) (b : Fin 32) (l : Fin 256) (h : Fin 8) (k : Fin 128) :
    prompt8 Z (ix4 b l h k) = Z (ix2 ⟨b * 256 + l, by omega⟩ ⟨0 + (h * 128 + k), by omega⟩) := by
  pointwise [prompt8]
  blk_ext

/-- The prompt's queries, normed. -/
def promptNormed8 (x : FVec Ideal S32x256x8x128 .f32) (g : FVec Ideal S128 .f32) : FVec Ideal S32x256x8x128 .f32 :=
  mulf (mulf x (broadcastInDim S32x256x8x128 ![0, 1, 2, 3] bcast_S32x256x8x1_S32x256x8x128_0_1_2_3 (Host.rsqrt (addf (Host.divf (broadcastInDim S32x256x8x1 ![0, 1, 2] bcast_S32x256x8_S32x256x8x1_0_1_2 (Host.reduceAdd (mulf x x) (constant S_ .f32 0x00000000#32) reducesTo_S32x256x8x128_S32x256x8_d3 h_S_)) (broadcastInDim S32x256x8x1 ![] bcast_S_S32x256x8x1 (constant S_ .f32 0x43000000#32))) (broadcastInDim S32x256x8x1 ![] bcast_S_S32x256x8x1 (constant S_ .f32 0x358637BD#32)))))) (broadcastInDim S32x256x8x128 ![0, 1, 2, 3] bcast_S1x1x1x128_S32x256x8x128_0_1_2_3 (broadcastInDim S1x1x1x128 ![3] bcast_S128_S1x1x1x128_3 g))

theorem promptNormed8_at (x : FVec Ideal S32x256x8x128 .f32) (g : FVec Ideal S128 .f32) (b : Fin 32) (l : Fin 256) (h : Fin 8) (k : Fin 128) :
    promptNormed8 x g (ix4 b l h k) = Rotary.normed (fun k => x (ix4 b l h k)) (fun k => g (ix1 k)) k := by
  pointwise [promptNormed8]
  rfl

/-- The sample's queries, by head. -/
def sample8 (Z : FVec Ideal S24576x4608 .f32) : FVec Ideal S4x4096x8x128 .f32 :=
  shapeCast _ (extractStridedSlice S4x4096x1024 ![0, 0, 0] (shapeCast _ (extractStridedSlice S16384x4608 ![8192, 0] Z slices_S24576x4608_S16384x4608_8192_0) shapeCasts_S16384x4608_S4x4096x4608) slices_S4x4096x4608_S4x4096x1024_0_0_0) shapeCasts_S4x4096x1024_S4x4096x8x128

theorem sample8_at (Z : FVec Ideal S24576x4608 .f32) (b : Fin 4) (l : Fin 4096) (h : Fin 8) (k : Fin 128) :
    sample8 Z (ix4 b l h k) = Z (ix2 ⟨8192 + b * 4096 + l, by omega⟩ ⟨0 + (h * 128 + k), by omega⟩) := by
  pointwise [sample8]
  blk_ext

/-- The sample's queries, normed. -/
def sampleNormed8 (x : FVec Ideal S4x4096x8x128 .f32) (g : FVec Ideal S128 .f32) : FVec Ideal S4x4096x8x128 .f32 :=
  mulf (mulf x (broadcastInDim S4x4096x8x128 ![0, 1, 2, 3] bcast_S4x4096x8x1_S4x4096x8x128_0_1_2_3 (Host.rsqrt (addf (Host.divf (broadcastInDim S4x4096x8x1 ![0, 1, 2] bcast_S4x4096x8_S4x4096x8x1_0_1_2 (Host.reduceAdd (mulf x x) (constant S_ .f32 0x00000000#32) reducesTo_S4x4096x8x128_S4x4096x8_d3 h_S_)) (broadcastInDim S4x4096x8x1 ![] bcast_S_S4x4096x8x1 (constant S_ .f32 0x43000000#32))) (broadcastInDim S4x4096x8x1 ![] bcast_S_S4x4096x8x1 (constant S_ .f32 0x358637BD#32)))))) (broadcastInDim S4x4096x8x128 ![0, 1, 2, 3] bcast_S1x1x1x128_S4x4096x8x128_0_1_2_3 (broadcastInDim S1x1x1x128 ![3] bcast_S128_S1x1x1x128_3 g))

theorem sampleNormed8_at (x : FVec Ideal S4x4096x8x128 .f32) (g : FVec Ideal S128 .f32) (b : Fin 4) (l : Fin 4096) (h : Fin 8) (k : Fin 128) :
    sampleNormed8 x g (ix4 b l h k) = Rotary.normed (fun k => x (ix4 b l h k)) (fun k => g (ix1 k)) k := by
  pointwise [sampleNormed8]
  rfl

/-- One quarter of each half of a head's lanes. -/
def first8 (n : FVec Ideal S4x4096x8x128 .f32) : FVec Ideal S4x4096x8x2x32 .f32 :=
  shapeCast _ (extractStridedSlice S4x4096x8x2x1x32 ![0, 0, 0, 0, 0, 0] (shapeCast _ n shapeCasts_S4x4096x8x128_S4x4096x8x2x2x32) slices_S4x4096x8x2x2x32_S4x4096x8x2x1x32_0_0_0_0_0_0) shapeCasts_S4x4096x8x2x1x32_S4x4096x8x2x32

theorem first8_at (n : FVec Ideal S4x4096x8x128 .f32) (b : Fin 4) (l : Fin 4096) (h : Fin 8) (a : Fin 2) (e : Fin 32) :
    first8 n (ix5 b l h a e) = n (ix4 b l h ⟨a * 64 + e, by omega⟩) := by
  pointwise [first8]
  blk_ext

/-- The other quarter. -/
def second8 (n : FVec Ideal S4x4096x8x128 .f32) : FVec Ideal S4x4096x8x2x32 .f32 :=
  shapeCast _ (extractStridedSlice S4x4096x8x2x1x32 ![0, 0, 0, 0, 1, 0] (shapeCast _ n shapeCasts_S4x4096x8x128_S4x4096x8x2x2x32) slices_S4x4096x8x2x2x32_S4x4096x8x2x1x32_0_0_0_0_1_0) shapeCasts_S4x4096x8x2x1x32_S4x4096x8x2x32

theorem second8_at (n : FVec Ideal S4x4096x8x128 .f32) (b : Fin 4) (l : Fin 4096) (h : Fin 8) (a : Fin 2) (e : Fin 32) :
    second8 n (ix5 b l h a e) = n (ix4 b l h ⟨a * 64 + 32 + e, by omega⟩) := by
  pointwise [second8]
  blk_ext

/-- A table over the heads. -/
def over8 (T : FVec Ideal S4096x64 .f32) : FVec Ideal S4x4096x8x2x32 .f32 :=
  broadcastInDim S4x4096x8x2x32 ![0, 1, 2, 3, 4] bcast_S1x4096x1x2x32_S4x4096x8x2x32_0_1_2_3_4 (broadcastInDim S1x4096x1x2x32 ![1, 2, 3, 4] bcast_S4096x1x2x32_S1x4096x1x2x32_1_2_3_4 (shapeCast _ T shapeCasts_S4096x64_S4096x1x2x32))

theorem over8_at (T : FVec Ideal S4096x64 .f32) (b : Fin 4) (l : Fin 4096) (h : Fin 8) (a : Fin 2) (e : Fin 32) :
    over8 T (ix5 b l h a e) = T (ix2 l ⟨a * 32 + e, by omega⟩) := by
  pointwise [over8]
  blk_ext

/-- The two quarters put back. -/
def stacked8 (p q : FVec Ideal S4x4096x8x2x32 .f32) : FVec Ideal S4x4096x8x128 .f32 :=
  shapeCast _ (concatenate S4x4096x8x2x2x32 4 [⟨S4x4096x8x2x1x32, (broadcastInDim S4x4096x8x2x1x32 ![0, 1, 2, 3, 5] bcast_S4x4096x8x2x32_S4x4096x8x2x1x32_0_1_2_3_5 p)⟩, ⟨S4x4096x8x2x1x32, (broadcastInDim S4x4096x8x2x1x32 ![0, 1, 2, 3, 5] bcast_S4x4096x8x2x32_S4x4096x8x2x1x32_0_1_2_3_5 q)⟩] concatenates_S4x4096x8x2x1x32_S4x4096x8x2x1x32_S4x4096x8x2x2x32_d4) shapeCasts_S4x4096x8x2x2x32_S4x4096x8x128

theorem stacked8_first (p q : FVec Ideal S4x4096x8x2x32 .f32) (b : Fin 4) (l : Fin 4096) (h : Fin 8) (a : Fin 2) (e : Fin 32) :
    stacked8 p q (ix4 b l h ⟨a * 64 + e, by omega⟩) = p (ix5 b l h a e) := by
  pointwise [stacked8]
  rw [dif_pos (by omega)]
  blk_ext

theorem stacked8_second (p q : FVec Ideal S4x4096x8x2x32 .f32) (b : Fin 4) (l : Fin 4096) (h : Fin 8) (a : Fin 2) (e : Fin 32) :
    stacked8 p q (ix4 b l h ⟨a * 64 + 32 + e, by omega⟩) = q (ix5 b l h a e) := by
  pointwise [stacked8]
  rw [dif_neg (by omega)]
  blk_ext

/-- The sample's queries, turned. -/
def rotated8 (n : FVec Ideal S4x4096x8x128 .f32) (C S : FVec Ideal S4096x64 .f32) : FVec Ideal S4x4096x8x128 .f32 :=
  stacked8 (subf (mulf (first8 n) (over8 C)) (mulf (second8 n) (over8 S))) (addf (mulf (second8 n) (over8 C)) (mulf (first8 n) (over8 S)))

theorem rotated8_first (n : FVec Ideal S4x4096x8x128 .f32) (C S : FVec Ideal S4096x64 .f32) (b : Fin 4) (l : Fin 4096) (h : Fin 8) (a : Fin 2) (e : Fin 32) :
    rotated8 n C S (ix4 b l h ⟨a * 64 + e, by omega⟩)
      = n (ix4 b l h ⟨a * 64 + e, by omega⟩) * C (ix2 l ⟨a * 32 + e, by omega⟩) - n (ix4 b l h ⟨a * 64 + 32 + e, by omega⟩) * S (ix2 l ⟨a * 32 + e, by omega⟩) :=
  (stacked8_first _ _ b l h a e).trans (congrArg₂ (· - ·) (congrArg₂ (· * ·) (first8_at n b l h a e) (over8_at C b l h a e))
    (congrArg₂ (· * ·) (second8_at n b l h a e) (over8_at S b l h a e)))

theorem rotated8_second (n : FVec Ideal S4x4096x8x128 .f32) (C S : FVec Ideal S4096x64 .f32) (b : Fin 4) (l : Fin 4096) (h : Fin 8) (a : Fin 2) (e : Fin 32) :
    rotated8 n C S (ix4 b l h ⟨a * 64 + 32 + e, by omega⟩)
      = n (ix4 b l h ⟨a * 64 + 32 + e, by omega⟩) * C (ix2 l ⟨a * 32 + e, by omega⟩) + n (ix4 b l h ⟨a * 64 + e, by omega⟩) * S (ix2 l ⟨a * 32 + e, by omega⟩) :=
  (stacked8_second _ _ b l h a e).trans (congrArg₂ (· + ·) (congrArg₂ (· * ·) (second8_at n b l h a e) (over8_at C b l h a e))
    (congrArg₂ (· * ·) (first8_at n b l h a e) (over8_at S b l h a e)))

/-- The prompt's and the sample's queries, one after the other. -/
def joined8 (P : FVec Ideal S32x256x8x128 .f32) (S : FVec Ideal S4x4096x8x128 .f32) : FVec Ideal S24576x1024 .f32 :=
  concatenate S24576x1024 0 [⟨S8192x1024, (shapeCast _ P shapeCasts_S32x256x8x128_S8192x1024)⟩, ⟨S16384x1024, (shapeCast _ S shapeCasts_S4x4096x8x128_S16384x1024)⟩] concatenates_S8192x1024_S16384x1024_S24576x1024_d0

theorem joined8_prompt (P : FVec Ideal S32x256x8x128 .f32) (S : FVec Ideal S4x4096x8x128 .f32) (b : Fin 32) (l : Fin 256) (h : Fin 8) (k : Fin 128) :
    joined8 P S (ix2 ⟨b * 256 + l, by omega⟩ ⟨h * 128 + k, by omega⟩) = P (ix4 b l h k) := by
  pointwise [joined8]
  rw [dif_pos (by omega)]
  blk_ext

theorem joined8_sample (P : FVec Ideal S32x256x8x128 .f32) (S : FVec Ideal S4x4096x8x128 .f32) (b : Fin 4) (l : Fin 4096) (h : Fin 8) (k : Fin 128) :
    joined8 P S (ix2 ⟨8192 + b * 4096 + l, by omega⟩ ⟨h * 128 + k, by omega⟩) = S (ix4 b l h k) := by
  pointwise [joined8]
  rw [dif_neg (by omega)]
  blk_ext

/-- The prompt's keys, by head. -/
def prompt2 (Z : FVec Ideal S24576x4608 .f32) : FVec Ideal S32x256x2x128 .f32 :=
  shapeCast _ (extractStridedSlice S32x256x256 ![0, 0, 1024] (shapeCast _ (extractStridedSlice S8192x4608 ![0, 0] Z slices_S24576x4608_S8192x4608_0_0) shapeCasts_S8192x4608_S32x256x4608) slices_S32x256x4608_S32x256x256_0_0_1024) shapeCasts_S32x256x256_S32x256x2x128

theorem prompt2_at (Z : FVec Ideal S24576x4608 .f32) (b : Fin 32) (l : Fin 256) (h : Fin 2) (k : Fin 128) :
    prompt2 Z (ix4 b l h k) = Z (ix2 ⟨b * 256 + l, by omega⟩ ⟨1024 + (h * 128 + k), by omega⟩) := by
  pointwise [prompt2]
  blk_ext

/-- The prompt's keys, normed. -/
def promptNormed2 (x : FVec Ideal S32x256x2x128 .f32) (g : FVec Ideal S128 .f32) : FVec Ideal S32x256x2x128 .f32 :=
  mulf (mulf x (broadcastInDim S32x256x2x128 ![0, 1, 2, 3] bcast_S32x256x2x1_S32x256x2x128_0_1_2_3 (Host.rsqrt (addf (Host.divf (broadcastInDim S32x256x2x1 ![0, 1, 2] bcast_S32x256x2_S32x256x2x1_0_1_2 (Host.reduceAdd (mulf x x) (constant S_ .f32 0x00000000#32) reducesTo_S32x256x2x128_S32x256x2_d3 h_S_)) (broadcastInDim S32x256x2x1 ![] bcast_S_S32x256x2x1 (constant S_ .f32 0x43000000#32))) (broadcastInDim S32x256x2x1 ![] bcast_S_S32x256x2x1 (constant S_ .f32 0x358637BD#32)))))) (broadcastInDim S32x256x2x128 ![0, 1, 2, 3] bcast_S1x1x1x128_S32x256x2x128_0_1_2_3 (broadcastInDim S1x1x1x128 ![3] bcast_S128_S1x1x1x128_3 g))

theorem promptNormed2_at (x : FVec Ideal S32x256x2x128 .f32) (g : FVec Ideal S128 .f32) (b : Fin 32) (l : Fin 256) (h : Fin 2) (k : Fin 128) :
    promptNormed2 x g (ix4 b l h k) = Rotary.normed (fun k => x (ix4 b l h k)) (fun k => g (ix1 k)) k := by
  pointwise [promptNormed2]
  rfl

/-- The sample's keys, by head. -/
def sample2 (Z : FVec Ideal S24576x4608 .f32) : FVec Ideal S4x4096x2x128 .f32 :=
  shapeCast _ (extractStridedSlice S4x4096x256 ![0, 0, 1024] (shapeCast _ (extractStridedSlice S16384x4608 ![8192, 0] Z slices_S24576x4608_S16384x4608_8192_0) shapeCasts_S16384x4608_S4x4096x4608) slices_S4x4096x4608_S4x4096x256_0_0_1024) shapeCasts_S4x4096x256_S4x4096x2x128

theorem sample2_at (Z : FVec Ideal S24576x4608 .f32) (b : Fin 4) (l : Fin 4096) (h : Fin 2) (k : Fin 128) :
    sample2 Z (ix4 b l h k) = Z (ix2 ⟨8192 + b * 4096 + l, by omega⟩ ⟨1024 + (h * 128 + k), by omega⟩) := by
  pointwise [sample2]
  blk_ext

/-- The sample's keys, normed. -/
def sampleNormed2 (x : FVec Ideal S4x4096x2x128 .f32) (g : FVec Ideal S128 .f32) : FVec Ideal S4x4096x2x128 .f32 :=
  mulf (mulf x (broadcastInDim S4x4096x2x128 ![0, 1, 2, 3] bcast_S4x4096x2x1_S4x4096x2x128_0_1_2_3 (Host.rsqrt (addf (Host.divf (broadcastInDim S4x4096x2x1 ![0, 1, 2] bcast_S4x4096x2_S4x4096x2x1_0_1_2 (Host.reduceAdd (mulf x x) (constant S_ .f32 0x00000000#32) reducesTo_S4x4096x2x128_S4x4096x2_d3 h_S_)) (broadcastInDim S4x4096x2x1 ![] bcast_S_S4x4096x2x1 (constant S_ .f32 0x43000000#32))) (broadcastInDim S4x4096x2x1 ![] bcast_S_S4x4096x2x1 (constant S_ .f32 0x358637BD#32)))))) (broadcastInDim S4x4096x2x128 ![0, 1, 2, 3] bcast_S1x1x1x128_S4x4096x2x128_0_1_2_3 (broadcastInDim S1x1x1x128 ![3] bcast_S128_S1x1x1x128_3 g))

theorem sampleNormed2_at (x : FVec Ideal S4x4096x2x128 .f32) (g : FVec Ideal S128 .f32) (b : Fin 4) (l : Fin 4096) (h : Fin 2) (k : Fin 128) :
    sampleNormed2 x g (ix4 b l h k) = Rotary.normed (fun k => x (ix4 b l h k)) (fun k => g (ix1 k)) k := by
  pointwise [sampleNormed2]
  rfl

/-- One quarter of each half of a head's lanes. -/
def first2 (n : FVec Ideal S4x4096x2x128 .f32) : FVec Ideal S4x4096x2x2x32 .f32 :=
  shapeCast _ (extractStridedSlice S4x4096x2x2x1x32 ![0, 0, 0, 0, 0, 0] (shapeCast _ n shapeCasts_S4x4096x2x128_S4x4096x2x2x2x32) slices_S4x4096x2x2x2x32_S4x4096x2x2x1x32_0_0_0_0_0_0) shapeCasts_S4x4096x2x2x1x32_S4x4096x2x2x32

theorem first2_at (n : FVec Ideal S4x4096x2x128 .f32) (b : Fin 4) (l : Fin 4096) (h : Fin 2) (a : Fin 2) (e : Fin 32) :
    first2 n (ix5 b l h a e) = n (ix4 b l h ⟨a * 64 + e, by omega⟩) := by
  pointwise [first2]
  blk_ext

/-- The other quarter. -/
def second2 (n : FVec Ideal S4x4096x2x128 .f32) : FVec Ideal S4x4096x2x2x32 .f32 :=
  shapeCast _ (extractStridedSlice S4x4096x2x2x1x32 ![0, 0, 0, 0, 1, 0] (shapeCast _ n shapeCasts_S4x4096x2x128_S4x4096x2x2x2x32) slices_S4x4096x2x2x2x32_S4x4096x2x2x1x32_0_0_0_0_1_0) shapeCasts_S4x4096x2x2x1x32_S4x4096x2x2x32

theorem second2_at (n : FVec Ideal S4x4096x2x128 .f32) (b : Fin 4) (l : Fin 4096) (h : Fin 2) (a : Fin 2) (e : Fin 32) :
    second2 n (ix5 b l h a e) = n (ix4 b l h ⟨a * 64 + 32 + e, by omega⟩) := by
  pointwise [second2]
  blk_ext

/-- A table over the heads. -/
def over2 (T : FVec Ideal S4096x64 .f32) : FVec Ideal S4x4096x2x2x32 .f32 :=
  broadcastInDim S4x4096x2x2x32 ![0, 1, 2, 3, 4] bcast_S1x4096x1x2x32_S4x4096x2x2x32_0_1_2_3_4 (broadcastInDim S1x4096x1x2x32 ![1, 2, 3, 4] bcast_S4096x1x2x32_S1x4096x1x2x32_1_2_3_4 (shapeCast _ T shapeCasts_S4096x64_S4096x1x2x32))

theorem over2_at (T : FVec Ideal S4096x64 .f32) (b : Fin 4) (l : Fin 4096) (h : Fin 2) (a : Fin 2) (e : Fin 32) :
    over2 T (ix5 b l h a e) = T (ix2 l ⟨a * 32 + e, by omega⟩) := by
  pointwise [over2]
  blk_ext

/-- The two quarters put back. -/
def stacked2 (p q : FVec Ideal S4x4096x2x2x32 .f32) : FVec Ideal S4x4096x2x128 .f32 :=
  shapeCast _ (concatenate S4x4096x2x2x2x32 4 [⟨S4x4096x2x2x1x32, (broadcastInDim S4x4096x2x2x1x32 ![0, 1, 2, 3, 5] bcast_S4x4096x2x2x32_S4x4096x2x2x1x32_0_1_2_3_5 p)⟩, ⟨S4x4096x2x2x1x32, (broadcastInDim S4x4096x2x2x1x32 ![0, 1, 2, 3, 5] bcast_S4x4096x2x2x32_S4x4096x2x2x1x32_0_1_2_3_5 q)⟩] concatenates_S4x4096x2x2x1x32_S4x4096x2x2x1x32_S4x4096x2x2x2x32_d4) shapeCasts_S4x4096x2x2x2x32_S4x4096x2x128

theorem stacked2_first (p q : FVec Ideal S4x4096x2x2x32 .f32) (b : Fin 4) (l : Fin 4096) (h : Fin 2) (a : Fin 2) (e : Fin 32) :
    stacked2 p q (ix4 b l h ⟨a * 64 + e, by omega⟩) = p (ix5 b l h a e) := by
  pointwise [stacked2]
  rw [dif_pos (by omega)]
  blk_ext

theorem stacked2_second (p q : FVec Ideal S4x4096x2x2x32 .f32) (b : Fin 4) (l : Fin 4096) (h : Fin 2) (a : Fin 2) (e : Fin 32) :
    stacked2 p q (ix4 b l h ⟨a * 64 + 32 + e, by omega⟩) = q (ix5 b l h a e) := by
  pointwise [stacked2]
  rw [dif_neg (by omega)]
  blk_ext

/-- The sample's keys, turned. -/
def rotated2 (n : FVec Ideal S4x4096x2x128 .f32) (C S : FVec Ideal S4096x64 .f32) : FVec Ideal S4x4096x2x128 .f32 :=
  stacked2 (subf (mulf (first2 n) (over2 C)) (mulf (second2 n) (over2 S))) (addf (mulf (second2 n) (over2 C)) (mulf (first2 n) (over2 S)))

theorem rotated2_first (n : FVec Ideal S4x4096x2x128 .f32) (C S : FVec Ideal S4096x64 .f32) (b : Fin 4) (l : Fin 4096) (h : Fin 2) (a : Fin 2) (e : Fin 32) :
    rotated2 n C S (ix4 b l h ⟨a * 64 + e, by omega⟩)
      = n (ix4 b l h ⟨a * 64 + e, by omega⟩) * C (ix2 l ⟨a * 32 + e, by omega⟩) - n (ix4 b l h ⟨a * 64 + 32 + e, by omega⟩) * S (ix2 l ⟨a * 32 + e, by omega⟩) :=
  (stacked2_first _ _ b l h a e).trans (congrArg₂ (· - ·) (congrArg₂ (· * ·) (first2_at n b l h a e) (over2_at C b l h a e))
    (congrArg₂ (· * ·) (second2_at n b l h a e) (over2_at S b l h a e)))

theorem rotated2_second (n : FVec Ideal S4x4096x2x128 .f32) (C S : FVec Ideal S4096x64 .f32) (b : Fin 4) (l : Fin 4096) (h : Fin 2) (a : Fin 2) (e : Fin 32) :
    rotated2 n C S (ix4 b l h ⟨a * 64 + 32 + e, by omega⟩)
      = n (ix4 b l h ⟨a * 64 + 32 + e, by omega⟩) * C (ix2 l ⟨a * 32 + e, by omega⟩) + n (ix4 b l h ⟨a * 64 + e, by omega⟩) * S (ix2 l ⟨a * 32 + e, by omega⟩) :=
  (stacked2_second _ _ b l h a e).trans (congrArg₂ (· + ·) (congrArg₂ (· * ·) (second2_at n b l h a e) (over2_at C b l h a e))
    (congrArg₂ (· * ·) (first2_at n b l h a e) (over2_at S b l h a e)))

/-- The prompt's and the sample's keys, one after the other. -/
def joined2 (P : FVec Ideal S32x256x2x128 .f32) (S : FVec Ideal S4x4096x2x128 .f32) : FVec Ideal S24576x256 .f32 :=
  concatenate S24576x256 0 [⟨S8192x256, (shapeCast _ P shapeCasts_S32x256x2x128_S8192x256)⟩, ⟨S16384x256, (shapeCast _ S shapeCasts_S4x4096x2x128_S16384x256)⟩] concatenates_S8192x256_S16384x256_S24576x256_d0

theorem joined2_prompt (P : FVec Ideal S32x256x2x128 .f32) (S : FVec Ideal S4x4096x2x128 .f32) (b : Fin 32) (l : Fin 256) (h : Fin 2) (k : Fin 128) :
    joined2 P S (ix2 ⟨b * 256 + l, by omega⟩ ⟨h * 128 + k, by omega⟩) = P (ix4 b l h k) := by
  pointwise [joined2]
  rw [dif_pos (by omega)]
  blk_ext

theorem joined2_sample (P : FVec Ideal S32x256x2x128 .f32) (S : FVec Ideal S4x4096x2x128 .f32) (b : Fin 4) (l : Fin 4096) (h : Fin 2) (k : Fin 128) :
    joined2 P S (ix2 ⟨8192 + b * 4096 + l, by omega⟩ ⟨h * 128 + k, by omega⟩) = S (ix4 b l h k) := by
  pointwise [joined2]
  rw [dif_neg (by omega)]
  blk_ext

/-- All queries. -/
def queries (Z : FVec Ideal S24576x4608 .f32) (C S : FVec Ideal S4096x64 .f32) (g : FVec Ideal S128 .f32) : FVec Ideal S24576x1024 .f32 :=
  joined8 (promptNormed8 (prompt8 Z) g) (rotated8 (sampleNormed8 (sample8 Z) g) C S)

/-- The queries over the root of the head's length, rounded. -/
def scaled (q : FVec Ideal S24576x1024 .f32) : FVec Ideal S24576x1024 .bf16 :=
  truncf .bf16 (mulf q (broadcastInDim S24576x1024 ![] bcast_S_S24576x1024 (constant S_ .f32 0x3DB504F3#32))) bitsLt_bf16_f32

theorem scaled_at (q : FVec Ideal S24576x1024 .f32) (i : Fin 24576) (d : Fin 1024) : scaled q (ix2 i d) = q (ix2 i d) * Ideal.ofBits .f32 0x3DB504F3#32 := by
  pointwise [scaled]

/-- All keys. -/
def keys (Z : FVec Ideal S24576x4608 .f32) (C S : FVec Ideal S4096x64 .f32) (g : FVec Ideal S128 .f32) : FVec Ideal S24576x256 .f32 :=
  joined2 (promptNormed2 (prompt2 Z) g) (rotated2 (sampleNormed2 (sample2 Z) g) C S)

/-- The prompt's keys, head by head. -/
def cached (n : FVec Ideal S32x256x2x128 .f32) : FVec Ideal S32x1x2x256x128 .f32 :=
  broadcastInDim S32x1x2x256x128 ![0, 2, 3, 4] bcast_S32x2x256x128_S32x1x2x256x128_0_2_3_4 (transpose S32x2x256x128 [0, 2, 1, 3] n transposes_S32x256x2x128_S32x2x256x128_0_2_1_3)

theorem cached_at (n : FVec Ideal S32x256x2x128 .f32) (b : Fin 32) (z : Fin 1) (h : Fin 2) (l : Fin 256) (k : Fin 128) :
    cached n (ix5 b z h l k) = n (ix4 b l h k) := by
  pointwise [cached]

variable (m : (ℓ : Loc nD τ sig) → Buf (Elt Ideal) ℓ) (c : Dev nD)

theorem result_queries : Value.res_main_v122 m c = scaled (queries (m ((c.tc : Thread nD τ).loc main_arg0)) (m ((c.tc : Thread nD τ).loc main_arg1)) (m ((c.tc : Thread nD τ).loc main_arg2)) (m ((c.tc : Thread nD τ).loc main_arg3))) := rfl

theorem result_keys : Value.res_main_v119 m c = keys (m ((c.tc : Thread nD τ).loc main_arg0)) (m ((c.tc : Thread nD τ).loc main_arg1)) (m ((c.tc : Thread nD τ).loc main_arg2)) (m ((c.tc : Thread nD τ).loc main_arg4)) := rfl

theorem result_rounded : Value.res_main_v123 m c = truncf .bf16 (keys (m ((c.tc : Thread nD τ).loc main_arg0)) (m ((c.tc : Thread nD τ).loc main_arg1)) (m ((c.tc : Thread nD τ).loc main_arg2)) (m ((c.tc : Thread nD τ).loc main_arg4))) bitsLt_bf16_f32 := rfl

end Cert.QkReferenceIdeal.Rotary

end
-- ==== Proof.Rotary.Claims.lean ====
/- The rotary's claims: the kernel's queries, keys and cached keys are the reference's. -/
module

public import proofs.«01_k».proof.Defs
public import proofs.«01_k».proof.Proof.Rotary.Reference
public import Idealize.ShloMosaic.Adequacy
public import Idealize.ShloMosaic.Lib.Claim

@[expose] public section

set_option maxRecDepth 16384

noncomputable section

namespace Cert.Rotary

open Idealize.ShloMosaic

theorem one_word : Ideal.ofBits .f32 0x3F800000#32 = 1 := Ideal.ofBits_one_f32

theorem zero_word : Ideal.ofBits .f32 0x00000000#32 = 0 := Ideal.ofBits_zero_f32

theorem minus_one_word : Ideal.ofBits .f32 0xBF800000#32 = -1 := by
  rw [show (-1 : EReal) = ((-1 : ℝ) : EReal) by rw [EReal.coe_neg, EReal.coe_one]]
  simp [Ideal.ofBits, Ideal.ieee, -EReal.coe_mul, -EReal.coe_neg]
  norm_num

/-- A lane is of the first or the second quarter of its half. -/
theorem split_lane (k : Fin 128) : (∃ (a : Fin 2) (e : Fin 32), k = ⟨a * 64 + e, by omega⟩) ∨ ∃ (a : Fin 2) (e : Fin 32), k = ⟨a * 64 + 32 + e, by omega⟩ := by
  by_cases h : k.val % 64 < 32
  · exact .inl ⟨⟨k.val / 64, by omega⟩, ⟨k.val % 64, by omega⟩, Fin.ext (by simp only; omega)⟩
  · exact .inr ⟨⟨k.val / 64, by omega⟩, ⟨k.val % 64 - 32, by omega⟩, Fin.ext (by simp only; omega)⟩

theorem partner_first (a : Fin 2) (e : Fin 32) : partner ⟨a * 64 + e, by omega⟩ = ⟨a * 64 + 32 + e, by omega⟩ := by
  unfold partner
  rw [if_pos (by simp only; omega)]
  exact Fin.ext (by simp only; omega)

theorem partner_second (a : Fin 2) (e : Fin 32) : partner ⟨a * 64 + 32 + e, by omega⟩ = ⟨a * 64 + e, by omega⟩ := by
  unfold partner
  rw [if_neg (by simp only; omega)]
  exact Fin.ext (by simp only; omega)

/-- A row the tables do not turn. -/
theorem turned_still (x g c s : Fin 128 → EReal) (j : Fin 128) (hc : c j = Ideal.ofBits .f32 0x3F800000#32) (hs : s j = Ideal.ofBits .f32 0x00000000#32) :
    turned x g c s j = normed x g j := by
  unfold turned
  rw [hc, hs, one_word, zero_word, mul_one, mul_zero, add_zero]

theorem turned_first (x g c s : Fin 128 → EReal) (a : Fin 2) (e : Fin 32) (u v : EReal)
    (hc : c ⟨a * 64 + e, by omega⟩ = Ideal.ofBits .f32 0x3F800000#32 * u) (hs : s ⟨a * 64 + e, by omega⟩ = Ideal.ofBits .f32 0xBF800000#32 * v) :
    turned x g c s ⟨a * 64 + e, by omega⟩ = normed x g ⟨a * 64 + e, by omega⟩ * u - normed x g ⟨a * 64 + 32 + e, by omega⟩ * v := by
  unfold turned
  rw [hc, hs, one_word, minus_one_word, partner_first, one_mul, neg_one_mul, mul_neg, sub_eq_add_neg]

theorem turned_second (x g c s : Fin 128 → EReal) (a : Fin 2) (e : Fin 32) (u v : EReal)
    (hc : c ⟨a * 64 + 32 + e, by omega⟩ = u) (hs : s ⟨a * 64 + 32 + e, by omega⟩ = v) :
    turned x g c s ⟨a * 64 + 32 + e, by omega⟩ = normed x g ⟨a * 64 + 32 + e, by omega⟩ * u + normed x g ⟨a * 64 + e, by omega⟩ * v := by
  unfold turned
  rw [hc, hs, partner_second]

end Cert.Rotary

namespace Cert.QkKernelIdeal.Rotary

open Cert.QkKernelIdeal Cert.QkKernelIdeal.Gen Idealize.ShloMosaic Idealize.ShloMosaic.TcCoe

/-- A table over a head's lanes: each half once with a sign, once as it is. -/
def lanes (sign : BitVec 32) (T : FVec Ideal S4096x64 .f32) : FVec Ideal S4096x128 .f32 :=
  concatenate S4096x128 1 [⟨S4096x32, mulf (broadcastInDim S4096x32 ![] bcast_S_S4096x32 (constant S_ .f32 sign)) (extractStridedSlice S4096x32 ![0, 0] T slices_S4096x64_S4096x32_0_0)⟩, ⟨S4096x32, extractStridedSlice S4096x32 ![0, 0] T slices_S4096x64_S4096x32_0_0⟩, ⟨S4096x32, mulf (broadcastInDim S4096x32 ![] bcast_S_S4096x32 (constant S_ .f32 sign)) (extractStridedSlice S4096x32 ![0, 32] T slices_S4096x64_S4096x32_0_32)⟩, ⟨S4096x32, extractStridedSlice S4096x32 ![0, 32] T slices_S4096x64_S4096x32_0_32⟩] concatenates_S4096x32_S4096x32_S4096x32_S4096x32_S4096x128_d1

theorem lanes_first (sign : BitVec 32) (T : FVec Ideal S4096x64 .f32) (l : Fin 4096) (a : Fin 2) (e : Fin 32) :
    lanes sign T (ix2 l ⟨a * 64 + e, by omega⟩) = Ideal.ofBits .f32 sign * T (ix2 l ⟨a * 32 + e, by omega⟩) := by
  pointwise [lanes]
  rcases (by omega : a.val = 0 ∨ a.val = 1) with ha | ha
  · rw [dif_pos (by omega)]
    refine congrArg (_ * ·) ?_
    blk_ext
  · rw [dif_neg (by omega), dif_neg (by omega), dif_pos (by omega)]
    refine congrArg (_ * ·) ?_
    blk_ext

theorem lanes_second (sign : BitVec 32) (T : FVec Ideal S4096x64 .f32) (l : Fin 4096) (a : Fin 2) (e : Fin 32) :
    lanes sign T (ix2 l ⟨a * 64 + 32 + e, by omega⟩) = T (ix2 l ⟨a * 32 + e, by omega⟩) := by
  pointwise [lanes]
  rcases (by omega : a.val = 0 ∨ a.val = 1) with ha | ha
  · rw [dif_neg (by omega), dif_pos (by omega)]
    blk_ext
  · rw [dif_neg (by omega), dif_neg (by omega), dif_neg (by omega)]
    blk_ext

/-- A table over all rows: one value for the prompt, the table once for each sample. -/
def table (fill : BitVec 32) (L : FVec Ideal S4096x128 .f32) : FVec Ideal S24576x128 .f32 :=
  concatenate S24576x128 0 [⟨S8192x128, broadcastInDim S8192x128 ![] bcast_S_S8192x128 (constant S_ .f32 fill)⟩, ⟨S4096x128, L⟩, ⟨S4096x128, L⟩, ⟨S4096x128, L⟩, ⟨S4096x128, L⟩] concatenates_S8192x128_S4096x128_S4096x128_S4096x128_S4096x128_S24576x128_d0

theorem table_prompt (fill : BitVec 32) (L : FVec Ideal S4096x128 .f32) (b : Fin 32) (l : Fin 256) (k : Fin 128) :
    table fill L (ix2 ⟨b * 256 + l, by omega⟩ k) = Ideal.ofBits .f32 fill := by
  pointwise [table]
  rw [dif_pos (by omega)]

theorem table_sample (fill : BitVec 32) (L : FVec Ideal S4096x128 .f32) (b : Fin 4) (l : Fin 4096) (k : Fin 128) :
    table fill L (ix2 ⟨8192 + b * 4096 + l, by omega⟩ k) = L (ix2 l k) := by
  pointwise [table]
  rw [dif_neg (by omega)]
  rcases (by omega : b.val = 0 ∨ b.val = 1 ∨ b.val = 2 ∨ b.val = 3) with hb | hb | hb | hb
  · rw [dif_pos (by omega)]
    blk_ext
  · rw [dif_neg (by omega), dif_pos (by omega)]
    blk_ext
  · rw [dif_neg (by omega), dif_neg (by omega), dif_pos (by omega)]
    blk_ext
  · rw [dif_neg (by omega), dif_neg (by omega), dif_neg (by omega)]
    blk_ext

/-- The scales as a row. -/
def asRow (g : FVec Ideal S128 .f32) : FVec Ideal S1x128 .f32 := shapeCast S1x128 g shapeCasts_S128_S1x128

theorem asRow_at (g : FVec Ideal S128 .f32) (k : Fin 128) : asRow g (ix2 0 k) = g (ix1 k) := by
  pointwise [asRow]

variable (m : (ℓ : Loc nD τ sig) → Buf (Elt Ideal) ℓ) (c : Dev nD)

theorem given_cosines : V m c main_v8 = table 0x3F800000#32 (lanes 0x3F800000#32 (m ((c.tc : Thread _ _).loc main_arg1))) := by
  simp only [V, V0, List.flatten_cons, List.flatten_nil, List.append_nil]
  after_results
  rfl

theorem given_sines : V m c main_v17 = table 0x00000000#32 (lanes 0xBF800000#32 (m ((c.tc : Thread _ _).loc main_arg2))) := by
  simp only [V, V0, List.flatten_cons, List.flatten_nil, List.append_nil]
  after_results
  rfl

theorem given_query_scales : V m c main_v18 = asRow (m ((c.tc : Thread _ _).loc main_arg3)) := by
  simp only [V, V0, List.flatten_cons, List.flatten_nil, List.append_nil]
  after_results
  rfl

theorem given_key_scales : V m c main_v19 = asRow (m ((c.tc : Thread _ _).loc main_arg4)) := by
  simp only [V, V0, List.flatten_cons, List.flatten_nil, List.append_nil]
  after_results
  rfl

variable (Z : FVec Ideal S24576x4608 .f32) (C S : FVec Ideal S4096x64 .f32) (g : FVec Ideal S128 .f32)

/-- The turn a row's lanes get, at a row of the prompt. -/
theorem turned_prompt (x : Fin 128 → EReal) (b : Fin 32) (l : Fin 256) (k : Fin 128) :
    Rotary.turned x (fun j => asRow g (ix2 0 j)) (fun j => table 0x3F800000#32 (lanes 0x3F800000#32 C) (ix2 ⟨b * 256 + l, by omega⟩ j))
        (fun j => table 0x00000000#32 (lanes 0xBF800000#32 S) (ix2 ⟨b * 256 + l, by omega⟩ j)) k
      = Rotary.normed x (fun j => g (ix1 j)) k :=
  (Rotary.turned_still _ _ _ _ k (table_prompt _ _ b l k) (table_prompt _ _ b l k)).trans
    (congrArg (Rotary.normed x · k) (funext fun j => asRow_at g j))

theorem turned_sample_first (x : Fin 128 → EReal) (b : Fin 4) (l : Fin 4096) (a : Fin 2) (e : Fin 32) :
    Rotary.turned x (fun j => asRow g (ix2 0 j)) (fun j => table 0x3F800000#32 (lanes 0x3F800000#32 C) (ix2 ⟨8192 + b * 4096 + l, by omega⟩ j))
        (fun j => table 0x00000000#32 (lanes 0xBF800000#32 S) (ix2 ⟨8192 + b * 4096 + l, by omega⟩ j)) ⟨a * 64 + e, by omega⟩
      = Rotary.normed x (fun j => g (ix1 j)) ⟨a * 64 + e, by omega⟩ * C (ix2 l ⟨a * 32 + e, by omega⟩)
        - Rotary.normed x (fun j => g (ix1 j)) ⟨a * 64 + 32 + e, by omega⟩ * S (ix2 l ⟨a * 32 + e, by omega⟩) := by
  have hg : (fun j => asRow g (ix2 0 j)) = fun j => g (ix1 j) := funext fun j => asRow_at g j
  rw [← hg]
  exact Rotary.turned_first _ _ _ _ a e _ _ ((table_sample _ _ b l _).trans (lanes_first _ C l a e)) ((table_sample _ _ b l _).trans (lanes_first _ S l a e))

theorem turned_sample_second (x : Fin 128 → EReal) (b : Fin 4) (l : Fin 4096) (a : Fin 2) (e : Fin 32) :
    Rotary.turned x (fun j => asRow g (ix2 0 j)) (fun j => table 0x3F800000#32 (lanes 0x3F800000#32 C) (ix2 ⟨8192 + b * 4096 + l, by omega⟩ j))
        (fun j => table 0x00000000#32 (lanes 0xBF800000#32 S) (ix2 ⟨8192 + b * 4096 + l, by omega⟩ j)) ⟨a * 64 + 32 + e, by omega⟩
      = Rotary.normed x (fun j => g (ix1 j)) ⟨a * 64 + 32 + e, by omega⟩ * C (ix2 l ⟨a * 32 + e, by omega⟩)
        + Rotary.normed x (fun j => g (ix1 j)) ⟨a * 64 + e, by omega⟩ * S (ix2 l ⟨a * 32 + e, by omega⟩) := by
  have hg : (fun j => asRow g (ix2 0 j)) = fun j => g (ix1 j) := funext fun j => asRow_at g j
  rw [← hg]
  exact Rotary.turned_second _ _ _ _ a e _ _ ((table_sample _ _ b l _).trans (lanes_second _ C l a e)) ((table_sample _ _ b l _).trans (lanes_second _ S l a e))

theorem split_rows (i : Fin 24576) : (∃ (b : Fin 32) (l : Fin 256), i = ⟨b * 256 + l, by omega⟩) ∨ ∃ (b : Fin 4) (l : Fin 4096), i = ⟨8192 + b * 4096 + l, by omega⟩ := by
  by_cases h : i.val < 8192
  · exact .inl ⟨⟨i.val / 256, by omega⟩, ⟨i.val % 256, by omega⟩, Fin.ext (by simp only; omega)⟩
  · exact .inr ⟨⟨(i.val - 8192) / 4096, by omega⟩, ⟨i.val % 4096, by omega⟩, Fin.ext (by simp only; omega)⟩

/-- The queries at a head's lane. -/
theorem queries_at (Z : FVec Ideal S24576x4608 .f32) (C S : FVec Ideal S24576x128 .f32) (G : FVec Ideal S1x128 .f32) (i : Fin 24576) (h : Fin 8) (k : Fin 128) :
    queries Z C S G (ix2 i ⟨h * 128 + k, by omega⟩)
      = Rotary.turned (fun j => Z (ix2 i ⟨h * 128 + j, by omega⟩)) (fun j => G (ix2 0 j)) (fun j => C (ix2 i j)) (fun j => S (ix2 i j)) k * Ideal.ofBits .f32 0x3DB504F3#32 := by
  unfold queries
  refine congrArg (· * _) (congr (congrArg (Rotary.turned · _ _ _) (funext fun j => congrArg Z (congrArg (ix2 i ·) (Fin.ext ?_)))) (Fin.ext ?_))
  · simp only [ix2_1]; omega
  · simp only [ix2_1]; omega

/-- The keys at a head's lane. -/
theorem keys_at (Z : FVec Ideal S24576x4608 .f32) (C S : FVec Ideal S24576x128 .f32) (G : FVec Ideal S1x128 .f32) (i : Fin 24576) (h : Fin 2) (k : Fin 128) :
    keys Z C S G (ix2 i ⟨h * 128 + k, by omega⟩)
      = Rotary.turned (fun j => Z (ix2 i ⟨1024 + (h * 128 + j), by omega⟩)) (fun j => G (ix2 0 j)) (fun j => C (ix2 i j)) (fun j => S (ix2 i j)) k := by
  unfold keys
  refine congr (congrArg (Rotary.turned · _ _ _) (funext fun j => congrArg Z (congrArg (ix2 i ·) (Fin.ext ?_)))) (Fin.ext ?_)
  · simp only [ix2_1]; omega
  · simp only [ix2_1]; omega

/-- The kernel's queries are the reference's. -/
theorem queries_eq : queries Z (table 0x3F800000#32 (lanes 0x3F800000#32 C)) (table 0x00000000#32 (lanes 0xBF800000#32 S)) (asRow g)
    = QkReferenceIdeal.Rotary.scaled (QkReferenceIdeal.Rotary.queries Z C S g) := by
  funext i
  obtain ⟨q, h, k, rfl⟩ : ∃ (q : Fin 24576) (h : Fin 8) (k : Fin 128), i = ix2 q ⟨h * 128 + k, by omega⟩ :=
    ⟨i 0, ⟨(i 1 : ℕ) / 128, by idx_bounds; omega⟩, ⟨(i 1 : ℕ) % 128, by omega⟩, (eq_ix2 i).trans (congrArg (ix2 (i 0) ·) (Fin.ext (by simp only; omega)))⟩
  refine (queries_at _ _ _ _ q h k).trans (Eq.trans (congrArg (· * _) ?_) (QkReferenceIdeal.Rotary.scaled_at _ q _).symm)
  rcases split_rows q with ⟨b, l, rfl⟩ | ⟨b, l, rfl⟩
  · refine (turned_prompt C S g _ b l k).trans (Eq.trans ?_ ((QkReferenceIdeal.Rotary.joined8_prompt _ _ b l h k).trans (QkReferenceIdeal.Rotary.promptNormed8_at _ g b l h k)).symm)
    refine congrArg (Rotary.normed · _ k) (funext fun j => ((QkReferenceIdeal.Rotary.prompt8_at Z b l h j).trans (congrArg Z (congrArg (ix2 _ ·) (Fin.ext ?_)))).symm)
    simp only; omega
  · have hx : (fun j : Fin 128 => Z (ix2 ⟨8192 + b * 4096 + l, by omega⟩ ⟨h * 128 + j, by omega⟩)) = fun j => QkReferenceIdeal.Rotary.sample8 Z (ix4 b l h j) :=
      funext fun j => ((QkReferenceIdeal.Rotary.sample8_at Z b l h j).trans (congrArg Z (congrArg (ix2 _ ·) (Fin.ext (by simp only; omega))))).symm
    rcases Rotary.split_lane k with ⟨a, e, rfl⟩ | ⟨a, e, rfl⟩
    · refine (turned_sample_first C S g _ b l a e).trans (Eq.trans ?_ ((QkReferenceIdeal.Rotary.joined8_sample _ _ b l h _).trans (QkReferenceIdeal.Rotary.rotated8_first _ C S b l h a e)).symm)
      rw [hx]
      exact congrArg₂ (· - ·) (congrArg (· * _) (QkReferenceIdeal.Rotary.sampleNormed8_at _ g b l h _).symm) (congrArg (· * _) (QkReferenceIdeal.Rotary.sampleNormed8_at _ g b l h _).symm)
    · refine (turned_sample_second C S g _ b l a e).trans (Eq.trans ?_ ((QkReferenceIdeal.Rotary.joined8_sample _ _ b l h _).trans (QkReferenceIdeal.Rotary.rotated8_second _ C S b l h a e)).symm)
      rw [hx]
      exact congrArg₂ (· + ·) (congrArg (· * _) (QkReferenceIdeal.Rotary.sampleNormed8_at _ g b l h _).symm) (congrArg (· * _) (QkReferenceIdeal.Rotary.sampleNormed8_at _ g b l h _).symm)

/-- The kernel's keys at the prompt's rows are its normed keys. -/
theorem keys_prompt (b : Fin 32) (l : Fin 256) (h : Fin 2) (k : Fin 128) :
    keys Z (table 0x3F800000#32 (lanes 0x3F800000#32 C)) (table 0x00000000#32 (lanes 0xBF800000#32 S)) (asRow g) (ix2 ⟨b * 256 + l, by omega⟩ ⟨h * 128 + k, by omega⟩)
      = QkReferenceIdeal.Rotary.promptNormed2 (QkReferenceIdeal.Rotary.prompt2 Z) g (ix4 b l h k) :=
  (keys_at _ _ _ _ _ h k).trans ((turned_prompt C S g _ b l k).trans
    ((congrArg (Rotary.normed · _ k) (funext fun j => (QkReferenceIdeal.Rotary.prompt2_at Z b l h j).symm)).trans (QkReferenceIdeal.Rotary.promptNormed2_at _ g b l h k).symm))

/-- The kernel's keys are the reference's. -/
theorem keys_eq : keys Z (table 0x3F800000#32 (lanes 0x3F800000#32 C)) (table 0x00000000#32 (lanes 0xBF800000#32 S)) (asRow g)
    = QkReferenceIdeal.Rotary.keys Z C S g := by
  funext i
  obtain ⟨q, h, k, rfl⟩ : ∃ (q : Fin 24576) (h : Fin 2) (k : Fin 128), i = ix2 q ⟨h * 128 + k, by omega⟩ :=
    ⟨i 0, ⟨(i 1 : ℕ) / 128, by idx_bounds; omega⟩, ⟨(i 1 : ℕ) % 128, by omega⟩, (eq_ix2 i).trans (congrArg (ix2 (i 0) ·) (Fin.ext (by simp only; omega)))⟩
  rcases split_rows q with ⟨b, l, rfl⟩ | ⟨b, l, rfl⟩
  · exact (keys_prompt Z C S g b l h k).trans (QkReferenceIdeal.Rotary.joined2_prompt _ _ b l h k).symm
  · refine (keys_at _ _ _ _ _ h k).trans ?_
    have hx : (fun j : Fin 128 => Z (ix2 ⟨8192 + b * 4096 + l, by omega⟩ ⟨1024 + (h * 128 + j), by omega⟩)) = fun j => QkReferenceIdeal.Rotary.sample2 Z (ix4 b l h j) :=
      funext fun j => (QkReferenceIdeal.Rotary.sample2_at Z b l h j).symm
    rcases Rotary.split_lane k with ⟨a, e, rfl⟩ | ⟨a, e, rfl⟩
    · refine (turned_sample_first C S g _ b l a e).trans (Eq.trans ?_ ((QkReferenceIdeal.Rotary.joined2_sample _ _ b l h _).trans (QkReferenceIdeal.Rotary.rotated2_first _ C S b l h a e)).symm)
      rw [hx]
      exact congrArg₂ (· - ·) (congrArg (· * _) (QkReferenceIdeal.Rotary.sampleNormed2_at _ g b l h _).symm) (congrArg (· * _) (QkReferenceIdeal.Rotary.sampleNormed2_at _ g b l h _).symm)
    · refine (turned_sample_second C S g _ b l a e).trans (Eq.trans ?_ ((QkReferenceIdeal.Rotary.joined2_sample _ _ b l h _).trans (QkReferenceIdeal.Rotary.rotated2_second _ C S b l h a e)).symm)
      rw [hx]
      exact congrArg₂ (· + ·) (congrArg (· * _) (QkReferenceIdeal.Rotary.sampleNormed2_at _ g b l h _).symm) (congrArg (· * _) (QkReferenceIdeal.Rotary.sampleNormed2_at _ g b l h _).symm)

/-- The prompt's keys, as the lines after the kernel lay them out. -/
def cached (K : FVec Ideal S24576x256 .f32) : FVec Ideal S32x1x2x256x128 .f32 :=
  shapeCast S32x1x2x256x128 (transpose S32x2x256x128 [0, 2, 1, 3] (shapeCast S32x256x2x128 (extractStridedSlice S8192x256 ![0, 0] K slices_S24576x256_S8192x256_0_0) shapeCasts_S8192x256_S32x256x2x128) transposes_S32x256x2x128_S32x2x256x128_0_2_1_3) shapeCasts_S32x2x256x128_S32x1x2x256x128

theorem cached_at (K : FVec Ideal S24576x256 .f32) (b : Fin 32) (z : Fin 1) (h : Fin 2) (l : Fin 256) (k : Fin 128) :
    cached K (ix5 b z h l k) = K (ix2 ⟨b * 256 + l, by omega⟩ ⟨h * 128 + k, by omega⟩) := by
  pointwise [cached]
  blk_ext

/-- The cached keys are the reference's. -/
theorem cached_eq : cached (keys Z (table 0x3F800000#32 (lanes 0x3F800000#32 C)) (table 0x00000000#32 (lanes 0xBF800000#32 S)) (asRow g))
    = QkReferenceIdeal.Rotary.cached (QkReferenceIdeal.Rotary.promptNormed2 (QkReferenceIdeal.Rotary.prompt2 Z) g) := by
  funext i
  obtain ⟨b, z, h, l, k, rfl⟩ : ∃ (b : Fin 32) (z : Fin 1) (h : Fin 2) (l : Fin 256) (k : Fin 128), i = ix5 b z h l k := ⟨i 0, i 1, i 2, i 3, i 4, eq_ix5 i⟩
  exact (cached_at _ b z h l k).trans ((keys_prompt Z C S g b l h k).trans (QkReferenceIdeal.Rotary.cached_at _ b z h l k).symm)

theorem tail_cached : Pipeline.afterTail₀ cfgs (dats m) 0 (V0 m) [hostOps1] c main_v24 = cached ((dats m 0 c).arrAt 7 (cfgs 0).N) := by
  unfold Pipeline.afterTail₀
  simp only [List.flatten_cons, List.flatten_nil, List.append_nil]
  after_results
  exact congrArg cached (Pipeline.Dat.withArrays_arrAt (dats m 0 c) sharedIn0 (V0 m c) (A_eq m c) 7)

/-- What the kernel leaves in its four results. -/
theorem run (ρ : Dev nD → PrngReg) :
    θ_run defs (onTc (τ := τ) (main (F := Ideal))) ⟨m, fun _ => 0, ρ⟩ fun r => ∀ c : Dev nD,
      r.2.mem ((c.tc : Thread nD τ).loc main_v20_0) = queries (V m c main_arg0) (V m c main_v8) (V m c main_v17) (V m c main_v18)
      ∧ r.2.mem ((c.tc : Thread nD τ).loc main_v20_1) = keys (V m c main_arg0) (V m c main_v8) (V m c main_v17) (V m c main_v19)
      ∧ r.2.mem ((c.tc : Thread nD τ).loc main_v20_2) = (show FVec Ideal S24576x256 .bf16 from keys (V m c main_arg0) (V m c main_v8) (V m c main_v17) (V m c main_v19))
      ∧ r.2.mem ((c.tc : Thread nD τ).loc main_v24) = cached (keys (V m c main_arg0) (V m c main_v8) (V m c main_v17) (V m c main_v19)) :=
  (θ_run defs _ _).mono (fun r h c => ⟨((h c).1 6).trans (final_queries m c), ((h c).1 7).trans (final_keys m c), ((h c).1 8).trans (final_rounded m c),
    ((h c).2 main_v24 (Pipeline.mem_restRefs_of main_v24 (by decide) (by decide))).trans ((tail_cached m c).trans (congrArg _ (final_keys m c)))⟩) (run_main m ρ)

end Cert.QkKernelIdeal.Rotary

namespace Cert.Proof.Rotary

open Idealize.ShloMosaic Idealize.SL.Sem Idealize.ShloMosaic.TcCoe

theorem frame_reference : Cert.quiescent_QkReferenceIdeal := fun m ρ _ =>
  (θ_run Cert.QkReferenceIdeal.defs _ _).mono (fun r h => ⟨fun c => (h c).2.2.2.2, sem_eq_zero_of_no_sems (by decide) r.2⟩)
    (Cert.QkReferenceIdeal.Value.run (F := Ideal) m ρ)

open Cert.QkKernelIdeal.Rotary in
theorem algebraic : Cert.algebraic_QkKernelIdeal_QkReferenceIdeal := fun m g m' g' _ hm =>
  ⟨_, _, _, _, (θ_run Cert.QkKernelIdeal.defs _ _).mono (fun r h c => ⟨(h.1 c).1, (h.1 c).2.1, (h.1 c).2.2.1, (h.1 c).2.2.2, h.2 c⟩)
      (θ_run_and (run m g) (Cert.QkKernelIdeal.Gen.unchanged m g)),
    (θ_run Cert.QkReferenceIdeal.defs _ _).mono (fun r h c =>
      ⟨(h c).1.trans (by
        rw [Cert.QkReferenceIdeal.Rotary.result_queries, given_cosines, given_sines, given_query_scales, Cert.QkKernelIdeal.Gen.V_main_arg0, queries_eq,
          ← (hm c).1, ← (hm c).2.1, ← (hm c).2.2.1, ← (hm c).2.2.2.1]),
      (h c).2.1.trans (by
        rw [Cert.QkReferenceIdeal.Rotary.result_keys, given_cosines, given_sines, given_key_scales, Cert.QkKernelIdeal.Gen.V_main_arg0, keys_eq,
          ← (hm c).1, ← (hm c).2.1, ← (hm c).2.2.1, ← (hm c).2.2.2.2]),
      (h c).2.2.1.trans (by
        rw [Cert.QkReferenceIdeal.Rotary.result_rounded, given_cosines, given_sines, given_key_scales, Cert.QkKernelIdeal.Gen.V_main_arg0, keys_eq,
          ← (hm c).1, ← (hm c).2.1, ← (hm c).2.2.1, ← (hm c).2.2.2.2]; rfl),
      (h c).2.2.2.1.trans (by
        rw [given_cosines, given_sines, given_key_scales, Cert.QkKernelIdeal.Gen.V_main_arg0, cached_eq,
          ← (hm c).1, ← (hm c).2.2.2.2]; rfl), (h c).2.2.2.2⟩)
      (Cert.QkReferenceIdeal.Value.run (F := Ideal) m' g')⟩

end Cert.Proof.Rotary

end
-- ==== Proof.Combine.Run.lean ====
/- The combine's body on any staging buffers: it reads its seven blocks, computes one block of rows and stores it whole
   into the prompt's output buffer (the first 32 points) or into the sample's (the others), and leaves the other
   output's buffer as it was. -/
module

public import proofs.«01_k».proof.Proof.Gen.CombineKernelIdeal.Frame
public import proofs.«01_k».proof.Proof.Gen.CombineKernelIdeal.Skeleton
public import Idealize.ShloMosaic.Lib.Exec

@[expose] public section

set_option maxRecDepth 16384

noncomputable section

namespace Cert.CombineKernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.CombineKernelIdeal.Gen

variable {F : FTy → Type} [FloatOps F]

local notation "𝕄" => MT nD τ sig Unit (Elt F) ℕ (UR sig nD τ) ℕ

set_option maxHeartbeats 1000000 in
/-- At a point of the prompt: the pieces the body stores into the prompt's buffer, and its run: the inputs' blocks
    and the sample's buffer stay as they were. -/
def runPrompt (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x128 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S256x2048 .f32) (harg8 : arg8.IsWhole) (arg9 : Memref sig .tc .vmem S256x2048 .f32) (harg9 : arg9.IsWhole)
    (h1 : k0_cond1 i = 1#1) (h2 : ¬k0_cond2 i = 1#1) (x0 : Vec F S256x2048 .f32) (x1 : Vec F S256x2048 .f32) (x2 : Vec F S256x2048 .f32) (x3 : Vec F S256x128 .f32) (x4 : Vec F S1x1x2048 .f32) (x5 : Vec F S1x2048 .f32) (x6 : Vec F S1x2048 .f32) (z : Vec F S256x2048 .f32) :
    { L : List (View.Piece (Elt F) S256x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare z
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L) ∗ owns (c : Thread nD τ) arg9 fullShare z) -∗ K ⟨⟩))
          ⊢ wp frame (wpE (defs₀ (F := F)) Variants.none c none) E (cc0_moe_combine_ln i arg1 harg1 arg2 harg2 arg3 harg3 arg4 harg4 arg5 harg5 arg6 harg6 arg7 harg7 arg8 harg8 arg9 harg9) K } := by
  refine ⟨?_, fun E K => ?run⟩
  case run =>
    simp only [cc0_moe_combine_ln_eq_skeleton]; unfold cc0_moe_combine_ln_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%e8, %g8, -, H7⟩, ⟨%g9, %hg9, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg9.eq_unread hg9
    sl_exec (disch := first | sl_exact h1 | sl_exact h2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; isplitr; · ipureintro; exact harg9.read_unread _
    iexact H8

set_option maxHeartbeats 1000000 in
/-- At a point of the sample: the pieces stored into the sample's buffer; the prompt's stays as it was. -/
def runSample (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x128 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S256x2048 .f32) (harg8 : arg8.IsWhole) (arg9 : Memref sig .tc .vmem S256x2048 .f32) (harg9 : arg9.IsWhole)
    (h1 : ¬k0_cond1 i = 1#1) (h2 : k0_cond2 i = 1#1) (x0 : Vec F S256x2048 .f32) (x1 : Vec F S256x2048 .f32) (x2 : Vec F S256x2048 .f32) (x3 : Vec F S256x128 .f32) (x4 : Vec F S1x1x2048 .f32) (x5 : Vec F S1x2048 .f32) (x6 : Vec F S1x2048 .f32) (z : Vec F S256x2048 .f32) :
    { L : List (View.Piece (Elt F) S256x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare z ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare z ∗ (∃ f, arg9.view.loc (c : Thread nD τ) ↦[arg9.view.set]{fullShare} arg9.view.writes (Elt F) f L)) -∗ K ⟨⟩))
          ⊢ wp frame (wpE (defs₀ (F := F)) Variants.none c none) E (cc0_moe_combine_ln i arg1 harg1 arg2 harg2 arg3 harg3 arg4 harg4 arg5 harg5 arg6 harg6 arg7 harg7 arg8 harg8 arg9 harg9) K } := by
  refine ⟨?_, fun E K => ?run⟩
  case run =>
    simp only [cc0_moe_combine_ln_eq_skeleton]; unfold cc0_moe_combine_ln_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%g8, %hg8, H7⟩, ⟨%e9, %g9, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg8.eq_unread hg8
    sl_exec (disch := first | sl_exact h1 | sl_exact h2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact H8

end Cert.CombineKernelIdeal.Hand

end
-- ==== Proof.Combine.Frame.lean ====
/- The combine's run: what each of the 96 points leaves in the two output buffers, the body's triple there, and the
   program's run and frame.

   The prompt's output window is stored at the first 32 points only; its buffer then keeps the last prompt block to
   the end of the grid, where it is written back. The sample's output window is first stored at point 32. -/
module

public import proofs.«01_k».proof.Proof.Combine.Run
public import Idealize.ShloMosaic.Lib.Claim
public import Idealize.ShloMosaic.Lib.VecWindow
public import Idealize.ShloMosaic.Lib.Pipeline.TableIdle

@[expose] public section

set_option maxRecDepth 16384

noncomputable section

namespace Cert.CombineKernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.CombineKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One block of rows -/

/-- The block of rows that the body computes from its seven blocks. -/
def rows (x0 : Vec F S256x2048 .f32) (x1 : Vec F S256x2048 .f32) (x2 : Vec F S256x2048 .f32) (x3 : Vec F S256x128 .f32) (x4 : Vec F S1x1x2048 .f32) (x5 : Vec F S1x2048 .f32) (x6 : Vec F S1x2048 .f32) : Vec F S256x2048 .f32 :=
  k0_pay1 (k0_pay2 x5) (k0_pay3 x6) (k0_pay4 x3 x0 x1 x2 x4)

/-- A load of a whole buffer held at `X` reads `X`. -/
theorem load_whole {s : Shape} {mr : Memref sig .tc .vmem s .f32} (h : mr.IsWhole) (X : Vec F s .f32) {off : Fin s.rank → ℕ}
    (inb : ∀ a, off a + s.size a ≤ s.size a) :
    View.readAt (Elt F) mr.view (Rect.unit off s.size inb).toLoadRect (h.unread X) = X :=
  (View.readAt_full mr.view _ inb).trans (h.read_unread X)

/-- The stores of `runPrompt` leave the block of rows, whatever the buffer held. -/
theorem runPrompt_read (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x128 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S256x2048 .f32) (harg8 : arg8.IsWhole) (arg9 : Memref sig .tc .vmem S256x2048 .f32) (harg9 : arg9.IsWhole)
    (h1 : k0_cond1 i = 1#1) (h2 : ¬k0_cond2 i = 1#1) (x0 : Vec F S256x2048 .f32) (x1 : Vec F S256x2048 .f32) (x2 : Vec F S256x2048 .f32) (x3 : Vec F S256x128 .f32) (x4 : Vec F S1x1x2048 .f32) (x5 : Vec F S1x2048 .f32) (x6 : Vec F S1x2048 .f32) (z : Vec F S256x2048 .f32) (f) :
    arg8.view.read (Elt F) (arg8.view.writes (Elt F) f ((runPrompt c i arg1 harg1 arg2 harg2 arg3 harg3 arg4 harg4 arg5 harg5 arg6 harg6 arg7 harg7 arg8 harg8 arg9 harg9 h1 h2 x0 x1 x2 x3 x4 x5 x6 z).1))
      = rows x0 x1 x2 x3 x4 x5 x6 := by
  unfold runPrompt rows
  dsimp only
  refine (View.read_writes_full arg8.view f _ _ []).trans ?_
  exact congr (congr (congrArg k0_pay1 (congrArg k0_pay2 (load_whole harg6 x5 _))) (congrArg k0_pay3 (load_whole harg7 x6 _)))
    (congr (congr (congr (congr (congrArg k0_pay4 (load_whole harg4 x3 _)) (load_whole harg1 x0 _)) (load_whole harg2 x1 _))
      (load_whole harg3 x2 _)) (load_whole harg5 x4 _))

/-- The stores of `runSample` leave the block of rows, whatever the buffer held. -/
theorem runSample_read (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x128 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S256x2048 .f32) (harg8 : arg8.IsWhole) (arg9 : Memref sig .tc .vmem S256x2048 .f32) (harg9 : arg9.IsWhole)
    (h1 : ¬k0_cond1 i = 1#1) (h2 : k0_cond2 i = 1#1) (x0 : Vec F S256x2048 .f32) (x1 : Vec F S256x2048 .f32) (x2 : Vec F S256x2048 .f32) (x3 : Vec F S256x128 .f32) (x4 : Vec F S1x1x2048 .f32) (x5 : Vec F S1x2048 .f32) (x6 : Vec F S1x2048 .f32) (z : Vec F S256x2048 .f32) (f) :
    arg9.view.read (Elt F) (arg9.view.writes (Elt F) f ((runSample c i arg1 harg1 arg2 harg2 arg3 harg3 arg4 harg4 arg5 harg5 arg6 harg6 arg7 harg7 arg8 harg8 arg9 harg9 h1 h2 x0 x1 x2 x3 x4 x5 x6 z).1))
      = rows x0 x1 x2 x3 x4 x5 x6 := by
  unfold runSample rows
  dsimp only
  refine (View.read_writes_full arg9.view f _ _ []).trans ?_
  exact congr (congr (congrArg k0_pay1 (congrArg k0_pay2 (load_whole harg6 x5 _))) (congrArg k0_pay3 (load_whole harg7 x6 _)))
    (congr (congr (congr (congr (congrArg k0_pay4 (load_whole harg4 x3 _)) (load_whole harg1 x0 _)) (load_whole harg2 x1 _))
      (load_whole harg3 x2 _)) (load_whole harg5 x4 _))

/-! ## What the output buffers hold after each point -/

/-- The block of rows computed at point `t`. -/
def rowsAt (c : Dev nD) (t : Fin cfg0.N) : Vec F S256x2048 .f32 :=
  rows (iblk m c 0 t) (iblk m c 1 t) (iblk m c 2 t) (iblk m c 3 t) (iblk m c 4 t) (iblk m c 5 t) (iblk m c 6 t)

/-- The prompt's point whose block the prompt's buffer holds after point `t`: `t` itself, or the last of them. -/
def lastPrompt (t : Fin cfg0.N) : Fin cfg0.N := ⟨min t.val 31, Nat.lt_of_le_of_lt (Nat.min_le_left _ _) t.isLt⟩

/-- The proof data: the arrays as the region finds them; each input's buffer at its block; the prompt's buffer at its
    last stored block, the sample's at the point's own. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => rowsAt m c (lastPrompt t)
    | ⟨8, _⟩ => rowsAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = rowsAt m c (lastPrompt t) := by dsimp only [dats]
theorem after_8 (c : Dev nD) (t : Fin cfg0.N) : (dats m 0 c).after 8 t = rowsAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## The two cases of a point -/

/-- The first 32 points store the prompt's window and leave the sample's, which is not written back there. -/
theorem at_prompt : ∀ t : Fin cfg0.N, t.val < 32 →
    k0_cond1 (grid0.coords t) = 1#1 ∧ ¬k0_cond2 (grid0.coords t) = 1#1
      ∧ cfg0.idle 7 (cfg0.grid.coords t) = false ∧ cfg0.idle 8 (cfg0.grid.coords t) = true
      ∧ (cfg0.win 8).flush t = false := by decide +kernel

/-- The other points store the sample's window and leave the prompt's, which is written back at the last point only. -/
theorem at_sample : ∀ t : Fin cfg0.N, 32 ≤ t.val →
    ¬k0_cond1 (grid0.coords t) = 1#1 ∧ k0_cond2 (grid0.coords t) = 1#1
      ∧ cfg0.idle 7 (cfg0.grid.coords t) = true ∧ cfg0.idle 8 (cfg0.grid.coords t) = false
      ∧ cfg0.fresh 7 t.val = false := by decide +kernel

/-- At a point of the sample the prompt's buffer holds the last prompt block. -/
theorem before_7 (c : Dev nD) (t : Fin cfg0.N) (h : 32 ≤ t.val) (d) :
    (dats m 0 c).before 7 t d = rowsAt m c (lastPrompt t) := by
  refine ((dats m 0 c).before_out_traj 7 rfl (fun _ _ => rfl) ?_ t.val t rfl d).trans ?_
  · intro t ht hi _
    have h32 : 32 ≤ t.val := by
      by_contra hlt
      rw [(at_prompt t (by omega)).2.2.1] at hi
      exact Bool.false_ne_true hi
    rw [after_7, after_7]
    exact congrArg (rowsAt m c) (Fin.ext (by simp only [lastPrompt]; omega))
  · rw [(at_sample t h).2.2.2.2, if_neg Bool.false_ne_true, after_7]
    exact congrArg (rowsAt m c) (Fin.ext (by simp only [lastPrompt]; omega))

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (dats m 0 c).leavesExact 7 t
    ∗ (dats m 0 c).leavesExact 8 t)

set_option maxHeartbeats 800000 in
/-- The body at a point of the prompt. -/
theorem body_prompt (c : Dev nD) (t : Fin cfg0.N) (ht : t.val < 32) :
    bodyPre m c t ⊢ wp frame (wpE (defs₀ (F := F)) Variants.none c none) Set.univ (bodyAt0 t) (fun _ => bodyPost m c t) := by
  obtain ⟨h1, h2, h7, h8, hf⟩ := at_prompt t ht
  have e7 : (dats m 0 c).leavesExact 7 t = owns (c : Thread nD τ) (st0_7 t) fullShare ((dats m 0 c).after 7 t) := by
    unfold Dat.leavesExact; rw [h7]
  have e8 : (dats m 0 c).leavesExact 8 t = iprop(∃ d, owns (c : Thread nD τ) (st0_8 t) fullShare ((dats m 0 c).before 8 t d)) :=
    (dats m 0 c).leavesExact_idle 8 t h8 hf
  have r7 : rowsAt m c (lastPrompt t) = rowsAt m c t :=
    congrArg (rowsAt m c) (Fin.ext (by simp only [lastPrompt]; omega))
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, e7, e8, after_7, r7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runPrompt c (grid0.coords t) _ _ _ _ _ _ _ _ _ _ _ _ _ _ _ _ _ _ h1 h2 (iblk m c 0 t) (iblk m c 1 t) (iblk m c 2 t) (iblk m c 3 t) (iblk m c 4 t) (iblk m c 5 t) (iblk m c 6 t) ((dats m 0 c).before 8 t d8)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  iintro ⟨H0, H1, H2, H3, H4, H5, H6, ⟨%g7, H7⟩, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact runPrompt_read c (grid0.coords t) _ _ _ _ _ _ _ _ _ _ _ _ _ _ _ _ _ _ h1 h2 _ _ _ _ _ _ _ _ _
  iexists d8; iexact H8

set_option maxHeartbeats 800000 in
/-- The body at a point of the sample. -/
theorem body_sample (c : Dev nD) (t : Fin cfg0.N) (ht : 32 ≤ t.val) :
    bodyPre m c t ⊢ wp frame (wpE (defs₀ (F := F)) Variants.none c none) Set.univ (bodyAt0 t) (fun _ => bodyPost m c t) := by
  obtain ⟨h1, h2, h7, h8, hf⟩ := at_sample t ht
  have e8 : (dats m 0 c).leavesExact 8 t = owns (c : Thread nD τ) (st0_8 t) fullShare ((dats m 0 c).after 8 t) := by
    unfold Dat.leavesExact; rw [h8]
  have e7 : owns (c : Thread nD τ) (st0_7 t) fullShare (rowsAt m c (lastPrompt t)) ⊢ ((dats m 0 c).leavesExact 7 t : sProp 𝕄) := by
    unfold Dat.leavesExact; rw [h7]
    cases hb : (cfg0.win 7).flush t
    · simp only [before_7 m c t ht]
      iintro H; iexists (rowsAt m c t); iexact H
    · simp only [after_7]
      iintro H; iexact H
  unfold bodyPre bodyPost bodyAt0
  simp only [before_0, before_1, before_2, before_3, before_4, before_5, before_6, before_7 m c t ht]
  rw [show (dats m 0 c).Φ t.succ = (dats m 0 c).Φ t.castSucc from rfl,
    show (dats m 0 c).owesAt () t.succ = (dats m 0 c).owesAt () t.castSucc from rfl,
    after_0, after_1, after_2, after_3, after_4, after_5, after_6, e8, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runSample c (grid0.coords t) _ _ _ _ _ _ _ _ _ _ _ _ _ _ _ _ _ _ h1 h2 (iblk m c 0 t) (iblk m c 1 t) (iblk m c 2 t) (iblk m c 3 t) (iblk m c 4 t) (iblk m c 5 t) (iblk m c 6 t) (rowsAt m c (lastPrompt t))).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, ⟨%g8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply e7; iexact H7
  unfold owns; iexists _; isplitr
  swap; · iexact H8
  ipureintro; exact runSample_read c (grid0.coords t) _ _ _ _ _ _ _ _ _ _ _ _ _ _ _ _ _ _ h1 h2 _ _ _ _ _ _ _ _ _

/-- The body at any point. -/
theorem body_at (c : Dev nD) (t : Fin cfg0.N) :
    bodyPre m c t ⊢ wp frame (wpE (defs₀ (F := F)) Variants.none c none) Set.univ (bodyAt0 t) (fun _ => bodyPost m c t) := by
  rcases Nat.lt_or_ge t.val 32 with h | h
  · exact body_prompt m c t h
  · exact body_sample m c t h

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (body_at m c t) rfl .rfl fun _ => .rfl

/-! ## The run and the frame -/

set_option backward.isDefEq.respectTransparency.types false in
set_option maxHeartbeats 800000 in
/-- The program's run: the arrays at what the proof data give them, the later lines' results, the counters at zero. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- The argument arrays end as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the arguments unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_quiescent m ρ))

end Cert.CombineKernelIdeal.Hand

end
-- ==== Proof.Combine.Printed.lean ====
/- The combine's frame for the program as printed: its text is the idealized program's, so the one run serves both. -/
module

public import proofs.«01_k».proof.Proof.Combine.Frame
public import proofs.«01_k».proof.Proof.Gen.CombineKernel.Frame

@[expose] public section

set_option maxRecDepth 65536

noncomputable section

namespace Cert.Combine

open Idealize.ShloMosaic Idealize.ShloMosaic.TcCoe Idealize.SL.Sem

variable {F : FTy → Type} [FloatOps F]

/-- The two programs' body tables, at the one label. -/
theorem bodies_eq : CombineKernelIdeal.defs₀ (F := F) = CombineKernel.defs₀ (F := F) := by
  unfold CombineKernelIdeal.defs₀ CombineKernel.defs₀
  refine congrArg Defs.onTc (funext fun l => funext fun a => ?_)
  match l, a with
  | 0, (t, s) => rfl

theorem tables_eq : CombineKernelIdeal.defs (F := F) = CombineKernel.defs (F := F) :=
  congrArg (Pipeline.defs CombineKernelIdeal.pcfgs) bodies_eq

open Cert.CombineKernel in
/-- The frame of the program as printed. -/
theorem frame_printed (m : (ℓ : Loc nD τ sig) → Buf (Elt F) ℓ) (ρ : Dev nD → PrngReg) :
    θ_run defs (onTc (τ := τ) (main (F := F))) ⟨m, fun _ => 0, ρ⟩ (fun r => (∀ c : Dev CombineKernel.nD,
      r.2.mem ((c.tc : Thread CombineKernel.nD CombineKernel.τ).loc CombineKernel.main_arg0) = m ((c.tc : Thread CombineKernel.nD CombineKernel.τ).loc CombineKernel.main_arg0)
      ∧ r.2.mem ((c.tc : Thread CombineKernel.nD CombineKernel.τ).loc CombineKernel.main_arg1) = m ((c.tc : Thread CombineKernel.nD CombineKernel.τ).loc CombineKernel.main_arg1)
      ∧ r.2.mem ((c.tc : Thread CombineKernel.nD CombineKernel.τ).loc CombineKernel.main_arg2) = m ((c.tc : Thread CombineKernel.nD CombineKernel.τ).loc CombineKernel.main_arg2)
      ∧ r.2.mem ((c.tc : Thread CombineKernel.nD CombineKernel.τ).loc CombineKernel.main_arg3) = m ((c.tc : Thread CombineKernel.nD CombineKernel.τ).loc CombineKernel.main_arg3)
      ∧ r.2.mem ((c.tc : Thread CombineKernel.nD CombineKernel.τ).loc CombineKernel.main_arg4) = m ((c.tc : Thread CombineKernel.nD CombineKernel.τ).loc CombineKernel.main_arg4)
      ∧ r.2.mem ((c.tc : Thread CombineKernel.nD CombineKernel.τ).loc CombineKernel.main_arg5) = m ((c.tc : Thread CombineKernel.nD CombineKernel.τ).loc CombineKernel.main_arg5))
      ∧ r.2.sem = fun _ => 0) := by
  rw [← tables_eq]
  exact CombineKernelIdeal.Hand.frame_run m ρ

end Cert.Combine

end
-- ==== Proof.Combine.Block.lean ====
/- The combine: what one grid point computes, and the two arrays the kernel leaves. -/
module

public import proofs.«01_k».proof.Proof.Combine.Frame
public import proofs.«01_k».proof.Proof.LayerNorm
public import Idealize.ShloMosaic.Lib.Pipeline.ValueKit
public import Idealize.ShloMosaic.Lib.Pointwise
public import Idealize.ShloMosaic.Lib.Tactic

@[expose] public section

set_option maxRecDepth 16384

noncomputable section

namespace Cert.CombineKernelIdeal.Combine

open Cert.CombineKernelIdeal Cert.CombineKernelIdeal.Gen Cert.CombineKernelIdeal.Hand Idealize.ShloMosaic Idealize.ShloMosaic.TcCoe

/-- A point's residual rows, scaled, plus the two experts' gated rows. -/
def mixed (v0 : FVec Ideal S256x128 .f32) (v2 v6 v10 : FVec Ideal S256x2048 .f32) (v13 : FVec Ideal S1x1x2048 .f32) : FVec Ideal S256x2048 .f32 :=
  addf (mulf (broadcast S256x2048 (Scalar.ofBits .f32 0x3FB504F3#32)) v10)
    (mulf (broadcastTo S256x2048 (shapeCast S1x2048 v13 shapeCasts_S1x1x2048_S1x2048) broadcasts_S1x2048_S256x2048)
      (addf (mulf (broadcastTo S256x2048 (extractStridedSlice S256x1 ![0, 0] v0 slices_S256x128_o0_0_S256x1) broadcasts_S256x1_S256x2048) v2)
        (mulf (broadcastTo S256x2048 (extractStridedSlice S256x1 ![0, 1] v0 slices_S256x128_o0_1_S256x1) broadcasts_S256x1_S256x2048) v6)))

theorem mixed_at (v0 : FVec Ideal S256x128 .f32) (v2 v6 v10 : FVec Ideal S256x2048 .f32) (v13 : FVec Ideal S1x1x2048 .f32) (r : Fin 256) (k : Fin 2048) :
    mixed v0 v2 v6 v10 v13 (ix2 r k)
      = LayerNorm.residual (v10 (ix2 r k)) (v13 (ix3 0 0 k)) (v0 (ix2 r 0) * v2 (ix2 r k) + v0 (ix2 r 1) * v6 (ix2 r k)) := by
  pointwise [mixed]
  rfl

/-- A block's rows less their means. -/
def centred (z : FVec Ideal S256x2048 .f32) : FVec Ideal S256x2048 .f32 :=
  subf z (broadcastTo S256x2048 (divf (shapeCast S256x1 (multiReduction .add [1] S256 z 0x00000000#32 reduces_S256x2048_S256 (.inl rfl) rfl) shapeCasts_S256_S256x1) (broadcast S256x1 (Scalar.ofBits .f32 0x45000000#32))) broadcasts_S256x1_S256x2048)

theorem centred_at (z : FVec Ideal S256x2048 .f32) (r : Fin 256) (k : Fin 2048) :
    centred z (ix2 r k) = LayerNorm.centred (fun k => z (ix2 r k)) k := by
  pointwise [centred]
  rfl

/-- Rows less their means, over the roots of their variances. -/
def over (d : FVec Ideal S256x2048 .f32) : FVec Ideal S256x2048 .f32 :=
  mulf d (broadcastTo S256x2048 (rsqrt (addf (divf (shapeCast S256x1 (multiReduction .add [1] S256 (mulf d d) 0x00000000#32 reduces_S256x2048_S256 (.inl rfl) rfl) shapeCasts_S256_S256x1) (broadcast S256x1 (Scalar.ofBits .f32 0x45000000#32))) (broadcast S256x1 (Scalar.ofBits .f32 0x358637BD#32)))) broadcasts_S256x1_S256x2048)

theorem over_at (d : FVec Ideal S256x2048 .f32) (r : Fin 256) (k : Fin 2048) :
    over d (ix2 r k) = d (ix2 r k) * Ideal.rsqrt (LayerNorm.mean (fun k => d (ix2 r k) * d (ix2 r k)) + Ideal.ofBits .f32 0x358637BD#32) := by
  pointwise [over]
  rfl

theorem pay_eq (v0 : FVec Ideal S256x128 .f32) (v2 v6 v10 : FVec Ideal S256x2048 .f32) (v13 : FVec Ideal S1x1x2048 .f32) :
    k0_pay4 (F := Ideal) v0 v2 v6 v10 v13 = over (centred (mixed v0 v2 v6 v10 v13)) := rfl

/-- A block of rows at a place, from any blocks. -/
theorem rows_at (x0 x1 x2 : FVec Ideal S256x2048 .f32) (x3 : FVec Ideal S256x128 .f32) (x4 : FVec Ideal S1x1x2048 .f32) (x5 x6 : FVec Ideal S1x2048 .f32)
    (r : Fin 256) (k : Fin 2048) :
    rows (F := Ideal) x0 x1 x2 x3 x4 x5 x6 (ix2 r k)
      = LayerNorm.layerNorm (fun j => LayerNorm.residual (x2 (ix2 r j)) (x4 (ix3 0 0 j)) (x3 (ix2 r 0) * x0 (ix2 r j) + x3 (ix2 r 1) * x1 (ix2 r j)))
          (fun j => x5 (ix2 0 j)) (fun j => x6 (ix2 0 j)) k := by
  have hz : (fun j => mixed x3 x0 x1 x2 x4 (ix2 r j))
      = fun j => LayerNorm.residual (x2 (ix2 r j)) (x4 (ix3 0 0 j)) (x3 (ix2 r 0) * x0 (ix2 r j) + x3 (ix2 r 1) * x1 (ix2 r j)) :=
    funext fun j => mixed_at x3 x0 x1 x2 x4 r j
  have hc : (fun j => centred (mixed x3 x0 x1 x2 x4) (ix2 r j)) = LayerNorm.centred (fun j => mixed x3 x0 x1 x2 x4 (ix2 r j)) :=
    funext fun j => centred_at _ r j
  have hn : over (centred (mixed x3 x0 x1 x2 x4)) (ix2 r k) = LayerNorm.normed (fun j => mixed x3 x0 x1 x2 x4 (ix2 r j)) k := by
    refine (over_at _ r k).trans ?_
    unfold LayerNorm.normed
    exact congrArg₂ (· * ·) (congrFun hc k) (congrArg (fun f => Ideal.rsqrt (LayerNorm.mean f + _)) (funext fun j => congrArg₂ (· * ·) (congrFun hc j) (congrFun hc j)))
  rw [← hz]
  unfold rows LayerNorm.layerNorm
  rw [pay_eq]
  refine Eq.trans ?_ (congrArg₂ (· + ·) (congrArg (· * _) hn) rfl)
  generalize over (centred (mixed x3 x0 x1 x2 x4)) = n
  pointwise [k0_pay1, k0_pay2, k0_pay3]

variable (m : (ℓ : Loc nD τ sig) → Buf (Elt Ideal) ℓ)

/-- The blocks' places in the arrays. -/
theorem idx : ∀ t : Fin cfg0.N,
    win0_0.index t = ![t.val, 0] ∧ win0_1.index t = ![96 + t.val, 0] ∧ win0_2.index t = ![t.val, 0] ∧ win0_3.index t = ![t.val, 0]
      ∧ win0_4.index t = ![(t.val / 16 - 1) * 6 + 5, 0, 0] ∧ win0_5.index t = ![0, 0] ∧ win0_6.index t = ![0, 0]
      ∧ win0_7.index t = ![(lastPrompt t).val, 0] ∧ win0_8.index t = ![t.val - 32, 0] :=
  (by decide +kernel : ∀ t : Fin grid0.N, _)

/-- The layer's last row `q`, from the arrays the kernel is given. -/
def last (Y : FVec Ideal S49408x2048 .f32) (X : FVec Ideal S24576x2048 .f32) (G : FVec Ideal S24576x128 .f32) (M : FVec Ideal S48x1x2048 .f32)
    (g b : FVec Ideal S1x2048 .f32) (q : Fin 24576) (k : Fin 2048) : EReal :=
  LayerNorm.layerNorm (fun j => LayerNorm.residual (X (ix2 q j)) (M (ix3 ⟨(q.val / 4096 - 1) * 6 + 5, by omega⟩ 0 j))
      (G (ix2 q 0) * Y (ix2 ⟨q.val, by omega⟩ j) + G (ix2 q 1) * Y (ix2 ⟨24576 + q.val, by omega⟩ j)))
    (fun j => g (ix2 0 j)) (fun j => b (ix2 0 j)) k

/-- The same, read off the region's arrays. -/
abbrev lastOf (c : Dev nD) : Fin 24576 → Fin 2048 → EReal :=
  last (V m c main_arg0) (V m c main_arg1) (V m c main_arg2) (V m c main_v0) (V m c main_v1) (V m c main_v2)

/-- A point's block of rows, from the arrays. -/
theorem point_at (c : Dev nD) (t : Fin cfg0.N) (r : Fin 256) (k : Fin 2048) (q : Fin 24576) (hq : q.val = t.val * 256 + r) :
    (show FVec Ideal S256x2048 .f32 from rowsAt m c t) (ix2 r k) = lastOf m c q k := by
  refine (rows_at _ _ _ _ _ _ _ r k).trans ?_
  unfold lastOf last
  have ht : t.val < 96 := t.isLt
  refine congr (congr (congr (congrArg LayerNorm.layerNorm (funext fun j => ?_)) (funext fun j => ?_)) (funext fun j => ?_)) rfl
  · refine congr (congr (congrArg LayerNorm.residual ?_) ?_) (congrArg₂ (· + ·) (congrArg₂ (· * ·) ?_ ?_) (congrArg₂ (· * ·) ?_ ?_))
    all_goals blk_ext [iblk, idx t]
  all_goals blk_ext [iblk, idx t]

/-- The prompts' rows. -/
def prompts (L : Fin 24576 → Fin 2048 → EReal) : FVec Ideal S8192x2048 .f32 := fun i => L ⟨(i 0).val, by idx_bounds; omega⟩ (i 1)

/-- The samples' rows. -/
def samples (L : Fin 24576 → Fin 2048 → EReal) : FVec Ideal S16384x2048 .f32 := fun i => L ⟨8192 + (i 0).val, by idx_bounds; omega⟩ (i 1)

/-- The samples' block leaves its window only at the samples' points. -/
theorem flushed : ∀ t : Fin cfg0.N, (cfg0.win 8).flush t = true → 32 ≤ t.val :=
  (by decide +kernel : ∀ t : Fin grid0.N, win0_8.flush t = true → 32 ≤ t.val)

theorem prompt_block (c : Dev nD) (t : Fin cfg0.N) (y : S256x2048.Idx) :
    (show FVec Ideal S256x2048 .f32 from rowsAt m c (lastPrompt t)) y = prompts (lastOf m c) (((cfg0.win 7).blk t).view.emb y) := by
  obtain ⟨r, k, rfl⟩ : ∃ (r : Fin 256) (k : Fin 2048), y = ix2 r k := ⟨y 0, y 1, eq_ix2 y⟩
  refine (point_at m c (lastPrompt t) r k ⟨(lastPrompt t).val * 256 + r, by have := (lastPrompt t).isLt; simp only [lastPrompt]; omega⟩ rfl).trans ?_
  unfold prompts
  refine congrArg₂ (lastOf m c) (Fin.ext ?_) (Fin.ext ?_)
  · blk_simp [idx t]
  · blk_simp [idx t]

theorem sample_block (c : Dev nD) (t : Fin cfg0.N) (ht : 32 ≤ t.val) (y : S256x2048.Idx) :
    (show FVec Ideal S256x2048 .f32 from rowsAt m c t) y = samples (lastOf m c) (((cfg0.win 8).blk t).view.emb y) := by
  obtain ⟨r, k, rfl⟩ : ∃ (r : Fin 256) (k : Fin 2048), y = ix2 r k := ⟨y 0, y 1, eq_ix2 y⟩
  have hN : t.val < 96 := t.isLt
  refine (point_at m c t r k ⟨t.val * 256 + r, by omega⟩ rfl).trans ?_
  unfold samples
  refine congrArg₂ (lastOf m c) (Fin.ext ?_) (Fin.ext ?_)
  · blk_simp [idx t]
    simp only
    omega
  · blk_simp [idx t]

/-- The prompts' rows after the run. -/
theorem final_prompts (c : Dev nD) : (dats m 0 c).arrAt 7 (cfgs 0).N = prompts (lastOf m c) := by
  refine (dats m 0 c).arrAt_eq_of_covers 7 _ (by decide +kernel) fun t _ y => ?_
  blk_simp
  rw [after_7]
  exact prompt_block m c t y

/-- The samples' rows after the run. -/
theorem final_samples (c : Dev nD) : (dats m 0 c).arrAt 8 (cfgs 0).N = samples (lastOf m c) := by
  refine (dats m 0 c).arrAt_eq_of_covers 8 _ (by decide +kernel) fun t ht y => ?_
  blk_simp
  rw [after_8]
  exact sample_block m c t (flushed t ht) y

end Cert.CombineKernelIdeal.Combine

end
-- ==== Proof.Combine.Claims.lean ====
/- The combine's claims: the kernel's two results are the reference's. -/
module

public import proofs.«01_k».proof.Defs
public import proofs.«01_k».proof.Proof.Combine.Block
public import proofs.«01_k».proof.Proof.Combine.Reference
public import Idealize.ShloMosaic.Adequacy
public import Idealize.ShloMosaic.Lib.Claim

@[expose] public section

set_option maxRecDepth 16384

noncomputable section

namespace Cert.CombineKernelIdeal.Combine

open Cert.CombineKernelIdeal Cert.CombineKernelIdeal.Gen Cert.CombineKernelIdeal.Hand Idealize.ShloMosaic Idealize.ShloMosaic.TcCoe

variable (m : (ℓ : Loc nD τ sig) → Buf (Elt Ideal) ℓ) (c : Dev nD)

/-- The modulation's rows as the kernel is given them. -/
def parts (M : FVec Ideal S8x12288 .f32) : FVec Ideal S48x1x2048 .f32 := shapeCast S48x1x2048 M shapeCasts_S8x12288_S48x1x2048

/-- A vector as a row. -/
def rowOf (g : FVec Ideal S2048 .f32) : FVec Ideal S1x2048 .f32 := shapeCast S1x2048 g shapeCasts_S2048_S1x2048

theorem given_modulation : V m c main_v0 = parts (m ((c.tc : Thread _ _).loc main_arg3)) := by
  simp only [V, V0, List.flatten_cons, List.flatten_nil, List.append_nil]
  after_results
  rfl

theorem given_scale : V m c main_v1 = rowOf (m ((c.tc : Thread _ _).loc main_arg4)) := by
  simp only [V, V0, List.flatten_cons, List.flatten_nil, List.append_nil]
  after_results
  rfl

theorem given_shift : V m c main_v2 = rowOf (m ((c.tc : Thread _ _).loc main_arg5)) := by
  simp only [V, V0, List.flatten_cons, List.flatten_nil, List.append_nil]
  after_results
  rfl

theorem parts_at (M : FVec Ideal S8x12288 .f32) (g : Fin 8) (w : Fin 6) (k : Fin 2048) :
    parts M (ix3 ⟨g * 6 + w, by omega⟩ 0 k) = M (ix2 g ⟨w * 2048 + k, by omega⟩) := by
  pointwise [parts]
  blk_ext

theorem rowOf_at (g : FVec Ideal S2048 .f32) (k : Fin 2048) : rowOf g (ix2 0 k) = g (ix1 k) := by
  pointwise [rowOf]

/-- The layer's rows from the arrays the kernel is given are those from the arguments. -/
theorem last_eq (Y : FVec Ideal S49408x2048 .f32) (X : FVec Ideal S24576x2048 .f32) (G : FVec Ideal S24576x128 .f32) (M : FVec Ideal S8x12288 .f32)
    (g b : FVec Ideal S2048 .f32) (q : Fin 24576) (k : Fin 2048) :
    last Y X G (parts M) (rowOf g) (rowOf b) q k = CombineReferenceIdeal.Combine.last Y X G M g b q k := by
  unfold last CombineReferenceIdeal.Combine.last
  refine congr (congr (congr (congrArg LayerNorm.layerNorm (funext fun j => ?_)) (funext fun j => rowOf_at g j)) (funext fun j => rowOf_at b j)) rfl
  refine congr (congr (congrArg LayerNorm.residual rfl) ?_) rfl
  exact (parts_at M ⟨q.val / 4096 - 1, by omega⟩ 5 j).trans (congrArg M (congrArg (ix2 _ ·) (Fin.ext rfl)))

/-- The prompts' rows as the kernel gives them. -/
def asPrompts (A : FVec Ideal S8192x2048 .f32) : FVec Ideal S32x256x2048 .f32 := shapeCast S32x256x2048 A shapeCasts_S8192x2048_S32x256x2048

/-- The samples' rows as the kernel gives them. -/
def asSamples (A : FVec Ideal S16384x2048 .f32) : FVec Ideal S4x4096x2048 .f32 := shapeCast S4x4096x2048 A shapeCasts_S16384x2048_S4x4096x2048

theorem asPrompts_at (A : FVec Ideal S8192x2048 .f32) (b : Fin 32) (l : Fin 256) (k : Fin 2048) :
    asPrompts A (ix3 b l k) = A (ix2 ⟨b * 256 + l, by omega⟩ k) := by
  pointwise [asPrompts]
  blk_ext

theorem asSamples_at (A : FVec Ideal S16384x2048 .f32) (b : Fin 4) (l : Fin 4096) (k : Fin 2048) :
    asSamples A (ix3 b l k) = A (ix2 ⟨b * 4096 + l, by omega⟩ k) := by
  pointwise [asSamples]
  blk_ext

theorem tail_prompts : Pipeline.afterTail₀ cfgs (dats m) 0 (V0 m) [hostOps1] c main_v4
    = asPrompts ((dats m 0 c).arrAt 7 (cfgs 0).N) := by
  unfold Pipeline.afterTail₀
  simp only [List.flatten_cons, List.flatten_nil, List.append_nil]
  after_results
  exact congrArg asPrompts (Pipeline.Dat.withArrays_arrAt (dats m 0 c) sharedIn0 (V0 m c) (A_eq m c) 7)

theorem tail_samples : Pipeline.afterTail₀ cfgs (dats m) 0 (V0 m) [hostOps1] c main_v5
    = asSamples ((dats m 0 c).arrAt 8 (cfgs 0).N) := by
  unfold Pipeline.afterTail₀
  simp only [List.flatten_cons, List.flatten_nil, List.append_nil]
  after_results
  exact congrArg asSamples (Pipeline.Dat.withArrays_arrAt (dats m 0 c) sharedIn0 (V0 m c) (A_eq m c) 8)

variable (Y : FVec Ideal S49408x2048 .f32) (X : FVec Ideal S24576x2048 .f32) (G : FVec Ideal S24576x128 .f32) (M : FVec Ideal S8x12288 .f32) (g b : FVec Ideal S2048 .f32)

theorem prompts_eq : asPrompts (prompts (last Y X G (parts M) (rowOf g) (rowOf b))) = CombineReferenceIdeal.Combine.result32 Y X G M g b := by
  funext i
  obtain ⟨p, l, k, rfl⟩ : ∃ (p : Fin 32) (l : Fin 256) (k : Fin 2048), i = ix3 p l k := ⟨i 0, i 1, i 2, eq_ix3 i⟩
  exact (asPrompts_at _ p l k).trans ((last_eq Y X G M g b _ k).trans (CombineReferenceIdeal.Combine.result32_at Y X G M g b p l k).symm)

theorem samples_eq : asSamples (samples (last Y X G (parts M) (rowOf g) (rowOf b))) = CombineReferenceIdeal.Combine.result4 Y X G M g b := by
  funext i
  obtain ⟨p, l, k, rfl⟩ : ∃ (p : Fin 4) (l : Fin 4096) (k : Fin 2048), i = ix3 p l k := ⟨i 0, i 1, i 2, eq_ix3 i⟩
  refine (asSamples_at _ p l k).trans ?_
  refine Eq.trans ?_ (CombineReferenceIdeal.Combine.result4_at Y X G M g b p l k).symm
  refine (last_eq Y X G M g b _ k).trans (congrArg (fun q => CombineReferenceIdeal.Combine.last Y X G M g b q k) (Fin.ext ?_))
  simp only [ix2_0]
  omega

/-- What the kernel leaves in its two results. -/
theorem run (ρ : Dev nD → PrngReg) :
    θ_run defs (onTc (τ := τ) (main (F := Ideal))) ⟨m, fun _ => 0, ρ⟩ fun r => ∀ c : Dev nD,
      r.2.mem ((c.tc : Thread nD τ).loc main_v4) = asPrompts (prompts (lastOf m c))
      ∧ r.2.mem ((c.tc : Thread nD τ).loc main_v5) = asSamples (samples (lastOf m c)) :=
  (θ_run defs _ _).mono (fun r h c => ⟨((h c).2 main_v4 (Pipeline.mem_restRefs_of main_v4 (by decide) (by decide))).trans ((tail_prompts m c).trans (congrArg _ (final_prompts m c))),
    ((h c).2 main_v5 (Pipeline.mem_restRefs_of main_v5 (by decide) (by decide))).trans ((tail_samples m c).trans (congrArg _ (final_samples m c)))⟩) (run_main m ρ)

/-- The rows the kernel leaves, from the arguments. -/
theorem lastOf_eq : lastOf m c = last (m ((c.tc : Thread _ _).loc main_arg0)) (m ((c.tc : Thread _ _).loc main_arg1)) (m ((c.tc : Thread _ _).loc main_arg2))
    (parts (m ((c.tc : Thread _ _).loc main_arg3))) (rowOf (m ((c.tc : Thread _ _).loc main_arg4))) (rowOf (m ((c.tc : Thread _ _).loc main_arg5))) := by
  unfold lastOf
  rw [given_modulation, given_scale, given_shift, V_main_arg0, V_main_arg1, V_main_arg2]

end Cert.CombineKernelIdeal.Combine

namespace Cert.Proof.Combine

open Idealize.ShloMosaic Idealize.SL.Sem Idealize.ShloMosaic.TcCoe

theorem frame_reference : Cert.quiescent_CombineReferenceIdeal := fun m ρ _ =>
  (θ_run Cert.CombineReferenceIdeal.defs _ _).mono (fun r h => ⟨fun c => (h c).2.2, sem_eq_zero_of_no_sems (by decide) r.2⟩)
    (Cert.CombineReferenceIdeal.Value.run (F := Ideal) m ρ)

open Cert.CombineKernelIdeal.Combine in
theorem algebraic : Cert.algebraic_CombineKernelIdeal_CombineReferenceIdeal := fun m g m' g' _ hm =>
  ⟨_, _, (θ_run Cert.CombineKernelIdeal.defs _ _).mono (fun r h c => ⟨(h.1 c).1, (h.1 c).2, h.2 c⟩)
      (θ_run_and (run m g) (Cert.CombineKernelIdeal.Hand.unchanged m g)),
    (θ_run Cert.CombineReferenceIdeal.defs _ _).mono (fun r h c =>
      ⟨(h c).1.trans (by
        rw [Cert.CombineReferenceIdeal.Combine.res32, lastOf_eq, prompts_eq,
          ← (hm c).1, ← (hm c).2.1, ← (hm c).2.2.1, ← (hm c).2.2.2.1, ← (hm c).2.2.2.2.1, ← (hm c).2.2.2.2.2]),
      (h c).2.1.trans (by
        rw [Cert.CombineReferenceIdeal.Combine.res4, lastOf_eq, samples_eq,
          ← (hm c).1, ← (hm c).2.1, ← (hm c).2.2.1, ← (hm c).2.2.2.1, ← (hm c).2.2.2.2.1, ← (hm c).2.2.2.2.2]), (h c).2.2⟩)
      (Cert.CombineReferenceIdeal.Value.run (F := Ideal) m' g')⟩

end Cert.Proof.Combine

end
-- ==== Proof.Routing.Choice.lean ====
/- The first of a row's largest entries: how a stable sort finds it, and how the least lane among the largest does. -/
module

public import proofs.«01_k».proof.Proof.Attention.Softmax
public import Idealize.ShloMosaic.Lib.SortFacts
public import Idealize.ShloMosaic.PureOps.Ideal.Laws

@[expose] public section

noncomputable section

namespace Cert.Routing

open Idealize.ShloMosaic Cert.Attention

/-- `a` is chosen before `b`: its entry is larger, or the same and `a` comes first. -/
def Before {n : ℕ} (f : Fin n → EReal) (a b : Fin n) : Prop := f b < f a ∨ (f a = f b ∧ a < b)

/-- `a` is chosen before all others. -/
def Best {n : ℕ} (f : Fin n → EReal) (a : Fin n) : Prop := ∀ k, k ≠ a → Before f a k

/-- `b` is chosen before all others but `a`. -/
def Second {n : ℕ} (f : Fin n → EReal) (a b : Fin n) : Prop := b ≠ a ∧ ∀ k, k ≠ a → k ≠ b → Before f b k

theorem Before.asymm {n : ℕ} {f : Fin n → EReal} {a b : Fin n} (h : Before f a b) : ¬ Before f b a := by
  rintro (h' | ⟨h', l'⟩) <;> rcases h with h | ⟨h, l⟩
  · exact absurd h (not_lt_of_gt h')
  · exact absurd h'.ne (fun e => e h)
  · exact absurd h.ne (fun e => e h')
  · exact absurd l (not_lt_of_gt l')

theorem Before.total {n : ℕ} (f : Fin n → EReal) {a b : Fin n} (h : a ≠ b) (h' : ¬ Before f b a) : Before f a b := by
  unfold Before at h' ⊢
  push Not at h'
  rcases lt_or_eq_of_le h'.1 with l | e
  · exact .inl l
  · exact .inr ⟨e.symm, lt_of_le_of_ne (h'.2 e) h⟩

theorem Before.cotrans {n : ℕ} (f : Fin n → EReal) {a b c : Fin n} (hab : ¬ Before f a b) (hbc : ¬ Before f b c) : ¬ Before f a c := by
  unfold Before at *
  push Not at *
  refine ⟨hab.1.trans hbc.1, fun e => ?_⟩
  have e1 : f a = f b := le_antisymm hab.1 (hbc.1.trans e.ge)
  exact (hbc.2 (e1.symm.trans e)).trans (hab.2 e1)

theorem Best.le {n : ℕ} {f : Fin n → EReal} {a : Fin n} (h : Best f a) (k : Fin n) : f k ≤ f a := by
  by_cases e : k = a
  · rw [e]
  · rcases h k e with l | ⟨l, -⟩
    · exact l.le
    · exact l.ge

theorem Best.top_eq {n : ℕ} {f : Fin n → EReal} {a : Fin n} (h : Best f a) : top f = f a := by
  rw [top_eq_sup]
  exact le_antisymm (Finset.sup_le fun k _ => h.le k) (Finset.le_sup (f := f) (Finset.mem_univ a))

/-- A stable sort compares only later entries with earlier ones. -/
theorem stableSort_later {ι : Type} [LT ι] (R R' : ι → ι → Bool) (h : ∀ a b, a < b → R b a = R' b a) :
    ∀ l : List ι, l.Pairwise (· < ·) → stableSort R l = stableSort R' l
  | [], _ => rfl
  | a :: l, hl => by
    rw [List.pairwise_cons] at hl
    unfold stableSort
    rw [stableSort_later R R' h l hl.2]
    exact insertBefore_congr R R' a _ fun b hb => h a b (hl.1 b ((perm_stableSort R' l).mem_iff.mp hb))

section Sorted

variable {n : ℕ} (f : Fin n → EReal)

open Classical in
/-- Where the stable sort by largest first puts its entries. -/
theorem sorted_before (i j : Fin n) (h : i < j) :
    Before f (sortedFrom (fun a b => decide (f b < f a)) i) (sortedFrom (fun a b => decide (f b < f a)) j) := by
  have e : sortedFrom (fun a b => decide (f b < f a)) = sortedFrom (fun a b => decide (Before f a b)) := by
    have e : sortPositions n (fun a b => decide (f b < f a)) = sortPositions n (fun a b => decide (Before f a b)) := by
      refine stableSort_later _ _ (fun a b hab => decide_eq_decide.mpr ?_) _ (List.pairwise_lt_finRange n)
      exact ⟨.inl, fun h => h.elim id fun h => absurd h.2 (not_lt_of_gt hab)⟩
    funext k
    unfold sortedFrom
    rw [List.get_of_eq e]
    rfl
  rw [e]
  have := sortedFrom_noInversion (fun a b => decide (Before f a b)) (fun a b => decide (Before f a b))
    (fun a b h => by simpa using Before.asymm (of_decide_eq_true h)) (fun _ _ h => h)
    (fun a b c h1 h2 => by simp only [decide_eq_false_iff_not] at *; exact Before.cotrans f h1 h2) i j h
  refine Before.total f (fun e => h.ne (sortedFrom_injective _ e)) (of_decide_eq_false this)

theorem sorted_best (h : 0 < n) : Best f (sortedFrom (fun a b => decide (f b < f a)) ⟨0, h⟩) := by
  intro k hk
  obtain ⟨j, rfl⟩ := sortedFrom_surjective (fun a b => decide (f b < f a)) k
  refine sorted_before f _ _ (Fin.lt_def.mpr (Nat.pos_of_ne_zero fun e => hk ?_))
  exact congrArg _ (Fin.ext e)

theorem sorted_second (h : 1 < n) :
    Second f (sortedFrom (fun a b => decide (f b < f a)) ⟨0, by omega⟩) (sortedFrom (fun a b => decide (f b < f a)) ⟨1, h⟩) := by
  refine ⟨fun e => ?_, fun k h0 h1 => ?_⟩
  · have := congrArg Fin.val (sortedFrom_injective _ e)
    exact absurd this Nat.one_ne_zero
  obtain ⟨j, rfl⟩ := sortedFrom_surjective (fun a b => decide (f b < f a)) k
  refine sorted_before f _ _ (Fin.lt_def.mpr ?_)
  have a0 : j.val ≠ 0 := fun e => h0 (congrArg _ (Fin.ext e))
  have a1 : j.val ≠ 1 := fun e => h1 (congrArg _ (Fin.ext e))
  show 1 < j.val
  omega

end Sorted

/-- The order of the entries is all that the choice depends on. -/
theorem Best.of_lt_iff {n : ℕ} {f g : Fin n → EReal} (h : ∀ a b, f a < f b ↔ g a < g b) {a : Fin n} (ha : Best f a) : Best g a := fun k hk => by
  rcases ha k hk with l | ⟨e, l⟩
  · exact .inl ((h _ _).mp l)
  · refine .inr ⟨le_antisymm (not_lt.mp fun x => ?_) (not_lt.mp fun x => ?_), l⟩
    · exact absurd ((h _ _).mpr x) (by rw [e]; exact lt_irrefl _)
    · exact absurd ((h _ _).mpr x) (by rw [e]; exact lt_irrefl _)

theorem Second.of_lt_iff {n : ℕ} {f g : Fin n → EReal} (h : ∀ a b, f a < f b ↔ g a < g b) {a b : Fin n} (ha : Second f a b) : Second g a b :=
  ⟨ha.1, fun k hk hk' => by
    rcases ha.2 k hk hk' with l | ⟨e, l⟩
    · exact .inl ((h _ _).mp l)
    · refine .inr ⟨le_antisymm (not_lt.mp fun x => ?_) (not_lt.mp fun x => ?_), l⟩
      · exact absurd ((h _ _).mpr x) (by rw [e]; exact lt_irrefl _)
      · exact absurd ((h _ _).mpr x) (by rw [e]; exact lt_irrefl _)⟩

/-- The least lane whose entry is the largest, as a word. -/
def leastLane (f : Fin 128 → EReal) : BitVec 32 :=
  Finset.univ.fold IntOp.minsi 2147483647#32 fun l : Fin 128 => if f l = top f then BitVec.ofNat 32 l else 128#32

theorem fold_minsi {ι : Type} [DecidableEq ι] (w : ι → BitVec 32) (b x : BitVec 32) (i : ι) (hb : x.toInt ≤ b.toInt) (hw : ∀ j, x.toInt ≤ (w j).toInt)
    (hi : w i = x) (s : Finset ι) : x.toInt ≤ (s.fold IntOp.minsi b w).toInt ∧ (i ∈ s → s.fold IntOp.minsi b w = x) := by
  induction s using Finset.induction_on with
  | empty => exact ⟨hb, fun h => absurd h (Finset.notMem_empty _)⟩
  | insert a s ha ih =>
    rw [Finset.fold_insert ha]
    have key : ∀ u v : BitVec 32, x.toInt ≤ u.toInt → x.toInt ≤ v.toInt → x.toInt ≤ (IntOp.minsi u v).toInt ∧ (u = x ∨ v = x → IntOp.minsi u v = x) := by
      intro u v hu hv
      unfold IntOp.minsi
      by_cases c : u.slt v = true
      · rw [if_pos c]
        refine ⟨hu, fun h => h.elim id fun h => ?_⟩
        rw [BitVec.slt, decide_eq_true_eq, h] at c
        exact absurd c (not_lt.mpr hu)
      · rw [if_neg c]
        refine ⟨hv, fun h => h.elim (fun h => ?_) id⟩
        rw [BitVec.slt, decide_eq_true_eq, h, not_lt] at c
        exact BitVec.eq_of_toInt_eq (le_antisymm c hv)
    have := key (w a) _ (hw a) ih.1
    refine ⟨this.1, fun h => this.2 ?_⟩
    rcases Finset.mem_insert.mp h with rfl | h
    · exact .inl hi
    · exact .inr (ih.2 h)

theorem lane_toInt : ∀ l : Fin 128, (BitVec.ofNat 32 l.val).toInt = l.val := by decide +kernel

theorem Best.leastLane_eq {f : Fin 128 → EReal} {i : Fin 128} (h : Best f i) : leastLane f = BitVec.ofNat 32 i := by
  unfold leastLane
  refine (fold_minsi _ _ (BitVec.ofNat 32 i.val) i ?_ (fun j => ?_) (if_pos h.top_eq.symm) Finset.univ).2 (Finset.mem_univ i)
  · rw [lane_toInt]
    have : (2147483647#32).toInt = 2147483647 := by decide
    rw [this]
    omega
  · rw [lane_toInt]
    split
    · rename_i e
      rw [lane_toInt]
      by_cases hj : j = i
      · rw [hj]
      · rcases h j hj with l | ⟨-, l⟩
        · rw [h.top_eq] at e
          exact absurd e l.ne
        · exact_mod_cast l.le
    · have : (128#32).toInt = 128 := by decide
      rw [this]
      omega

end Cert.Routing

end
-- ==== Proof.Routing.Row.lean ====
/- A row's routing over the reals: the kernel's two gates and the reference's are one number each. -/
module

public import proofs.«01_k».proof.Proof.Routing.Choice

@[expose] public section

noncomputable section

namespace Cert.Routing

open Idealize.ShloMosaic Cert.Attention

/-- Entries `o` and on of a row of lanes, the rest −∞. -/
def window (o : ℕ) {k : ℕ} (f : Fin k → EReal) (l : Fin 128) : EReal := if h : o ≤ l.val ∧ l.val - o < k then f ⟨l.val - o, h.2⟩ else ⊥

/-- The same without one lane. -/
def without (w : Fin 128 → EReal) (i l : Fin 128) : EReal := if l = i then ⊥ else w l

theorem window_in {o k : ℕ} (f : Fin k → EReal) (i : Fin k) (h : o + i.val < 128) : window o f ⟨o + i.val, h⟩ = f i := by
  unfold window
  rw [dif_pos ⟨by simp only; omega, by simp only; omega⟩]
  exact congrArg f (Fin.ext (by simp only; omega))

theorem window_cases {o k : ℕ} (f : Fin k → EReal) (l : Fin 128) : (∃ i : Fin k, l.val = o + i.val ∧ window o f l = f i) ∨ window o f l = ⊥ := by
  by_cases h : o ≤ l.val ∧ l.val - o < k
  · exact .inl ⟨⟨l.val - o, h.2⟩, by simp only; omega, by unfold window; rw [dif_pos h]⟩
  · exact .inr (by unfold window; rw [dif_neg h])

theorem Finite.bot_lt {x : EReal} (h : Finite x) : ⊥ < x := by
  obtain ⟨r, rfl⟩ := h
  exact EReal.bot_lt_coe r

theorem window_best {o k : ℕ} (ho : o + k ≤ 128) {f : Fin k → EReal} (hf : ∀ i, Finite (f i)) {i : Fin k} (hi : Best f i) :
    Best (window o f) ⟨o + i.val, by omega⟩ := by
  intro l hl
  unfold Before
  rw [window_in]
  rcases window_cases (o := o) f l with ⟨j, hj, e⟩ | e
  · rw [e]
    rcases hi j (fun h => hl (Fin.ext (by rw [hj, h]))) with h | ⟨h, h'⟩
    · exact .inl h
    · exact .inr ⟨h, Fin.lt_def.mpr (by have := Fin.lt_def.mp h'; simp only; omega)⟩
  · rw [e]
    exact .inl (Finite.bot_lt (hf i))

theorem window_second {o k : ℕ} (ho : o + k ≤ 128) {f : Fin k → EReal} (hf : ∀ i, Finite (f i)) {i j : Fin k} (hi : Second f i j) :
    Best (without (window o f) ⟨o + i.val, by omega⟩) ⟨o + j.val, by omega⟩ := by
  have hne : (⟨o + j.val, by omega⟩ : Fin 128) ≠ ⟨o + i.val, by omega⟩ := fun h => hi.1 (Fin.ext (by have := congrArg Fin.val h; simp only at this; omega))
  intro l hl
  unfold Before without
  rw [if_neg hne, window_in]
  by_cases hli : l = ⟨o + i.val, by omega⟩
  · rw [if_pos hli]
    exact .inl (Finite.bot_lt (hf j))
  rw [if_neg hli]
  rcases window_cases (o := o) f l with ⟨a, ha, e⟩ | e
  · rw [e]
    rcases hi.2 a (fun h => hli (Fin.ext (by rw [ha, h]))) (fun h => hl (Fin.ext (by rw [ha, h]))) with h | ⟨h, h'⟩
    · exact .inl h
    · exact .inr ⟨h, Fin.lt_def.mpr (by have := Fin.lt_def.mp h'; simp only; omega)⟩
  · rw [e]
    exact .inl (Finite.bot_lt (hf j))

/-- Lanes at −∞ weigh nothing. -/
theorem window_sum {k : ℕ} (hk : k ≤ 128) (f : Fin k → EReal) (M : ℝ) :
    ∑ l, Ideal.exp (window 0 f l - (M : EReal)) = ∑ i, Ideal.exp (f i - (M : EReal)) := by
  refine (Fintype.sum_of_injective (fun i : Fin k => (⟨i.val, by omega⟩ : Fin 128)) (fun a b h => Fin.ext (Fin.mk.inj_iff.mp h)) _ _ (fun l hl => ?_) fun i => ?_).symm
  · rcases window_cases (o := 0) f l with ⟨i, hi, -⟩ | e
    · exact absurd ⟨i, Fin.ext (by simp only; omega)⟩ hl
    · rw [e, EReal.bot_sub]
      exact Ideal.exp_bot
  · refine congrArg (fun x => Ideal.exp (x - (M : EReal))) ((window_in (o := 0) f i (by omega)).symm.trans (congrArg _ (Fin.ext (Nat.zero_add _))))

/-- A row's entry of each place, largest first, the earlier of two equal ones first. -/
def place {n : ℕ} (f : Fin n → EReal) : Fin n → Fin n := sortedFrom fun a b => decide (f b < f a)

/-- A row's softmax. -/
def soft {n : ℕ} (f : Fin n → EReal) (i : Fin n) : EReal := Ideal.div (Ideal.exp (f i - top f)) (∑ k, Ideal.exp (f k - top f))

theorem soft_real {n : ℕ} (r : Fin n → ℝ) (b : Fin n) (hb : Best (fun i => (r i : EReal)) b) (i : Fin n) :
    soft (fun i => (r i : EReal)) i = ((Real.exp (r i - r b) * (1 / ∑ k, Real.exp (r k - r b)) : ℝ) : EReal) ∧ 0 < ∑ k, Real.exp (r k - r b) := by
  have hpos : 0 < ∑ k, Real.exp (r k - r b) := Finset.sum_pos (fun j _ => Real.exp_pos _) ⟨b, Finset.mem_univ _⟩
  refine ⟨?_, hpos⟩
  unfold soft
  rw [hb.top_eq]
  have he : ∀ j, Ideal.exp ((r j : EReal) - (r b : EReal)) = (Real.exp (r j - r b) : ℝ) := fun j => by rw [← EReal.coe_sub, Ideal.exp_coe]
  simp only [he]
  rw [← coe_sum_real, Ideal.div_coe hpos.ne', ← EReal.coe_mul]

/-- The softmax keeps the order of real entries. -/
theorem soft_lt_iff {n : ℕ} (f : Fin n → EReal) (hf : ∀ i, Finite (f i)) (hn : 0 < n) (a b : Fin n) : soft f a < soft f b ↔ f a < f b := by
  choose r hr using hf
  obtain rfl : f = fun i => (r i : EReal) := funext hr
  have hb := sorted_best (fun i => (r i : EReal)) hn
  rw [(soft_real r _ hb a).1, (soft_real r _ hb b).1, EReal.coe_lt_coe_iff, EReal.coe_lt_coe_iff]
  have hpos := (soft_real r _ hb a).2
  rw [mul_lt_mul_iff_left₀ (one_div_pos.mpr hpos), Real.exp_lt_exp]
  exact sub_lt_sub_iff_right _

/-- The kernel's first gate of a row: `1/Σ` over the groups, by `1 + r`. -/
def gateA (S r : EReal) : EReal := Ideal.div (Ideal.div (Ideal.ofBits .f32 0x3F800000#32) S) (Ideal.ofBits .f32 0x3F800000#32 + r)

/-- The kernel's second gate. -/
def gateB (S r : EReal) : EReal := Ideal.div (Ideal.div (Ideal.ofBits .f32 0x3F800000#32) S * r) (Ideal.ofBits .f32 0x3F800000#32 + r)

theorem one_word : Ideal.ofBits .f32 0x3F800000#32 = ((1 : ℝ) : EReal) := by
  simp [Ideal.ofBits, Ideal.ieee, -EReal.coe_mul]
  norm_num

theorem gates_eq {n k : ℕ} (g : Fin n → EReal) (x : Fin k → EReal) (hg : ∀ i, Finite (g i)) (hx : ∀ i, Finite (x i)) {G : Fin n} {a b : Fin k}
    (hG : Best g G) (ha : Best x a) :
    gateA (∑ i, Ideal.exp (g i - g G)) (Ideal.exp (x b - x a)) = Ideal.div (soft g G * soft x a) (soft x a + soft x b)
      ∧ gateB (∑ i, Ideal.exp (g i - g G)) (Ideal.exp (x b - x a)) = Ideal.div (soft g G * soft x b) (soft x a + soft x b) := by
  choose r hr using hg
  choose s hs using hx
  obtain rfl : g = fun i => (r i : EReal) := funext hr
  obtain rfl : x = fun i => (s i : EReal) := funext hs
  obtain ⟨eG, pG⟩ := soft_real r G hG G
  obtain ⟨ea, pa⟩ := soft_real s a ha a
  obtain ⟨eb, -⟩ := soft_real s a ha b
  have he : ∀ j, Ideal.exp ((r j : EReal) - (r G : EReal)) = (Real.exp (r j - r G) : ℝ) := fun j => by rw [← EReal.coe_sub, Ideal.exp_coe]
  unfold gateA gateB
  simp only [he]
  rw [eG, ea, eb, one_word, ← coe_sum_real, ← EReal.coe_sub, Ideal.exp_coe, sub_self, sub_self, Real.exp_zero]
  generalize (∑ k, Real.exp (r k - r G)) = A at *
  generalize (∑ k, Real.exp (s k - s a)) = B at *
  have hq : 0 < Real.exp (s b - s a) := Real.exp_pos _
  generalize Real.exp (s b - s a) = q at *
  rw [Ideal.div_coe pG.ne', ← EReal.coe_mul, ← EReal.coe_add, ← EReal.coe_add, ← EReal.coe_mul, ← EReal.coe_mul, ← EReal.coe_mul]
  have h1 : (1 + q) ≠ 0 := by positivity
  have h2 : 1 * (1 / B) + q * (1 / B) ≠ 0 := by positivity
  rw [Ideal.div_coe h1, Ideal.div_coe h1, Ideal.div_coe h2, Ideal.div_coe h2, ← EReal.coe_mul, ← EReal.coe_mul, ← EReal.coe_mul, ← EReal.coe_mul,
    EReal.coe_eq_coe_iff, EReal.coe_eq_coe_iff]
  constructor <;> field_simp

/-- A row's group scores. -/
def rowGroups (L : Fin 128 → EReal) (i : Fin 4) : EReal := L ⟨i, by omega⟩

/-- A row's scores of a group's experts. -/
def rowExperts (L : Fin 128 → EReal) (G : Fin 4) (e : Fin 8) : EReal := L ⟨4 + 8 * G + e, by omega⟩

/-- A row's group. -/
def group (L : Fin 128 → EReal) : Fin 4 := place (rowGroups L) 0

/-- The softmax of the group's experts. -/
def weights (L : Fin 128 → EReal) : Fin 8 → EReal := soft (rowExperts L (group L))

/-- The group's experts, the likeliest first. -/
def choice (L : Fin 128 → EReal) (j : Fin 2) : Fin 8 := place (weights L) ⟨j, by omega⟩

/-- The gates a row is given. -/
def gate (L : Fin 128 → EReal) (j : Fin 2) : EReal :=
  Ideal.div (soft (rowGroups L) (group L) * weights L (choice L j)) (∑ k, weights L (choice L k))

/-- The experts' numbers. -/
def number (L : Fin 128 → EReal) (j : Fin 2) : BitVec 32 := IntOp.addi (IntOp.muli (BitVec.ofNat 32 (group L).val) 8#32) (BitVec.ofNat 32 (choice L j).val)

theorem group_best (L : Fin 128 → EReal) : Best (rowGroups L) (group L) := sorted_best _ (by decide)

theorem choice_best (L : Fin 128 → EReal) (h : ∀ e, Finite (rowExperts L (group L) e)) : Best (rowExperts L (group L)) (choice L 0) :=
  Best.of_lt_iff (fun a b => soft_lt_iff _ h (by decide) a b) (sorted_best (weights L) (by decide))

theorem choice_second (L : Fin 128 → EReal) (h : ∀ e, Finite (rowExperts L (group L) e)) : Second (rowExperts L (group L)) (choice L 0) (choice L 1) :=
  Second.of_lt_iff (fun a b => soft_lt_iff _ h (by decide) a b) (sorted_second (weights L) (by decide))

end Cert.Routing

end
-- ==== Proof.Routing.Block.lean ====
/- The routing kernel: the two gates and the two experts a grid point leaves in its blocks' first lanes. -/
module

public import proofs.«01_k».proof.Proof.Gen.RouteKernelIdeal.Frame
public import proofs.«01_k».proof.Proof.Routing.Row
public import Idealize.ShloMosaic.Lib.Pipeline.ValueKit
public import Idealize.ShloMosaic.Lib.Pointwise

@[expose] public section

set_option maxRecDepth 16384

noncomputable section

namespace Cert.RouteKernelIdeal.Routing

open Cert.RouteKernelIdeal Cert.RouteKernelIdeal.Gen Idealize.ShloMosaic Idealize.ShloMosaic.TcCoe
open Cert.Attention (top lowest Finite)
open Cert.Routing

/-- The reduction to a row's largest lane. -/
theorem top_lanes (x : FVec Ideal S512x128 .f32) :
    multiReduction .maximumf [1] S512 x 0xFF800000#32 reduces_S512x128_S512 (.inl rfl) rfl
      = fun i => top fun j : Fin 128 => x (ix2 (i 0) j) := by
  funext i
  refine (Ideal.multiReduction_maximumf_single x _ reduces_S512x128_S512 _ rfl i).trans ?_
  refine congrArg (fun f => Finset.fold max (Ideal.ofBits FTy.f32 4286578688#32) f Finset.univ) (funext fun j => congrArg x ?_)
  funext a
  fin_cases a <;> rfl

/-- The reduction to a row's least word. -/
theorem least_lanes (x : IVec S512x128 32) :
    multiReductionI .minsi [1] S512 x 2147483647#32 reduces_S512x128_S512 rfl
      = fun i => Finset.univ.fold IntOp.minsi 2147483647#32 fun j : Fin 128 => x (ix2 (i 0) j) := by
  funext i
  refine (multiReductionI_eq_fold _ _ _ _ _ _).trans ?_
  refine (reduces_S512x128_S512.fold_filter_drop_single IntOp.minsi _ x i).trans ?_
  refine congrArg (fun f => Finset.fold IntOp.minsi 2147483647#32 f Finset.univ) (funext fun j => congrArg x ?_)
  funext a
  fin_cases a <;> rfl

/-- The lanes' numbers. -/
abbrev lanes : IVec S512x128 32 := iota .tc S512x128 32 [1] iota_S512x128_d1_w32

theorem lanes_at (r : Fin 512) (l : Fin 128) : lanes (ix2 r l) = BitVec.ofNat 32 l.val := by
  pointwise [lanes]

/-- A row's group scores. -/
def groups (v3 : Vec Ideal S512x128 .f32) (r : Fin 512) (i : Fin 4) : EReal := v3 (ix2 r ⟨i, by omega⟩)

/-- A row's scores of a group's experts. -/
def experts (v3 : Vec Ideal S512x128 .f32) (r : Fin 512) (G : Fin 4) (e : Fin 8) : EReal := v3 (ix2 r ⟨4 + 8 * G + e, by omega⟩)

variable (v3 : Vec Ideal S512x128 .f32) (r : Fin 512)

theorem select_pos {α : Type} {c : BitVec 1} (h : c = 1#1) (x y : α) : Scalar.select c x y = x := if_pos h

theorem select_neg {α : Type} {c : BitVec 1} (h : ¬c = 1#1) (x y : α) : Scalar.select c x y = y := if_neg h

theorem pay4_at (l : Fin 128) : k0_pay4 (F := Ideal) v3 (ix2 r l) = window 0 (groups v3 r) l := by
  have h : ∀ l : Fin 128, (IntOp.cmpi .slt (BitVec.ofNat 32 l.val) 4#32 = 1#1) ↔ (0 ≤ l.val ∧ l.val - 0 < 4) := by decide +kernel
  have e : k0_pay4 (F := Ideal) v3 (ix2 r l) = Scalar.select (IntOp.cmpi .slt (BitVec.ofNat 32 l.val) 4#32) (v3 (ix2 r l)) (Ideal.ofBits .f32 4286578688#32) := by
    pointwise [k0_pay4]
  rw [e, lowest]
  unfold window groups
  by_cases hl : 0 ≤ l.val ∧ l.val - 0 < 4
  · rw [dif_pos hl, select_pos ((h l).mpr hl)]
    rfl
  · rw [dif_neg hl, select_neg (fun e => hl ((h l).mp e))]

theorem pay5_at : k0_pay5 (F := Ideal) v3 (ix2 r 0) = top (window 0 (groups v3 r)) := by
  refine (congrArg (fun a => shapeCast S512x1 a shapeCasts_S512_S512x1 (ix2 r 0)) (top_lanes _)).trans ?_
  refine Eq.trans ?_ (congrArg top (funext fun l => pay4_at v3 r l))
  pointwise

theorem pay6_at : k0_pay6 (F := Ideal) v3 (ix2 r 0) = Ideal.div (Ideal.ofBits .f32 0x3F800000#32) (∑ l, Ideal.exp (window 0 (groups v3 r) l - top (window 0 (groups v3 r)))) := by
  pointwise [k0_pay6, pay4_at, pay5_at]

theorem expert_lane : ∀ (G : Fin 4) (l : Fin 128),
    (IntOp.andi (IntOp.cmpi .sge (IntOp.subi (BitVec.ofNat 32 l.val) 4#32) (IntOp.muli (BitVec.ofNat 32 G.val) 8#32))
      (IntOp.cmpi .slt (IntOp.subi (BitVec.ofNat 32 l.val) 4#32) (IntOp.addi (IntOp.muli (BitVec.ofNat 32 G.val) 8#32) 8#32)) = 1#1)
      ↔ (4 + 8 * G.val ≤ l.val ∧ l.val - (4 + 8 * G.val) < 8) := by decide +kernel

variable {G : Fin 4} (hg : ∀ i, Finite (groups v3 r i)) (hG : Best (groups v3 r) G)

include hg hG in
theorem pay7_at (l : Fin 128) : k0_pay7 (F := Ideal) v3 (ix2 r l) = window (4 + 8 * G.val) (experts v3 r G) l := by
  have e : k0_pay7 (F := Ideal) v3 (ix2 r l) = Scalar.select
      (IntOp.andi (IntOp.cmpi .sge (IntOp.subi (BitVec.ofNat 32 l.val) 4#32) (IntOp.muli (leastLane (window 0 (groups v3 r))) 8#32))
        (IntOp.cmpi .slt (IntOp.subi (BitVec.ofNat 32 l.val) 4#32) (IntOp.addi (IntOp.muli (leastLane (window 0 (groups v3 r))) 8#32) 8#32)))
      (v3 (ix2 r l)) (Ideal.ofBits .f32 4286578688#32) := by
    unfold k0_pay7
    simp only [least_lanes]
    pointwise [pay4_at, pay5_at, leastLane]
  have e0 : leastLane (window 0 (groups v3 r)) = BitVec.ofNat 32 G.val :=
    (window_best (o := 0) (by omega) hg hG).leastLane_eq.trans (congrArg (BitVec.ofNat 32) (Nat.zero_add _))
  rw [e, e0, lowest]
  unfold window experts
  by_cases hl : 4 + 8 * G.val ≤ l.val ∧ l.val - (4 + 8 * G.val) < 8
  · rw [dif_pos hl, select_pos ((expert_lane G l).mpr hl)]
    exact congrArg (fun k => v3 (ix2 r k)) (Fin.ext (by simp only; omega))
  · rw [dif_neg hl, select_neg (fun e => hl ((expert_lane G l).mp e))]

include hg hG in
theorem pay8_at : k0_pay8 (F := Ideal) v3 (ix2 r 0) = top (window (4 + 8 * G.val) (experts v3 r G)) := by
  refine (congrArg (fun a => shapeCast S512x1 a shapeCasts_S512_S512x1 (ix2 r 0)) (top_lanes _)).trans ?_
  refine Eq.trans ?_ (congrArg top (funext fun l => pay7_at v3 r hg hG l))
  pointwise

variable {a b : Fin 8} (hx : ∀ i, Finite (experts v3 r G i)) (ha : Best (experts v3 r G) a) (hb : Second (experts v3 r G) a b)

include hg hG hx ha in
/-- The first choice's lane. -/
theorem pay10_at : k0_pay10 lanes (k0_pay9 (F := Ideal) v3) 128#32 (ix2 r 0) = BitVec.ofNat 32 (4 + 8 * G.val + a.val) := by
  refine Eq.trans ?_ (window_best (o := 4 + 8 * G.val) (by omega) hx ha).leastLane_eq
  unfold k0_pay10
  simp only [least_lanes]
  pointwise [k0_pay9, pay7_at v3 r hg hG, pay8_at v3 r hg hG, leastLane]

theorem lane_word : ∀ (l k : Fin 128), (IntOp.cmpi .eq (BitVec.ofNat 32 l.val) (BitVec.ofNat 32 k.val) = 1#1) ↔ l = k := by decide +kernel

include hg hG hx ha in
theorem pay11_at (l : Fin 128) : k0_pay11 (F := Ideal) lanes (k0_pay7 (F := Ideal) v3) (k0_pay9 (F := Ideal) v3) 128#32 (ix2 r l)
    = without (window (4 + 8 * G.val) (experts v3 r G)) ⟨4 + 8 * G.val + a.val, by omega⟩ l := by
  have e : k0_pay11 (F := Ideal) lanes (k0_pay7 (F := Ideal) v3) (k0_pay9 (F := Ideal) v3) 128#32 (ix2 r l)
      = Scalar.select (IntOp.cmpi .eq (BitVec.ofNat 32 l.val) (BitVec.ofNat 32 (4 + 8 * G.val + a.val))) (Ideal.ofBits .f32 4286578688#32)
        (window (4 + 8 * G.val) (experts v3 r G) l) := by
    pointwise [k0_pay11, pay10_at v3 r hg hG hx ha, pay7_at v3 r hg hG]
  rw [e, lowest]
  unfold without
  by_cases hl : l = ⟨4 + 8 * G.val + a.val, by omega⟩
  · rw [if_pos hl]
    exact select_pos ((lane_word l ⟨4 + 8 * G.val + a.val, by omega⟩).mpr hl) _ _
  · rw [if_neg hl]
    exact select_neg (fun e => hl ((lane_word l ⟨4 + 8 * G.val + a.val, by omega⟩).mp e)) _ _

include hg hG hx ha hb in
theorem pay12_at : k0_pay12 (F := Ideal) lanes (k0_pay7 (F := Ideal) v3) (k0_pay9 (F := Ideal) v3) 128#32 (ix2 r 0) = experts v3 r G b := by
  refine (congrArg (fun a => shapeCast S512x1 a shapeCasts_S512_S512x1 (ix2 r 0)) (top_lanes _)).trans ?_
  refine Eq.trans ?_ ((congrArg top (funext fun l => pay11_at v3 r hg hG hx ha l)).trans ?_)
  · pointwise
  · rw [(window_second (o := 4 + 8 * G.val) (by omega) hx hb).top_eq]
    unfold without
    rw [if_neg (fun h => hb.1 (Fin.ext (by have := congrArg Fin.val h; simp only at this; omega))), window_in]

include hg hG hx ha in
theorem pay8_eq : k0_pay8 (F := Ideal) v3 (ix2 r 0) = experts v3 r G a := by
  rw [pay8_at v3 r hg hG, (window_best (o := 4 + 8 * G.val) (by omega) hx ha).top_eq, window_in]

include hg hG in
theorem pay6_eq : k0_pay6 (F := Ideal) v3 (ix2 r 0) = Ideal.div (Ideal.ofBits .f32 0x3F800000#32) (∑ i, Ideal.exp (groups v3 r i - groups v3 r G)) := by
  rw [pay6_at, (window_best (o := 0) (by omega) hg hG).top_eq, window_in]
  obtain ⟨M, hM⟩ := hg G
  rw [hM, window_sum (by omega)]

/-- The words the kernel takes its experts' numbers from. -/
theorem expert_word : ∀ (G : Fin 4) (e : Fin 8), IntOp.subi (BitVec.ofNat 32 (4 + 8 * G.val + e.val)) 4#32 = IntOp.addi (IntOp.muli (BitVec.ofNat 32 G.val) 8#32) (BitVec.ofNat 32 e.val) := by decide +kernel

include hg hG hx ha hb in
theorem pay15_at : k0_pay15 (F := Ideal) lanes (k0_pay6 v3) (k0_pay7 (F := Ideal) v3) (k0_pay8 v3) (k0_pay9 (F := Ideal) v3) 128#32 (ix2 r 0)
    = gateA (∑ i, Ideal.exp (groups v3 r i - groups v3 r G)) (Ideal.exp (experts v3 r G b - experts v3 r G a)) := by
  pointwise [k0_pay15, k0_pay14, k0_pay13, gateA, pay6_eq v3 r hg hG, pay8_eq v3 r hg hG hx ha, pay12_at v3 r hg hG hx ha hb]

include hg hG hx ha hb in
theorem pay16_at : k0_pay16 (F := Ideal) lanes (k0_pay6 v3) (k0_pay7 (F := Ideal) v3) (k0_pay8 v3) (k0_pay9 (F := Ideal) v3) 128#32 (ix2 r 0)
    = gateB (∑ i, Ideal.exp (groups v3 r i - groups v3 r G)) (Ideal.exp (experts v3 r G b - experts v3 r G a)) := by
  pointwise [k0_pay16, k0_pay14, k0_pay13, gateB, pay6_eq v3 r hg hG, pay8_eq v3 r hg hG hx ha, pay12_at v3 r hg hG hx ha hb]

include hg hG hx ha in
theorem pay17_at : k0_pay17 lanes (k0_pay9 (F := Ideal) v3) 128#32 (ix2 r 0) = IntOp.addi (IntOp.muli (BitVec.ofNat 32 G.val) 8#32) (BitVec.ofNat 32 a.val) := by
  refine Eq.trans ?_ (expert_word G a)
  pointwise [k0_pay17, pay10_at v3 r hg hG hx ha]

include hg hG hx ha hb in
theorem pay18_at : k0_pay18 (F := Ideal) lanes (k0_pay7 (F := Ideal) v3) (k0_pay9 (F := Ideal) v3) 128#32 (ix2 r 0)
    = IntOp.addi (IntOp.muli (BitVec.ofNat 32 G.val) 8#32) (BitVec.ofNat 32 b.val) := by
  have hs := window_second (o := 4 + 8 * G.val) (by omega) hx hb
  have et : experts v3 r G b = top (without (window (4 + 8 * G.val) (experts v3 r G)) ⟨4 + 8 * G.val + a.val, by omega⟩) := by
    rw [hs.top_eq]
    unfold without
    rw [if_neg (fun h => hb.1 (Fin.ext (by have := congrArg Fin.val h; simp only at this; omega))), window_in]
  refine Eq.trans ?_ (expert_word G b)
  refine Eq.trans ?_ (congrArg (fun w => IntOp.subi w 4#32) hs.leastLane_eq)
  unfold k0_pay18
  simp only [least_lanes]
  pointwise [pay11_at v3 r hg hG hx ha, pay12_at v3 r hg hG hx ha hb, et, leastLane]

theorem first_gate (v61 v63 : FVec Ideal S512x1 .f32) : k0_pay2 (F := Ideal) lanes v61 v63 (ix2 r 0) = v61 (ix2 r 0) := by
  pointwise [k0_pay2]

theorem second_gate (v61 v63 : FVec Ideal S512x1 .f32) : k0_pay2 (F := Ideal) lanes v61 v63 (ix2 r 1) = v63 (ix2 r 0) := by
  pointwise [k0_pay2]
  exact select_neg (by decide) _ _

theorem first_expert (v65 v67 v122 : IVec S512x1 32) (v104 : FVec Ideal S512x1 .f32) (v115 v123 : IVec S512x128 32) :
    k0_pay1 (F := Ideal) lanes v65 v67 v104 v115 (k0_pay31 lanes) (k0_pay32 lanes) (k0_pay33 lanes) v122 v123 (ix2 r 0) = v65 (ix2 r 0) := by
  pointwise [k0_pay1, k0_pay31, k0_pay32, k0_pay33]

theorem second_expert (v65 v67 v122 : IVec S512x1 32) (v104 : FVec Ideal S512x1 .f32) (v115 v123 : IVec S512x128 32) :
    k0_pay1 (F := Ideal) lanes v65 v67 v104 v115 (k0_pay31 lanes) (k0_pay32 lanes) (k0_pay33 lanes) v122 v123 (ix2 r 1) = v67 (ix2 r 0) := by
  pointwise [k0_pay1, k0_pay31, k0_pay32, k0_pay33]
  exact select_neg (by decide) _ _

variable (m : (ℓ : Loc nD τ sig) → Buf (Elt Ideal) ℓ)

/-- What a point leaves in its block of gates. -/
theorem left_gates (c : Dev nD) (t : Fin cfg0.N) : (outsAt0 m c t.val t.isLt).2.1
    = k0_pay2 (F := Ideal) lanes (k0_pay15 (F := Ideal) lanes (k0_pay6 (iblk m c 0 t)) (k0_pay7 (iblk m c 0 t)) (k0_pay8 (iblk m c 0 t)) (k0_pay9 (F := Ideal) (iblk m c 0 t)) 128#32)
        (k0_pay16 (F := Ideal) lanes (k0_pay6 (iblk m c 0 t)) (k0_pay7 (iblk m c 0 t)) (k0_pay8 (iblk m c 0 t)) (k0_pay9 (F := Ideal) (iblk m c 0 t)) 128#32) := by
  by_cases h : t.val % 48 = 0
  · rw [outsAt0_A m c t h]
    frame_out
  · rw [outsAt0_B m c t h]
    frame_out

/-- What a point leaves in its block of numbers, up to the ranks. -/
theorem left_experts (c : Dev nD) (t : Fin cfg0.N) : ∃ (v104 : FVec Ideal S512x1 .f32) (v122 : IVec S512x1 32), (outsAt0 m c t.val t.isLt).1
    = k0_pay1 (F := Ideal) lanes (k0_pay17 lanes (k0_pay9 (F := Ideal) (iblk m c 0 t)) 128#32)
        (k0_pay18 (F := Ideal) lanes (k0_pay7 (iblk m c 0 t)) (k0_pay9 (F := Ideal) (iblk m c 0 t)) 128#32) v104 k0_pay30 (k0_pay31 lanes) (k0_pay32 lanes) (k0_pay33 lanes) v122 k0_pay35 := by
  by_cases h : t.val % 48 = 0
  · rw [outsAt0_A m c t h]
    apply Exists.intro
    apply Exists.intro
    frame_out
    exact rfl
  · rw [outsAt0_B m c t h]
    apply Exists.intro
    apply Exists.intro
    frame_out
    exact rfl

theorem idx : ∀ t : Fin cfg0.N, win0_0.index t = ![t.val, 0] ∧ win0_2.index t = ![t.val, 0] ∧ win0_3.index t = ![t.val, 0] :=
  (by decide +kernel : ∀ t : Fin grid0.N, _)

/-- The block a row is in. -/
def blockOf (q : Fin 24576) : Fin cfg0.N := ⟨q.val / 512, (show q.val / 512 < 48 by omega)⟩

/-- The gates' array after the run. -/
def gatesArray (c : Dev nD) : FVec Ideal S24576x128 .f32 := fun i => (outsAt0 m c (blockOf (i 0)).val (blockOf (i 0)).isLt).2.1 (ix2 ⟨(i 0).val % 512, Nat.mod_lt _ (by decide)⟩ (i 1))

/-- The numbers' array after the run. -/
def numbersArray (c : Dev nD) : IVec S24576x128 32 := fun i => (outsAt0 m c (blockOf (i 0)).val (blockOf (i 0)).isLt).1 (ix2 ⟨(i 0).val % 512, Nat.mod_lt _ (by decide)⟩ (i 1))

theorem final_gates (c : Dev nD) : (dats m 0 c).arrAt 3 (cfgs 0).N = gatesArray m c := by
  refine (dats m 0 c).arrAt_eq_of_covers 3 _ (by decide +kernel) fun t _ y => ?_
  blk_simp
  rw [after0_3]
  obtain ⟨r, l, rfl⟩ : ∃ (r : Fin 512) (l : Fin 128), y = ix2 r l := ⟨y 0, y 1, eq_ix2 y⟩
  have h : ∀ (n : Fin cfg0.N) (r' : Fin 512) (l' : Fin 128), n = t → r' = r → l' = l → (outsAt0 m c t.val t.isLt).2.1 (ix2 r l) = (outsAt0 m c n.val n.isLt).2.1 (ix2 r' l') := by
    rintro _ _ _ rfl rfl rfl
    rfl
  refine h _ _ _ (Fin.ext ?_) (Fin.ext ?_) (Fin.ext ?_)
  all_goals blk_simp [idx t, blockOf]
  all_goals (simp only; omega)

theorem final_numbers (c : Dev nD) : (dats m 0 c).arrAt 2 (cfgs 0).N = numbersArray m c := by
  refine (dats m 0 c).arrAt_eq_of_covers 2 _ (by decide +kernel) fun t _ y => ?_
  blk_simp
  rw [after0_2]
  obtain ⟨r, l, rfl⟩ : ∃ (r : Fin 512) (l : Fin 128), y = ix2 r l := ⟨y 0, y 1, eq_ix2 y⟩
  have h : ∀ (n : Fin cfg0.N) (r' : Fin 512) (l' : Fin 128), n = t → r' = r → l' = l → (outsAt0 m c t.val t.isLt).1 (ix2 r l) = (outsAt0 m c n.val n.isLt).1 (ix2 r' l') := by
    rintro _ _ _ rfl rfl rfl
    rfl
  refine h _ _ _ (Fin.ext ?_) (Fin.ext ?_) (Fin.ext ?_)
  all_goals blk_simp [idx t, blockOf]
  all_goals (simp only; omega)

/-- A block's row is the array's. -/
theorem block_at (c : Dev nD) (t : Fin cfg0.N) (r : Fin 512) (q : Fin 24576) (hq : q.val = t.val * 512 + r.val) (l : Fin 128) :
    (show FVec Ideal S512x128 .f32 from iblk m c 0 t) (ix2 r l) = V m c main_arg0 (ix2 q l) := by
  blk_ext [iblk, idx t]

theorem block_row (c : Dev nD) (q : Fin 24576) (l : Fin 128) :
    (show FVec Ideal S512x128 .f32 from iblk m c 0 (blockOf q)) (ix2 ⟨q.val % 512, Nat.mod_lt _ (by decide)⟩ l) = V m c main_arg0 (ix2 q l) :=
  block_at m c (blockOf q) _ q (by unfold blockOf; simp only; omega) l

end Cert.RouteKernelIdeal.Routing

end
-- ==== Proof.Routing.Host.lean ====
/- The reference's largest entries and the entries it takes by number, read at an index. -/
module

public import proofs.«01_k».proof.Proof.Routing.Row
public import proofs.«01_k».proof.Proof.Gen.RouteReferenceIdeal.Run
public import proofs.«01_k».proof.Proof.Gen.RouteReferenceIdeal
public import Idealize.ShloMosaic.Lib.ValueIdxCore

@[expose] public section

set_option maxRecDepth 16384

noncomputable section

namespace Cert.RouteReferenceIdeal.Routing

open Cert.RouteReferenceIdeal Cert.RouteReferenceIdeal.Gen Idealize.ShloMosaic Idealize.ShloMosaic.TcCoe Facts₀
open Cert.Routing

/-- A row's number, clamped. -/
def clamped (n : ℕ) (w : BitVec 32) : ℕ := min w.toInt.toNat (n - 1)

theorem gather4_at (x : FVec Ideal S24576x4 .f32) (w : IVec S24576x1x1 32) (q : Fin 24576) :
    Host.gather gather_S24576x4_S24576x1x1_S24576x1_n_1_0_0_1_2_11 x w (ix2 q 0) = x (ix2 q ⟨clamped 4 (w (ix3 q 0 0)), by unfold clamped; omega⟩) := by
  unfold Host.gather
  congr 1
  funext a
  refine Fin.ext ?_
  show gather_S24576x4_S24576x1x1_S24576x1_n_1_0_0_1_2_11.start (ix2 q 0) w a + gather_S24576x4_S24576x1x1_S24576x1_n_1_0_0_1_2_11.batchCoord (ix2 q 0) a
    + gather_S24576x4_S24576x1x1_S24576x1_n_1_0_0_1_2_11.offCoord (ix2 q 0) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S24576x4_S24576x1x1_S24576x1_n_1_0_0_1_2_11.operandBatchingDims from List.mem_singleton.mpr rfl)]
    rfl
  · rw [GatherDims.batchCoord_eq_zero _ _ _ (fun h => by simp [gather_S24576x4_S24576x1x1_S24576x1_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S24576x4_S24576x1x1_S24576x1_n_1_0_0_1_2_11.startIndexMap from List.mem_singleton.mpr rfl)]
    have hsi : gather_S24576x4_S24576x1x1_S24576x1_n_1_0_0_1_2_11.siIdx (ix2 q 0) ⟨List.idxOf (1 : Fin 2) gather_S24576x4_S24576x1x1_S24576x1_n_1_0_0_1_2_11.startIndexMap,
        List.idxOf_lt_length_iff.2 (List.mem_singleton.mpr rfl)⟩ = ix3 q 0 0 := by
      funext b; refine Fin.ext ?_
      match b with
      | ⟨0, _⟩ => rfl
      | ⟨1, _⟩ => rfl
      | ⟨2, _⟩ => rfl
    rw [hsi]
    rfl

theorem gather8_at (x : FVec Ideal S24576x4x8 .f32) (w : IVec S24576x1x1 32) (q : Fin 24576) (e : Fin 8) :
    Host.gather gather_S24576x4x8_S24576x1x1_S24576x1x8_2_1_0_0_1_2_118 x w (ix3 q 0 e) = x (ix3 q ⟨clamped 4 (w (ix3 q 0 0)), by unfold clamped; omega⟩ e) := by
  unfold Host.gather
  congr 1
  funext a
  refine Fin.ext ?_
  show gather_S24576x4x8_S24576x1x1_S24576x1x8_2_1_0_0_1_2_118.start (ix3 q 0 e) w a + gather_S24576x4x8_S24576x1x1_S24576x1x8_2_1_0_0_1_2_118.batchCoord (ix3 q 0 e) a
    + gather_S24576x4x8_S24576x1x1_S24576x1x8_2_1_0_0_1_2_118.offCoord (ix3 q 0 e) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S24576x4x8_S24576x1x1_S24576x1x8_2_1_0_0_1_2_118.operandBatchingDims from List.mem_singleton.mpr rfl)]
    rfl
  · rw [GatherDims.batchCoord_eq_zero _ _ _ (fun h => by simp [gather_S24576x4x8_S24576x1x1_S24576x1x8_2_1_0_0_1_2_118] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S24576x4x8_S24576x1x1_S24576x1x8_2_1_0_0_1_2_118.startIndexMap from List.mem_singleton.mpr rfl)]
    have hsi : gather_S24576x4x8_S24576x1x1_S24576x1x8_2_1_0_0_1_2_118.siIdx (ix3 q 0 e) ⟨List.idxOf (1 : Fin 3) gather_S24576x4x8_S24576x1x1_S24576x1x8_2_1_0_0_1_2_118.startIndexMap,
        List.idxOf_lt_length_iff.2 (List.mem_singleton.mpr rfl)⟩ = ix3 q 0 0 := by
      funext b; refine Fin.ext ?_
      match b with
      | ⟨0, _⟩ => rfl
      | ⟨1, _⟩ => rfl
      | ⟨2, _⟩ => rfl
    rw [hsi]
    rfl
  · rw [GatherDims.batchCoord_eq_zero _ _ _ (fun h => by simp [gather_S24576x4x8_S24576x1x1_S24576x1x8_2_1_0_0_1_2_118] at h)]
    have hs : gather_S24576x4x8_S24576x1x1_S24576x1x8_2_1_0_0_1_2_118.start (ix3 q 0 e) w 2 = 0 := by
      unfold GatherDims.start
      rw [dif_neg (by simp [gather_S24576x4x8_S24576x1x1_S24576x1x8_2_1_0_0_1_2_118])]
    rw [hs]
    unfold GatherDims.offCoord
    rw [dif_pos (show (2 : Fin 3) ∈ gather_S24576x4x8_S24576x1x1_S24576x1x8_2_1_0_0_1_2_118.sKept from by decide)]
    simp only [Nat.zero_add]
    rfl

/-- The largest entries of a row, and their numbers. -/
theorem sort_at {n k : ℕ} (x : FVec Ideal ⟨2, ![24576, n]⟩ .f32) (h : (⟨2, ![24576, n]⟩ : Shape).Slices (fun _ => 0) ⟨2, ![24576, k]⟩) (hk : k ≤ n)
    (q : Fin 24576) (j : Fin k) :
    (Host.topK ⟨2, ![24576, k]⟩ 1 (FloatOps.cmpfTotal .gt) x h).1 (ix2 q j) = x (ix2 q (place (fun e => x (ix2 q e)) ⟨j, by omega⟩))
    ∧ (Host.topK ⟨2, ![24576, k]⟩ 1 (FloatOps.cmpfTotal .gt) x h).2 (ix2 q j) = BitVec.ofNat 32 (place (fun e => x (ix2 q e)) ⟨j, by omega⟩).val := by
  have e0 : (fun a : Fin 2 => (⟨0 + ((ix2 q j : (⟨2, ![24576, k]⟩ : Shape).Idx) (a.cast h.1.symm)).val,
      Nat.lt_of_lt_of_le (Nat.add_lt_add_left ((ix2 q j : (⟨2, ![24576, k]⟩ : Shape).Idx) _).isLt _) (h.2 a)⟩ : Fin ((⟨2, ![24576, n]⟩ : Shape).size a)))
      = (ix2 q ⟨j, by omega⟩ : (⟨2, ![24576, n]⟩ : Shape).Idx) := by
    funext a
    refine Fin.ext ?_
    match a with
    | ⟨0, _⟩ => exact Nat.zero_add _
    | ⟨1, _⟩ => exact Nat.zero_add _
  have ea : ∀ (i : Fin n) (l : Fin n), ((ix2 q i : (⟨2, ![24576, n]⟩ : Shape).Idx).along (1 : Fin 2) l) = ix2 q l := by
    intro i l
    funext a
    match a with
    | ⟨0, _⟩ => rfl
    | ⟨1, _⟩ => rfl
  have ec : ∀ a b : EReal, (Ideal.cmp .ogt a b == 1#1) = decide (b < a) := by
    intro a b
    unfold Ideal.cmp
    by_cases hb : b < a <;> simp [hb]
  have ep : ∀ i : Fin n, sortedFrom (fun l l' : Fin n => FloatOps.cmpfTotal (F := Ideal) (φ := .f32) .gt
      (x ((ix2 q i : (⟨2, ![24576, n]⟩ : Shape).Idx).along (1 : Fin 2) l)) (x ((ix2 q i : (⟨2, ![24576, n]⟩ : Shape).Idx).along (1 : Fin 2) l')) == 1#1) = place fun e => x (ix2 q e) := by
    intro i
    unfold place
    refine congrArg sortedFrom (funext fun l => funext fun l' => ?_)
    rw [ea, ea]
    exact ec _ _
  constructor
  · unfold Host.topK Host.sort2 extractStridedSlice
    simp only
    rw [dif_pos (by decide)]
    refine (congrArg (fun i : (⟨2, ![24576, n]⟩ : Shape).Idx => x (i.along (1 : Fin 2) (sortedFrom (fun l l' : Fin n => FloatOps.cmpfTotal (F := Ideal) (φ := .f32) .gt
      (x (i.along (1 : Fin 2) l)) (x (i.along (1 : Fin 2) l')) == 1#1) (i (1 : Fin 2))))) e0).trans ?_
    exact congrArg x ((ea _ _).trans (congrArg (ix2 q) (congrFun (ep ⟨j, by omega⟩) _)))
  · unfold Host.topK Host.sort2 extractStridedSlice
    simp only
    rw [dif_pos (by decide)]
    refine (congrArg (fun i : (⟨2, ![24576, n]⟩ : Shape).Idx => iotaInDim (⟨2, ![24576, n]⟩ : Shape) 32 (1 : Fin 2) (i.along (1 : Fin 2) (sortedFrom (fun l l' : Fin n => FloatOps.cmpfTotal (F := Ideal) (φ := .f32) .gt
      (x (i.along (1 : Fin 2) l)) (x (i.along (1 : Fin 2) l')) == 1#1) (i (1 : Fin 2))))) e0).trans ?_
    refine (congrArg _ ((ea _ _).trans (congrArg (ix2 q) (congrFun (ep ⟨j, by omega⟩) _)))).trans ?_
    rfl

end Cert.RouteReferenceIdeal.Routing

end
-- ==== Proof.Routing.Reference.lean ====
/- The routing's reference, row by row: the group, its experts' softmax, the two chosen and their gates. -/
module

public import proofs.«01_k».proof.Proof.Routing.Host
public import Idealize.ShloMosaic.Lib.Pointwise
public import Idealize.ShloMosaic.Lib.Pipeline.ValueKit

@[expose] public section

set_option maxRecDepth 16384

noncomputable section

namespace Cert.RouteReferenceIdeal.Routing

open Cert.RouteReferenceIdeal Cert.RouteReferenceIdeal.Gen Cert.RouteReferenceIdeal.Value Idealize.ShloMosaic Idealize.ShloMosaic.TcCoe
open Cert.Attention (top lowest Finite)
open Cert.Routing

variable (A : FVec Ideal S24576x128 .f32)

/-- A row of the scores. -/
def row (A : FVec Ideal S24576x128 .f32) (q : Fin 24576) (l : Fin 128) : EReal := A (ix2 q l)

def scores4 : FVec Ideal S24576x4 .f32 := extractStridedSlice S24576x4 ![0, 0] A slices_S24576x128_S24576x4_0_0

theorem scores4_at (q : Fin 24576) (i : Fin 4) : scores4 A (ix2 q i) = rowGroups (row A q) i := by
  pointwise [scores4, rowGroups, row]

def scores32 : FVec Ideal S24576x4x8 .f32 :=
  shapeCast _ (extractStridedSlice S24576x32 ![0, 4] A slices_S24576x128_S24576x32_0_4) shapeCasts_S24576x32_S24576x4x8

theorem scores32_at (q : Fin 24576) (G : Fin 4) (e : Fin 8) : scores32 A (ix3 q G e) = rowExperts (row A q) G e := by
  pointwise [scores32, rowExperts, row]
  blk_ext

def exps4 (x : FVec Ideal S24576x4 .f32) : FVec Ideal S24576x4 .f32 :=
  Host.exp (subf x (broadcastInDim S24576x4 ![0, 1] bcast_S24576x1_S24576x4_0_1 (broadcastInDim S24576x1 ![0] bcast_S24576_S24576x1_0
    (maximumf (broadcastInDim S24576 ![] bcast_S_S24576 (constant S_ .f32 0xFF800000#32))
      (Host.reduce FloatOps.maximumf x (constant S_ .f32 0xFF800000#32) reducesTo_S24576x4_S24576_d1 h_S_)))))

theorem exps4_at (x : FVec Ideal S24576x4 .f32) (q : Fin 24576) (i : Fin 4) : exps4 x (ix2 q i) = Ideal.exp (x (ix2 q i) - top fun j : Fin 4 => x (ix2 q j)) := by
  pointwise [exps4, lowest]
  rw [max_eq_right bot_le, top, lowest]

def softs4 (x : FVec Ideal S24576x4 .f32) : FVec Ideal S24576x4 .f32 :=
  Host.divf (exps4 x) (broadcastInDim S24576x4 ![0, 1] bcast_S24576x1_S24576x4_0_1 (broadcastInDim S24576x1 ![0] bcast_S24576_S24576x1_0
    (Host.reduceAdd (exps4 x) (constant S_ .f32 0x00000000#32) reducesTo_S24576x4_S24576_d1 h_S_)))

theorem softs4_at (x : FVec Ideal S24576x4 .f32) (q : Fin 24576) (i : Fin 4) : softs4 x (ix2 q i) = soft (fun j => x (ix2 q j)) i := by
  pointwise [softs4, exps4_at, soft]

def exps8 (x : FVec Ideal S24576x8 .f32) : FVec Ideal S24576x8 .f32 :=
  Host.exp (subf x (broadcastInDim S24576x8 ![0, 1] bcast_S24576x1_S24576x8_0_1 (broadcastInDim S24576x1 ![0] bcast_S24576_S24576x1_0
    (maximumf (broadcastInDim S24576 ![] bcast_S_S24576 (constant S_ .f32 0xFF800000#32))
      (Host.reduce FloatOps.maximumf x (constant S_ .f32 0xFF800000#32) reducesTo_S24576x8_S24576_d1 h_S_)))))

theorem exps8_at (x : FVec Ideal S24576x8 .f32) (q : Fin 24576) (i : Fin 8) : exps8 x (ix2 q i) = Ideal.exp (x (ix2 q i) - top fun j : Fin 8 => x (ix2 q j)) := by
  pointwise [exps8, lowest]
  rw [max_eq_right bot_le, top, lowest]

def softs8 (x : FVec Ideal S24576x8 .f32) : FVec Ideal S24576x8 .f32 :=
  Host.divf (exps8 x) (broadcastInDim S24576x8 ![0, 1] bcast_S24576x1_S24576x8_0_1 (broadcastInDim S24576x1 ![0] bcast_S24576_S24576x1_0
    (Host.reduceAdd (exps8 x) (constant S_ .f32 0x00000000#32) reducesTo_S24576x8_S24576_d1 h_S_)))

theorem softs8_at (x : FVec Ideal S24576x8 .f32) (q : Fin 24576) (i : Fin 8) : softs8 x (ix2 q i) = soft (fun j => x (ix2 q j)) i := by
  pointwise [softs8, exps8_at, soft]

/-- The rows' groups. -/
def chosen : IVec S24576 32 :=
  shapeCast _ ((Host.topK S24576x1 1 (FloatOps.cmpfTotal .gt) (scores4 A) sliceFits_S24576x4_S24576x1).2) shapeCasts_S24576x1_S24576

theorem chosen_at (q : Fin 24576) : chosen A (ix1 q) = BitVec.ofNat 32 (group (row A q)).val := by
  have h := (sort_at (scores4 A) sliceFits_S24576x4_S24576x1 (by decide) q 0).2
  have e : chosen A (ix1 q) = (Host.topK S24576x1 1 (FloatOps.cmpfTotal .gt) (scores4 A) sliceFits_S24576x4_S24576x1).2 (ix2 q 0) := by
    pointwise [chosen]
  refine e.trans (h.trans ?_)
  unfold group
  exact congrArg (fun f => BitVec.ofNat 32 (place f 0).val) (funext fun i => scores4_at A q i)

/-- A group's number is in range. -/
theorem in_range : ∀ G : Fin 4, Scalar.select (IntOp.cmpi .slt (BitVec.ofNat 32 G.val) 0#32) (IntOp.addi (BitVec.ofNat 32 G.val) 4#32) (BitVec.ofNat 32 G.val) = BitVec.ofNat 32 G.val
    ∧ IntOp.andi (IntOp.cmpi .sge (BitVec.ofNat 32 G.val) 0#32) (IntOp.cmpi .sle (BitVec.ofNat 32 G.val) 3#32) = 1#1
    ∧ clamped 4 (BitVec.ofNat 32 G.val) = G.val := by decide +kernel

/-- Numbers below zero counted from the end, as indices to take by. -/
def wrapped (w : IVec S24576 32) : IVec S24576x1x1 32 :=
  select (cmpi .slt (broadcastInDim S24576x1x1 ![0] bcast_S24576_S24576x1x1_0 w) (broadcastInDim S24576x1x1 ![] bcast_S_S24576x1x1 (constantI S_ 32 0#32)))
    (addi (broadcastInDim S24576x1x1 ![0] bcast_S24576_S24576x1x1_0 w) (broadcastInDim S24576x1x1 ![] bcast_S_S24576x1x1 (constantI S_ 32 4#32)))
    (broadcastInDim S24576x1x1 ![0] bcast_S24576_S24576x1x1_0 w)

def wrapped' (w : IVec S24576 32) : IVec S24576x1x1 32 :=
  shapeCast _ (select (cmpi .slt (broadcastInDim S24576x1 ![0] bcast_S24576_S24576x1_0 w) (broadcastInDim S24576x1 ![] bcast_S_S24576x1 (constantI S_ 32 0#32)))
    (addi (broadcastInDim S24576x1 ![0] bcast_S24576_S24576x1_0 w) (broadcastInDim S24576x1 ![] bcast_S_S24576x1 (constantI S_ 32 4#32)))
    (broadcastInDim S24576x1 ![0] bcast_S24576_S24576x1_0 w)) shapeCasts_S24576x1_S24576x1x1

/-- Whether an index is in range. -/
def ranged (w : IVec S24576x1x1 32) : IVec S24576x1 1 :=
  Host.reduce IntOp.andi (andi (cmpi .sge w (broadcastInDim S24576x1x1 ![] bcast_S_S24576x1x1 (constantI S_ 32 0#32)))
    (cmpi .sle w (broadcastInDim S24576x1x1 ![0, 1, 2] bcast_S1x1x1_S24576x1x1_0_1_2 (broadcastInDim S1x1x1 ![2] bcast_S1_S1x1x1_2 (constantI S1 32 3#32)))))
    (constantI S_ 1 1#1) reducesTo_S24576x1x1_S24576x1_d2 h_S_

theorem wrapped_at (w : IVec S24576 32) (q : Fin 24576) (G : Fin 4) (h : w (ix1 q) = BitVec.ofNat 32 G.val) : wrapped w (ix3 q 0 0) = BitVec.ofNat 32 G.val := by
  refine Eq.trans ?_ (in_range G).1
  rw [← h]
  pointwise [wrapped]

theorem wrapped'_at (w : IVec S24576 32) (q : Fin 24576) (G : Fin 4) (h : w (ix1 q) = BitVec.ofNat 32 G.val) : wrapped' w (ix3 q 0 0) = BitVec.ofNat 32 G.val := by
  refine Eq.trans ?_ (in_range G).1
  rw [← h]
  pointwise [wrapped']

theorem ranged_at (w : IVec S24576x1x1 32) (q : Fin 24576) (G : Fin 4) (h : w (ix3 q 0 0) = BitVec.ofNat 32 G.val) : ranged w (ix2 q 0) = 1#1 := by
  have e : ranged w (ix2 q 0) = IntOp.andi (IntOp.andi (IntOp.cmpi .sge (w (ix3 q 0 0)) 0#32) (IntOp.cmpi .sle (w (ix3 q 0 0)) 3#32)) 1#1 := by
    pointwise [ranged]
    rw [show (Finset.univ : Finset (Fin 1)) = {0} from rfl, Finset.fold_singleton]
  rw [e, h, (in_range G).2.1]
  rfl

/-- The group's probability, taken by its number. -/
def taken4 (x : FVec Ideal S24576x4 .f32) (w : IVec S24576 32) : FVec Ideal S24576x1 .f32 :=
  select (ranged (wrapped' w)) (Host.gather gather_S24576x4_S24576x1x1_S24576x1_n_1_0_0_1_2_11 x (wrapped' w))
    (broadcastInDim S24576x1 ![] bcast_S_S24576x1 (constant S_ .f32 0x7FC00000#32))

theorem taken4_at (x : FVec Ideal S24576x4 .f32) (w : IVec S24576 32) (q : Fin 24576) (G : Fin 4) (h : w (ix1 q) = BitVec.ofNat 32 G.val) :
    taken4 x w (ix2 q 0) = x (ix2 q G) := by
  have e : taken4 x w (ix2 q 0) = Scalar.select (ranged (wrapped' w) (ix2 q 0)) (Host.gather gather_S24576x4_S24576x1x1_S24576x1_n_1_0_0_1_2_11 x (wrapped' w) (ix2 q 0))
      (broadcastInDim S24576x1 ![] bcast_S_S24576x1 (constant (F := Ideal) S_ .f32 0x7FC00000#32) (ix2 q 0)) := rfl
  rw [e, ranged_at _ q G (wrapped'_at w q G h), gather4_at]
  refine (if_pos rfl).trans (congrArg (fun k => x (ix2 q k)) (Fin.ext ?_))
  exact (congrArg (clamped 4) (wrapped'_at w q G h)).trans (in_range G).2.2

/-- The group's experts' scores, taken by its number. -/
def taken8 (x : FVec Ideal S24576x4x8 .f32) (w : IVec S24576 32) : FVec Ideal S24576x8 .f32 :=
  shapeCast _ (select (broadcastInDim S24576x1x8 ![0, 1] bcast_S24576x1_S24576x1x8_0_1 (ranged (wrapped w)))
    (Host.gather gather_S24576x4x8_S24576x1x1_S24576x1x8_2_1_0_0_1_2_118 x (wrapped w))
    (broadcastInDim S24576x1x8 ![] bcast_S_S24576x1x8 (constant S_ .f32 0x7FC00000#32))) shapeCasts_S24576x1x8_S24576x8

theorem taken8_at (x : FVec Ideal S24576x4x8 .f32) (w : IVec S24576 32) (q : Fin 24576) (G : Fin 4) (h : w (ix1 q) = BitVec.ofNat 32 G.val) (i : Fin 8) :
    taken8 x w (ix2 q i) = x (ix3 q G i) := by
  have e : taken8 x w (ix2 q i) = Scalar.select (ranged (wrapped w) (ix2 q 0)) (Host.gather gather_S24576x4x8_S24576x1x1_S24576x1x8_2_1_0_0_1_2_118 x (wrapped w) (ix3 q 0 i))
      (Ideal.ofBits .f32 0x7FC00000#32) := by
    pointwise [taken8]
  rw [e, ranged_at _ q G (wrapped_at w q G h), gather8_at]
  refine (if_pos rfl).trans (congrArg (fun k => x (ix3 q k i)) (Fin.ext ?_))
  exact (congrArg (clamped 4) (wrapped_at w q G h)).trans (in_range G).2.2

/-- The group's experts' softmax. -/
def likely : FVec Ideal S24576x8 .f32 := softs8 (taken8 (scores32 A) (chosen A))

theorem likely_at (q : Fin 24576) (e : Fin 8) : likely A (ix2 q e) = weights (row A q) e := by
  unfold likely weights
  rw [softs8_at]
  refine congrArg (fun f => soft f e) (funext fun j => ?_)
  rw [taken8_at _ _ q _ (chosen_at A q), scores32_at]

def values : FVec Ideal S24576x2 .f32 := (Host.topK S24576x2 1 (FloatOps.cmpfTotal .gt) (likely A) sliceFits_S24576x8_S24576x2).1

theorem values_at (q : Fin 24576) (j : Fin 2) : values A (ix2 q j) = weights (row A q) (choice (row A q) j) := by
  refine ((sort_at (likely A) sliceFits_S24576x8_S24576x2 (by decide) q j).1).trans ?_
  rw [show (fun e => likely A (ix2 q e)) = weights (row A q) from funext fun e => likely_at A q e, likely_at]
  rfl

def places : IVec S24576x2 32 := (Host.topK S24576x2 1 (FloatOps.cmpfTotal .gt) (likely A) sliceFits_S24576x8_S24576x2).2

theorem places_at (q : Fin 24576) (j : Fin 2) : places A (ix2 q j) = BitVec.ofNat 32 (choice (row A q) j).val := by
  refine ((sort_at (likely A) sliceFits_S24576x8_S24576x2 (by decide) q j).2).trans ?_
  rw [show (fun e => likely A (ix2 q e)) = weights (row A q) from funext fun e => likely_at A q e]
  rfl

def gates : FVec Ideal S24576x2 .f32 :=
  Host.divf (mulf (broadcastInDim S24576x2 ![0, 1] bcast_S24576x1_S24576x2_0_1 (taken4 (softs4 (scores4 A)) (chosen A))) (values A))
    (broadcastInDim S24576x2 ![0, 1] bcast_S24576x1_S24576x2_0_1 (broadcastInDim S24576x1 ![0] bcast_S24576_S24576x1_0
      (Host.reduceAdd (values A) (constant S_ .f32 0x00000000#32) reducesTo_S24576x2_S24576_d1 h_S_)))

theorem gates_at (q : Fin 24576) (j : Fin 2) : gates A (ix2 q j) = gate (row A q) j := by
  have e : taken4 (softs4 (scores4 A)) (chosen A) (ix2 q 0) = soft (rowGroups (row A q)) (group (row A q)) := by
    rw [taken4_at _ _ q _ (chosen_at A q), softs4_at]
    exact congrArg (fun f => soft f _) (funext fun i => scores4_at A q i)
  pointwise [gates, values_at, e, gate]

def numbers : IVec S24576x2 32 :=
  addi (broadcastInDim S24576x2 ![0, 1] bcast_S24576x1_S24576x2_0_1 (muli (broadcastInDim S24576x1 ![0] bcast_S24576_S24576x1_0 (chosen A))
    (broadcastInDim S24576x1 ![] bcast_S_S24576x1 (constantI S_ 32 8#32)))) (places A)

theorem numbers_at (q : Fin 24576) (j : Fin 2) : numbers A (ix2 q j) = number (row A q) j := by
  pointwise [numbers, places_at, chosen_at, number]

theorem result_gates (m : (ℓ : Loc nD τ sig) → Buf (Elt Ideal) ℓ) (c : Dev nD) : res_out0 m c = gates (m ((c.tc : Thread nD τ).loc main_arg0)) := rfl

theorem result_numbers (m : (ℓ : Loc nD τ sig) → Buf (Elt Ideal) ℓ) (c : Dev nD) : res_out1 m c = numbers (m ((c.tc : Thread nD τ).loc main_arg0)) := rfl

end Cert.RouteReferenceIdeal.Routing

end
-- ==== Proof.Routing.Finite.lean ====
/- The precondition read off: every score of a group or an expert is a real number. -/
module

public import proofs.«01_k».proof.Pre_route_finite
public import proofs.«01_k».proof.Proof.Gen.Pre_route_finite
public import proofs.«01_k».proof.Proof.Attention.Finite

@[expose] public section

noncomputable section

namespace Cert.Proof.Routing

open Idealize.ShloMosaic Cert.Pre_route_finite Cert.Attention

theorem finite_scores [Facts] (A : FVec Ideal S24576x128 .f32) (h : fn (F := Ideal) A = fun _ => 1#1) (q : Fin 24576) (l : Fin 128) (hl : l.val < 36) :
    Finite (A (ix2 q l)) := by
  have e := congrFun h ix0
  haveI : Subsingleton S_.Idx := ⟨fun a b => funext fun k => k.elim0⟩
  have f := finite_of_cmp (Host.reduce_andi_all _ _ _ _ _ e (ix2 q ⟨l.val, hl⟩))
  have i : (extractStridedSlice S24576x36 ![0, 0] A Facts.slices_S24576x128_S24576x36_0_0) (ix2 q ⟨l.val, hl⟩) = A (ix2 q l) := by
    pointwise
  exact i ▸ f

end Cert.Proof.Routing

end
-- ==== Proof.Routing.Claims.lean ====
/- The routing's claims: the kernel's gates and experts are the reference's, where the scores are real. -/
module

public import proofs.«01_k».proof.Defs
public import proofs.«01_k».proof.Proof.Routing.Block
public import proofs.«01_k».proof.Proof.Routing.Reference
public import proofs.«01_k».proof.Proof.Routing.Finite
public import Idealize.ShloMosaic.Adequacy
public import Idealize.ShloMosaic.Lib.Claim

@[expose] public section

set_option maxRecDepth 16384

noncomputable section

namespace Cert.RouteKernelIdeal.Routing

open Cert.RouteKernelIdeal Cert.RouteKernelIdeal.Gen Idealize.ShloMosaic Idealize.ShloMosaic.TcCoe
open Cert.Attention (Finite)
open Cert.Routing
open Cert.RouteReferenceIdeal.Routing (row gates numbers gates_at numbers_at)

variable (m : (ℓ : Loc nD τ sig) → Buf (Elt Ideal) ℓ) (c : Dev nD)

/-- The first two lanes of the gates. -/
def keptGates (A : FVec Ideal S24576x128 .f32) : FVec Ideal S24576x2 .f32 := extractStridedSlice S24576x2 ![0, 0] A slices_S24576x128_S24576x2_0_0

/-- The first two lanes of the numbers. -/
def keptNumbers (A : IVec S24576x128 32) : IVec S24576x2 32 := extractStridedSlice S24576x2 ![0, 0] A slices_S24576x128_S24576x2_0_0

theorem keptGates_at (A : FVec Ideal S24576x128 .f32) (q : Fin 24576) (j : Fin 2) : keptGates A (ix2 q j) = A (ix2 q ⟨j.val, by omega⟩) := by
  pointwise [keptGates]

theorem keptNumbers_at (A : IVec S24576x128 32) (q : Fin 24576) (j : Fin 2) : keptNumbers A (ix2 q j) = A (ix2 q ⟨j.val, by omega⟩) := by
  pointwise [keptNumbers]

theorem tail_gates : Pipeline.afterTail₀ cfgs (dats m) 0 (V0 m) [hostOps1] c main_v6 = keptGates ((dats m 0 c).arrAt 3 (cfgs 0).N) := by
  unfold Pipeline.afterTail₀
  simp only [List.flatten_cons, List.flatten_nil, List.append_nil]
  after_results
  exact congrArg keptGates (Pipeline.Dat.withArrays_arrAt (dats m 0 c) (by decide : Pipeline.SharedIn spec0) (V0 m c) (A_eq m c) 3)

theorem tail_numbers : Pipeline.afterTail₀ cfgs (dats m) 0 (V0 m) [hostOps1] c main_v7 = keptNumbers ((dats m 0 c).arrAt 2 (cfgs 0).N) := by
  unfold Pipeline.afterTail₀
  simp only [List.flatten_cons, List.flatten_nil, List.append_nil]
  after_results
  exact congrArg keptNumbers (Pipeline.Dat.withArrays_arrAt (dats m 0 c) (by decide : Pipeline.SharedIn spec0) (V0 m c) (A_eq m c) 2)

/-- What the kernel leaves in its two results. -/
theorem run (ρ : Dev nD → PrngReg) :
    θ_run defs (onTc (τ := τ) (main (F := Ideal))) ⟨m, fun _ => 0, ρ⟩ fun r => ∀ c : Dev nD,
      r.2.mem ((c.tc : Thread nD τ).loc main_v6) = keptGates (gatesArray m c)
      ∧ r.2.mem ((c.tc : Thread nD τ).loc main_v7) = keptNumbers (numbersArray m c) :=
  (θ_run defs _ _).mono (fun r h c => ⟨((h c).2 main_v6 (Pipeline.mem_restRefs_of main_v6 (by decide) (by decide))).trans ((tail_gates m c).trans (congrArg _ (final_gates m c))),
    ((h c).2 main_v7 (Pipeline.mem_restRefs_of main_v7 (by decide) (by decide))).trans ((tail_numbers m c).trans (congrArg _ (final_numbers m c)))⟩) (run_main m ρ)

/-- The scores given. -/
abbrev given : FVec Ideal S24576x128 .f32 := m ((c.tc : Thread _ _).loc main_arg0)

/-- A row's scores are what its block's row holds. -/
theorem groups_row (q : Fin 24576) : groups (iblk m c 0 (blockOf q)) ⟨q.val % 512, Nat.mod_lt _ (by decide)⟩ = rowGroups (row (given m c) q) := by
  funext i
  refine (block_row m c q _).trans ?_
  rw [V_main_arg0]
  rfl

theorem experts_row (q : Fin 24576) (G : Fin 4) : experts (iblk m c 0 (blockOf q)) ⟨q.val % 512, Nat.mod_lt _ (by decide)⟩ G = rowExperts (row (given m c) q) G := by
  funext e
  refine (block_row m c q _).trans ?_
  rw [V_main_arg0]
  rfl

variable (hpre : Cert.Pre_RouteKernelIdeal_route_finite m) (q : Fin 24576)

include hpre in
theorem real_groups (i : Fin 4) : Finite (rowGroups (row (given m c) q) i) := Cert.Proof.Routing.finite_scores _ (hpre c) q _ (by simp only; omega)

include hpre in
theorem real_experts (G : Fin 4) (e : Fin 8) : Finite (rowExperts (row (given m c) q) G e) := Cert.Proof.Routing.finite_scores _ (hpre c) q _ (by simp only; omega)

include hpre in
theorem gates_row (j : Fin 2) : gatesArray m c (ix2 q ⟨j.val, by omega⟩) = gate (row (given m c) q) j := by
  have hg := real_groups m c hpre q
  have hx := real_experts m c hpre q (group (row (given m c) q))
  have hG := group_best (row (given m c) q)
  have ha := choice_best (row (given m c) q) hx
  have hb := choice_second (row (given m c) q) hx
  obtain ⟨e1, e2⟩ := gates_eq (b := choice (row (given m c) q) 1) _ _ hg hx hG ha
  unfold gate
  rw [Fin.sum_univ_two]
  rw [← groups_row] at hg hG e1 e2
  rw [← experts_row] at hx ha hb e1 e2
  have e : ∀ l, gatesArray m c (ix2 q l) = (outsAt0 m c (blockOf q).val (blockOf q).isLt).2.1 (ix2 ⟨q.val % 512, Nat.mod_lt _ (by decide)⟩ l) := fun l => rfl
  rw [e, left_gates]
  fin_cases j
  · refine (first_gate _ _ _).trans ((pay15_at _ _ hg hG hx ha hb).trans (e1.trans ?_))
    rw [groups_row, experts_row]
    rfl
  · refine (second_gate _ _ _).trans ((pay16_at _ _ hg hG hx ha hb).trans (e2.trans ?_))
    rw [groups_row, experts_row]
    rfl

include hpre in
theorem numbers_row (j : Fin 2) : numbersArray m c (ix2 q ⟨j.val, by omega⟩) = number (row (given m c) q) j := by
  have hg := real_groups m c hpre q
  have hx := real_experts m c hpre q (group (row (given m c) q))
  have hG := group_best (row (given m c) q)
  have ha := choice_best (row (given m c) q) hx
  have hb := choice_second (row (given m c) q) hx
  rw [← groups_row] at hg hG
  rw [← experts_row] at hx ha hb
  have e : ∀ l, numbersArray m c (ix2 q l) = (outsAt0 m c (blockOf q).val (blockOf q).isLt).1 (ix2 ⟨q.val % 512, Nat.mod_lt _ (by decide)⟩ l) := fun l => rfl
  obtain ⟨u, v, h⟩ := left_experts m c (blockOf q)
  rw [e, h]
  fin_cases j
  · exact (first_expert _ _ _ _ _ _ _).trans (pay17_at _ _ hg hG hx ha)
  · exact (second_expert _ _ _ _ _ _ _).trans (pay18_at _ _ hg hG hx ha hb)

include hpre in
theorem gates_same : keptGates (gatesArray m c) = gates (given m c) := by
  funext i
  obtain ⟨q, j, rfl⟩ : ∃ (q : Fin 24576) (j : Fin 2), i = ix2 q j := ⟨i 0, i 1, eq_ix2 i⟩
  rw [keptGates_at, gates_row m c hpre, gates_at]

include hpre in
theorem numbers_same : keptNumbers (numbersArray m c) = numbers (given m c) := by
  funext i
  obtain ⟨q, j, rfl⟩ : ∃ (q : Fin 24576) (j : Fin 2), i = ix2 q j := ⟨i 0, i 1, eq_ix2 i⟩
  rw [keptNumbers_at, numbers_row m c hpre, numbers_at]

end Cert.RouteKernelIdeal.Routing

namespace Cert.Proof.Routing

open Idealize.ShloMosaic Idealize.SL.Sem Idealize.ShloMosaic.TcCoe

theorem frame_reference : Cert.quiescent_RouteReferenceIdeal := fun m ρ _ =>
  (θ_run Cert.RouteReferenceIdeal.defs _ _).mono (fun r h => ⟨fun c => (h c).2.2, sem_eq_zero_of_no_sems (by decide) r.2⟩)
    (Cert.RouteReferenceIdeal.Value.run (F := Ideal) m ρ)

open Cert.RouteKernelIdeal.Routing Cert.RouteReferenceIdeal.Routing in
theorem algebraic : Cert.algebraic_RouteKernelIdeal_RouteReferenceIdeal_pre_route_finite := fun m g m' g' hpre hm =>
  ⟨_, _, (θ_run Cert.RouteKernelIdeal.defs _ _).mono (fun r h c => ⟨(h.1 c).1, (h.1 c).2, h.2 c⟩)
      (θ_run_and (run m g) (Cert.RouteKernelIdeal.Gen.unchanged m g)),
    (θ_run Cert.RouteReferenceIdeal.defs _ _).mono (fun r h c =>
      ⟨(h c).1.trans ((result_gates m' c).trans ((congrArg gates (hm c)).trans (gates_same m c hpre).symm)),
      (h c).2.1.trans ((result_numbers m' c).trans ((congrArg numbers (hm c)).trans (numbers_same m c hpre).symm)),
      (h c).2.2⟩)
      (Cert.RouteReferenceIdeal.Value.run (F := Ideal) m' g')⟩

end Cert.Proof.Routing

end
-- ==== Proof.lean ====
/- The calls of one layer: each kernel, its idealization and its reference run, and their results agree. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_scores_finite
public import proofs.«01_k».proof.Proof.Attention.Claims
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InReferenceIdeal
public import proofs.«01_k».proof.Proof.Gen.InReferenceIdeal.Run
public import proofs.«01_k».proof.Proof.Projection.Claims
public import proofs.«01_k».proof.Proof.Gen.GluKernel
public import proofs.«01_k».proof.Proof.Gen.GluKernel.Skeleton
public import proofs.«01_k».proof.Proof.Gen.GluKernel.Launch
public import proofs.«01_k».proof.Proof.Gen.GluKernel.Points
public import proofs.«01_k».proof.Proof.Gen.GluKernel.Frame
public import proofs.«01_k».proof.Proof.Gen.GluKernelIdeal
public import proofs.«01_k».proof.Proof.Gen.GluKernelIdeal.Skeleton
public import proofs.«01_k».proof.Proof.Gen.GluKernelIdeal.Launch
public import proofs.«01_k».proof.Proof.Gen.GluKernelIdeal.Points
public import proofs.«01_k».proof.Proof.Gen.GluKernelIdeal.Frame
public import proofs.«01_k».proof.Proof.Gen.GluReferenceIdeal
public import proofs.«01_k».proof.Proof.Gen.GluReferenceIdeal.Run
public import proofs.«01_k».proof.Proof.Gated.Claims
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutReferenceIdeal
public import proofs.«01_k».proof.Proof.Gen.OutReferenceIdeal.Run
public import proofs.«01_k».proof.Proof.Output.Claims
public import proofs.«01_k».proof.Proof.Gen.PwKernel
public import proofs.«01_k».proof.Proof.Gen.PwKernel.Skeleton
public import proofs.«01_k».proof.Proof.Gen.PwKernel.Launch
public import proofs.«01_k».proof.Proof.Gen.PwKernel.Points
public import proofs.«01_k».proof.Proof.Gen.PwKernel.Frame
public import proofs.«01_k».proof.Proof.Gen.PwKernelIdeal
public import proofs.«01_k».proof.Proof.Gen.PwKernelIdeal.Skeleton
public import proofs.«01_k».proof.Proof.Gen.PwKernelIdeal.Launch
public import proofs.«01_k».proof.Proof.Gen.PwKernelIdeal.Points
public import proofs.«01_k».proof.Proof.Gen.PwKernelIdeal.Frame
public import proofs.«01_k».proof.Proof.Gen.PwReferenceIdeal
public import proofs.«01_k».proof.Proof.Gen.PwReferenceIdeal.Run
public import proofs.«01_k».proof.Proof.Pointwise.Claims
public import proofs.«01_k».proof.Proof.Gen.QkKernel
public import proofs.«01_k».proof.Proof.Gen.QkKernel.Skeleton
public import proofs.«01_k».proof.Proof.Gen.QkKernel.Launch
public import proofs.«01_k».proof.Proof.Gen.QkKernel.Points
public import proofs.«01_k».proof.Proof.Gen.QkKernel.Frame
public import proofs.«01_k».proof.Proof.Gen.QkKernelIdeal
public import proofs.«01_k».proof.Proof.Gen.QkKernelIdeal.Skeleton
public import proofs.«01_k».proof.Proof.Gen.QkKernelIdeal.Launch
public import proofs.«01_k».proof.Proof.Gen.QkKernelIdeal.Points
public import proofs.«01_k».proof.Proof.Gen.QkKernelIdeal.Frame
public import proofs.«01_k».proof.Proof.Gen.QkReferenceIdeal
public import proofs.«01_k».proof.Proof.Gen.QkReferenceIdeal.Run
public import proofs.«01_k».proof.Proof.Rotary.Claims
public import proofs.«01_k».proof.Proof.Gen.CombineKernel
public import proofs.«01_k».proof.Proof.Gen.CombineKernel.Skeleton
public import proofs.«01_k».proof.Proof.Gen.CombineKernel.Launch
public import proofs.«01_k».proof.Proof.Gen.CombineKernel.Points
public import proofs.«01_k».proof.Proof.Gen.CombineKernel.Frame
public import proofs.«01_k».proof.Proof.Gen.CombineKernelIdeal
public import proofs.«01_k».proof.Proof.Gen.CombineKernelIdeal.Skeleton
public import proofs.«01_k».proof.Proof.Gen.CombineKernelIdeal.Launch
public import proofs.«01_k».proof.Proof.Gen.CombineKernelIdeal.Points
public import proofs.«01_k».proof.Proof.Gen.CombineKernelIdeal.Frame
public import proofs.«01_k».proof.Proof.Gen.CombineReferenceIdeal
public import proofs.«01_k».proof.Proof.Gen.CombineReferenceIdeal.Run
public import proofs.«01_k».proof.Proof.Combine.Frame
public import proofs.«01_k».proof.Proof.Combine.Printed
public import proofs.«01_k».proof.Proof.Combine.Claims
public import proofs.«01_k».proof.Proof.Gen.RouteKernel
public import proofs.«01_k».proof.Proof.Gen.RouteKernel.Skeleton
public import proofs.«01_k».proof.Proof.Gen.RouteKernel.Launch
public import proofs.«01_k».proof.Proof.Gen.RouteKernel.Points
public import proofs.«01_k».proof.Proof.Gen.RouteKernel.Frame
public import proofs.«01_k».proof.Proof.Gen.RouteKernelIdeal
public import proofs.«01_k».proof.Proof.Gen.RouteKernelIdeal.Skeleton
public import proofs.«01_k».proof.Proof.Gen.RouteKernelIdeal.Launch
public import proofs.«01_k».proof.Proof.Gen.RouteKernelIdeal.Points
public import proofs.«01_k».proof.Proof.Gen.RouteKernelIdeal.Frame
public import proofs.«01_k».proof.Proof.Gen.RouteReferenceIdeal
public import proofs.«01_k».proof.Proof.Gen.RouteReferenceIdeal.Run
public import proofs.«01_k».proof.Proof.Routing.Claims
public import proofs.«01_k».proof.Proof.Gen.Pre_out_finite
public import proofs.«01_k».proof.Proof.Gen.Pre_pw2_finite
public import proofs.«01_k».proof.Proof.Gen.Pre_route_finite
public import Idealize.ShloMosaic.Adequacy
public import Idealize.ShloMosaic.Init

@[expose] public section

noncomputable section

namespace Cert.Proof

open Idealize.ShloMosaic Idealize.SL.Sem Idealize.ShloMosaic.TcCoe

theorem claim : Cert.Claim :=
  ⟨Cert.Kernel.Gen.facts,
    Cert.KernelIdeal.Gen.facts,
    Cert.ReferenceIdeal.Gen.facts,
    Cert.InKernel.Gen.facts,
    Cert.InKernelIdeal.Gen.facts,
    Cert.InReferenceIdeal.Gen.facts,
    Cert.GluKernel.Gen.facts,
    Cert.GluKernelIdeal.Gen.facts,
    Cert.GluReferenceIdeal.Gen.facts,
    Cert.OutKernel.Gen.facts,
    Cert.OutKernelIdeal.Gen.facts,
    Cert.OutReferenceIdeal.Gen.facts,
    Cert.PwKernel.Gen.facts,
    Cert.PwKernelIdeal.Gen.facts,
    Cert.PwReferenceIdeal.Gen.facts,
    Cert.QkKernel.Gen.facts,
    Cert.QkKernelIdeal.Gen.facts,
    Cert.QkReferenceIdeal.Gen.facts,
    Cert.CombineKernel.Gen.facts,
    Cert.CombineKernelIdeal.Gen.facts,
    Cert.CombineReferenceIdeal.Gen.facts,
    Cert.RouteKernel.Gen.facts,
    Cert.RouteKernelIdeal.Gen.facts,
    Cert.RouteReferenceIdeal.Gen.facts,
    Cert.Pre_scores_finite.Gen.facts,
    Cert.Pre_out_finite.Gen.facts,
    Cert.Pre_pw2_finite.Gen.facts,
    Cert.Pre_route_finite.Gen.facts,
    fun m ρ _ => Cert.Kernel.Gen.frame m ρ,
    fun m ρ _ => Cert.KernelIdeal.Gen.frame m ρ,
    fun m ρ _ => Cert.KernelIdeal.Gen.frame m ρ,
    Attention.frame_reference,
    fun m ρ _ => Attention.frame_reference m ρ True.intro,
    fun m ρ _ => Cert.InKernel.Gen.frame m ρ,
    fun m ρ _ => Cert.InKernelIdeal.Gen.frame m ρ,
    Projection.frame_reference,
    fun m ρ _ => Cert.GluKernel.Gen.frame m ρ,
    fun m ρ _ => Cert.GluKernelIdeal.Gen.frame m ρ,
    Gated.frame_reference,
    fun m ρ _ => Cert.OutKernel.Gen.frame m ρ,
    fun m ρ _ => Cert.OutKernelIdeal.Gen.frame m ρ,
    fun m ρ _ => Cert.OutKernelIdeal.Gen.frame m ρ,
    Output.frame_reference,
    fun m ρ _ => Output.frame_reference m ρ True.intro,
    fun m ρ _ => Cert.PwKernel.Gen.frame m ρ,
    fun m ρ _ => Cert.PwKernelIdeal.Gen.frame m ρ,
    fun m ρ _ => Cert.PwKernelIdeal.Gen.frame m ρ,
    Pointwise.frame_reference,
    fun m ρ _ => Pointwise.frame_reference m ρ True.intro,
    fun m ρ _ => Cert.QkKernel.Gen.frame m ρ,
    fun m ρ _ => Cert.QkKernelIdeal.Gen.frame m ρ,
    Rotary.frame_reference,
    fun m ρ _ => Cert.Combine.frame_printed m ρ,
    fun m ρ _ => Cert.CombineKernelIdeal.Hand.frame_run m ρ,
    Combine.frame_reference,
    fun m ρ _ => Cert.RouteKernel.Gen.frame m ρ,
    fun m ρ _ => Cert.RouteKernelIdeal.Gen.frame m ρ,
    fun m ρ _ => Cert.RouteKernelIdeal.Gen.frame m ρ,
    Routing.frame_reference,
    fun m ρ _ => Routing.frame_reference m ρ True.intro,
    trivial,
    Attention.algebraic,
    trivial,
    Projection.algebraic,
    trivial,
    Gated.algebraic,
    trivial,
    Output.algebraic,
    trivial,
    Pointwise.algebraic,
    trivial,
    Rotary.algebraic,
    trivial,
    Combine.algebraic,
    trivial,
    Routing.algebraic⟩

end Cert.Proof

end
